-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def preserves_Kernel_KernelIdeal : Prop :=
  True

def algebraic_KernelIdeal_ReferenceIdeal_on_prompt_rows [hKernelIdeal : Cert.KernelIdeal.Facts] [hReferenceIdeal : Cert.ReferenceIdeal.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![9216, 4096]⟩ : Shape).Idx, (Cert.On_prompt_rows.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v8_0) i = v0 c i)
          ∧ (∀ i : (⟨4, ![2, 8, 256, 512]⟩ : Shape).Idx, (Cert.On_prompt_rows.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_v8_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![9216, 4096]⟩ : Shape).Idx, (Cert.On_prompt_rows.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v35) i = v0 c i)
          ∧ (∀ i : (⟨4, ![2, 8, 256, 512]⟩ : Shape).Idx, (Cert.On_prompt_rows.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_v16_4) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9)) (v1 : (c : Dev Cert.Kernel9Ideal.nD) → Buf (Elt Ideal) ((c.tc : Thread Cert.Kernel9Ideal.nD Cert.Kernel9Ideal.τ).loc Cert.Kernel9Ideal.main_v14)) (v2 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_v14) = v1 c
          ∧ r.2.mem ((c.tc : Thread Cert.Kernel9Ideal.nD Cert.Kernel9Ideal.τ).loc Cert.Kernel9Ideal.main_v16) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v90) = v0 c
          ∧ r.2.mem ((c.tc : Thread Cert.Reference11Ideal.nD Cert.Reference11Ideal.τ).loc Cert.Reference11Ideal.main_v74) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)) (v2 : (c : Dev Cert.Kernel12Ideal.nD) → Buf (Elt Ideal) ((c.tc : Thread Cert.Kernel12Ideal.nD Cert.Kernel12Ideal.τ).loc Cert.Kernel12Ideal.main_v9_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_v9_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v74) = v0 c
          ∧ r.2.mem ((c.tc : Thread Cert.Reference12Ideal.nD Cert.Reference12Ideal.τ).loc Cert.Reference12Ideal.main_v75) = v1 c
          ∧ r.2.mem ((c.tc : Thread Cert.Reference12Ideal.nD Cert.Reference12Ideal.τ).loc Cert.Reference12Ideal.main_v76) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hOn_prompt_rows : Cert.On_prompt_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_on_prompt_rows (hKernelIdeal := hKernelIdeal) (hReferenceIdeal := hReferenceIdeal) (hOn_prompt_rows := hOn_prompt_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_prompt_rows.lean ====
abbrev S9216x12288 : Shape := ⟨2, ![9216, 12288]⟩
abbrev S9216x4096 : Shape := ⟨2, ![9216, 4096]⟩
abbrev S_ : Shape := ⟨0, ![]⟩
abbrev S2x8x256x512 : Shape := ⟨4, ![2, 8, 256, 512]⟩

class Facts : Prop where
  bcast_S_S9216x4096 : S_.BroadcastsInDim S9216x4096 (![] : Fin 0 → Fin S9216x4096.rank)
  bcast_S_S2x8x256x512 : S_.BroadcastsInDim S2x8x256x512 (![] : Fin 0 → Fin S2x8x256x512.rank)

variable [Facts]

def fn {F : FTy → Type} [FloatOps F] (main_arg0 : FVec F S9216x12288 .bf16) : IVec S9216x4096 1 × IVec S2x8x256x512 1 :=
  let main_v0 : IVec S9216x4096 32 := iotaInDim S9216x4096 32 0
  let main_c : IVec S_ 32 := constantI S_ 32 8192#32
  let main_v1 : IVec S9216x4096 32 := broadcastInDim S9216x4096 ![] bcast_S_S9216x4096 main_c
  let main_v2 : IVec S9216x4096 1 := cmpi .slt main_v0 main_v1
  let main_c_0 : IVec S_ 1 := constantI S_ 1 1#1
  let main_v3 : IVec S2x8x256x512 1 := broadcastInDim S2x8x256x512 ![] bcast_S_S2x8x256x512 main_c_0
  (main_v2, main_v3)
-- ==== Kernel.lean ====
abbrev S9216x12288 : Shape := ⟨2, ![9216, 12288]⟩
abbrev S8 : Shape := ⟨1, ![8]⟩
abbrev S_ : Shape := ⟨0, ![]⟩
abbrev S9216x4096 : Shape := ⟨2, ![9216, 4096]⟩
abbrev S2x8x256x512 : Shape := ⟨4, ![2, 8, 256, 512]⟩
abbrev S1024x256 : Shape := ⟨2, ![1024, 256]⟩
abbrev S1024x512 : Shape := ⟨2, ![1024, 512]⟩
abbrev S1x1x256x512 : Shape := ⟨4, ![1, 1, 256, 512]⟩
abbrev S256x512 : Shape := ⟨2, ![256, 512]⟩
abbrev S1 : Shape := ⟨1, ![1]⟩
abbrev S128x128 : Shape := ⟨2, ![128, 128]⟩
abbrev S128x1 : Shape := ⟨2, ![128, 1]⟩
abbrev S1x1 : Shape := ⟨2, ![1, 1]⟩
abbrev S128x256 : Shape := ⟨2, ![128, 256]⟩
abbrev S128x512 : Shape := ⟨2, ![128, 512]⟩
abbrev S128 : Shape := ⟨1, ![128]⟩

abbrev nBuf : Space → Nat
  | .hbm => 13
  | .vmem => 13
  | .smem => 1
  | _ => 0

abbrev bufTy : (tb : Table) → Fin (tcTables nBuf tb) → BufTy
  | .hbm, ⟨0, _⟩ => ⟨S9216x12288, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S9216x4096, .bf16⟩
  | .hbm, ⟨12, _⟩ => ⟨S2x8x256x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1x256x512, .f32⟩
  | .local _ .vmem, ⟨11, _⟩ => ⟨S1x1x256x512, .f32⟩
  | .local _ .vmem, ⟨12, _⟩ => ⟨S256x512, .f32⟩
  | .local _ .smem, ⟨0, _⟩ => ⟨S8, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 4], ![false, false, false]⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_6 : BitVec 32 := 0#32
  let c128_i32 : BitVec 32 := 128#32
  let v34 : BitVec 32 := Scalar.muli c0_i32_6 c128_i32
  v34
def k0_off2 (c0_i32_6 : BitVec 32) : Fin 2 → Nat :=
  let c128_i32 : BitVec 32 := 128#32
  let v34 : BitVec 32 := Scalar.muli c0_i32_6 c128_i32
  let v35 : BitVec 32 := v34
  let v36 : Index := Scalar.indexCast v35
  let c0 : Index := 0#32
  ![v36.toNat, 0]
def k0_off3 (c0_i32_6 : BitVec 32) : Fin 2 → Nat :=
  let c128_i32 : BitVec 32 := 128#32
  let v34 : BitVec 32 := Scalar.muli c0_i32_6 c128_i32
  let v35 : BitVec 32 := v34
  let v40 : Index := Scalar.indexCast v35
  let c0_8 : Index := 0#32
  ![v40.toNat, 0]
def k0_mult2 : BitVec 32 :=
  let c1_i32 : BitVec 32 := 1#32
  let c128_i32_22 : BitVec 32 := 128#32
  let v80 : BitVec 32 := Scalar.muli c1_i32 c128_i32_22
  v80
def k0_mult3 : BitVec 32 :=
  let c2_i32 : BitVec 32 := 2#32
  let c128_i32_39 : BitVec 32 := 128#32
  let v126 : BitVec 32 := Scalar.muli c2_i32 c128_i32_39
  v126
def k0_mult4 : BitVec 32 :=
  let c3_i32 : BitVec 32 := 3#32
  let c128_i32_56 : BitVec 32 := 128#32
  let v172 : BitVec 32 := Scalar.muli c3_i32 c128_i32_56
  v172
def k0_mult5 : BitVec 32 :=
  let c4_i32 : BitVec 32 := 4#32
  let c128_i32_73 : BitVec 32 := 128#32
  let v218 : BitVec 32 := Scalar.muli c4_i32 c128_i32_73
  v218
def k0_mult6 : BitVec 32 :=
  let c5_i32 : BitVec 32 := 5#32
  let c128_i32_90 : BitVec 32 := 128#32
  let v264 : BitVec 32 := Scalar.muli c5_i32 c128_i32_90
  v264
def k0_mult7 : BitVec 32 :=
  let c6_i32 : BitVec 32 := 6#32
  let c128_i32_107 : BitVec 32 := 128#32
  let v310 : BitVec 32 := Scalar.muli c6_i32 c128_i32_107
  v310
def k0_mult8 : BitVec 32 :=
  let c7_i32 : BitVec 32 := 7#32
  let c128_i32_124 : BitVec 32 := 128#32
  let v356 : BitVec 32 := Scalar.muli c7_i32 c128_i32_124
  v356
def k0_cond2 (i : grid0.Coords) : BitVec 1 :=
  let arg2 : BitVec 32 := BitVec.ofNat 32 (i 2).val
  let c3_i32_141 : BitVec 32 := 3#32
  let v402 : BitVec 1 := Scalar.cmpi .eq arg2 c3_i32_141
  let v403 : BitVec 32 := Scalar.extui v402
  let c0_i32_142 : BitVec 32 := 0#32
  let v404 : BitVec 1 := Scalar.cmpi .ne v403 c0_i32_142
  v404

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S9216x12288 : Shape := ⟨2, ![9216, 12288]⟩
abbrev S8192x12288 : Shape := ⟨2, ![8192, 12288]⟩
abbrev S8192x2048 : Shape := ⟨2, ![8192, 2048]⟩
abbrev S2x4096x8x256 : Shape := ⟨4, ![2, 4096, 8, 256]⟩
abbrev S8192x4096 : Shape := ⟨2, ![8192, 4096]⟩
abbrev S2x4096x8x512 : Shape := ⟨4, ![2, 4096, 8, 512]⟩
abbrev S_ : Shape := ⟨0, ![]⟩
abbrev S2x8x256x512 : Shape := ⟨4, ![2, 8, 256, 512]⟩
abbrev S2x32x128x8x256 : Shape := ⟨5, ![2, 32, 128, 8, 256]⟩
abbrev S32x2x128x8x256 : Shape := ⟨5, ![32, 2, 128, 8, 256]⟩
abbrev S2x32x128x8x512 : Shape := ⟨5, ![2, 32, 128, 8, 512]⟩
abbrev S32x2x128x8x512 : Shape := ⟨5, ![32, 2, 128, 8, 512]⟩
abbrev S1x2x128x8x256 : Shape := ⟨5, ![1, 2, 128, 8, 256]⟩
abbrev S2x128x8x256 : Shape := ⟨4, ![2, 128, 8, 256]⟩
abbrev S1x2x128x8x512 : Shape := ⟨5, ![1, 2, 128, 8, 512]⟩
abbrev S2x128x8x512 : Shape := ⟨4, ![2, 128, 8, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8 : Shape := ⟨2, ![1, 8]⟩
abbrev S128x8 : Shape := ⟨2, ![128, 8]⟩
abbrev S2x8x128x128 : Shape := ⟨4, ![2, 8, 128, 128]⟩
abbrev S1x8x128x128 : Shape := ⟨4, ![1, 8, 128, 128]⟩
abbrev S2x8x512x128 : Shape := ⟨4, ![2, 8, 512, 128]⟩
abbrev S128x8x1 : Shape := ⟨3, ![128, 8, 1]⟩
abbrev S1x128x8x1 : Shape := ⟨4, ![1, 128, 8, 1]⟩
abbrev S1x8x1x1 : Shape := ⟨4, ![1, 8, 1, 1]⟩
abbrev S2x4096x8 : Shape := ⟨3, ![2, 4096, 8]⟩
abbrev S2x4096x8x1 : Shape := ⟨4, ![2, 4096, 8, 1]⟩
abbrev S1024x4096 : Shape := ⟨2, ![1024, 4096]⟩
abbrev S9216x4096 : Shape := ⟨2, ![9216, 4096]⟩

abbrev nBuf : Space → Nat
  | .hbm => 155
  | .vmem => 0
  | .smem => 0
  | _ => 0

abbrev hbmTy0_0 (i : Nat) : BufTy := match i % 128 with
  | 0 => ⟨S9216x12288, .bf16⟩
  | 1 => ⟨S8192x12288, .bf16⟩
  | 2 => ⟨S8192x12288, .f32⟩
  | 3 => ⟨S8192x2048, .f32⟩
  | 4 => ⟨S2x4096x8x256, .f32⟩
  | 5 => ⟨S8192x2048, .f32⟩
  | 6 => ⟨S2x4096x8x256, .f32⟩
  | 7 => ⟨S8192x4096, .f32⟩
  | 8 => ⟨S2x4096x8x512, .f32⟩
  | 9 => ⟨S_, .f32⟩
  | 10 => ⟨S2x8x256x512, .f32⟩
  | 11 => ⟨S2x32x128x8x256, .f32⟩
  | 12 => ⟨S32x2x128x8x256, .f32⟩
  | 13 => ⟨S2x32x128x8x256, .f32⟩
  | 14 => ⟨S32x2x128x8x256, .f32⟩
  | 15 => ⟨S2x32x128x8x512, .f32⟩
  | 16 => ⟨S32x2x128x8x512, .f32⟩
  | 17 => ⟨S_, .f32⟩
  | 18 => ⟨S32x2x128x8x512, .f32⟩
  | 19 => ⟨S_, .i32⟩
  | 20 => ⟨S32x2x128x8x256, .f32⟩
  | 21 => ⟨S32x2x128x8x256, .f32⟩
  | 22 => ⟨S32x2x128x8x512, .f32⟩
  | 23 => ⟨S_, .i32⟩
  | 24 => ⟨S2x8x256x512, .f32⟩
  | 25 => ⟨S32x2x128x8x512, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1x2x128x8x256, .f32⟩
  | 33 => ⟨S2x128x8x256, .f32⟩
  | 34 => ⟨S_, .i32⟩
  | 35 => ⟨S_, .i32⟩
  | 36 => ⟨S_, .i32⟩
  | 37 => ⟨S_, .i32⟩
  | 38 => ⟨S1x2x128x8x256, .f32⟩
  | 39 => ⟨S2x128x8x256, .f32⟩
  | 40 => ⟨S_, .i32⟩
  | 41 => ⟨S_, .i32⟩
  | 42 => ⟨S_, .i32⟩
  | 43 => ⟨S_, .i32⟩
  | 44 => ⟨S1x2x128x8x512, .f32⟩
  | 45 => ⟨S2x128x8x512, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S8, .f32⟩
  | 55 => ⟨S8, .f32⟩
  | 56 => ⟨S128, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .i1⟩
  | 65 => ⟨S8x1x1, .f32⟩
  | 66 => ⟨S_, .f32⟩
  | 67 => ⟨S128x128, .f32⟩
  | 68 => ⟨S128x128, .f32⟩
  | 69 => ⟨S1x128x128, .f32⟩
  | 70 => ⟨S8x128x128, .f32⟩
  | 71 => ⟨S8x128x128, .f32⟩
  | 72 => ⟨S8x128x128, .f32⟩
  | 73 => ⟨S8x128x128, .f32⟩
  | 74 => ⟨S_, .f32⟩
  | 75 => ⟨S_, .f32⟩
  | 76 => ⟨S8x128x128, .i1⟩
  | 77 => ⟨S8x128x128, .f32⟩
  | 78 => ⟨S8x128x128, .f32⟩
  | 79 => ⟨S1x8, .f32⟩
  | 80 => ⟨S128x1, .f32⟩
  | 81 => ⟨S_, .f32⟩
  | 82 => ⟨S128x1, .f32⟩
  | 83 => ⟨S128x1, .f32⟩
  | 84 => ⟨S128x8, .f32⟩
  | 85 => ⟨S128x8, .f32⟩
  | 86 => ⟨S128x8, .f32⟩
  | 87 => ⟨S128x8, .f32⟩
  | 88 => ⟨S1x8, .f32⟩
  | 89 => ⟨S128x1, .f32⟩
  | 90 => ⟨S_, .f32⟩
  | 91 => ⟨S128x1, .f32⟩
  | 92 => ⟨S128x1, .f32⟩
  | 93 => ⟨S128x8, .f32⟩
  | 94 => ⟨S128x8, .f32⟩
  | 95 => ⟨S128x8, .f32⟩
  | 96 => ⟨S128x8, .f32⟩
  | 97 => ⟨S2x8x128x128, .f32⟩
  | 98 => ⟨S1x8x128x128, .f32⟩
  | 99 => ⟨S2x8x128x128, .f32⟩
  | 100 => ⟨S2x8x128x128, .f32⟩
  | 101 => ⟨S2x8x512x128, .f32⟩
  | 102 => ⟨S2x128x8x512, .f32⟩
  | 103 => ⟨S128x8x1, .f32⟩
  | 104 => ⟨S1x128x8x1, .f32⟩
  | 105 => ⟨S2x128x8x256, .f32⟩
  | 106 => ⟨S2x128x8x256, .f32⟩
  | 107 => ⟨S2x8x512x128, .f32⟩
  | 108 => ⟨S2x128x8x512, .f32⟩
  | 109 => ⟨S2x128x8x512, .f32⟩
  | 110 => ⟨S_, .f32⟩
  | 111 => ⟨S8, .f32⟩
  | 112 => ⟨S8, .f32⟩
  | 113 => ⟨S8, .f32⟩
  | 114 => ⟨S8x1x1, .f32⟩
  | 115 => ⟨S1x8x1x1, .f32⟩
  | 116 => ⟨S2x8x256x512, .f32⟩
  | 117 => ⟨S2x8x256x512, .f32⟩
  | 118 => ⟨S128x8x1, .f32⟩
  | 119 => ⟨S1x128x8x1, .f32⟩
  | 120 => ⟨S2x128x8x256, .f32⟩
  | 121 => ⟨S2x128x8x256, .f32⟩
  | 122 => ⟨S2x8x256x512, .f32⟩
  | 123 => ⟨S2x8x256x512, .f32⟩
  | 124 => ⟨S1x2x128x8x512, .f32⟩
  | 125 => ⟨S_, .i32⟩
  | 126 => ⟨S_, .i32⟩
  | 127 => ⟨S_, .i32⟩
  | _ => ⟨S9216x12288, .bf16⟩

abbrev hbmTy0_1 (i : Nat) : BufTy := match i % 128 with
  | 0 => ⟨S_, .i32⟩
  | 1 => ⟨S32x2x128x8x512, .f32⟩
  | 2 => ⟨S_, .i32⟩
  | 3 => ⟨S_, .i32⟩
  | 4 => ⟨S2x32x128x8x512, .f32⟩
  | 5 => ⟨S2x4096x8x512, .f32⟩
  | 6 => ⟨S2x4096x8x512, .f32⟩
  | 7 => ⟨S_, .f32⟩
  | 8 => ⟨S2x4096x8, .f32⟩
  | 9 => ⟨S2x4096x8x1, .f32⟩
  | 10 => ⟨S_, .f32⟩
  | 11 => ⟨S2x4096x8x1, .f32⟩
  | 12 => ⟨S2x4096x8x1, .f32⟩
  | 13 => ⟨S_, .f32⟩
  | 14 => ⟨S2x4096x8x1, .f32⟩
  | 15 => ⟨S2x4096x8x1, .f32⟩
  | 16 => ⟨S2x4096x8x1, .f32⟩
  | 17 => ⟨S2x4096x8x512, .f32⟩
  | 18 => ⟨S2x4096x8x512, .f32⟩
  | 19 => ⟨S8192x4096, .bf16⟩
  | 20 => ⟨S8192x4096, .f32⟩
  | 21 => ⟨S8192x4096, .f32⟩
  | 22 => ⟨S8192x4096, .f32⟩
  | 23 => ⟨S_, .f32⟩
  | 24 => ⟨S1024x4096, .f32⟩
  | 25 => ⟨S9216x4096, .f32⟩
  | 26 => ⟨S9216x4096, .bf16⟩
  | _ => ⟨S9216x12288, .bf16⟩

abbrev hbmTy (i : Nat) : BufTy := match i / 128 with
  | 0 => hbmTy0_0 i
  | 1 => hbmTy0_1 i
  | _ => ⟨S9216x12288, .bf16⟩

abbrev bufTy : (tb : Table) → Fin (tcTables nBuf tb) → BufTy
  | .hbm, ⟨i, _⟩ => hbmTy i
  | _, _ => ⟨S9216x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_c : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev main_v16_3 : Ref sig .tc := ⟨.hbm, 23, rfl⟩
abbrev main_v16_4 : Ref sig .tc := ⟨.hbm, 24, rfl⟩
abbrev main_v16_5 : Ref sig .tc := ⟨.hbm, 25, rfl⟩
abbrev main_while0c_c_10 : Ref sig .tc := ⟨.hbm, 26, rfl⟩
abbrev main_while0c_v36 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_c_2 : Ref sig .tc := ⟨.hbm, 31, rfl⟩
abbrev main_while0b_call0_v0 : Ref sig .tc := ⟨.hbm, 32, rfl⟩
abbrev main_while0b_v36 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_c_2 : Ref sig .tc := ⟨.hbm, 37, rfl⟩
abbrev main_while0b_call1_v0 : Ref sig .tc := ⟨.hbm, 38, rfl⟩
abbrev main_while0b_v37 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_c_2 : Ref sig .tc := ⟨.hbm, 43, rfl⟩
abbrev main_while0b_call2_v0 : Ref sig .tc := ⟨.hbm, 44, rfl⟩
abbrev main_while0b_v38 : Ref sig .tc := ⟨.hbm, 45, rfl⟩
abbrev main_while0b_v39 : Ref sig .tc := ⟨.hbm, 46, rfl⟩
abbrev main_while0b_cst_10 : Ref sig .tc := ⟨.hbm, 47, rfl⟩
abbrev main_while0b_v40 : Ref sig .tc := ⟨.hbm, 48, rfl⟩
abbrev main_while0b_v41 : Ref sig .tc := ⟨.hbm, 49, rfl⟩
abbrev main_while0b_cst_11 : Ref sig .tc := ⟨.hbm, 50, rfl⟩
abbrev main_while0b_v42 : Ref sig .tc := ⟨.hbm, 51, rfl⟩
abbrev main_while0b_v43 : Ref sig .tc := ⟨.hbm, 52, rfl⟩
abbrev main_while0b_v44 : Ref sig .tc := ⟨.hbm, 53, rfl⟩
abbrev main_while0b_v45 : Ref sig .tc := ⟨.hbm, 54, rfl⟩
abbrev main_while0b_v46 : Ref sig .tc := ⟨.hbm, 55, rfl⟩
abbrev main_while0b_v47 : Ref sig .tc := ⟨.hbm, 56, rfl⟩
abbrev main_while0b_v48 : Ref sig .tc := ⟨.hbm, 57, rfl⟩
abbrev main_while0b_v49 : Ref sig .tc := ⟨.hbm, 58, rfl⟩
abbrev main_while0b_v50 : Ref sig .tc := ⟨.hbm, 59, rfl⟩
abbrev main_while0b_v51 : Ref sig .tc := ⟨.hbm, 60, rfl⟩
abbrev main_while0b_v52 : Ref sig .tc := ⟨.hbm, 61, rfl⟩
abbrev main_while0b_cst_12 : Ref sig .tc := ⟨.hbm, 62, rfl⟩
abbrev main_while0b_v53 : Ref sig .tc := ⟨.hbm, 63, rfl⟩
abbrev main_while0b_v54 : Ref sig .tc := ⟨.hbm, 64, rfl⟩
abbrev main_while0b_v55 : Ref sig .tc := ⟨.hbm, 65, rfl⟩
abbrev main_while0b_cst_13 : Ref sig .tc := ⟨.hbm, 66, rfl⟩
abbrev main_while0b_v56 : Ref sig .tc := ⟨.hbm, 67, rfl⟩
abbrev main_while0b_v57 : Ref sig .tc := ⟨.hbm, 68, rfl⟩
abbrev main_while0b_v58 : Ref sig .tc := ⟨.hbm, 69, rfl⟩
abbrev main_while0b_v59 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_cst_14 : Ref sig .tc := ⟨.hbm, 74, rfl⟩
abbrev main_while0b_call3_v0 : Ref sig .tc := ⟨.hbm, 75, rfl⟩
abbrev main_while0b_call3_v1 : Ref sig .tc := ⟨.hbm, 76, rfl⟩
abbrev main_while0b_call3_v2 : Ref sig .tc := ⟨.hbm, 77, rfl⟩
abbrev main_while0b_v63 : Ref sig .tc := ⟨.hbm, 78, rfl⟩
abbrev main_while0b_v64 : Ref sig .tc := ⟨.hbm, 79, rfl⟩
abbrev main_while0b_v65 : Ref sig .tc := ⟨.hbm, 80, rfl⟩
abbrev main_while0b_cst_15 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_v71 : Ref sig .tc := ⟨.hbm, 87, rfl⟩
abbrev main_while0b_v72 : Ref sig .tc := ⟨.hbm, 88, rfl⟩
abbrev main_while0b_v73 : Ref sig .tc := ⟨.hbm, 89, rfl⟩
abbrev main_while0b_cst_16 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_v86 : Ref sig .tc := ⟨.hbm, 103, rfl⟩
abbrev main_while0b_v87 : Ref sig .tc := ⟨.hbm, 104, rfl⟩
abbrev main_while0b_v88 : Ref sig .tc := ⟨.hbm, 105, rfl⟩
abbrev main_while0b_v89 : Ref sig .tc := ⟨.hbm, 106, rfl⟩
abbrev main_while0b_v90 : Ref sig .tc := ⟨.hbm, 107, rfl⟩
abbrev main_while0b_v91 : Ref sig .tc := ⟨.hbm, 108, rfl⟩
abbrev main_while0b_v92 : Ref sig .tc := ⟨.hbm, 109, rfl⟩
abbrev main_while0b_cst_17 : Ref sig .tc := ⟨.hbm, 110, rfl⟩
abbrev main_while0b_v93 : Ref sig .tc := ⟨.hbm, 111, rfl⟩
abbrev main_while0b_v94 : Ref sig .tc := ⟨.hbm, 112, rfl⟩
abbrev main_while0b_v95 : Ref sig .tc := ⟨.hbm, 113, rfl⟩
abbrev main_while0b_v96 : Ref sig .tc := ⟨.hbm, 114, rfl⟩
abbrev main_while0b_v97 : Ref sig .tc := ⟨.hbm, 115, rfl⟩
abbrev main_while0b_v98 : Ref sig .tc := ⟨.hbm, 116, rfl⟩
abbrev main_while0b_v99 : Ref sig .tc := ⟨.hbm, 117, rfl⟩
abbrev main_while0b_v100 : Ref sig .tc := ⟨.hbm, 118, rfl⟩
abbrev main_while0b_v101 : Ref sig .tc := ⟨.hbm, 119, rfl⟩
abbrev main_while0b_v102 : Ref sig .tc := ⟨.hbm, 120, rfl⟩
abbrev main_while0b_v103 : Ref sig .tc := ⟨.hbm, 121, rfl⟩
abbrev main_while0b_v104 : Ref sig .tc := ⟨.hbm, 122, rfl⟩
abbrev main_while0b_v105 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v106 : Ref sig .tc := ⟨.hbm, 129, rfl⟩
abbrev main_while0b_c_18 : Ref sig .tc := ⟨.hbm, 130, rfl⟩
abbrev main_while0b_v107 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_cst_1 : Ref sig .tc := ⟨.hbm, 135, rfl⟩
abbrev main_v20 : Ref sig .tc := ⟨.hbm, 136, rfl⟩
abbrev main_v21 : Ref sig .tc := ⟨.hbm, 137, rfl⟩
abbrev main_cst_2 : Ref sig .tc := ⟨.hbm, 138, rfl⟩
abbrev main_v22 : Ref sig .tc := ⟨.hbm, 139, rfl⟩
abbrev main_v23 : Ref sig .tc := ⟨.hbm, 140, rfl⟩
abbrev main_cst_3 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_cst_4 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S9216x2048 : Shape := ⟨2, ![9216, 2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S9216x2048, .bf16⟩
  | .hbm, ⟨1, _⟩ => ⟨S2048x8192, .f32⟩
  | .hbm, ⟨2, _⟩ => ⟨S8192x2048, .f32⟩
  | .hbm, ⟨3, _⟩ => ⟨S9216x2048, .f32⟩
  | .hbm, ⟨4, _⟩ => ⟨S1x2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S9216x2048, .f32⟩
  | .hbm, ⟨9, _⟩ => ⟨S9216x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![18, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg1 : BitVec 32 := BitVec.ofNat 32 (i 1).val
  let c0_i32_8 : BitVec 32 := 0#32
  let v14 : BitVec 1 := Scalar.cmpi .sgt arg1 c0_i32_8
  let v15 : BitVec 32 := Scalar.extui v14
  let c0_i32_9 : BitVec 32 := 0#32
  let v16 : BitVec 1 := Scalar.cmpi .ne v15 c0_i32_9
  v16

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S9216x2048 : Shape := ⟨2, ![9216, 2048]⟩
abbrev S2048x8192 : Shape := ⟨2, ![2048, 8192]⟩
abbrev S8192x2048 : Shape := ⟨2, ![8192, 2048]⟩
abbrev S1x2048 : Shape := ⟨2, ![1, 2048]⟩
abbrev S9216x8192 : Shape := ⟨2, ![9216, 8192]⟩
abbrev S_ : Shape := ⟨0, ![]⟩
abbrev S9216 : Shape := ⟨1, ![9216]⟩
abbrev S9216x1 : Shape := ⟨2, ![9216, 1]⟩

abbrev nBuf : Space → Nat
  | .hbm => 45
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x8192, .f32⟩
  | .hbm, ⟨2, _⟩ => ⟨S8192x2048, .f32⟩
  | .hbm, ⟨3, _⟩ => ⟨S9216x2048, .f32⟩
  | .hbm, ⟨4, _⟩ => ⟨S1x2048, .f32⟩
  | .hbm, ⟨5, _⟩ => ⟨S1x2048, .f32⟩
  | .hbm, ⟨6, _⟩ => ⟨S9216x2048, .f32⟩
  | .hbm, ⟨7, _⟩ => ⟨S9216x8192, .f32⟩
  | .hbm, ⟨8, _⟩ => ⟨S_, .f32⟩
  | .hbm, ⟨9, _⟩ => ⟨S9216x8192, .f32⟩
  | .hbm, ⟨10, _⟩ => ⟨S9216x8192, .f32⟩
  | .hbm, ⟨11, _⟩ => ⟨S9216x8192, .f32⟩
  | .hbm, ⟨12, _⟩ => ⟨S9216x2048, .f32⟩
  | .hbm, ⟨13, _⟩ => ⟨S9216x2048, .f32⟩
  | .hbm, ⟨14, _⟩ => ⟨S_, .f32⟩
  | .hbm, ⟨15, _⟩ => ⟨S9216, .f32⟩
  | .hbm, ⟨16, _⟩ => ⟨S9216x1, .f32⟩
  | .hbm, ⟨17, _⟩ => ⟨S_, .f32⟩
  | .hbm, ⟨18, _⟩ => ⟨S9216x1, .f32⟩
  | .hbm, ⟨19, _⟩ => ⟨S9216x1, .f32⟩
  | .hbm, ⟨20, _⟩ => ⟨S_, .f32⟩
  | .hbm, ⟨21, _⟩ => ⟨S9216x1, .f32⟩
  | .hbm, ⟨22, _⟩ => ⟨S9216x1, .f32⟩
  | .hbm, ⟨23, _⟩ => ⟨S9216x1, .f32⟩
  | .hbm, ⟨24, _⟩ => ⟨S9216x2048, .f32⟩
  | .hbm, ⟨25, _⟩ => ⟨S9216x2048, .f32⟩
  | .hbm, ⟨26, _⟩ => ⟨S9216x2048, .f32⟩
  | .hbm, ⟨27, _⟩ => ⟨S9216x2048, .f32⟩
  | .hbm, ⟨28, _⟩ => ⟨S9216x2048, .f32⟩
  | .hbm, ⟨29, _⟩ => ⟨S9216x2048, .f32⟩
  | .hbm, ⟨30, _⟩ => ⟨S_, .f32⟩
  | .hbm, ⟨31, _⟩ => ⟨S9216, .f32⟩
  | .hbm, ⟨32, _⟩ => ⟨S9216x1, .f32⟩
  | .hbm, ⟨33, _⟩ => ⟨S_, .f32⟩
  | .hbm, ⟨34, _⟩ => ⟨S9216x1, .f32⟩
  | .hbm, ⟨35, _⟩ => ⟨S9216x1, .f32⟩
  | .hbm, ⟨36, _⟩ => ⟨S_, .f32⟩
  | .hbm, ⟨37, _⟩ => ⟨S9216x1, .f32⟩
  | .hbm, ⟨38, _⟩ => ⟨S9216x1, .f32⟩
  | .hbm, ⟨39, _⟩ => ⟨S9216x1, .f32⟩
  | .hbm, ⟨40, _⟩ => ⟨S9216x2048, .f32⟩
  | .hbm, ⟨41, _⟩ => ⟨S9216x2048, .f32⟩
  | .hbm, ⟨42, _⟩ => ⟨S9216x2048, .f32⟩
  | .hbm, ⟨43, _⟩ => ⟨S9216x2048, .f32⟩
  | .hbm, ⟨44, _⟩ => ⟨S9216x2048, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel3.lean ====
abbrev S2x256x2048 : Shape := ⟨3, ![2, 256, 2048]⟩
abbrev S2x2048 : Shape := ⟨2, ![2, 2048]⟩
abbrev S2x2048x512 : Shape := ⟨3, ![2, 2048, 512]⟩
abbrev S512x2048 : Shape := ⟨2, ![512, 2048]⟩
abbrev S2x1x2048 : Shape := ⟨3, ![2, 1, 2048]⟩
abbrev S2x512x512 : Shape := ⟨3, ![2, 512, 512]⟩
abbrev S1x1x2048 : Shape := ⟨3, ![1, 1, 2048]⟩
abbrev S1x2048x512 : Shape := ⟨3, ![1, 2048, 512]⟩
abbrev S1x512x512 : Shape := ⟨3, ![1, 512, 512]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x512, .f32⟩
  | .hbm, ⟨3, _⟩ => ⟨S2x2048x512, .f32⟩
  | .hbm, ⟨4, _⟩ => ⟨S512x2048, .f32⟩
  | .hbm, ⟨5, _⟩ => ⟨S2x1x2048, .f32⟩
  | .hbm, ⟨6, _⟩ => ⟨S2x512x512, .f32⟩
  | .hbm, ⟨7, _⟩ => ⟨S2x512x512, .f32⟩
  | .local _ .vmem, ⟨0, _⟩ => ⟨S512x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x256x2048 : Shape := ⟨3, ![2, 256, 2048]⟩
abbrev S2x2048 : Shape := ⟨2, ![2, 2048]⟩
abbrev S2x2048x512 : Shape := ⟨3, ![2, 2048, 512]⟩
abbrev S512x2048 : Shape := ⟨2, ![512, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S_ : Shape := ⟨0, ![]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S2x512x512 : Shape := ⟨3, ![2, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x512, .f32⟩
  | .hbm, ⟨3, _⟩ => ⟨S2x2048x512, .f32⟩
  | .hbm, ⟨4, _⟩ => ⟨S512x2048, .f32⟩
  | .hbm, ⟨5, _⟩ => ⟨S1x2048, .f32⟩
  | .hbm, ⟨6, _⟩ => ⟨S2048, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S512x2048, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x2048, .f32⟩
  | .hbm, ⟨23, _⟩ => ⟨S512x2048, .f32⟩
  | .hbm, ⟨24, _⟩ => ⟨S1x2048, .f32⟩
  | .hbm, ⟨25, _⟩ => ⟨S512x2048, .f32⟩
  | .hbm, ⟨26, _⟩ => ⟨S512x2048, .f32⟩
  | .hbm, ⟨27, _⟩ => ⟨S512x512, .f32⟩
  | .hbm, ⟨28, _⟩ => ⟨S512x512, .f32⟩
  | .hbm, ⟨29, _⟩ => ⟨S1x2048, .f32⟩
  | .hbm, ⟨30, _⟩ => ⟨S2048, .f32⟩
  | .hbm, ⟨31, _⟩ => ⟨S1x2048x512, .f32⟩
  | .hbm, ⟨32, _⟩ => ⟨S2048x512, .f32⟩
  | .hbm, ⟨33, _⟩ => ⟨S1x2048x512, .f32⟩
  | .hbm, ⟨34, _⟩ => ⟨S2048x512, .f32⟩
  | .hbm, ⟨35, _⟩ => ⟨S512x2048, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S512x2048, .f32⟩
  | .hbm, ⟨47, _⟩ => ⟨S512x2048, .f32⟩
  | .hbm, ⟨48, _⟩ => ⟨S1x2048, .f32⟩
  | .hbm, ⟨49, _⟩ => ⟨S512x2048, .f32⟩
  | .hbm, ⟨50, _⟩ => ⟨S512x2048, .f32⟩
  | .hbm, ⟨51, _⟩ => ⟨S512x512, .f32⟩
  | .hbm, ⟨52, _⟩ => ⟨S512x512, .f32⟩
  | .hbm, ⟨53, _⟩ => ⟨S1x512x512, .f32⟩
  | .hbm, ⟨54, _⟩ => ⟨S1x512x512, .f32⟩
  | .hbm, ⟨55, _⟩ => ⟨S2x512x512, .f32⟩
  | .hbm, ⟨56, _⟩ => ⟨S1x512x512, .f32⟩
  | .hbm, ⟨57, _⟩ => ⟨S1x512x512, .f32⟩
  | .hbm, ⟨58, _⟩ => ⟨S2x512x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel4.lean ====
abbrev S9216x4096 : Shape := ⟨2, ![9216, 4096]⟩
abbrev S4096x2048 : Shape := ⟨2, ![4096, 2048]⟩
abbrev S9216x2048 : Shape := ⟨2, ![9216, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S9216x4096, .bf16⟩
  | .hbm, ⟨1, _⟩ => ⟨S4096x2048, .f32⟩
  | .hbm, ⟨2, _⟩ => ⟨S9216x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S9216x2048, .f32⟩
  | .hbm, ⟨7, _⟩ => ⟨S9216x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S9216x4096 : Shape := ⟨2, ![9216, 4096]⟩
abbrev S4096x2048 : Shape := ⟨2, ![4096, 2048]⟩
abbrev S9216x2048 : Shape := ⟨2, ![9216, 2048]⟩
abbrev S1x2048 : Shape := ⟨2, ![1, 2048]⟩
abbrev S_ : Shape := ⟨0, ![]⟩
abbrev S9216 : Shape := ⟨1, ![9216]⟩
abbrev S9216x1 : Shape := ⟨2, ![9216, 1]⟩

abbrev nBuf : Space → Nat
  | .hbm => 39
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x2048, .f32⟩
  | .hbm, ⟨2, _⟩ => ⟨S9216x2048, .f32⟩
  | .hbm, ⟨3, _⟩ => ⟨S1x2048, .f32⟩
  | .hbm, ⟨4, _⟩ => ⟨S1x2048, .f32⟩
  | .hbm, ⟨5, _⟩ => ⟨S9216x4096, .f32⟩
  | .hbm, ⟨6, _⟩ => ⟨S9216x2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S9216x2048, .f32⟩
  | .hbm, ⟨21, _⟩ => ⟨S9216x2048, .f32⟩
  | .hbm, ⟨22, _⟩ => ⟨S9216x2048, .f32⟩
  | .hbm, ⟨23, _⟩ => ⟨S9216x2048, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S_, .f32⟩
  | .hbm, ⟨31, _⟩ => ⟨S9216x1, .f32⟩
  | .hbm, ⟨32, _⟩ => ⟨S9216x1, .f32⟩
  | .hbm, ⟨33, _⟩ => ⟨S9216x1, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x2048, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S9216x2048 : Shape := ⟨2, ![9216, 2048]⟩
abbrev S2048x2048 : Shape := ⟨2, ![2048, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S9216x2048, .f32⟩
  | .hbm, ⟨7, _⟩ => ⟨S9216x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S9216x2048 : Shape := ⟨2, ![9216, 2048]⟩
abbrev S2048x2048 : Shape := ⟨2, ![2048, 2048]⟩
abbrev S1x2048 : Shape := ⟨2, ![1, 2048]⟩
abbrev S_ : Shape := ⟨0, ![]⟩
abbrev S9216 : Shape := ⟨1, ![9216]⟩
abbrev S9216x1 : Shape := ⟨2, ![9216, 1]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S1x2048, .f32⟩
  | .hbm, ⟨4, _⟩ => ⟨S1x2048, .f32⟩
  | .hbm, ⟨5, _⟩ => ⟨S9216x2048, .f32⟩
  | .hbm, ⟨6, _⟩ => ⟨S9216x2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S9216x2048, .f32⟩
  | .hbm, ⟨21, _⟩ => ⟨S9216x2048, .f32⟩
  | .hbm, ⟨22, _⟩ => ⟨S9216x2048, .f32⟩
  | .hbm, ⟨23, _⟩ => ⟨S9216x2048, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S_, .f32⟩
  | .hbm, ⟨31, _⟩ => ⟨S9216x1, .f32⟩
  | .hbm, ⟨32, _⟩ => ⟨S9216x1, .f32⟩
  | .hbm, ⟨33, _⟩ => ⟨S9216x1, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x2048, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S9216x2048 : Shape := ⟨2, ![9216, 2048]⟩
abbrev S2048x12288 : Shape := ⟨2, ![2048, 12288]⟩
abbrev S5120x128 : Shape := ⟨2, ![5120, 128]⟩
abbrev S9216x12288 : Shape := ⟨2, ![9216, 12288]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S9216x2048, .bf16⟩
  | .hbm, ⟨1, _⟩ => ⟨S2048x12288, .f32⟩
  | .hbm, ⟨2, _⟩ => ⟨S5120x128, .f32⟩
  | .hbm, ⟨3, _⟩ => ⟨S5120x128, .f32⟩
  | .hbm, ⟨4, _⟩ => ⟨S9216x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 9], ![false, false]⟩

def k0_cond2 (i : grid0.Coords) : BitVec 1 :=
  let arg0 : BitVec 32 := BitVec.ofNat 32 (i 0).val
  let c4_i32 : BitVec 32 := 4#32
  let v8 : BitVec 1 := Scalar.cmpi .slt arg0 c4_i32
  let v9 : BitVec 32 := Scalar.extui v8
  let c0_i32_8 : BitVec 32 := 0#32
  let v10 : BitVec 1 := Scalar.cmpi .ne v9 c0_i32_8
  v10

def k0_cond3 (i : grid0.Coords) : BitVec 1 :=
  let arg0 : BitVec 32 := BitVec.ofNat 32 (i 0).val
  let c4_i32_9 : BitVec 32 := 4#32
  let v11 : BitVec 1 := Scalar.cmpi .sge arg0 c4_i32_9
  let c8_i32 : BitVec 32 := 8#32
  let v12 : BitVec 1 := Scalar.cmpi .slt arg0 c8_i32
  let v13 : BitVec 1 := Scalar.andi v11 v12
  let v14 : BitVec 32 := Scalar.extui v13
  let c0_i32_10 : BitVec 32 := 0#32
  let v15 : BitVec 1 := Scalar.cmpi .ne v14 c0_i32_10
  v15

def k0_cond4 (i : grid0.Coords) : BitVec 1 :=
  let arg0 : BitVec 32 := BitVec.ofNat 32 (i 0).val
  let c8_i32_11 : BitVec 32 := 8#32
  let v16 : BitVec 1 := Scalar.cmpi .sge arg0 c8_i32_11
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S9216x2048 : Shape := ⟨2, ![9216, 2048]⟩
abbrev S2048x12288 : Shape := ⟨2, ![2048, 12288]⟩
abbrev S5120x128 : Shape := ⟨2, ![5120, 128]⟩
abbrev S4096x128 : Shape := ⟨2, ![4096, 128]⟩
abbrev S1024x128 : Shape := ⟨2, ![1024, 128]⟩
abbrev S9216x128 : Shape := ⟨2, ![9216, 128]⟩
abbrev S9216x12288 : Shape := ⟨2, ![9216, 12288]⟩
abbrev S9216x4096 : Shape := ⟨2, ![9216, 4096]⟩
abbrev S9216x8x256 : Shape := ⟨3, ![9216, 8, 256]⟩
abbrev S9216x8x128 : Shape := ⟨3, ![9216, 8, 128]⟩
abbrev S9216x1x128 : Shape := ⟨3, ![9216, 1, 128]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x12288, .f32⟩
  | .hbm, ⟨2, _⟩ => ⟨S5120x128, .f32⟩
  | .hbm, ⟨3, _⟩ => ⟨S5120x128, .f32⟩
  | .hbm, ⟨4, _⟩ => ⟨S4096x128, .f32⟩
  | .hbm, ⟨5, _⟩ => ⟨S4096x128, .f32⟩
  | .hbm, ⟨6, _⟩ => ⟨S1024x128, .f32⟩
  | .hbm, ⟨7, _⟩ => ⟨S9216x128, .f32⟩
  | .hbm, ⟨8, _⟩ => ⟨S4096x128, .f32⟩
  | .hbm, ⟨9, _⟩ => ⟨S4096x128, .f32⟩
  | .hbm, ⟨10, _⟩ => ⟨S1024x128, .f32⟩
  | .hbm, ⟨11, _⟩ => ⟨S9216x128, .f32⟩
  | .hbm, ⟨12, _⟩ => ⟨S9216x2048, .f32⟩
  | .hbm, ⟨13, _⟩ => ⟨S9216x12288, .f32⟩
  | .hbm, ⟨14, _⟩ => ⟨S9216x2048, .f32⟩
  | .hbm, ⟨15, _⟩ => ⟨S9216x2048, .f32⟩
  | .hbm, ⟨16, _⟩ => ⟨S9216x4096, .f32⟩
  | .hbm, ⟨17, _⟩ => ⟨S9216x4096, .f32⟩
  | .hbm, ⟨18, _⟩ => ⟨S9216x8x256, .f32⟩
  | .hbm, ⟨19, _⟩ => ⟨S9216x8x128, .f32⟩
  | .hbm, ⟨20, _⟩ => ⟨S9216x8x128, .f32⟩
  | .hbm, ⟨21, _⟩ => ⟨S9216x1x128, .f32⟩
  | .hbm, ⟨22, _⟩ => ⟨S9216x1x128, .f32⟩
  | .hbm, ⟨23, _⟩ => ⟨S9216x8x128, .f32⟩
  | .hbm, ⟨24, _⟩ => ⟨S9216x8x128, .f32⟩
  | .hbm, ⟨25, _⟩ => ⟨S9216x8x128, .f32⟩
  | .hbm, ⟨26, _⟩ => ⟨S9216x8x128, .f32⟩
  | .hbm, ⟨27, _⟩ => ⟨S9216x8x128, .f32⟩
  | .hbm, ⟨28, _⟩ => ⟨S9216x8x128, .f32⟩
  | .hbm, ⟨29, _⟩ => ⟨S9216x8x128, .f32⟩
  | .hbm, ⟨30, _⟩ => ⟨S9216x8x128, .f32⟩
  | .hbm, ⟨31, _⟩ => ⟨S9216x8x128, .f32⟩
  | .hbm, ⟨32, _⟩ => ⟨S9216x8x128, .f32⟩
  | .hbm, ⟨33, _⟩ => ⟨S9216x8x256, .f32⟩
  | .hbm, ⟨34, _⟩ => ⟨S9216x2048, .f32⟩
  | .hbm, ⟨35, _⟩ => ⟨S9216x8x256, .f32⟩
  | .hbm, ⟨36, _⟩ => ⟨S9216x8x128, .f32⟩
  | .hbm, ⟨37, _⟩ => ⟨S9216x8x128, .f32⟩
  | .hbm, ⟨38, _⟩ => ⟨S9216x1x128, .f32⟩
  | .hbm, ⟨39, _⟩ => ⟨S9216x1x128, .f32⟩
  | .hbm, ⟨40, _⟩ => ⟨S9216x8x128, .f32⟩
  | .hbm, ⟨41, _⟩ => ⟨S9216x8x128, .f32⟩
  | .hbm, ⟨42, _⟩ => ⟨S9216x8x128, .f32⟩
  | .hbm, ⟨43, _⟩ => ⟨S9216x8x128, .f32⟩
  | .hbm, ⟨44, _⟩ => ⟨S9216x8x128, .f32⟩
  | .hbm, ⟨45, _⟩ => ⟨S9216x8x128, .f32⟩
  | .hbm, ⟨46, _⟩ => ⟨S9216x8x128, .f32⟩
  | .hbm, ⟨47, _⟩ => ⟨S9216x8x128, .f32⟩
  | .hbm, ⟨48, _⟩ => ⟨S9216x8x128, .f32⟩
  | .hbm, ⟨49, _⟩ => ⟨S9216x8x128, .f32⟩
  | .hbm, ⟨50, _⟩ => ⟨S9216x8x256, .f32⟩
  | .hbm, ⟨51, _⟩ => ⟨S_, .f32⟩
  | .hbm, ⟨52, _⟩ => ⟨S9216x8x256, .f32⟩
  | .hbm, ⟨53, _⟩ => ⟨S9216x8x256, .f32⟩
  | .hbm, ⟨54, _⟩ => ⟨S9216x2048, .f32⟩
  | .hbm, ⟨55, _⟩ => ⟨S9216x4096, .f32⟩
  | .hbm, ⟨56, _⟩ => ⟨S9216x4096, .f32⟩
  | .hbm, ⟨57, _⟩ => ⟨S_, .f32⟩
  | .hbm, ⟨58, _⟩ => ⟨S9216x4096, .f32⟩
  | .hbm, ⟨59, _⟩ => ⟨S9216x4096, .f32⟩
  | .hbm, ⟨60, _⟩ => ⟨S9216x4096, .f32⟩
  | .hbm, ⟨61, _⟩ => ⟨S9216x12288, .f32⟩
  | .hbm, ⟨62, _⟩ => ⟨S9216x12288, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_cst_0 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩

abbrev nD : Nat := 1
abbrev τ : Topo := Topo.v7x

variable {F : FTy → Type} [FloatOps F]
-- ==== Kernel7.lean ====
abbrev S9216x2048 : Shape := ⟨2, ![9216, 2048]⟩
abbrev S2048x3584 : Shape := ⟨2, ![2048, 3584]⟩
abbrev S9216x1024 : Shape := ⟨2, ![9216, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S9216x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S9216x2048 : Shape := ⟨2, ![9216, 2048]⟩
abbrev S2048x3584 : Shape := ⟨2, ![2048, 3584]⟩
abbrev S2048x1024 : Shape := ⟨2, ![2048, 1024]⟩
abbrev S9216x1024 : Shape := ⟨2, ![9216, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S9216x2048, .f32⟩
  | .hbm, ⟨3, _⟩ => ⟨S2048x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S_, .f32⟩
  | .hbm, ⟨8, _⟩ => ⟨S9216x1024, .f32⟩
  | .hbm, ⟨9, _⟩ => ⟨S9216x1024, .f32⟩
  | .hbm, ⟨10, _⟩ => ⟨S9216x1024, .f32⟩
  | .hbm, ⟨11, _⟩ => ⟨S_, .f32⟩
  | .hbm, ⟨12, _⟩ => ⟨S9216x1024, .f32⟩
  | .hbm, ⟨13, _⟩ => ⟨S9216x1024, .f32⟩
  | .hbm, ⟨14, _⟩ => ⟨S9216x1024, .f32⟩
  | .hbm, ⟨15, _⟩ => ⟨S_, .f32⟩
  | .hbm, ⟨16, _⟩ => ⟨S9216x1024, .f32⟩
  | .hbm, ⟨17, _⟩ => ⟨S9216x1024, .f32⟩
  | .hbm, ⟨18, _⟩ => ⟨S_, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S9216x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S9216x2048 : Shape := ⟨2, ![9216, 2048]⟩
abbrev S2048x3584 : Shape := ⟨2, ![2048, 3584]⟩
abbrev S1x1024 : Shape := ⟨2, ![1, 1024]⟩
abbrev S2048x1024 : Shape := ⟨2, ![2048, 1024]⟩
abbrev S9216x1024 : Shape := ⟨2, ![9216, 1024]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S9216x1024, .bf16⟩
  | .hbm, ⟨6, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S2048x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v43 : BitVec 1 := Scalar.cmpi .eq arg1 c8_i32
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference8Ideal.lean ====
abbrev S9216x2048 : Shape := ⟨2, ![9216, 2048]⟩
abbrev S2048x3584 : Shape := ⟨2, ![2048, 3584]⟩
abbrev S1x1024 : Shape := ⟨2, ![1, 1024]⟩
abbrev S2048x1024 : Shape := ⟨2, ![2048, 1024]⟩
abbrev S9216x1024 : Shape := ⟨2, ![9216, 1024]⟩
abbrev S_ : Shape := ⟨0, ![]⟩
abbrev S9216 : Shape := ⟨1, ![9216]⟩
abbrev S9216x1 : Shape := ⟨2, ![9216, 1]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S1x1024, .f32⟩
  | .hbm, ⟨3, _⟩ => ⟨S1x1024, .f32⟩
  | .hbm, ⟨4, _⟩ => ⟨S9216x2048, .f32⟩
  | .hbm, ⟨5, _⟩ => ⟨S2048x1024, .f32⟩
  | .hbm, ⟨6, _⟩ => ⟨S9216x1024, .f32⟩
  | .hbm, ⟨7, _⟩ => ⟨S9216x1024, .f32⟩
  | .hbm, ⟨8, _⟩ => ⟨S9216x1024, .f32⟩
  | .hbm, ⟨9, _⟩ => ⟨S_, .f32⟩
  | .hbm, ⟨10, _⟩ => ⟨S9216x1024, .f32⟩
  | .hbm, ⟨11, _⟩ => ⟨S9216x1024, .f32⟩
  | .hbm, ⟨12, _⟩ => ⟨S9216x1024, .f32⟩
  | .hbm, ⟨13, _⟩ => ⟨S_, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S_, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S9216x1024, .f32⟩
  | .hbm, ⟨31, _⟩ => ⟨S9216x1024, .f32⟩
  | .hbm, ⟨32, _⟩ => ⟨S9216x1024, .f32⟩
  | .hbm, ⟨33, _⟩ => ⟨S_, .f32⟩
  | .hbm, ⟨34, _⟩ => ⟨S9216, .f32⟩
  | .hbm, ⟨35, _⟩ => ⟨S9216x1, .f32⟩
  | .hbm, ⟨36, _⟩ => ⟨S_, .f32⟩
  | .hbm, ⟨37, _⟩ => ⟨S9216x1, .f32⟩
  | .hbm, ⟨38, _⟩ => ⟨S9216x1, .f32⟩
  | .hbm, ⟨39, _⟩ => ⟨S_, .f32⟩
  | .hbm, ⟨40, _⟩ => ⟨S9216x1, .f32⟩
  | .hbm, ⟨41, _⟩ => ⟨S9216x1, .f32⟩
  | .hbm, ⟨42, _⟩ => ⟨S9216x1, .f32⟩
  | .hbm, ⟨43, _⟩ => ⟨S9216x1024, .f32⟩
  | .hbm, ⟨44, _⟩ => ⟨S9216x1024, .f32⟩
  | .hbm, ⟨45, _⟩ => ⟨S9216x1024, .f32⟩
  | .hbm, ⟨46, _⟩ => ⟨S9216x1024, .f32⟩
  | .hbm, ⟨47, _⟩ => ⟨S9216x1024, .f32⟩
  | .hbm, ⟨48, _⟩ => ⟨S9216x1024, .f32⟩
  | .hbm, ⟨49, _⟩ => ⟨S9216x1024, .bf16⟩
  | .hbm, ⟨50, _⟩ => ⟨S1024x1024, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S9216x2048 : Shape := ⟨2, ![9216, 2048]⟩
abbrev S2048x3584 : Shape := ⟨2, ![2048, 3584]⟩
abbrev S5120x8 : Shape := ⟨2, ![5120, 8]⟩
abbrev S_ : Shape := ⟨0, ![]⟩
abbrev S5120x48 : Shape := ⟨2, ![5120, 48]⟩
abbrev S5120x64 : Shape := ⟨2, ![5120, 64]⟩
abbrev S5120x128 : Shape := ⟨2, ![5120, 128]⟩
abbrev S5120x56 : Shape := ⟨2, ![5120, 56]⟩
abbrev S9216x512 : Shape := ⟨2, ![9216, 512]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024x256 : Shape := ⟨2, ![1024, 256]⟩
abbrev S8192x512 : Shape := ⟨2, ![8192, 512]⟩
abbrev S2x4096x2x4x64 : Shape := ⟨5, ![2, 4096, 2, 4, 64]⟩
abbrev S2x128x2x4x64 : Shape := ⟨5, ![2, 128, 2, 4, 64]⟩
abbrev S2x128x1x4x64 : Shape := ⟨5, ![2, 128, 1, 4, 64]⟩
abbrev S2x128x4x64 : Shape := ⟨4, ![2, 128, 4, 64]⟩

abbrev nBuf : Space → Nat
  | .hbm => 23
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S5120x8, .f32⟩
  | .hbm, ⟨3, _⟩ => ⟨S5120x8, .f32⟩
  | .hbm, ⟨4, _⟩ => ⟨S_, .f32⟩
  | .hbm, ⟨5, _⟩ => ⟨S5120x48, .f32⟩
  | .hbm, ⟨6, _⟩ => ⟨S_, .f32⟩
  | .hbm, ⟨7, _⟩ => ⟨S5120x64, .f32⟩
  | .hbm, ⟨8, _⟩ => ⟨S5120x128, .f32⟩
  | .hbm, ⟨9, _⟩ => ⟨S5120x8, .f32⟩
  | .hbm, ⟨10, _⟩ => ⟨S5120x56, .f32⟩
  | .hbm, ⟨11, _⟩ => ⟨S5120x128, .f32⟩
  | .hbm, ⟨12, _⟩ => ⟨S5120x8, .f32⟩
  | .hbm, ⟨13, _⟩ => ⟨S5120x48, .f32⟩
  | .hbm, ⟨14, _⟩ => ⟨S5120x128, .f32⟩
  | .hbm, ⟨15, _⟩ => ⟨S9216x512, .f32⟩
  | .hbm, ⟨16, _⟩ => ⟨S8192x512, .f32⟩
  | .hbm, ⟨17, _⟩ => ⟨S2x4096x2x4x64, .f32⟩
  | .hbm, ⟨18, _⟩ => ⟨S2x128x2x4x64, .f32⟩
  | .hbm, ⟨19, _⟩ => ⟨S2x128x1x4x64, .f32⟩
  | .hbm, ⟨20, _⟩ => ⟨S2x128x4x64, .f32⟩
  | .hbm, ⟨21, _⟩ => ⟨S2x128x1x4x64, .f32⟩
  | .hbm, ⟨22, _⟩ => ⟨S2x128x4x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .f32⟩
  | .local _ .vmem, ⟨10, _⟩ => ⟨S1024x512, .f32⟩
  | .local _ .vmem, ⟨11, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S9216x2048 : Shape := ⟨2, ![9216, 2048]⟩
abbrev S2048x3584 : Shape := ⟨2, ![2048, 3584]⟩
abbrev S5120x8 : Shape := ⟨2, ![5120, 8]⟩
abbrev S2048x256 : Shape := ⟨2, ![2048, 256]⟩
abbrev S9216x256 : Shape := ⟨2, ![9216, 256]⟩
abbrev S9216x4x64 : Shape := ⟨3, ![9216, 4, 64]⟩
abbrev S4096x8 : Shape := ⟨2, ![4096, 8]⟩
abbrev S1024x8 : Shape := ⟨2, ![1024, 8]⟩
abbrev S9216x8 : Shape := ⟨2, ![9216, 8]⟩
abbrev S9216x4x16 : Shape := ⟨3, ![9216, 4, 16]⟩
abbrev S9216x4x8 : Shape := ⟨3, ![9216, 4, 8]⟩
abbrev S9216x1x8 : Shape := ⟨3, ![9216, 1, 8]⟩
abbrev S9216x4x48 : Shape := ⟨3, ![9216, 4, 48]⟩
abbrev S9216x512 : Shape := ⟨2, ![9216, 512]⟩
abbrev S8192x4x64 : Shape := ⟨3, ![8192, 4, 64]⟩
abbrev S2x4096x4x64 : Shape := ⟨4, ![2, 4096, 4, 64]⟩
abbrev S2x128x4x64 : Shape := ⟨4, ![2, 128, 4, 64]⟩
abbrev S8192x256 : Shape := ⟨2, ![8192, 256]⟩

abbrev nBuf : Space → Nat
  | .hbm => 44
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S5120x8, .f32⟩
  | .hbm, ⟨3, _⟩ => ⟨S5120x8, .f32⟩
  | .hbm, ⟨4, _⟩ => ⟨S9216x2048, .f32⟩
  | .hbm, ⟨5, _⟩ => ⟨S2048x256, .f32⟩
  | .hbm, ⟨6, _⟩ => ⟨S9216x256, .f32⟩
  | .hbm, ⟨7, _⟩ => ⟨S2048x256, .f32⟩
  | .hbm, ⟨8, _⟩ => ⟨S9216x256, .f32⟩
  | .hbm, ⟨9, _⟩ => ⟨S9216x4x64, .f32⟩
  | .hbm, ⟨10, _⟩ => ⟨S4096x8, .f32⟩
  | .hbm, ⟨11, _⟩ => ⟨S4096x8, .f32⟩
  | .hbm, ⟨12, _⟩ => ⟨S1024x8, .f32⟩
  | .hbm, ⟨13, _⟩ => ⟨S9216x8, .f32⟩
  | .hbm, ⟨14, _⟩ => ⟨S4096x8, .f32⟩
  | .hbm, ⟨15, _⟩ => ⟨S4096x8, .f32⟩
  | .hbm, ⟨16, _⟩ => ⟨S1024x8, .f32⟩
  | .hbm, ⟨17, _⟩ => ⟨S9216x8, .f32⟩
  | .hbm, ⟨18, _⟩ => ⟨S9216x4x16, .f32⟩
  | .hbm, ⟨19, _⟩ => ⟨S9216x4x8, .f32⟩
  | .hbm, ⟨20, _⟩ => ⟨S9216x4x8, .f32⟩
  | .hbm, ⟨21, _⟩ => ⟨S9216x1x8, .f32⟩
  | .hbm, ⟨22, _⟩ => ⟨S9216x1x8, .f32⟩
  | .hbm, ⟨23, _⟩ => ⟨S9216x4x8, .f32⟩
  | .hbm, ⟨24, _⟩ => ⟨S9216x4x8, .f32⟩
  | .hbm, ⟨25, _⟩ => ⟨S9216x4x8, .f32⟩
  | .hbm, ⟨26, _⟩ => ⟨S9216x4x8, .f32⟩
  | .hbm, ⟨27, _⟩ => ⟨S9216x4x8, .f32⟩
  | .hbm, ⟨28, _⟩ => ⟨S9216x4x8, .f32⟩
  | .hbm, ⟨29, _⟩ => ⟨S9216x4x8, .f32⟩
  | .hbm, ⟨30, _⟩ => ⟨S9216x4x8, .f32⟩
  | .hbm, ⟨31, _⟩ => ⟨S9216x4x8, .f32⟩
  | .hbm, ⟨32, _⟩ => ⟨S9216x4x8, .f32⟩
  | .hbm, ⟨33, _⟩ => ⟨S9216x4x16, .f32⟩
  | .hbm, ⟨34, _⟩ => ⟨S9216x4x48, .f32⟩
  | .hbm, ⟨35, _⟩ => ⟨S9216x4x64, .f32⟩
  | .hbm, ⟨36, _⟩ => ⟨S9216x256, .f32⟩
  | .hbm, ⟨37, _⟩ => ⟨S9216x512, .f32⟩
  | .hbm, ⟨38, _⟩ => ⟨S8192x4x64, .f32⟩
  | .hbm, ⟨39, _⟩ => ⟨S2x4096x4x64, .f32⟩
  | .hbm, ⟨40, _⟩ => ⟨S2x128x4x64, .f32⟩
  | .hbm, ⟨41, _⟩ => ⟨S8192x256, .f32⟩
  | .hbm, ⟨42, _⟩ => ⟨S2x4096x4x64, .f32⟩
  | .hbm, ⟨43, _⟩ => ⟨S2x128x4x64, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩

abbrev nD : Nat := 1
abbrev τ : Topo := Topo.v7x

variable {F : FTy → Type} [FloatOps F]
-- ==== Kernel10.lean ====
abbrev S9216x2048 : Shape := ⟨2, ![9216, 2048]⟩
abbrev S2048x3584 : Shape := ⟨2, ![2048, 3584]⟩
abbrev S5120x8 : Shape := ⟨2, ![5120, 8]⟩
abbrev S_ : Shape := ⟨0, ![]⟩
abbrev S5120x48 : Shape := ⟨2, ![5120, 48]⟩
abbrev S5120x64 : Shape := ⟨2, ![5120, 64]⟩
abbrev S5120x128 : Shape := ⟨2, ![5120, 128]⟩
abbrev S5120x56 : Shape := ⟨2, ![5120, 56]⟩
abbrev S9216x1024 : Shape := ⟨2, ![9216, 1024]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩

abbrev nBuf : Space → Nat
  | .hbm => 16
  | .vmem => 13
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S5120x8, .f32⟩
  | .hbm, ⟨3, _⟩ => ⟨S5120x8, .f32⟩
  | .hbm, ⟨4, _⟩ => ⟨S_, .f32⟩
  | .hbm, ⟨5, _⟩ => ⟨S5120x48, .f32⟩
  | .hbm, ⟨6, _⟩ => ⟨S_, .f32⟩
  | .hbm, ⟨7, _⟩ => ⟨S5120x64, .f32⟩
  | .hbm, ⟨8, _⟩ => ⟨S5120x128, .f32⟩
  | .hbm, ⟨9, _⟩ => ⟨S5120x8, .f32⟩
  | .hbm, ⟨10, _⟩ => ⟨S5120x56, .f32⟩
  | .hbm, ⟨11, _⟩ => ⟨S5120x128, .f32⟩
  | .hbm, ⟨12, _⟩ => ⟨S5120x8, .f32⟩
  | .hbm, ⟨13, _⟩ => ⟨S5120x48, .f32⟩
  | .hbm, ⟨14, _⟩ => ⟨S5120x128, .f32⟩
  | .hbm, ⟨15, _⟩ => ⟨S9216x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S9216x2048 : Shape := ⟨2, ![9216, 2048]⟩
abbrev S2048x3584 : Shape := ⟨2, ![2048, 3584]⟩
abbrev S5120x8 : Shape := ⟨2, ![5120, 8]⟩
abbrev S2048x1024 : Shape := ⟨2, ![2048, 1024]⟩
abbrev S9216x1024 : Shape := ⟨2, ![9216, 1024]⟩
abbrev S9216x16x64 : Shape := ⟨3, ![9216, 16, 64]⟩
abbrev S4096x8 : Shape := ⟨2, ![4096, 8]⟩
abbrev S1024x8 : Shape := ⟨2, ![1024, 8]⟩
abbrev S9216x8 : Shape := ⟨2, ![9216, 8]⟩
abbrev S9216x16x16 : Shape := ⟨3, ![9216, 16, 16]⟩
abbrev S9216x16x8 : Shape := ⟨3, ![9216, 16, 8]⟩
abbrev S9216x1x8 : Shape := ⟨3, ![9216, 1, 8]⟩
abbrev S9216x16x48 : Shape := ⟨3, ![9216, 16, 48]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x3584, .f32⟩
  | .hbm, ⟨2, _⟩ => ⟨S5120x8, .f32⟩
  | .hbm, ⟨3, _⟩ => ⟨S5120x8, .f32⟩
  | .hbm, ⟨4, _⟩ => ⟨S9216x2048, .f32⟩
  | .hbm, ⟨5, _⟩ => ⟨S2048x1024, .f32⟩
  | .hbm, ⟨6, _⟩ => ⟨S9216x1024, .f32⟩
  | .hbm, ⟨7, _⟩ => ⟨S9216x16x64, .f32⟩
  | .hbm, ⟨8, _⟩ => ⟨S4096x8, .f32⟩
  | .hbm, ⟨9, _⟩ => ⟨S4096x8, .f32⟩
  | .hbm, ⟨10, _⟩ => ⟨S1024x8, .f32⟩
  | .hbm, ⟨11, _⟩ => ⟨S9216x8, .f32⟩
  | .hbm, ⟨12, _⟩ => ⟨S4096x8, .f32⟩
  | .hbm, ⟨13, _⟩ => ⟨S4096x8, .f32⟩
  | .hbm, ⟨14, _⟩ => ⟨S1024x8, .f32⟩
  | .hbm, ⟨15, _⟩ => ⟨S9216x8, .f32⟩
  | .hbm, ⟨16, _⟩ => ⟨S9216x16x16, .f32⟩
  | .hbm, ⟨17, _⟩ => ⟨S9216x16x8, .f32⟩
  | .hbm, ⟨18, _⟩ => ⟨S9216x16x8, .f32⟩
  | .hbm, ⟨19, _⟩ => ⟨S9216x1x8, .f32⟩
  | .hbm, ⟨20, _⟩ => ⟨S9216x1x8, .f32⟩
  | .hbm, ⟨21, _⟩ => ⟨S9216x16x8, .f32⟩
  | .hbm, ⟨22, _⟩ => ⟨S9216x16x8, .f32⟩
  | .hbm, ⟨23, _⟩ => ⟨S9216x16x8, .f32⟩
  | .hbm, ⟨24, _⟩ => ⟨S9216x16x8, .f32⟩
  | .hbm, ⟨25, _⟩ => ⟨S9216x16x8, .f32⟩
  | .hbm, ⟨26, _⟩ => ⟨S9216x16x8, .f32⟩
  | .hbm, ⟨27, _⟩ => ⟨S9216x16x8, .f32⟩
  | .hbm, ⟨28, _⟩ => ⟨S9216x16x8, .f32⟩
  | .hbm, ⟨29, _⟩ => ⟨S9216x16x8, .f32⟩
  | .hbm, ⟨30, _⟩ => ⟨S9216x16x8, .f32⟩
  | .hbm, ⟨31, _⟩ => ⟨S9216x16x16, .f32⟩
  | .hbm, ⟨32, _⟩ => ⟨S9216x16x48, .f32⟩
  | .hbm, ⟨33, _⟩ => ⟨S9216x16x64, .f32⟩
  | .hbm, ⟨34, _⟩ => ⟨S9216x1024, .f32⟩
  | .hbm, ⟨35, _⟩ => ⟨S_, .f32⟩
  | .hbm, ⟨36, _⟩ => ⟨S9216x1024, .f32⟩
  | .hbm, ⟨37, _⟩ => ⟨S9216x1024, .f32⟩
  | .hbm, ⟨38, _⟩ => ⟨S9216x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel11.lean ====
abbrev S9216x4096 : Shape := ⟨2, ![9216, 4096]⟩
abbrev S9216x12288 : Shape := ⟨2, ![9216, 12288]⟩
abbrev S128x8x256x512 : Shape := ⟨4, ![128, 8, 256, 512]⟩
abbrev S8 : Shape := ⟨1, ![8]⟩
abbrev S_ : Shape := ⟨0, ![]⟩
abbrev S128x256 : Shape := ⟨2, ![128, 256]⟩
abbrev S128x512 : Shape := ⟨2, ![128, 512]⟩
abbrev S16x1x256x512 : Shape := ⟨4, ![16, 1, 256, 512]⟩
abbrev S1 : Shape := ⟨1, ![1]⟩
abbrev S128x128 : Shape := ⟨2, ![128, 128]⟩
abbrev S128x1 : Shape := ⟨2, ![128, 1]⟩
abbrev S1x1 : Shape := ⟨2, ![1, 1]⟩
abbrev S1x1x256x512 : Shape := ⟨4, ![1, 1, 256, 512]⟩
abbrev S256x512 : Shape := ⟨2, ![256, 512]⟩
abbrev S8x256 : Shape := ⟨2, ![8, 256]⟩
abbrev S8x512 : Shape := ⟨2, ![8, 512]⟩
abbrev S128 : Shape := ⟨1, ![128]⟩

abbrev nBuf : Space → Nat
  | .hbm => 15
  | .vmem => 14
  | .smem => 1
  | _ => 0

abbrev bufTy : (tb : Table) → Fin (tcTables nBuf tb) → BufTy
  | .hbm, ⟨0, _⟩ => ⟨S9216x4096, .bf16⟩
  | .hbm, ⟨1, _⟩ => ⟨S9216x12288, .bf16⟩
  | .hbm, ⟨2, _⟩ => ⟨S128x8x256x512, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S9216x4096, .bf16⟩
  | .hbm, ⟨14, _⟩ => ⟨S128x8x256x512, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S16x1x256x512, .f32⟩
  | .local _ .vmem, ⟨9, _⟩ => ⟨S16x1x256x512, .f32⟩
  | .local _ .vmem, ⟨10, _⟩ => ⟨S128x512, .bf16⟩
  | .local _ .vmem, ⟨11, _⟩ => ⟨S128x512, .bf16⟩
  | .local _ .vmem, ⟨12, _⟩ => ⟨S16x1x256x512, .f32⟩
  | .local _ .vmem, ⟨13, _⟩ => ⟨S16x1x256x512, .f32⟩
  | .local _ .smem, ⟨0, _⟩ => ⟨S8, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S9216x4096 : Shape := ⟨2, ![9216, 4096]⟩
abbrev S9216x12288 : Shape := ⟨2, ![9216, 12288]⟩
abbrev S128x8x256x512 : Shape := ⟨4, ![128, 8, 256, 512]⟩
abbrev S1024x12288 : Shape := ⟨2, ![1024, 12288]⟩
abbrev S1024x2048 : Shape := ⟨2, ![1024, 2048]⟩
abbrev S128x8x8x256 : Shape := ⟨4, ![128, 8, 8, 256]⟩
abbrev S1024x4096 : Shape := ⟨2, ![1024, 4096]⟩
abbrev S128x8x8x512 : Shape := ⟨4, ![128, 8, 8, 512]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S128x8x8x8 : Shape := ⟨4, ![128, 8, 8, 8]⟩
abbrev S1x8x8x8 : Shape := ⟨4, ![1, 8, 8, 8]⟩
abbrev S128x8x512x8 : Shape := ⟨4, ![128, 8, 512, 8]⟩
abbrev S8x8x1 : Shape := ⟨3, ![8, 8, 1]⟩
abbrev S1x8x8x1 : Shape := ⟨4, ![1, 8, 8, 1]⟩
abbrev S1x8x1x1 : Shape := ⟨4, ![1, 8, 1, 1]⟩
abbrev S128x8x8 : Shape := ⟨3, ![128, 8, 8]⟩
abbrev S128x8x8x1 : Shape := ⟨4, ![128, 8, 8, 1]⟩
abbrev S8192x4096 : Shape := ⟨2, ![8192, 4096]⟩

abbrev nBuf : Space → Nat
  | .hbm => 108
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x12288, .bf16⟩
  | .hbm, ⟨2, _⟩ => ⟨S128x8x256x512, .f32⟩
  | .hbm, ⟨3, _⟩ => ⟨S1024x12288, .bf16⟩
  | .hbm, ⟨4, _⟩ => ⟨S1024x12288, .f32⟩
  | .hbm, ⟨5, _⟩ => ⟨S1024x2048, .f32⟩
  | .hbm, ⟨6, _⟩ => ⟨S128x8x8x256, .f32⟩
  | .hbm, ⟨7, _⟩ => ⟨S1024x2048, .f32⟩
  | .hbm, ⟨8, _⟩ => ⟨S128x8x8x256, .f32⟩
  | .hbm, ⟨9, _⟩ => ⟨S1024x4096, .f32⟩
  | .hbm, ⟨10, _⟩ => ⟨S128x8x8x512, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S1x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S_, .f32⟩
  | .hbm, ⟨28, _⟩ => ⟨S8x8, .f32⟩
  | .hbm, ⟨29, _⟩ => ⟨S8x8, .i1⟩
  | .hbm, ⟨30, _⟩ => ⟨S8x1x1, .f32⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S8x8x8, .f32⟩
  | .hbm, ⟨36, _⟩ => ⟨S8x8x8, .f32⟩
  | .hbm, ⟨37, _⟩ => ⟨S8x8x8, .f32⟩
  | .hbm, ⟨38, _⟩ => ⟨S8x8x8, .f32⟩
  | .hbm, ⟨39, _⟩ => ⟨S_, .f32⟩
  | .hbm, ⟨40, _⟩ => ⟨S_, .f32⟩
  | .hbm, ⟨41, _⟩ => ⟨S8x8x8, .i1⟩
  | .hbm, ⟨42, _⟩ => ⟨S8x8x8, .f32⟩
  | .hbm, ⟨43, _⟩ => ⟨S8x8x8, .f32⟩
  | .hbm, ⟨44, _⟩ => ⟨S1x8, .f32⟩
  | .hbm, ⟨45, _⟩ => ⟨S8x1, .f32⟩
  | .hbm, ⟨46, _⟩ => ⟨S_, .f32⟩
  | .hbm, ⟨47, _⟩ => ⟨S8x1, .f32⟩
  | .hbm, ⟨48, _⟩ => ⟨S8x1, .f32⟩
  | .hbm, ⟨49, _⟩ => ⟨S8x8, .f32⟩
  | .hbm, ⟨50, _⟩ => ⟨S8x8, .f32⟩
  | .hbm, ⟨51, _⟩ => ⟨S8x8, .f32⟩
  | .hbm, ⟨52, _⟩ => ⟨S8x8, .f32⟩
  | .hbm, ⟨53, _⟩ => ⟨S1x8, .f32⟩
  | .hbm, ⟨54, _⟩ => ⟨S8x1, .f32⟩
  | .hbm, ⟨55, _⟩ => ⟨S_, .f32⟩
  | .hbm, ⟨56, _⟩ => ⟨S8x1, .f32⟩
  | .hbm, ⟨57, _⟩ => ⟨S8x1, .f32⟩
  | .hbm, ⟨58, _⟩ => ⟨S8x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S128x8x8x8, .f32⟩
  | .hbm, ⟨63, _⟩ => ⟨S1x8x8x8, .f32⟩
  | .hbm, ⟨64, _⟩ => ⟨S128x8x8x8, .f32⟩
  | .hbm, ⟨65, _⟩ => ⟨S128x8x8x8, .f32⟩
  | .hbm, ⟨66, _⟩ => ⟨S128x8x512x8, .f32⟩
  | .hbm, ⟨67, _⟩ => ⟨S128x8x8x512, .f32⟩
  | .hbm, ⟨68, _⟩ => ⟨S8x8x1, .f32⟩
  | .hbm, ⟨69, _⟩ => ⟨S1x8x8x1, .f32⟩
  | .hbm, ⟨70, _⟩ => ⟨S128x8x8x256, .f32⟩
  | .hbm, ⟨71, _⟩ => ⟨S128x8x8x256, .f32⟩
  | .hbm, ⟨72, _⟩ => ⟨S128x8x512x8, .f32⟩
  | .hbm, ⟨73, _⟩ => ⟨S128x8x8x512, .f32⟩
  | .hbm, ⟨74, _⟩ => ⟨S128x8x8x512, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S8x1x1, .f32⟩
  | .hbm, ⟨80, _⟩ => ⟨S1x8x1x1, .f32⟩
  | .hbm, ⟨81, _⟩ => ⟨S128x8x256x512, .f32⟩
  | .hbm, ⟨82, _⟩ => ⟨S128x8x256x512, .f32⟩
  | .hbm, ⟨83, _⟩ => ⟨S8x8x1, .f32⟩
  | .hbm, ⟨84, _⟩ => ⟨S1x8x8x1, .f32⟩
  | .hbm, ⟨85, _⟩ => ⟨S128x8x8x256, .f32⟩
  | .hbm, ⟨86, _⟩ => ⟨S128x8x8x256, .f32⟩
  | .hbm, ⟨87, _⟩ => ⟨S128x8x256x512, .f32⟩
  | .hbm, ⟨88, _⟩ => ⟨S128x8x256x512, .f32⟩
  | .hbm, ⟨89, _⟩ => ⟨S128x8x8x512, .f32⟩
  | .hbm, ⟨90, _⟩ => ⟨S_, .f32⟩
  | .hbm, ⟨91, _⟩ => ⟨S128x8x8, .f32⟩
  | .hbm, ⟨92, _⟩ => ⟨S128x8x8x1, .f32⟩
  | .hbm, ⟨93, _⟩ => ⟨S_, .f32⟩
  | .hbm, ⟨94, _⟩ => ⟨S128x8x8x1, .f32⟩
  | .hbm, ⟨95, _⟩ => ⟨S128x8x8x1, .f32⟩
  | .hbm, ⟨96, _⟩ => ⟨S_, .f32⟩
  | .hbm, ⟨97, _⟩ => ⟨S128x8x8x1, .f32⟩
  | .hbm, ⟨98, _⟩ => ⟨S128x8x8x1, .f32⟩
  | .hbm, ⟨99, _⟩ => ⟨S128x8x8x1, .f32⟩
  | .hbm, ⟨100, _⟩ => ⟨S128x8x8x512, .f32⟩
  | .hbm, ⟨101, _⟩ => ⟨S128x8x8x512, .f32⟩
  | .hbm, ⟨102, _⟩ => ⟨S1024x4096, .f32⟩
  | .hbm, ⟨103, _⟩ => ⟨S1024x4096, .f32⟩
  | .hbm, ⟨104, _⟩ => ⟨S1024x4096, .f32⟩
  | .hbm, ⟨105, _⟩ => ⟨S1024x4096, .bf16⟩
  | .hbm, ⟨106, _⟩ => ⟨S8192x4096, .bf16⟩
  | .hbm, ⟨107, _⟩ => ⟨S9216x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== Kernel12.lean ====
abbrev S9216x2048 : Shape := ⟨2, ![9216, 2048]⟩
abbrev S9216x1024 : Shape := ⟨2, ![9216, 1024]⟩
abbrev S9216x512 : Shape := ⟨2, ![9216, 512]⟩
abbrev S1024x1024 : Shape := ⟨2, ![1024, 1024]⟩
abbrev S128x128x4x64 : Shape := ⟨4, ![128, 128, 4, 64]⟩
abbrev S16 : Shape := ⟨1, ![16]⟩
abbrev S4x128x128 : Shape := ⟨3, ![4, 128, 128]⟩
abbrev S4x128 : Shape := ⟨2, ![4, 128]⟩
abbrev S128x128x256 : Shape := ⟨3, ![128, 128, 256]⟩
abbrev S4x8x8 : Shape := ⟨3, ![4, 8, 8]⟩
abbrev S4x8x8x1 : Shape := ⟨4, ![4, 8, 8, 1]⟩
abbrev S4x8x8x256 : Shape := ⟨4, ![4, 8, 8, 256]⟩
abbrev S4x8 : Shape := ⟨2, ![4, 8]⟩
abbrev S4x8x1 : Shape := ⟨3, ![4, 8, 1]⟩
abbrev S4x8x256 : Shape := ⟨3, ![4, 8, 256]⟩
abbrev S128x1024 : Shape := ⟨2, ![128, 1024]⟩
abbrev S128x512 : Shape := ⟨2, ![128, 512]⟩
abbrev S16x128x256 : Shape := ⟨3, ![16, 128, 256]⟩
abbrev S128x2048 : Shape := ⟨2, ![128, 2048]⟩
abbrev S16x8x512 : Shape := ⟨3, ![16, 8, 512]⟩
abbrev S16x8x256 : Shape := ⟨3, ![16, 8, 256]⟩
abbrev S16x120x256 : Shape := ⟨3, ![16, 120, 256]⟩
abbrev S16x256x256 : Shape := ⟨3, ![16, 256, 256]⟩
abbrev S32x256 : Shape := ⟨2, ![32, 256]⟩
abbrev S16x8x1024 : Shape := ⟨3, ![16, 8, 1024]⟩
abbrev S16x8x64 : Shape := ⟨3, ![16, 8, 64]⟩
abbrev S16x32x64 : Shape := ⟨3, ![16, 32, 64]⟩
abbrev S16x256x64 : Shape := ⟨3, ![16, 256, 64]⟩
abbrev S16x32x256 : Shape := ⟨3, ![16, 32, 256]⟩
abbrev S1x32x256 : Shape := ⟨3, ![1, 32, 256]⟩
abbrev S1 : Shape := ⟨1, ![1]⟩
abbrev S8x1 : Shape := ⟨2, ![8, 1]⟩
abbrev S32x1 : Shape := ⟨2, ![32, 1]⟩
abbrev S1x32x1 : Shape := ⟨3, ![1, 32, 1]⟩
abbrev S16x32 : Shape := ⟨2, ![16, 32]⟩
abbrev S16x32x1 : Shape := ⟨3, ![16, 32, 1]⟩
abbrev S8x256 : Shape := ⟨2, ![8, 256]⟩
abbrev S1x8x256 : Shape := ⟨3, ![1, 8, 256]⟩
abbrev S1x1x8x256 : Shape := ⟨4, ![1, 1, 8, 256]⟩
abbrev S16x1x256 : Shape := ⟨3, ![16, 1, 256]⟩
abbrev S128x256 : Shape := ⟨2, ![128, 256]⟩

abbrev nBuf : Space → Nat
  | .hbm => 22
  | .vmem => 20
  | .smem => 1
  | _ => 0

abbrev bufTy : (tb : Table) → Fin (tcTables nBuf tb) → BufTy
  | .hbm, ⟨0, _⟩ => ⟨S9216x2048, .bf16⟩
  | .hbm, ⟨1, _⟩ => ⟨S9216x1024, .bf16⟩
  | .hbm, ⟨2, _⟩ => ⟨S9216x512, .f32⟩
  | .hbm, ⟨3, _⟩ => ⟨S9216x1024, .bf16⟩
  | .hbm, ⟨4, _⟩ => ⟨S1024x1024, .f32⟩
  | .hbm, ⟨5, _⟩ => ⟨S128x128x4x64, .f32⟩
  | .hbm, ⟨6, _⟩ => ⟨S128x128x4x64, .f32⟩
  | .hbm, ⟨7, _⟩ => ⟨S16, .f32⟩
  | .hbm, ⟨8, _⟩ => ⟨S4x128x128, .f32⟩
  | .hbm, ⟨9, _⟩ => ⟨S4x128, .f32⟩
  | .hbm, ⟨10, _⟩ => ⟨S128x128x256, .f32⟩
  | .hbm, ⟨11, _⟩ => ⟨S128x128x256, .f32⟩
  | .hbm, ⟨12, _⟩ => ⟨S4x8x8, .f32⟩
  | .hbm, ⟨13, _⟩ => ⟨S4x8x8, .f32⟩
  | .hbm, ⟨14, _⟩ => ⟨S4x8x8x1, .f32⟩
  | .hbm, ⟨15, _⟩ => ⟨S4x8x8x256, .f32⟩
  | .hbm, ⟨16, _⟩ => ⟨S4x8, .f32⟩
  | .hbm, ⟨17, _⟩ => ⟨S4x8x1, .f32⟩
  | .hbm, ⟨18, _⟩ => ⟨S4x8x256, .f32⟩
  | .hbm, ⟨19, _⟩ => ⟨S9216x2048, .bf16⟩
  | .hbm, ⟨20, _⟩ => ⟨S128x128x256, .f32⟩
  | .hbm, ⟨21, _⟩ => ⟨S128x128x256, .f32⟩
  | .local _ .vmem, ⟨0, _⟩ => ⟨S128x1024, .bf16⟩
  | .local _ .vmem, ⟨1, _⟩ => ⟨S128x1024, .bf16⟩
  | .local _ .vmem, ⟨2, _⟩ => ⟨S128x512, .f32⟩
  | .local _ .vmem, ⟨3, _⟩ => ⟨S128x512, .f32⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S16x128x256, .f32⟩
  | .local _ .vmem, ⟨9, _⟩ => ⟨S16x128x256, .f32⟩
  | .local _ .vmem, ⟨10, _⟩ => ⟨S16x128x256, .f32⟩
  | .local _ .vmem, ⟨11, _⟩ => ⟨S16x128x256, .f32⟩
  | .local _ .vmem, ⟨12, _⟩ => ⟨S4x8x8x256, .f32⟩
  | .local _ .vmem, ⟨13, _⟩ => ⟨S4x8x256, .f32⟩
  | .local _ .vmem, ⟨14, _⟩ => ⟨S128x2048, .bf16⟩
  | .local _ .vmem, ⟨15, _⟩ => ⟨S128x2048, .bf16⟩
  | .local _ .vmem, ⟨16, _⟩ => ⟨S16x128x256, .f32⟩
  | .local _ .vmem, ⟨17, _⟩ => ⟨S16x128x256, .f32⟩
  | .local _ .vmem, ⟨18, _⟩ => ⟨S16x128x256, .f32⟩
  | .local _ .vmem, ⟨19, _⟩ => ⟨S16x128x256, .f32⟩
  | .local _ .smem, ⟨0, _⟩ => ⟨S16, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x8x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel12Ideal.lean ====
variable {F : FTy → Type} [FloatOps F] [Named F]
def κ : String → Option EReal := fun
  | "mask" => some ⊥
  | _ => none
-- ==== Reference12Ideal.lean ====
abbrev S9216x2048 : Shape := ⟨2, ![9216, 2048]⟩
abbrev S9216x1024 : Shape := ⟨2, ![9216, 1024]⟩
abbrev S9216x512 : Shape := ⟨2, ![9216, 512]⟩
abbrev S1024x1024 : Shape := ⟨2, ![1024, 1024]⟩
abbrev S128x128x4x64 : Shape := ⟨4, ![128, 128, 4, 64]⟩
abbrev S16 : Shape := ⟨1, ![16]⟩
abbrev S4x128x128 : Shape := ⟨3, ![4, 128, 128]⟩
abbrev S4x128 : Shape := ⟨2, ![4, 128]⟩
abbrev S128x8x16x64 : Shape := ⟨4, ![128, 8, 16, 64]⟩
abbrev S1024x256 : Shape := ⟨2, ![1024, 256]⟩
abbrev S128x8x4x64 : Shape := ⟨4, ![128, 8, 4, 64]⟩
abbrev S128x136x4x64 : Shape := ⟨4, ![128, 136, 4, 64]⟩
abbrev S128x8x4x4x64 : Shape := ⟨5, ![128, 8, 4, 4, 64]⟩
abbrev S128x4x136x8x4 : Shape := ⟨5, ![128, 4, 136, 8, 4]⟩
abbrev S128x4x4x8x136 : Shape := ⟨5, ![128, 4, 4, 8, 136]⟩
abbrev S8 : Shape := ⟨1, ![8]⟩
abbrev S8x1 : Shape := ⟨2, ![8, 1]⟩
abbrev S_ : Shape := ⟨0, ![]⟩
abbrev S136 : Shape := ⟨1, ![136]⟩
abbrev S1x136 : Shape := ⟨2, ![1, 136]⟩
abbrev S8x136 : Shape := ⟨2, ![8, 136]⟩
abbrev S4x4 : Shape := ⟨2, ![4, 4]⟩
abbrev S4x4x1x1 : Shape := ⟨4, ![4, 4, 1, 1]⟩
abbrev S128x4x4x8 : Shape := ⟨4, ![128, 4, 4, 8]⟩
abbrev S128x4x4x8x1 : Shape := ⟨5, ![128, 4, 4, 8, 1]⟩
abbrev S1x4x4x1x1 : Shape := ⟨5, ![1, 4, 4, 1, 1]⟩
abbrev S128x4x4x8x64 : Shape := ⟨5, ![128, 4, 4, 8, 64]⟩
abbrev S128x8x4x256 : Shape := ⟨4, ![128, 8, 4, 256]⟩
abbrev S4x8x8 : Shape := ⟨3, ![4, 8, 8]⟩
abbrev S8x8 : Shape := ⟨2, ![8, 8]⟩
abbrev S4x128x256x8 : Shape := ⟨4, ![4, 128, 256, 8]⟩
abbrev S4x8 : Shape := ⟨2, ![4, 8]⟩
abbrev S8x4 : Shape := ⟨2, ![8, 4]⟩
abbrev S8x4x1 : Shape := ⟨3, ![8, 4, 1]⟩
abbrev S1x8x4x1 : Shape := ⟨4, ![1, 8, 4, 1]⟩
abbrev S1024x2048 : Shape := ⟨2, ![1024, 2048]⟩
abbrev S8192x2048 : Shape := ⟨2, ![8192, 2048]⟩
abbrev S128x128x256 : Shape := ⟨3, ![128, 128, 256]⟩

abbrev nBuf : Space → Nat
  | .hbm => 105
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x1024, .bf16⟩
  | .hbm, ⟨2, _⟩ => ⟨S9216x512, .f32⟩
  | .hbm, ⟨3, _⟩ => ⟨S9216x1024, .bf16⟩
  | .hbm, ⟨4, _⟩ => ⟨S1024x1024, .f32⟩
  | .hbm, ⟨5, _⟩ => ⟨S128x128x4x64, .f32⟩
  | .hbm, ⟨6, _⟩ => ⟨S128x128x4x64, .f32⟩
  | .hbm, ⟨7, _⟩ => ⟨S16, .f32⟩
  | .hbm, ⟨8, _⟩ => ⟨S4x128x128, .f32⟩
  | .hbm, ⟨9, _⟩ => ⟨S4x128, .f32⟩
  | .hbm, ⟨10, _⟩ => ⟨S1024x1024, .bf16⟩
  | .hbm, ⟨11, _⟩ => ⟨S1024x1024, .f32⟩
  | .hbm, ⟨12, _⟩ => ⟨S128x8x16x64, .f32⟩
  | .hbm, ⟨13, _⟩ => ⟨S1024x256, .f32⟩
  | .hbm, ⟨14, _⟩ => ⟨S128x8x4x64, .f32⟩
  | .hbm, ⟨15, _⟩ => ⟨S1024x256, .f32⟩
  | .hbm, ⟨16, _⟩ => ⟨S128x8x4x64, .f32⟩
  | .hbm, ⟨17, _⟩ => ⟨S128x136x4x64, .f32⟩
  | .hbm, ⟨18, _⟩ => ⟨S128x136x4x64, .f32⟩
  | .hbm, ⟨19, _⟩ => ⟨S128x8x4x4x64, .f32⟩
  | .hbm, ⟨20, _⟩ => ⟨S128x4x136x8x4, .f32⟩
  | .hbm, ⟨21, _⟩ => ⟨S128x4x4x8x136, .f32⟩
  | .hbm, ⟨22, _⟩ => ⟨S8, .i32⟩
  | .hbm, ⟨23, _⟩ => ⟨S8x1, .i32⟩
  | .hbm, ⟨24, _⟩ => ⟨S_, .i32⟩
  | .hbm, ⟨25, _⟩ => ⟨S8x1, .i32⟩
  | .hbm, ⟨26, _⟩ => ⟨S8x1, .i32⟩
  | .hbm, ⟨27, _⟩ => ⟨S136, .i32⟩
  | .hbm, ⟨28, _⟩ => ⟨S1x136, .i32⟩
  | .hbm, ⟨29, _⟩ => ⟨S_, .i32⟩
  | .hbm, ⟨30, _⟩ => ⟨S1x136, .i32⟩
  | .hbm, ⟨31, _⟩ => ⟨S1x136, .i32⟩
  | .hbm, ⟨32, _⟩ => ⟨S8x136, .i32⟩
  | .hbm, ⟨33, _⟩ => ⟨S8x136, .i32⟩
  | .hbm, ⟨34, _⟩ => ⟨S8x136, .i1⟩
  | .hbm, ⟨35, _⟩ => ⟨S_, .i32⟩
  | .hbm, ⟨36, _⟩ => ⟨S8x1, .i32⟩
  | .hbm, ⟨37, _⟩ => ⟨S8x1, .i32⟩
  | .hbm, ⟨38, _⟩ => ⟨S8x136, .i32⟩
  | .hbm, ⟨39, _⟩ => ⟨S8x136, .i32⟩
  | .hbm, ⟨40, _⟩ => ⟨S8x136, .i1⟩
  | .hbm, ⟨41, _⟩ => ⟨S8x136, .i1⟩
  | .hbm, ⟨42, _⟩ => ⟨S_, .f32⟩
  | .hbm, ⟨43, _⟩ => ⟨S_, .f32⟩
  | .hbm, ⟨44, _⟩ => ⟨S128x4x4x8x136, .i1⟩
  | .hbm, ⟨45, _⟩ => ⟨S128x4x4x8x136, .f32⟩
  | .hbm, ⟨46, _⟩ => ⟨S128x4x4x8x136, .f32⟩
  | .hbm, ⟨47, _⟩ => ⟨S4x4, .f32⟩
  | .hbm, ⟨48, _⟩ => ⟨S4x4x1x1, .f32⟩
  | .hbm, ⟨49, _⟩ => ⟨S_, .f32⟩
  | .hbm, ⟨50, _⟩ => ⟨S128x4x4x8, .f32⟩
  | .hbm, ⟨51, _⟩ => ⟨S128x4x4x8x1, .f32⟩
  | .hbm, ⟨52, _⟩ => ⟨S1x4x4x1x1, .f32⟩
  | .hbm, ⟨53, _⟩ => ⟨S128x4x4x8x1, .f32⟩
  | .hbm, ⟨54, _⟩ => ⟨S128x4x4x8x1, .f32⟩
  | .hbm, ⟨55, _⟩ => ⟨S128x4x4x8x136, .f32⟩
  | .hbm, ⟨56, _⟩ => ⟨S128x4x4x8x136, .f32⟩
  | .hbm, ⟨57, _⟩ => ⟨S128x4x4x8x136, .f32⟩
  | .hbm, ⟨58, _⟩ => ⟨S128x4x4x8x64, .f32⟩
  | .hbm, ⟨59, _⟩ => ⟨S_, .f32⟩
  | .hbm, ⟨60, _⟩ => ⟨S128x4x4x8, .f32⟩
  | .hbm, ⟨61, _⟩ => ⟨S128x4x4x8x1, .f32⟩
  | .hbm, ⟨62, _⟩ => ⟨S1x4x4x1x1, .f32⟩
  | .hbm, ⟨63, _⟩ => ⟨S128x4x4x8x1, .f32⟩
  | .hbm, ⟨64, _⟩ => ⟨S128x4x4x8x1, .f32⟩
  | .hbm, ⟨65, _⟩ => ⟨S128x4x4x8x1, .f32⟩
  | .hbm, ⟨66, _⟩ => ⟨S128x4x4x8x1, .f32⟩
  | .hbm, ⟨67, _⟩ => ⟨S128x4x4x8x64, .f32⟩
  | .hbm, ⟨68, _⟩ => ⟨S128x4x4x8x64, .f32⟩
  | .hbm, ⟨69, _⟩ => ⟨S128x8x4x4x64, .f32⟩
  | .hbm, ⟨70, _⟩ => ⟨S128x8x16x64, .f32⟩
  | .hbm, ⟨71, _⟩ => ⟨S128x128x4x64, .f32⟩
  | .hbm, ⟨72, _⟩ => ⟨S128x128x4x64, .f32⟩
  | .hbm, ⟨73, _⟩ => ⟨S1024x1024, .bf16⟩
  | .hbm, ⟨74, _⟩ => ⟨S1024x1024, .f32⟩
  | .hbm, ⟨75, _⟩ => ⟨S128x8x4x256, .f32⟩
  | .hbm, ⟨76, _⟩ => ⟨S128x8x4x256, .f32⟩
  | .hbm, ⟨77, _⟩ => ⟨S4x8x8, .f32⟩
  | .hbm, ⟨78, _⟩ => ⟨S8x8, .i32⟩
  | .hbm, ⟨79, _⟩ => ⟨S_, .i32⟩
  | .hbm, ⟨80, _⟩ => ⟨S8x8, .i32⟩
  | .hbm, ⟨81, _⟩ => ⟨S8x8, .i32⟩
  | .hbm, ⟨82, _⟩ => ⟨S8x8, .i32⟩
  | .hbm, ⟨83, _⟩ => ⟨S8x8, .i1⟩
  | .hbm, ⟨84, _⟩ => ⟨S4x8x8, .i1⟩
  | .hbm, ⟨85, _⟩ => ⟨S_, .f32⟩
  | .hbm, ⟨86, _⟩ => ⟨S4x8x8, .f32⟩
  | .hbm, ⟨87, _⟩ => ⟨S4x8x8, .f32⟩
  | .hbm, ⟨88, _⟩ => ⟨S4x128x256x8, .f32⟩
  | .hbm, ⟨89, _⟩ => ⟨S128x8x4x256, .f32⟩
  | .hbm, ⟨90, _⟩ => ⟨S4x8, .f32⟩
  | .hbm, ⟨91, _⟩ => ⟨S8x4, .f32⟩
  | .hbm, ⟨92, _⟩ => ⟨S8x4x1, .f32⟩
  | .hbm, ⟨93, _⟩ => ⟨S1x8x4x1, .f32⟩
  | .hbm, ⟨94, _⟩ => ⟨S128x8x4x256, .f32⟩
  | .hbm, ⟨95, _⟩ => ⟨S128x8x4x256, .f32⟩
  | .hbm, ⟨96, _⟩ => ⟨S128x8x4x256, .f32⟩
  | .hbm, ⟨97, _⟩ => ⟨S1024x1024, .f32⟩
  | .hbm, ⟨98, _⟩ => ⟨S1024x1024, .f32⟩
  | .hbm, ⟨99, _⟩ => ⟨S1024x2048, .f32⟩
  | .hbm, ⟨100, _⟩ => ⟨S1024x2048, .bf16⟩
  | .hbm, ⟨101, _⟩ => ⟨S8192x2048, .bf16⟩
  | .hbm, ⟨102, _⟩ => ⟨S9216x2048, .bf16⟩
  | .hbm, ⟨103, _⟩ => ⟨S128x128x256, .f32⟩
  | .hbm, ⟨104, _⟩ => ⟨S128x128x256, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_cst : Ref sig .tc := ⟨.hbm, 85, rfl⟩
abbrev main_call1_v6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Proof.Common.lean ====
/- What several calls of the layer share: the root-mean-square norm of a row and the residual step that ends a
   sub-layer, as functions of rows of extended reals, and the sum that a block accumulated over the grid holds when
   the body of the last point of a run goes on to use it. -/
module

public import Idealize.ShloMosaic.Lib.Pointwise
public import Idealize.ShloMosaic.Lib.Pipeline.ValueKit

@[expose] public section

set_option maxRecDepth 16384

noncomputable section

open Idealize.ShloMosaic

namespace Cert.Layer

/-- The root-mean-square norm of a row of 2048 values, times the weights `g`: the mean divides by the word of 2048, and
    the word of 1e-6 is added under the root. -/
def rmsRow (y g : Fin 2048 → EReal) (d : Fin 2048) : EReal :=
  y d * Ideal.rsqrt (Ideal.div (∑ k, y k * y k) (Ideal.ofBits .f32 0x45000000#32) + Ideal.ofBits .f32 0x358637BD#32) * g d

/-- A row against a matrix: its entry at column `d`. -/
def dotRow {K N : ℕ} (a : Fin K → EReal) (w : Fin K → Fin N → EReal) (d : Fin N) : EReal := ∑ k, a k * w k d

/-- The residual step: the row `x` plus the norm of `y`. -/
def residRow (x y g : Fin 2048 → EReal) (d : Fin 2048) : EReal := x d + rmsRow y g d

/-- A block reset at the first point of every run of `J` points and added into at the others, whose last point of a run
    goes on from the sum: there, what the point before left plus the last term is the sum of the run's `J` terms. -/
theorem sum_before_last {N : ℕ} {ι : Type} (f : (n : ℕ) → n < N → ι → EReal) (J : ℕ) [NeZero J] (hJ : 2 ≤ J)
    (term : Fin N → ι → EReal)
    (h0 : ∀ t : Fin N, t.val % J = 0 → ∀ i, f t.val t.isLt i = term t i)
    (hs : ∀ t : Fin N, ¬t.val % J = 0 → ¬t.val % J = J - 1 → ∀ i,
      f t.val t.isLt i = f (t.val - 1) (Nat.lt_of_le_of_lt (Nat.sub_le _ _) t.isLt) i + term t i)
    (t : Fin N) (hr : t.val % J = J - 1) (i : ι) :
    f (t.val - 1) (Nat.lt_of_le_of_lt (Nat.sub_le _ _) t.isLt) i + term t i
      = ∑ s : Fin J, term ⟨J * (t.val / J) + s.val, Pipeline.run_point_lt_of_flush t hr s⟩ i := by
  have pred : ∀ n : ℕ, ¬n % J = 0 → (n - 1) % J = n % J - 1 := fun n hn => by
    have hpos : 0 < n % J := Nat.pos_of_ne_zero hn
    have hlt : n % J < J := Nat.mod_lt _ (by omega)
    have e : n - 1 = J * (n / J) + (n % J - 1) := by have := Nat.div_add_mod n J; omega
    rw [e, Nat.mul_add_mod, Nat.mod_eq_of_lt (by omega)]
  let g : (n : ℕ) → n < N → ι → EReal := fun n h => if n % J = J - 1
    then fun i => f (n - 1) (Nat.lt_of_le_of_lt (Nat.sub_le _ _) h) i + term ⟨n, h⟩ i else f n h
  have hg : ∀ n (h : n < N), ¬n % J = J - 1 → g n h = f n h := fun n h hn => if_neg hn
  have hl : ∀ n (h : n < N), n % J = J - 1 → g n h = fun i => f (n - 1) (Nat.lt_of_le_of_lt (Nat.sub_le _ _) h) i + term ⟨n, h⟩ i :=
    fun n h hn => if_pos hn
  have key := Pipeline.eq_sum_fin_of_reset_step_apply_of_flush g J (fun _ => 0) term
    (fun t ht i => by rw [hg _ _ (by omega), h0 t ht, zero_add])
    (fun t ht i => by
      have hp := pred t.val ht
      have hlt : t.val % J < J := Nat.mod_lt _ (by omega)
      rw [hg (t.val - 1) _ (by omega)]
      by_cases hq : t.val % J = J - 1
      · rw [hl _ _ hq]
      · rw [hg _ _ hq]; exact hs t ht hq i)
    t hr i
  rw [hl _ _ hr, zero_add] at key
  exact key

end Cert.Layer

end
-- ==== Proof.Ffn.Kernel.lean ====
/- The squared-ReLU MLP call at the extended reals: what its two result arrays hold, as rows. A run of eight grid
   points handles 512 rows; each point adds one block of 1024 of the 8192 hidden columns to the sum kept in the first
   output's block, and the last point turns the sum into the residual and its norm. -/
module

public import proofs.«01_k».proof.Proof.Common
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Layer

/-- One row of the MLP: the hidden row is the positive part of `h` against the columns of `wu`, squared, against `wd`. -/
def mlpRow {K : ℕ} (h : Fin 2048 → EReal) (wu : Fin 2048 → Fin K → EReal) (wd : Fin K → Fin 2048 → EReal) (d : Fin 2048) : EReal :=
  ∑ k, max (∑ l, h l * wu l k) 0 * max (∑ l, h l * wu l k) 0 * wd k d

theorem pay1_apply (v0 : Vec Ideal S512x2048 .bf16) (v1 : Vec Ideal S2048x1024 .bf16) (v8 : Vec Ideal S1024x2048 .bf16)
    (r : Fin 512) (d : Fin 2048) : k0_pay1 (F := Ideal) v0 v1 v8 (ix2 r d)
      = mlpRow (fun l => v0 (ix2 r l)) (fun l k => v1 (ix2 l k)) (fun k d => v8 (ix2 k d)) d := by
  pointwise [k0_pay1, mlpRow]

theorem pay2_apply (v0 : Vec Ideal S512x2048 .bf16) (v1 : Vec Ideal S2048x1024 .bf16) (v8 : Vec Ideal S1024x2048 .bf16)
    (v20 : Vec Ideal S512x2048 .f32) (j : S512x2048.Idx) :
    k0_pay2 (F := Ideal) v0 v1 v8 v20 j = v20 j + k0_pay1 (F := Ideal) v0 v1 v8 j := by
  pointwise [k0_pay2]

theorem pay3_apply (v20 v22 : Vec Ideal S512x2048 .f32) (v23 : Vec Ideal S1x2048 .f32) (r : Fin 512) (d : Fin 2048) :
    k0_pay3 (F := Ideal) v20 v22 v23 (ix2 r d)
      = residRow (fun d => v22 (ix2 r d)) (fun d => v20 (ix2 r d)) (fun d => v23 (ix2 0 d)) d := by
  pointwise [k0_pay3, residRow, rmsRow]

theorem pay4_apply (v20 v22 : Vec Ideal S512x2048 .f32) (v23 v24 : Vec Ideal S1x2048 .f32) (r : Fin 512) (d : Fin 2048) :
    k0_pay4 (F := Ideal) v20 v22 v23 v24 (ix2 r d)
      = rmsRow (fun d => k0_pay3 (F := Ideal) v20 v22 v23 (ix2 r d)) (fun d => v24 (ix2 0 d)) d := by
  pointwise [k0_pay4, rmsRow]

variable (m : (ℓ : Loc nD τ sig) → Buf (Elt Ideal) ℓ)

/-- Every window's block index at a grid point. -/
theorem idx : ∀ t : Fin cfg0.N, win0_0.index t = ![t.val / 8, 0] ∧ win0_1.index t = ![0, t.val % 8]
    ∧ win0_2.index t = ![t.val % 8, 0] ∧ win0_3.index t = ![t.val / 8, 0] ∧ win0_4.index t = ![0, 0]
    ∧ win0_5.index t = ![0, 0] ∧ win0_6.index t = ![t.val / 8, 0] ∧ win0_7.index t = ![t.val / 8, 0] :=
  (by decide +kernel : ∀ t : Fin grid0.N, _)

/-- What a point adds to the sum. -/
def part (c : Dev nD) (t : Fin cfg0.N) : S512x2048.Idx → EReal :=
  k0_pay1 (F := Ideal) (iblk m c 0 t) (iblk m c 1 t) (iblk m c 2 t)

/-- The sum as the last point of a run completes it. -/
def total (c : Dev nD) (t : Fin cfg0.N) : S512x2048.Idx → EReal :=
  k0_pay2 (F := Ideal) (iblk m c 0 t) (iblk m c 1 t) (iblk m c 2 t)
    (outsAt0 m c (t.val - 1) (Nat.lt_of_le_of_lt (Nat.sub_le _ _) t.isLt)).1

/-- The row of the array that row `r` of a block at point `t` is. -/
def rowOf (t : Fin cfg0.N) (r : Fin 512) : Fin 9216 :=
  ⟨512 * (t.val / 8) + r.val, by have := t.isLt; have := r.isLt; have : cfg0.N = 144 := N_0; omega⟩

/-- Row `p` of the MLP's product, from the arguments. -/
def mlp (c : Dev nD) (p : Fin 9216) : Fin 2048 → EReal :=
  mlpRow (K := 8192) (fun l => m ((c : Thread nD τ).loc main_arg0) (ix2 p l))
    (fun l k => m ((c : Thread nD τ).loc main_arg1) (ix2 l k)) (fun k d => m ((c : Thread nD τ).loc main_arg2) (ix2 k d))

theorem total_apply (c : Dev nD) (t : Fin cfg0.N) (hr : t.val % 8 = 7) (r : Fin 512) (d : Fin 2048) :
    total m c t (ix2 r d) = mlp m c (rowOf t r) d := by
  have hN : cfg0.N = 144 := N_0
  unfold total
  rw [pay2_apply]
  refine (sum_before_last (fun n h => (outsAt0 m c n h).1) 8 (by decide) (part m c)
    (fun t h j => by rw [outsAt0_A m c t h (by omega) (by omega)]; frame_out; rfl)
    (fun t h h' j => by rw [outsAt0_B m c t h (by omega) (by omega)]; frame_out; rw [pay2_apply]; rfl) t hr (ix2 r d)).trans ?_
  unfold part mlp mlpRow
  refine (Fin.sum_fin_congr fun s => pay1_apply _ _ _ r d).trans ?_
  unfold mlpRow
  refine Fin.sum_mul_add_congr fun s k hl => ?_
  have hi := idx ⟨8 * (t.val / 8) + s.val, Pipeline.run_point_lt_of_flush t hr s⟩
  have e0 : ∀ l, iblk m c 0 ⟨8 * (t.val / 8) + s.val, Pipeline.run_point_lt_of_flush t hr s⟩ (ix2 r l)
      = m ((c : Thread nD τ).loc main_arg0) (ix2 (rowOf t r) l) := fun l => by
    blk_ext! [iblk, V, hi, rowOf]
  have e1 : ∀ l, iblk m c 1 ⟨8 * (t.val / 8) + s.val, Pipeline.run_point_lt_of_flush t hr s⟩ (ix2 l k)
      = m ((c : Thread nD τ).loc main_arg1) (ix2 l ⟨s.val * 1024 + k.val, hl⟩) := fun l => by
    blk_ext! [iblk, V, hi]
  have e2 : iblk m c 2 ⟨8 * (t.val / 8) + s.val, Pipeline.run_point_lt_of_flush t hr s⟩ (ix2 k d)
      = m ((c : Thread nD τ).loc main_arg2) (ix2 ⟨s.val * 1024 + k.val, hl⟩ d) := by
    blk_ext! [iblk, V, hi]
  simp only [e0, e1, e2]

/-- The residual stream's row after the MLP. -/
def xRow (c : Dev nD) (p : Fin 9216) : Fin 2048 → EReal :=
  residRow (fun d => m ((c : Thread nD τ).loc main_arg3) (ix2 p d)) (mlp m c p) (fun d => m ((c : Thread nD τ).loc main_arg4) (ix2 0 d))

/-- The next norm's row. -/
def hRow (c : Dev nD) (p : Fin 9216) : Fin 2048 → EReal :=
  rmsRow (xRow m c p) (fun d => m ((c : Thread nD τ).loc main_arg5) (ix2 0 d))

theorem last_apply (c : Dev nD) (t : Fin cfg0.N) (hr : t.val % 8 = 7) (r : Fin 512) (d : Fin 2048) :
    k0_pay3 (F := Ideal) (total m c t) (iblk m c 3 t) (iblk m c 4 t) (ix2 r d) = xRow m c (rowOf t r) d := by
  have hN : cfg0.N = 144 := N_0
  have hi := idx t
  have e3 : ∀ d, iblk m c 3 t (ix2 r d) = m ((c : Thread nD τ).loc main_arg3) (ix2 (rowOf t r) d) := fun d => by
    blk_ext! [iblk, V, hi, rowOf]
  have e4 : ∀ d, iblk m c 4 t (ix2 0 d) = m ((c : Thread nD τ).loc main_arg4) (ix2 0 d) := fun d => by
    blk_ext! [iblk, V, hi]
  rw [pay3_apply]
  unfold xRow
  simp only [e3, e4, total_apply m c t hr]

theorem next_apply (c : Dev nD) (t : Fin cfg0.N) (hr : t.val % 8 = 7) (r : Fin 512) (d : Fin 2048) :
    k0_pay4 (F := Ideal) (total m c t) (iblk m c 3 t) (iblk m c 4 t) (iblk m c 5 t) (ix2 r d) = hRow m c (rowOf t r) d := by
  have hi := idx t
  have e5 : ∀ d, iblk m c 5 t (ix2 0 d) = m ((c : Thread nD τ).loc main_arg5) (ix2 0 d) := fun d => by
    blk_ext! [iblk, V, hi]
  rw [pay4_apply]
  unfold hRow
  simp only [e5, last_apply m c t hr]

/-- The first result array, the residual stream, holds the rows `xRow`. -/
theorem final6 (c : Dev nD) : (dats m 0 c).arrAt 6 cfg0.N = fun i => xRow m c (i 0) (i 1) := by
  refine (dats m 0 c).arrAt_eq_of_covers 6 _ (by decide +kernel) fun t hf y => ?_
  have hr := (flush0_6 t).mp hf
  have hi := idx t
  blk_simp
  rw [after0_6, outsAt0_C m c t (by omega) (by omega) hr]
  frame_out
  obtain ⟨r, d, rfl⟩ : ∃ (r : Fin 512) (d : Fin 2048), y = ix2 r d := ⟨y 0, y 1, ValueIdx.eq_ix2 y⟩
  refine (last_apply m c t hr r d).trans ?_
  congr 1
  · ext; blk_simp [hi]; simp only [rowOf]; omega
  · ext; blk_simp [hi, rowOf]

/-- The second result array holds the rows `hRow`. -/
theorem final7 (c : Dev nD) : (dats m 0 c).arrAt 7 cfg0.N = fun i => hRow m c (i 0) (i 1) := by
  refine (dats m 0 c).arrAt_eq_of_covers 7 _ (by decide +kernel) fun t hf y => ?_
  have hr := (flush0_7 t).mp hf
  have hi := idx t
  blk_simp
  rw [after0_7, outsAt0_C m c t (by omega) (by omega) hr]
  frame_out
  obtain ⟨r, d, rfl⟩ : ∃ (r : Fin 512) (d : Fin 2048), y = ix2 r d := ⟨y 0, y 1, ValueIdx.eq_ix2 y⟩
  refine (next_apply m c t hr r d).trans ?_
  congr 1
  · ext; blk_simp [hi]; simp only [rowOf]; omega
  · ext; blk_simp [hi, rowOf]

end Cert.Kernel2Ideal.Ffn

end
-- ==== Proof.Ffn.Reference.lean ====
/- The plain squared-ReLU MLP at the extended reals: the rows of its two results. -/
module

public import proofs.«01_k».proof.Proof.Ffn.Kernel
public import proofs.«01_k».proof.Proof.Gen.Reference2Ideal.Read

@[expose] public section

set_option maxRecDepth 16384

noncomputable section

open Idealize.ShloMosaic Idealize.ShloMosaic.TcCoe Idealize.SL.Sem

namespace Cert.Reference2Ideal.Ffn

open Cert.Reference2Ideal Cert.Reference2Ideal.Read Cert.Layer Cert.Kernel2Ideal.Ffn

variable (x0 : (⟨S9216x2048, .bf16⟩ : BufTy).Contents (Elt Ideal)) (x1 : (⟨S2048x8192, .f32⟩ : BufTy).Contents (Elt Ideal)) (x2 : (⟨S8192x2048, .f32⟩ : BufTy).Contents (Elt Ideal))
  (x3 : (⟨S9216x2048, .f32⟩ : BufTy).Contents (Elt Ideal)) (x4 x5 : (⟨S1x2048, .f32⟩ : BufTy).Contents (Elt Ideal))

theorem mlp_apply (p : Fin 9216) (d : Fin 2048) : val_main_v4 (F := Ideal) x0 x1 x2 (ix2 p d)
    = mlpRow (K := 8192) (fun l => x0 (ix2 p l)) (fun l k => x1 (ix2 l k)) (fun k d => x2 (ix2 k d)) d := by
  pointwise [val_main_v4, val_main_v3, val_main_v2, val_main_v1, val_main_v0, val_main_call0_v0, val_main_call0_cst, mlpRow]

theorem x_apply (p : Fin 9216) (d : Fin 2048) : val_main_v17 (F := Ideal) x0 x1 x2 x3 x4 (ix2 p d)
    = residRow (fun d => x3 (ix2 p d)) (fun d => val_main_v4 (F := Ideal) x0 x1 x2 (ix2 p d)) (fun d => x4 (ix2 0 d)) d := by
  pointwise [val_main_v17, val_main_v16, val_main_v15, val_main_v14, val_main_v13, val_main_v12, val_main_v11, val_main_v10, val_main_v9, val_main_v8, val_main_v7, val_main_v6, val_main_v5, val_main_cst, val_main_cst_0, val_main_cst_1, residRow, rmsRow]

theorem h_apply (p : Fin 9216) (d : Fin 2048) : val_main_v30 (F := Ideal) x0 x1 x2 x3 x4 x5 (ix2 p d)
    = rmsRow (fun d => val_main_v17 (F := Ideal) x0 x1 x2 x3 x4 (ix2 p d)) (fun d => x5 (ix2 0 d)) d := by
  pointwise [val_main_v30, val_main_v29, val_main_v28, val_main_v27, val_main_v26, val_main_v25, val_main_v24, val_main_v23, val_main_v22, val_main_v21, val_main_v20, val_main_v19, val_main_v18, val_main_cst_2, val_main_cst_3, val_main_cst_4, rmsRow]

variable (m0 : (ℓ : Loc Kernel2Ideal.nD Kernel2Ideal.τ Kernel2Ideal.sig) → Buf (Elt Ideal) ℓ)

/-- On the same arguments the reference's first result holds the same rows. -/
theorem x_eq (c : Dev Kernel2Ideal.nD) (y : S9216x2048.Idx) :
    val_main_v17 (F := Ideal) (m0 ((c : Thread Kernel2Ideal.nD Kernel2Ideal.τ).loc Kernel2Ideal.main_arg0)) (m0 ((c : Thread Kernel2Ideal.nD Kernel2Ideal.τ).loc Kernel2Ideal.main_arg1))
      (m0 ((c : Thread Kernel2Ideal.nD Kernel2Ideal.τ).loc Kernel2Ideal.main_arg2)) (m0 ((c : Thread Kernel2Ideal.nD Kernel2Ideal.τ).loc Kernel2Ideal.main_arg3))
      (m0 ((c : Thread Kernel2Ideal.nD Kernel2Ideal.τ).loc Kernel2Ideal.main_arg4)) y = xRow m0 c (y 0) (y 1) := by
  obtain ⟨p, d, rfl⟩ : ∃ (p : Fin 9216) (d : Fin 2048), y = ix2 p d := ⟨y 0, y 1, ValueIdx.eq_ix2 y⟩
  rw [x_apply]; simp only [mlp_apply]; rfl

/-- And so does its second. -/
theorem h_eq (c : Dev Kernel2Ideal.nD) (y : S9216x2048.Idx) :
    val_main_v30 (F := Ideal) (m0 ((c : Thread Kernel2Ideal.nD Kernel2Ideal.τ).loc Kernel2Ideal.main_arg0)) (m0 ((c : Thread Kernel2Ideal.nD Kernel2Ideal.τ).loc Kernel2Ideal.main_arg1))
      (m0 ((c : Thread Kernel2Ideal.nD Kernel2Ideal.τ).loc Kernel2Ideal.main_arg2)) (m0 ((c : Thread Kernel2Ideal.nD Kernel2Ideal.τ).loc Kernel2Ideal.main_arg3))
      (m0 ((c : Thread Kernel2Ideal.nD Kernel2Ideal.τ).loc Kernel2Ideal.main_arg4)) (m0 ((c : Thread Kernel2Ideal.nD Kernel2Ideal.τ).loc Kernel2Ideal.main_arg5)) y = hRow m0 c (y 0) (y 1) := by
  obtain ⟨p, d, rfl⟩ : ∃ (p : Fin 9216) (d : Fin 2048), y = ix2 p d := ⟨y 0, y 1, ValueIdx.eq_ix2 y⟩
  rw [h_apply]; simp only [x_eq]; rfl

end Cert.Reference2Ideal.Ffn

end
-- ==== Proof.Ffn.Claim.lean ====
/- The squared-ReLU MLP: the call's two results are the reference's, entry for entry, whatever the arguments hold. -/
module

public import proofs.«01_k».proof.Proof.Ffn.Reference
public import proofs.«01_k».proof.Proof.Gen.Reference2Ideal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.Ffn

open Cert.Layer

theorem algebraic : Cert.algebraic_Kernel2Ideal_Reference2Ideal := by
  pair_intro
  rotate_left 2
  · exact fun c => (Kernel2Ideal.Gen.dats m 0 c).arrAt 6 Kernel2Ideal.cfg0.N
  · exact fun c => (Kernel2Ideal.Gen.dats m 0 c).arrAt 7 Kernel2Ideal.cfg0.N
  · run_from Kernel2Ideal.Value.run_blocks m g
  · run_from Reference2Ideal.Value.run m' g'
    · refine (Reference2Ideal.Read.val_main_v17_eq _ _ _ _ _).trans ?_
      rw [Kernel2Ideal.Ffn.final6]
      exact funext fun y => Reference2Ideal.Ffn.x_eq m c y
    · rw [Reference2Ideal.Read.val_main_v30_eq]
      obtain ⟨h0, h1, h2, h3, h4, h5⟩ := hagree c
      rw [h0, h1, h2, h3, h4, h5, Kernel2Ideal.Ffn.final7]
      exact funext fun y => Reference2Ideal.Ffn.h_eq m c y

end Cert.Ffn

end
-- ==== Proof.RetOut.Kernel.lean ====
/- The retention's output projection with its residual and the next norm: what the call's two result arrays hold at the extended reals, as rows. A run of four grid points
   handles 512 rows; each point adds 1024 of the 4096 products of an entry to the sum kept in the first output's block, and the last
   point turns the sum into the residual and its norm. -/
module

public import proofs.«01_k».proof.Proof.Common
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.RetOut

open Cert.Kernel4Ideal Cert.Kernel4Ideal.Gen Cert.Layer

theorem pay1_apply (v0 : Vec Ideal S512x1024 .bf16) (v1 : Vec Ideal S1024x2048 .bf16)
    (r : Fin 512) (d : Fin 2048) : k0_pay1 (F := Ideal) v0 v1 (ix2 r d)
      = dotRow (fun k => v0 (ix2 r k)) (fun k d => v1 (ix2 k d)) d := by
  pointwise [k0_pay1, dotRow]

theorem pay2_apply (v0 : Vec Ideal S512x1024 .bf16) (v1 : Vec Ideal S1024x2048 .bf16)
    (v13 : Vec Ideal S512x2048 .f32) (j : S512x2048.Idx) :
    k0_pay2 (F := Ideal) v0 v1 v13 j = v13 j + k0_pay1 (F := Ideal) v0 v1 j := by
  pointwise [k0_pay2]

theorem pay3_apply (v13 v15 : Vec Ideal S512x2048 .f32) (v16 : Vec Ideal S1x2048 .f32) (r : Fin 512) (d : Fin 2048) :
    k0_pay3 (F := Ideal) v13 v15 v16 (ix2 r d)
      = residRow (fun d => v15 (ix2 r d)) (fun d => v13 (ix2 r d)) (fun d => v16 (ix2 0 d)) d := by
  pointwise [k0_pay3, residRow, rmsRow]

theorem pay4_apply (v13 v15 : Vec Ideal S512x2048 .f32) (v16 v17 : Vec Ideal S1x2048 .f32) (r : Fin 512) (d : Fin 2048) :
    k0_pay4 (F := Ideal) v13 v15 v16 v17 (ix2 r d)
      = rmsRow (fun d => k0_pay3 (F := Ideal) v13 v15 v16 (ix2 r d)) (fun d => v17 (ix2 0 d)) d := by
  pointwise [k0_pay4, rmsRow]

variable (m : (ℓ : Loc nD τ sig) → Buf (Elt Ideal) ℓ)

/-- Every window's block index at a grid point. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0]
    ∧ win0_5.index t = ![t.val / 4, 0] ∧ win0_6.index t = ![t.val / 4, 0] :=
  (by decide +kernel : ∀ t : Fin grid0.N, _)

/-- What a point adds to the sum. -/
def part (c : Dev nD) (t : Fin cfg0.N) : S512x2048.Idx → EReal :=
  k0_pay1 (F := Ideal) (iblk m c 0 t) (iblk m c 1 t)

/-- The sum as the last point of a run completes it. -/
def total (c : Dev nD) (t : Fin cfg0.N) : S512x2048.Idx → EReal :=
  k0_pay2 (F := Ideal) (iblk m c 0 t) (iblk m c 1 t)
    (outsAt0 m c (t.val - 1) (Nat.lt_of_le_of_lt (Nat.sub_le _ _) t.isLt)).1

/-- The row of the array that row `r` of a block at point `t` is. -/
def rowOf (t : Fin cfg0.N) (r : Fin 512) : Fin 9216 :=
  ⟨512 * (t.val / 4) + r.val, by have := t.isLt; have := r.isLt; have : cfg0.N = 72 := N_0; omega⟩

/-- Row `p` of the product, from the arguments. -/
def prodRow (c : Dev nD) (p : Fin 9216) : Fin 2048 → EReal :=
  dotRow (K := 4096) (fun k => m ((c : Thread nD τ).loc main_arg0) (ix2 p k)) (fun k d => m ((c : Thread nD τ).loc main_arg1) (ix2 k d))

theorem total_apply (c : Dev nD) (t : Fin cfg0.N) (hr : t.val % 4 = 3) (r : Fin 512) (d : Fin 2048) :
    total m c t (ix2 r d) = prodRow m c (rowOf t r) d := by
  have hN : cfg0.N = 72 := N_0
  unfold total
  rw [pay2_apply]
  refine (sum_before_last (fun n h => (outsAt0 m c n h).1) 4 (by decide) (part m c)
    (fun t h j => by rw [outsAt0_A m c t h (by omega) (by omega)]; frame_out; rfl)
    (fun t h h' j => by rw [outsAt0_B m c t h (by omega) (by omega)]; frame_out; rw [pay2_apply]; rfl) t hr (ix2 r d)).trans ?_
  unfold part prodRow dotRow
  refine (Fin.sum_fin_congr fun s => pay1_apply _ _ r d).trans ?_
  unfold dotRow
  refine Fin.sum_mul_add_congr fun s k hl => ?_
  have hi := idx ⟨4 * (t.val / 4) + s.val, Pipeline.run_point_lt_of_flush t hr s⟩
  have e0 : iblk m c 0 ⟨4 * (t.val / 4) + s.val, Pipeline.run_point_lt_of_flush t hr s⟩ (ix2 r k)
      = m ((c : Thread nD τ).loc main_arg0) (ix2 (rowOf t r) ⟨s.val * 1024 + k.val, hl⟩) := by
    blk_ext! [iblk, V, hi, rowOf]
  have e1 : iblk m c 1 ⟨4 * (t.val / 4) + s.val, Pipeline.run_point_lt_of_flush t hr s⟩ (ix2 k d)
      = m ((c : Thread nD τ).loc main_arg1) (ix2 ⟨s.val * 1024 + k.val, hl⟩ d) := by
    blk_ext! [iblk, V, hi]
  simp only [e0, e1]

/-- The residual stream's row after the projection. -/
def xRow (c : Dev nD) (p : Fin 9216) : Fin 2048 → EReal :=
  residRow (fun d => m ((c : Thread nD τ).loc main_arg2) (ix2 p d)) (prodRow m c p) (fun d => m ((c : Thread nD τ).loc main_arg3) (ix2 0 d))

/-- The next norm's row. -/
def hRow (c : Dev nD) (p : Fin 9216) : Fin 2048 → EReal :=
  rmsRow (xRow m c p) (fun d => m ((c : Thread nD τ).loc main_arg4) (ix2 0 d))

theorem last_apply (c : Dev nD) (t : Fin cfg0.N) (hr : t.val % 4 = 3) (r : Fin 512) (d : Fin 2048) :
    k0_pay3 (F := Ideal) (total m c t) (iblk m c 2 t) (iblk m c 3 t) (ix2 r d) = xRow m c (rowOf t r) d := by
  have hN : cfg0.N = 72 := N_0
  have hi := idx t
  have e3 : ∀ d, iblk m c 2 t (ix2 r d) = m ((c : Thread nD τ).loc main_arg2) (ix2 (rowOf t r) d) := fun d => by
    blk_ext! [iblk, V, hi, rowOf]
  have e4 : ∀ d, iblk m c 3 t (ix2 0 d) = m ((c : Thread nD τ).loc main_arg3) (ix2 0 d) := fun d => by
    blk_ext! [iblk, V, hi]
  rw [pay3_apply]
  unfold xRow
  simp only [e3, e4, total_apply m c t hr]

theorem next_apply (c : Dev nD) (t : Fin cfg0.N) (hr : t.val % 4 = 3) (r : Fin 512) (d : Fin 2048) :
    k0_pay4 (F := Ideal) (total m c t) (iblk m c 2 t) (iblk m c 3 t) (iblk m c 4 t) (ix2 r d) = hRow m c (rowOf t r) d := by
  have hi := idx t
  have e5 : ∀ d, iblk m c 4 t (ix2 0 d) = m ((c : Thread nD τ).loc main_arg4) (ix2 0 d) := fun d => by
    blk_ext! [iblk, V, hi]
  rw [pay4_apply]
  unfold hRow
  simp only [e5, last_apply m c t hr]

/-- The first result array, the residual stream, holds the rows `xRow`. -/
theorem final5 (c : Dev nD) : (dats m 0 c).arrAt 5 cfg0.N = fun i => xRow m c (i 0) (i 1) := by
  refine (dats m 0 c).arrAt_eq_of_covers 5 _ (by decide +kernel) fun t hf y => ?_
  have hr := (flush0_5 t).mp hf
  have hi := idx t
  blk_simp
  rw [after0_5, outsAt0_C m c t (by omega) (by omega) hr]
  frame_out
  obtain ⟨r, d, rfl⟩ : ∃ (r : Fin 512) (d : Fin 2048), y = ix2 r d := ⟨y 0, y 1, ValueIdx.eq_ix2 y⟩
  refine (last_apply m c t hr r d).trans ?_
  congr 1
  · ext; blk_simp [hi]; simp only [rowOf]; omega
  · ext; blk_simp [hi, rowOf]

/-- The second result array holds the rows `hRow`. -/
theorem final6 (c : Dev nD) : (dats m 0 c).arrAt 6 cfg0.N = fun i => hRow m c (i 0) (i 1) := by
  refine (dats m 0 c).arrAt_eq_of_covers 6 _ (by decide +kernel) fun t hf y => ?_
  have hr := (flush0_6 t).mp hf
  have hi := idx t
  blk_simp
  rw [after0_6, outsAt0_C m c t (by omega) (by omega) hr]
  frame_out
  obtain ⟨r, d, rfl⟩ : ∃ (r : Fin 512) (d : Fin 2048), y = ix2 r d := ⟨y 0, y 1, ValueIdx.eq_ix2 y⟩
  refine (next_apply m c t hr r d).trans ?_
  congr 1
  · ext; blk_simp [hi]; simp only [rowOf]; omega
  · ext; blk_simp [hi, rowOf]

end Cert.Kernel4Ideal.RetOut

end
-- ==== Proof.RetOut.Claim.lean ====
/- The retention's output projection with its residual and the next norm, written plainly: the rows of its two results at the extended reals, and the equation with the call. -/
module

public import proofs.«01_k».proof.Proof.RetOut.Kernel
public import proofs.«01_k».proof.Proof.Gen.Reference4Ideal.Read
public import proofs.«01_k».proof.Proof.Gen.Reference4Ideal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.Reference4Ideal.RetOut

open Cert.Reference4Ideal Cert.Reference4Ideal.Read Cert.Layer Cert.Kernel4Ideal.RetOut

variable (x0 : (⟨S9216x4096, .bf16⟩ : BufTy).Contents (Elt Ideal)) (x1 : (⟨S4096x2048, .f32⟩ : BufTy).Contents (Elt Ideal))
  (x2 : (⟨S9216x2048, .f32⟩ : BufTy).Contents (Elt Ideal)) (x3 x4 : (⟨S1x2048, .f32⟩ : BufTy).Contents (Elt Ideal))

theorem prod_apply (p : Fin 9216) (d : Fin 2048) : val_main_v1 (F := Ideal) x0 x1 (ix2 p d)
    = dotRow (fun k => x0 (ix2 p k)) (fun k d => x1 (ix2 k d)) d := by
  pointwise [val_main_v1, val_main_v0, dotRow]

theorem x_apply (p : Fin 9216) (d : Fin 2048) : val_main_v14 (F := Ideal) x0 x1 x2 x3 (ix2 p d)
    = residRow (fun d => x2 (ix2 p d)) (fun d => val_main_v1 (F := Ideal) x0 x1 (ix2 p d)) (fun d => x3 (ix2 0 d)) d := by
  pointwise [val_main_v14, val_main_v13, val_main_v12, val_main_v11, val_main_v10, val_main_v9, val_main_v8, val_main_v7, val_main_v6, val_main_v5, val_main_v4, val_main_v3, val_main_v2, val_main_cst, val_main_cst_0, val_main_cst_1, residRow, rmsRow]

theorem h_apply (p : Fin 9216) (d : Fin 2048) : val_main_v27 (F := Ideal) x0 x1 x2 x3 x4 (ix2 p d)
    = rmsRow (fun d => val_main_v14 (F := Ideal) x0 x1 x2 x3 (ix2 p d)) (fun d => x4 (ix2 0 d)) d := by
  pointwise [val_main_v27, val_main_v26, val_main_v25, val_main_v24, val_main_v23, val_main_v22, val_main_v21, val_main_v20, val_main_v19, val_main_v18, val_main_v17, val_main_v16, val_main_v15, val_main_cst_2, val_main_cst_3, val_main_cst_4, rmsRow]

variable (m0 : (ℓ : Loc Kernel4Ideal.nD Kernel4Ideal.τ Kernel4Ideal.sig) → Buf (Elt Ideal) ℓ)

/-- On the same arguments the reference's first result holds the same rows. -/
theorem x_eq (c : Dev Kernel4Ideal.nD) (y : S9216x2048.Idx) :
    val_main_v14 (F := Ideal) (m0 ((c : Thread Kernel4Ideal.nD Kernel4Ideal.τ).loc Kernel4Ideal.main_arg0)) (m0 ((c : Thread Kernel4Ideal.nD Kernel4Ideal.τ).loc Kernel4Ideal.main_arg1))
      (m0 ((c : Thread Kernel4Ideal.nD Kernel4Ideal.τ).loc Kernel4Ideal.main_arg2)) (m0 ((c : Thread Kernel4Ideal.nD Kernel4Ideal.τ).loc Kernel4Ideal.main_arg3)) y
      = xRow m0 c (y 0) (y 1) := by
  obtain ⟨p, d, rfl⟩ : ∃ (p : Fin 9216) (d : Fin 2048), y = ix2 p d := ⟨y 0, y 1, ValueIdx.eq_ix2 y⟩
  rw [x_apply]; simp only [prod_apply]; rfl

/-- And so does its second. -/
theorem h_eq (c : Dev Kernel4Ideal.nD) (y : S9216x2048.Idx) :
    val_main_v27 (F := Ideal) (m0 ((c : Thread Kernel4Ideal.nD Kernel4Ideal.τ).loc Kernel4Ideal.main_arg0)) (m0 ((c : Thread Kernel4Ideal.nD Kernel4Ideal.τ).loc Kernel4Ideal.main_arg1))
      (m0 ((c : Thread Kernel4Ideal.nD Kernel4Ideal.τ).loc Kernel4Ideal.main_arg2)) (m0 ((c : Thread Kernel4Ideal.nD Kernel4Ideal.τ).loc Kernel4Ideal.main_arg3))
      (m0 ((c : Thread Kernel4Ideal.nD Kernel4Ideal.τ).loc Kernel4Ideal.main_arg4)) y = hRow m0 c (y 0) (y 1) := by
  obtain ⟨p, d, rfl⟩ : ∃ (p : Fin 9216) (d : Fin 2048), y = ix2 p d := ⟨y 0, y 1, ValueIdx.eq_ix2 y⟩
  rw [h_apply]; simp only [x_eq]; rfl

end Cert.Reference4Ideal.RetOut

namespace Cert.RetOut

open Cert.Layer

theorem algebraic : Cert.algebraic_Kernel4Ideal_Reference4Ideal := by
  pair_intro
  rotate_left 2
  · exact fun c => (Kernel4Ideal.Gen.dats m 0 c).arrAt 5 Kernel4Ideal.cfg0.N
  · exact fun c => (Kernel4Ideal.Gen.dats m 0 c).arrAt 6 Kernel4Ideal.cfg0.N
  · run_from Kernel4Ideal.Value.run_blocks m g
  · run_from Reference4Ideal.Value.run m' g'
    · refine (Reference4Ideal.Read.val_main_v14_eq _ _ _ _).trans ?_
      rw [Kernel4Ideal.RetOut.final5]
      exact funext fun y => Reference4Ideal.RetOut.x_eq m c y
    · refine (Reference4Ideal.Read.val_main_v27_eq _ _ _ _ _).trans ?_
      rw [Kernel4Ideal.RetOut.final6]
      exact funext fun y => Reference4Ideal.RetOut.h_eq m c y

end Cert.RetOut

end
-- ==== Proof.AbOut.Kernel.lean ====
/- The first layer's output projection with its residual and the next norm: what the call's two result arrays hold at the extended reals, as rows. A run of two grid points
   handles 512 rows; each point adds 1024 of the 2048 products of an entry to the sum kept in the first output's block, and the last
   point turns the sum into the residual and its norm. -/
module

public import proofs.«01_k».proof.Proof.Common
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)

namespace Cert.Kernel5Ideal.AbOut

open Cert.Kernel5Ideal Cert.Kernel5Ideal.Gen Cert.Layer

theorem pay1_apply (v0 : Vec Ideal S512x1024 .bf16) (v1 : Vec Ideal S1024x2048 .bf16)
    (r : Fin 512) (d : Fin 2048) : k0_pay1 (F := Ideal) v0 v1 (ix2 r d)
      = dotRow (fun k => v0 (ix2 r k)) (fun k d => v1 (ix2 k d)) d := by
  pointwise [k0_pay1, dotRow]

theorem pay2_apply (v0 : Vec Ideal S512x1024 .bf16) (v1 : Vec Ideal S1024x2048 .bf16)
    (v13 : Vec Ideal S512x2048 .f32) (j : S512x2048.Idx) :
    k0_pay2 (F := Ideal) v0 v1 v13 j = v13 j + k0_pay1 (F := Ideal) v0 v1 j := by
  pointwise [k0_pay2]

theorem pay3_apply (v13 v15 : Vec Ideal S512x2048 .f32) (v16 : Vec Ideal S1x2048 .f32) (r : Fin 512) (d : Fin 2048) :
    k0_pay3 (F := Ideal) v13 v15 v16 (ix2 r d)
      = residRow (fun d => v15 (ix2 r d)) (fun d => v13 (ix2 r d)) (fun d => v16 (ix2 0 d)) d := by
  pointwise [k0_pay3, residRow, rmsRow]

theorem pay4_apply (v13 v15 : Vec Ideal S512x2048 .f32) (v16 v17 : Vec Ideal S1x2048 .f32) (r : Fin 512) (d : Fin 2048) :
    k0_pay4 (F := Ideal) v13 v15 v16 v17 (ix2 r d)
      = rmsRow (fun d => k0_pay3 (F := Ideal) v13 v15 v16 (ix2 r d)) (fun d => v17 (ix2 0 d)) d := by
  pointwise [k0_pay4, rmsRow]

variable (m : (ℓ : Loc nD τ sig) → Buf (Elt Ideal) ℓ)

/-- Every window's block index at a grid point. -/
theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![0, 0]
    ∧ win0_5.index t = ![t.val / 2, 0] ∧ win0_6.index t = ![t.val / 2, 0] :=
  (by decide +kernel : ∀ t : Fin grid0.N, _)

/-- What a point adds to the sum. -/
def part (c : Dev nD) (t : Fin cfg0.N) : S512x2048.Idx → EReal :=
  k0_pay1 (F := Ideal) (iblk m c 0 t) (iblk m c 1 t)

/-- The sum as the last point of a run completes it. -/
def total (c : Dev nD) (t : Fin cfg0.N) : S512x2048.Idx → EReal :=
  k0_pay2 (F := Ideal) (iblk m c 0 t) (iblk m c 1 t)
    (outsAt0 m c (t.val - 1) (Nat.lt_of_le_of_lt (Nat.sub_le _ _) t.isLt)).1

/-- The row of the array that row `r` of a block at point `t` is. -/
def rowOf (t : Fin cfg0.N) (r : Fin 512) : Fin 9216 :=
  ⟨512 * (t.val / 2) + r.val, by have := t.isLt; have := r.isLt; have : cfg0.N = 36 := N_0; omega⟩

/-- Row `p` of the product, from the arguments. -/
def prodRow (c : Dev nD) (p : Fin 9216) : Fin 2048 → EReal :=
  dotRow (K := 2048) (fun k => m ((c : Thread nD τ).loc main_arg0) (ix2 p k)) (fun k d => m ((c : Thread nD τ).loc main_arg1) (ix2 k d))

theorem total_apply (c : Dev nD) (t : Fin cfg0.N) (hr : t.val % 2 = 1) (r : Fin 512) (d : Fin 2048) :
    total m c t (ix2 r d) = prodRow m c (rowOf t r) d := by
  have hN : cfg0.N = 36 := N_0
  unfold total
  rw [pay2_apply]
  refine (sum_before_last (fun n h => (outsAt0 m c n h).1) 2 (by decide) (part m c)
    (fun t h j => by rw [outsAt0_A m c t h (by omega) (by omega)]; frame_out; rfl)
    (fun t h h' j => absurd h' (by omega)) t hr (ix2 r d)).trans ?_
  unfold part prodRow dotRow
  refine (Fin.sum_fin_congr fun s => pay1_apply _ _ r d).trans ?_
  unfold dotRow
  refine Fin.sum_mul_add_congr fun s k hl => ?_
  have hi := idx ⟨2 * (t.val / 2) + s.val, Pipeline.run_point_lt_of_flush t hr s⟩
  have e0 : iblk m c 0 ⟨2 * (t.val / 2) + s.val, Pipeline.run_point_lt_of_flush t hr s⟩ (ix2 r k)
      = m ((c : Thread nD τ).loc main_arg0) (ix2 (rowOf t r) ⟨s.val * 1024 + k.val, hl⟩) := by
    blk_ext! [iblk, V, hi, rowOf]
  have e1 : iblk m c 1 ⟨2 * (t.val / 2) + s.val, Pipeline.run_point_lt_of_flush t hr s⟩ (ix2 k d)
      = m ((c : Thread nD τ).loc main_arg1) (ix2 ⟨s.val * 1024 + k.val, hl⟩ d) := by
    blk_ext! [iblk, V, hi]
  simp only [e0, e1]

/-- The residual stream's row after the projection. -/
def xRow (c : Dev nD) (p : Fin 9216) : Fin 2048 → EReal :=
  residRow (fun d => m ((c : Thread nD τ).loc main_arg2) (ix2 p d)) (prodRow m c p) (fun d => m ((c : Thread nD τ).loc main_arg3) (ix2 0 d))

/-- The next norm's row. -/
def hRow (c : Dev nD) (p : Fin 9216) : Fin 2048 → EReal :=
  rmsRow (xRow m c p) (fun d => m ((c : Thread nD τ).loc main_arg4) (ix2 0 d))

theorem last_apply (c : Dev nD) (t : Fin cfg0.N) (hr : t.val % 2 = 1) (r : Fin 512) (d : Fin 2048) :
    k0_pay3 (F := Ideal) (total m c t) (iblk m c 2 t) (iblk m c 3 t) (ix2 r d) = xRow m c (rowOf t r) d := by
  have hN : cfg0.N = 36 := N_0
  have hi := idx t
  have e3 : ∀ d, iblk m c 2 t (ix2 r d) = m ((c : Thread nD τ).loc main_arg2) (ix2 (rowOf t r) d) := fun d => by
    blk_ext! [iblk, V, hi, rowOf]
  have e4 : ∀ d, iblk m c 3 t (ix2 0 d) = m ((c : Thread nD τ).loc main_arg3) (ix2 0 d) := fun d => by
    blk_ext! [iblk, V, hi]
  rw [pay3_apply]
  unfold xRow
  simp only [e3, e4, total_apply m c t hr]

theorem next_apply (c : Dev nD) (t : Fin cfg0.N) (hr : t.val % 2 = 1) (r : Fin 512) (d : Fin 2048) :
    k0_pay4 (F := Ideal) (total m c t) (iblk m c 2 t) (iblk m c 3 t) (iblk m c 4 t) (ix2 r d) = hRow m c (rowOf t r) d := by
  have hi := idx t
  have e5 : ∀ d, iblk m c 4 t (ix2 0 d) = m ((c : Thread nD τ).loc main_arg4) (ix2 0 d) := fun d => by
    blk_ext! [iblk, V, hi]
  rw [pay4_apply]
  unfold hRow
  simp only [e5, last_apply m c t hr]

/-- The first result array, the residual stream, holds the rows `xRow`. -/
theorem final5 (c : Dev nD) : (dats m 0 c).arrAt 5 cfg0.N = fun i => xRow m c (i 0) (i 1) := by
  refine (dats m 0 c).arrAt_eq_of_covers 5 _ (by decide +kernel) fun t hf y => ?_
  have hr := (flush0_5 t).mp hf
  have hi := idx t
  blk_simp
  rw [after0_5, outsAt0_B m c t (by omega) (by omega) hr]
  frame_out
  obtain ⟨r, d, rfl⟩ : ∃ (r : Fin 512) (d : Fin 2048), y = ix2 r d := ⟨y 0, y 1, ValueIdx.eq_ix2 y⟩
  refine (last_apply m c t hr r d).trans ?_
  congr 1
  · ext; blk_simp [hi]; simp only [rowOf]; omega
  · ext; blk_simp [hi, rowOf]

/-- The second result array holds the rows `hRow`. -/
theorem final6 (c : Dev nD) : (dats m 0 c).arrAt 6 cfg0.N = fun i => hRow m c (i 0) (i 1) := by
  refine (dats m 0 c).arrAt_eq_of_covers 6 _ (by decide +kernel) fun t hf y => ?_
  have hr := (flush0_6 t).mp hf
  have hi := idx t
  blk_simp
  rw [after0_6, outsAt0_B m c t (by omega) (by omega) hr]
  frame_out
  obtain ⟨r, d, rfl⟩ : ∃ (r : Fin 512) (d : Fin 2048), y = ix2 r d := ⟨y 0, y 1, ValueIdx.eq_ix2 y⟩
  refine (next_apply m c t hr r d).trans ?_
  congr 1
  · ext; blk_simp [hi]; simp only [rowOf]; omega
  · ext; blk_simp [hi, rowOf]

end Cert.Kernel5Ideal.AbOut

end
-- ==== Proof.AbOut.Claim.lean ====
/- The first layer's output projection with its residual and the next norm, written plainly: the rows of its two results at the extended reals, and the equation with the call. -/
module

public import proofs.«01_k».proof.Proof.AbOut.Kernel
public import proofs.«01_k».proof.Proof.Gen.Reference5Ideal.Read
public import proofs.«01_k».proof.Proof.Gen.Reference5Ideal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.Reference5Ideal.AbOut

open Cert.Reference5Ideal Cert.Reference5Ideal.Read Cert.Layer Cert.Kernel5Ideal.AbOut

variable (x0 : (⟨S9216x2048, .bf16⟩ : BufTy).Contents (Elt Ideal)) (x1 : (⟨S2048x2048, .f32⟩ : BufTy).Contents (Elt Ideal))
  (x2 : (⟨S9216x2048, .f32⟩ : BufTy).Contents (Elt Ideal)) (x3 x4 : (⟨S1x2048, .f32⟩ : BufTy).Contents (Elt Ideal))

theorem prod_apply (p : Fin 9216) (d : Fin 2048) : val_main_v1 (F := Ideal) x0 x1 (ix2 p d)
    = dotRow (fun k => x0 (ix2 p k)) (fun k d => x1 (ix2 k d)) d := by
  pointwise [val_main_v1, val_main_v0, dotRow]

theorem x_apply (p : Fin 9216) (d : Fin 2048) : val_main_v14 (F := Ideal) x0 x1 x2 x3 (ix2 p d)
    = residRow (fun d => x2 (ix2 p d)) (fun d => val_main_v1 (F := Ideal) x0 x1 (ix2 p d)) (fun d => x3 (ix2 0 d)) d := by
  pointwise [val_main_v14, val_main_v13, val_main_v12, val_main_v11, val_main_v10, val_main_v9, val_main_v8, val_main_v7, val_main_v6, val_main_v5, val_main_v4, val_main_v3, val_main_v2, val_main_cst, val_main_cst_0, val_main_cst_1, residRow, rmsRow]

theorem h_apply (p : Fin 9216) (d : Fin 2048) : val_main_v27 (F := Ideal) x0 x1 x2 x3 x4 (ix2 p d)
    = rmsRow (fun d => val_main_v14 (F := Ideal) x0 x1 x2 x3 (ix2 p d)) (fun d => x4 (ix2 0 d)) d := by
  pointwise [val_main_v27, val_main_v26, val_main_v25, val_main_v24, val_main_v23, val_main_v22, val_main_v21, val_main_v20, val_main_v19, val_main_v18, val_main_v17, val_main_v16, val_main_v15, val_main_cst_2, val_main_cst_3, val_main_cst_4, rmsRow]

variable (m0 : (ℓ : Loc Kernel5Ideal.nD Kernel5Ideal.τ Kernel5Ideal.sig) → Buf (Elt Ideal) ℓ)

/-- On the same arguments the reference's first result holds the same rows. -/
theorem x_eq (c : Dev Kernel5Ideal.nD) (y : S9216x2048.Idx) :
    val_main_v14 (F := Ideal) (m0 ((c : Thread Kernel5Ideal.nD Kernel5Ideal.τ).loc Kernel5Ideal.main_arg0)) (m0 ((c : Thread Kernel5Ideal.nD Kernel5Ideal.τ).loc Kernel5Ideal.main_arg1))
      (m0 ((c : Thread Kernel5Ideal.nD Kernel5Ideal.τ).loc Kernel5Ideal.main_arg2)) (m0 ((c : Thread Kernel5Ideal.nD Kernel5Ideal.τ).loc Kernel5Ideal.main_arg3)) y
      = xRow m0 c (y 0) (y 1) := by
  obtain ⟨p, d, rfl⟩ : ∃ (p : Fin 9216) (d : Fin 2048), y = ix2 p d := ⟨y 0, y 1, ValueIdx.eq_ix2 y⟩
  rw [x_apply]; simp only [prod_apply]; rfl

/-- And so does its second. -/
theorem h_eq (c : Dev Kernel5Ideal.nD) (y : S9216x2048.Idx) :
    val_main_v27 (F := Ideal) (m0 ((c : Thread Kernel5Ideal.nD Kernel5Ideal.τ).loc Kernel5Ideal.main_arg0)) (m0 ((c : Thread Kernel5Ideal.nD Kernel5Ideal.τ).loc Kernel5Ideal.main_arg1))
      (m0 ((c : Thread Kernel5Ideal.nD Kernel5Ideal.τ).loc Kernel5Ideal.main_arg2)) (m0 ((c : Thread Kernel5Ideal.nD Kernel5Ideal.τ).loc Kernel5Ideal.main_arg3))
      (m0 ((c : Thread Kernel5Ideal.nD Kernel5Ideal.τ).loc Kernel5Ideal.main_arg4)) y = hRow m0 c (y 0) (y 1) := by
  obtain ⟨p, d, rfl⟩ : ∃ (p : Fin 9216) (d : Fin 2048), y = ix2 p d := ⟨y 0, y 1, ValueIdx.eq_ix2 y⟩
  rw [h_apply]; simp only [x_eq]; rfl

end Cert.Reference5Ideal.AbOut

namespace Cert.AbOut

open Cert.Layer

theorem algebraic : Cert.algebraic_Kernel5Ideal_Reference5Ideal := by
  pair_intro
  rotate_left 2
  · exact fun c => (Kernel5Ideal.Gen.dats m 0 c).arrAt 5 Kernel5Ideal.cfg0.N
  · exact fun c => (Kernel5Ideal.Gen.dats m 0 c).arrAt 6 Kernel5Ideal.cfg0.N
  · run_from Kernel5Ideal.Value.run_blocks m g
  · run_from Reference5Ideal.Value.run m' g'
    · refine (Reference5Ideal.Read.val_main_v14_eq _ _ _ _).trans ?_
      rw [Kernel5Ideal.AbOut.final5]
      exact funext fun y => Reference5Ideal.AbOut.x_eq m c y
    · refine (Reference5Ideal.Read.val_main_v27_eq _ _ _ _ _).trans ?_
      rw [Kernel5Ideal.AbOut.final6]
      exact funext fun y => Reference5Ideal.AbOut.h_eq m c y

end Cert.AbOut

end
-- ==== Proof.MemKv.Kernel.lean ====
/- The memory's keys and values: what the call's two result arrays hold at the extended reals. Grid point `l` makes
   layer `l`'s: the normed rows of the memory against the layer's two matrices. -/
module

public import proofs.«01_k».proof.Proof.Common
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.MemKv

open Cert.Kernel3Ideal Cert.Kernel3Ideal.Gen Cert.Layer

theorem pay2_apply (v0 : Vec Ideal S512x2048 .f32) (v2 : Vec Ideal S1x1x2048 .f32) (v17 : Vec Ideal S1x2048x512 .f32)
    (r : Fin 512) (d : Fin 512) : k0_pay2 (F := Ideal) v0 v2 v17 (ix3 0 r d)
      = dotRow (rmsRow (fun l => v0 (ix2 r l)) (fun l => v2 (ix3 0 0 l))) (fun l d => v17 (ix3 0 l d)) d := by
  pointwise [k0_pay2, k0_pay1, dotRow, rmsRow]

theorem pay3_apply (v0 : Vec Ideal S512x2048 .f32) (v2 : Vec Ideal S1x1x2048 .f32) (v24 : Vec Ideal S1x2048x512 .f32)
    (r : Fin 512) (d : Fin 512) : k0_pay3 (F := Ideal) v0 v2 v24 (ix3 0 r d)
      = dotRow (rmsRow (fun l => v0 (ix2 r l)) (fun l => v2 (ix3 0 0 l))) (fun l d => v24 (ix3 0 l d)) d := by
  pointwise [k0_pay3, k0_pay1, dotRow, rmsRow]

variable (m : (ℓ : Loc nD τ sig) → Buf (Elt Ideal) ℓ)

/-- Every window's block index at a grid point. -/
theorem idx : ∀ t : Fin cfg0.N, win0_0.index t = ![0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] :=
  (by decide +kernel : ∀ t : Fin grid0.N, _)

/-- Row `p` of the normed memory under layer `l`'s weights: row `p % 256` of batch `p / 256`. -/
def memRow (c : Dev nD) (l : Fin 2) (p : Fin 512) : Fin 2048 → EReal :=
  rmsRow (fun d => m ((c : Thread nD τ).loc main_arg0) (ix3 ⟨p.val / 256, by omega⟩ ⟨p.val % 256, by omega⟩ d))
    (fun d => m ((c : Thread nD τ).loc main_arg1) (ix2 l d))

/-- The layer's keys. -/
def keys (c : Dev nD) (l : Fin 2) (p d : Fin 512) : EReal :=
  dotRow (memRow m c l p) (fun k d => m ((c : Thread nD τ).loc main_arg2) (ix3 l k d)) d

/-- The layer's values. -/
def vals (c : Dev nD) (l : Fin 2) (p d : Fin 512) : EReal :=
  dotRow (memRow m c l p) (fun k d => m ((c : Thread nD τ).loc main_arg3) (ix3 l k d)) d

/-- The layer of a grid point. -/
def layerOf (t : Fin cfg0.N) : Fin 2 := ⟨t.val, by have := t.isLt; have : cfg0.N = 2 := N_0; omega⟩

theorem blk0 (c : Dev nD) (t : Fin cfg0.N) (r : Fin 512) (d : Fin 2048) :
    iblk m c 0 t (ix2 r d) = m ((c : Thread nD τ).loc main_arg0) (ix3 ⟨r.val / 256, by omega⟩ ⟨r.val % 256, by omega⟩ d) := by
  have hi := idx t
  blk_ext! [iblk, V, hi]

theorem blk1 (c : Dev nD) (t : Fin cfg0.N) (d : Fin 2048) :
    iblk m c 1 t (ix3 0 0 d) = m ((c : Thread nD τ).loc main_arg1) (ix2 (layerOf t) d) := by
  have hi := idx t
  blk_ext! [iblk, V, hi, layerOf]

theorem blk2 (c : Dev nD) (t : Fin cfg0.N) (k : Fin 2048) (d : Fin 512) :
    iblk m c 2 t (ix3 0 k d) = m ((c : Thread nD τ).loc main_arg2) (ix3 (layerOf t) k d) := by
  have hi := idx t
  blk_ext! [iblk, V, hi, layerOf]

theorem blk3 (c : Dev nD) (t : Fin cfg0.N) (k : Fin 2048) (d : Fin 512) :
    iblk m c 3 t (ix3 0 k d) = m ((c : Thread nD τ).loc main_arg3) (ix3 (layerOf t) k d) := by
  have hi := idx t
  blk_ext! [iblk, V, hi, layerOf]

/-- The first result array holds the keys. -/
theorem final4 (c : Dev nD) : (dats m 0 c).arrAt 4 cfg0.N = fun i => keys m c (i 0) (i 1) (i 2) := by
  refine (dats m 0 c).arrAt_eq_of_covers 4 _ (by decide +kernel) fun t hf y => ?_
  have hi := idx t
  blk_simp
  rw [after0_4]
  unfold out0_4
  frame_out
  obtain ⟨z, r, d, rfl⟩ : ∃ (z : Fin 1) (r d : Fin 512), y = ix3 z r d := ⟨y 0, y 1, y 2, ValueIdx.eq_ix3 y⟩
  obtain rfl : z = 0 := Subsingleton.elim _ _
  rw [pay2_apply]
  simp only [View.ld, blk0, blk1, blk2]
  show keys m c (layerOf t) r d = _
  congr 1
  · ext; blk_simp [hi, layerOf]; rfl
  · ext; blk_simp [hi]
  · ext; blk_simp [hi]

/-- The second holds the values. -/
theorem final5 (c : Dev nD) : (dats m 0 c).arrAt 5 cfg0.N = fun i => vals m c (i 0) (i 1) (i 2) := by
  refine (dats m 0 c).arrAt_eq_of_covers 5 _ (by decide +kernel) fun t hf y => ?_
  have hi := idx t
  blk_simp
  rw [after0_5]
  unfold out0_5
  frame_out
  obtain ⟨z, r, d, rfl⟩ : ∃ (z : Fin 1) (r d : Fin 512), y = ix3 z r d := ⟨y 0, y 1, y 2, ValueIdx.eq_ix3 y⟩
  obtain rfl : z = 0 := Subsingleton.elim _ _
  rw [pay3_apply]
  simp only [View.ld, blk0, blk1, blk3]
  show vals m c (layerOf t) r d = _
  congr 1
  · ext; blk_simp [hi, layerOf]; rfl
  · ext; blk_simp [hi]
  · ext; blk_simp [hi]

end Cert.Kernel3Ideal.MemKv

end
-- ==== Proof.MemKv.Claim.lean ====
/- The memory's keys and values, written plainly: the entries of the reference's two results at the extended reals, and
   the equation with the call. -/
module

public import proofs.«01_k».proof.Proof.MemKv.Kernel
public import proofs.«01_k».proof.Proof.Gen.Reference3Ideal.Read
public import proofs.«01_k».proof.Proof.Gen.Reference3Ideal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.Reference3Ideal.MemKv

open Cert.Reference3Ideal Cert.Reference3Ideal.Read Cert.Layer Cert.Kernel3Ideal.MemKv

variable (x0 : (⟨S2x256x2048, .f32⟩ : BufTy).Contents (Elt Ideal)) (x1 : (⟨S2x2048, .f32⟩ : BufTy).Contents (Elt Ideal))
  (x2 x3 : (⟨S2x2048x512, .f32⟩ : BufTy).Contents (Elt Ideal))

/-- Row `p` of the memory, normed under layer `l`'s weights. -/
def row (l : Fin 2) (p : Fin 512) : Fin 2048 → EReal :=
  rmsRow (fun d => x0 (ix3 ⟨p.val / 256, by omega⟩ ⟨p.val % 256, by omega⟩ d)) (fun d => x1 (ix2 l d))

theorem norm0_apply (p : Fin 512) (d : Fin 2048) : val_main_v19 (F := Ideal) x0 x1 (ix2 p d) = row x0 x1 0 p d := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, row, rmsRow]

theorem norm1_apply (p : Fin 512) (d : Fin 2048) : val_main_v40 (F := Ideal) x0 x1 (ix2 p d) = row x0 x1 1 p d := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v0, val_main_cst_2, val_main_cst_3, val_main_cst_4, row, rmsRow]

theorem keys0_apply (p d : Fin 512) : val_main_v20 (F := Ideal) x0 x1 x2 (ix2 p d)
    = dotRow (fun k => val_main_v19 (F := Ideal) x0 x1 (ix2 p k)) (fun k d => x2 (ix3 0 k d)) d := by
  pointwise [val_main_v20, val_main_v4, val_main_v3, dotRow]

theorem keys1_apply (p d : Fin 512) : val_main_v41 (F := Ideal) x0 x1 x2 (ix2 p d)
    = dotRow (fun k => val_main_v40 (F := Ideal) x0 x1 (ix2 p k)) (fun k d => x2 (ix3 1 k d)) d := by
  pointwise [val_main_v41, val_main_v25, val_main_v24, dotRow]

theorem vals0_apply (p d : Fin 512) : val_main_v21 (F := Ideal) x0 x1 x3 (ix2 p d)
    = dotRow (fun k => val_main_v19 (F := Ideal) x0 x1 (ix2 p k)) (fun k d => x3 (ix3 0 k d)) d := by
  pointwise [val_main_v21, val_main_v6, val_main_v5, dotRow]

theorem vals1_apply (p d : Fin 512) : val_main_v42 (F := Ideal) x0 x1 x3 (ix2 p d)
    = dotRow (fun k => val_main_v40 (F := Ideal) x0 x1 (ix2 p k)) (fun k d => x3 (ix3 1 k d)) d := by
  pointwise [val_main_v42, val_main_v27, val_main_v26, dotRow]

/-- The two layers' keys, one after the other. -/
theorem keys_apply (l : Fin 2) (p d : Fin 512) : val_main_v45 (F := Ideal) x0 x1 x2 (ix3 l p d)
    = dotRow (row x0 x1 l p) (fun k d => x2 (ix3 l k d)) d := by
  have h0 : val_main_v45 (F := Ideal) x0 x1 x2 (ix3 0 p d) = val_main_v20 (F := Ideal) x0 x1 x2 (ix2 p d) := by
    pointwise [val_main_v45, val_main_v43]
  have h1 : val_main_v45 (F := Ideal) x0 x1 x2 (ix3 1 p d) = val_main_v41 (F := Ideal) x0 x1 x2 (ix2 p d) := by
    pointwise [val_main_v45, val_main_v44]
  match l with
  | 0 => rw [h0, keys0_apply]; simp only [norm0_apply]
  | 1 => rw [h1, keys1_apply]; simp only [norm1_apply]

/-- The two layers' values. -/
theorem vals_apply (l : Fin 2) (p d : Fin 512) : val_main_v48 (F := Ideal) x0 x1 x3 (ix3 l p d)
    = dotRow (row x0 x1 l p) (fun k d => x3 (ix3 l k d)) d := by
  have h0 : val_main_v48 (F := Ideal) x0 x1 x3 (ix3 0 p d) = val_main_v21 (F := Ideal) x0 x1 x3 (ix2 p d) := by
    pointwise [val_main_v48, val_main_v46]
  have h1 : val_main_v48 (F := Ideal) x0 x1 x3 (ix3 1 p d) = val_main_v42 (F := Ideal) x0 x1 x3 (ix2 p d) := by
    pointwise [val_main_v48, val_main_v47]
  match l with
  | 0 => rw [h0, vals0_apply]; simp only [norm0_apply]
  | 1 => rw [h1, vals1_apply]; simp only [norm1_apply]

variable (m0 : (ℓ : Loc Kernel3Ideal.nD Kernel3Ideal.τ Kernel3Ideal.sig) → Buf (Elt Ideal) ℓ)

theorem keys_eq (c : Dev Kernel3Ideal.nD) (y : S2x512x512.Idx) :
    val_main_v45 (F := Ideal) (m0 ((c : Thread Kernel3Ideal.nD Kernel3Ideal.τ).loc Kernel3Ideal.main_arg0)) (m0 ((c : Thread Kernel3Ideal.nD Kernel3Ideal.τ).loc Kernel3Ideal.main_arg1))
      (m0 ((c : Thread Kernel3Ideal.nD Kernel3Ideal.τ).loc Kernel3Ideal.main_arg2)) y = keys m0 c (y 0) (y 1) (y 2) := by
  obtain ⟨l, p, d, rfl⟩ : ∃ (l : Fin 2) (p d : Fin 512), y = ix3 l p d := ⟨y 0, y 1, y 2, ValueIdx.eq_ix3 y⟩
  rw [keys_apply]; rfl

theorem vals_eq (c : Dev Kernel3Ideal.nD) (y : S2x512x512.Idx) :
    val_main_v48 (F := Ideal) (m0 ((c : Thread Kernel3Ideal.nD Kernel3Ideal.τ).loc Kernel3Ideal.main_arg0)) (m0 ((c : Thread Kernel3Ideal.nD Kernel3Ideal.τ).loc Kernel3Ideal.main_arg1))
      (m0 ((c : Thread Kernel3Ideal.nD Kernel3Ideal.τ).loc Kernel3Ideal.main_arg3)) y = vals m0 c (y 0) (y 1) (y 2) := by
  obtain ⟨l, p, d, rfl⟩ : ∃ (l : Fin 2) (p d : Fin 512), y = ix3 l p d := ⟨y 0, y 1, y 2, ValueIdx.eq_ix3 y⟩
  rw [vals_apply]; rfl

end Cert.Reference3Ideal.MemKv

namespace Cert.MemKv

theorem algebraic : Cert.algebraic_Kernel3Ideal_Reference3Ideal := by
  pair_intro
  rotate_left 2
  · exact fun c => (Kernel3Ideal.Gen.dats m 0 c).arrAt 4 Kernel3Ideal.cfg0.N
  · exact fun c => (Kernel3Ideal.Gen.dats m 0 c).arrAt 5 Kernel3Ideal.cfg0.N
  · run_from Kernel3Ideal.Value.run_blocks m g
  · run_from Reference3Ideal.Value.run m' g'
    · refine (Reference3Ideal.Read.val_main_v45_eq _ _ _).trans ?_
      rw [Kernel3Ideal.MemKv.final4]
      exact funext fun y => Reference3Ideal.MemKv.keys_eq m c y
    · refine (Reference3Ideal.Read.val_main_v48_eq _ _ _).trans ?_
      rw [Kernel3Ideal.MemKv.final5, (hagree c).2.2.2]
      exact funext fun y => Reference3Ideal.MemKv.vals_eq m c y

end Cert.MemKv

end
-- ==== Proof.Retention.Chunk.lean ====
/- The retention recurrence of one head, in chunks of 128 rows: the decays within a chunk, the state a chunk leaves, the
   rows it gives, and the state before each of the 32 chunks of a sequence. All of it reads the input projection `z`,
   whose columns hold the queries, the keys, the values and the gates of the eight heads. -/
module

public import proofs.«01_k».proof.Proof.Common

@[expose] public section

set_option maxRecDepth 16384

noncomputable section

open Idealize.ShloMosaic Idealize.ShloMosaic.TcCoe

namespace Cert.Retention

open Cert.Layer

/-- An integer below the chunk's length, as a value. -/
def num (i : ℕ) : EReal := FloatOps.sitofp (F := Ideal) .f32 (BitVec.ofNat 32 i)

theorem toInt_ofNat_small {i : ℕ} (h : i < 128) : (BitVec.ofNat 32 i).toInt = (i : ℤ) := by
  rw [BitVec.toInt_eq_toNat_of_lt (by rw [BitVec.toNat_ofNat]; omega), BitVec.toNat_ofNat, Nat.mod_eq_of_lt (by omega)]

theorem num_eq {i : ℕ} (h : i < 128) : num i = ((i : ℝ) : EReal) := by
  show (((BitVec.ofNat 32 i).toInt : ℝ) : EReal) = _
  rw [toInt_ofNat_small h]
  rfl

theorem num_sub {i j : ℕ} (hi : i < 128) (hj : j < 128) :
    FloatOps.sitofp (F := Ideal) .f32 (IntOp.subi (BitVec.ofNat 32 i) (BitVec.ofNat 32 j)) = num i - num j := by
  rw [num_eq hi, num_eq hj]
  show (((BitVec.ofNat 32 i - BitVec.ofNat 32 j).toInt : ℝ) : EReal) = _
  rw [BitVec.toInt_sub, toInt_ofNat_small hi, toInt_ofNat_small hj, Int.bmod_eq_of_le (by omega) (by omega)]
  push_cast
  rfl

/-- The logarithm of the decay of head `h`: log(1 - 2^(-5 - h)). -/
def rate (h : Fin 8) : EReal :=
  Ideal.log1p (-Ideal.exp (Ideal.ofBits .f32 1060205080#32 * (Ideal.ofBits .f32 3231711232#32 - num h)))

/-- The decay from row `j` to row `i` of one chunk, zero where `j` comes later. -/
def dec (l : EReal) (i j : ℕ) : EReal :=
  if 0 ≤ num i - num j then Ideal.exp (l * max (num i - num j) 0) else 0

/-- The state after a chunk: the state before it decayed over 128 rows, plus the keys, decayed to the chunk's end, times the values. -/
def next (l : EReal) (k : Fin 128 → Fin 256 → EReal) (v : Fin 128 → Fin 512 → EReal) (s : Fin 256 → Fin 512 → EReal)
    (d : Fin 256) (e : Fin 512) : EReal :=
  s d e * Ideal.exp (l * Ideal.ofBits .f32 1124073472#32)
    + ∑ x, k x d * Ideal.exp (l * (Ideal.ofBits .f32 1123942400#32 - num x)) * v x e

/-- The rows a chunk gives before they are normalized. -/
def rowsOut (l : EReal) (q k : Fin 128 → Fin 256 → EReal) (v : Fin 128 → Fin 512 → EReal)
    (s : Fin 256 → Fin 512 → EReal) (i : Fin 128) (e : Fin 512) : EReal :=
  (∑ x, (∑ x1, q i x1 * k x x1) * dec l i x * v x e) + (∑ x, q i x * s x e) * Ideal.exp (l * (num i + 1))

/-- Entry `e` of a row over the root of the mean of its squares. -/
def normed (o : Fin 512 → EReal) (e : Fin 512) : EReal :=
  o e * Ideal.rsqrt (Ideal.div (∑ x, o x * o x) (Ideal.ofBits .f32 1140850688#32) + Ideal.ofBits .f32 897988541#32)

theorem exp_nonneg (x : EReal) : 0 ≤ Ideal.exp x := by
  induction x with
  | bot => exact le_refl (0 : EReal)
  | top => exact le_top
  | coe r => exact EReal.coe_nonneg.mpr (Real.exp_pos r).le

theorem log_ne_top (y : EReal) (h : y ≠ ⊤) : Ideal.log y ≠ ⊤ := by
  induction y with
  | bot => exact bot_ne_top
  | top => exact absurd rfl h
  | coe r =>
    show (if r ≤ 0 then (⊥ : EReal) else (Real.log r : EReal)) ≠ ⊤
    split
    · exact bot_ne_top
    · exact EReal.coe_ne_top _

theorem one_sub_ne_top (y : EReal) (h : 0 ≤ y) : 1 + -y ≠ ⊤ := by
  induction y with
  | bot => exact absurd h (by simp)
  | top => rw [EReal.neg_top, EReal.add_bot]; exact bot_ne_top
  | coe r =>
    rw [← EReal.coe_neg, ← EReal.coe_one, ← EReal.coe_add]
    exact EReal.coe_ne_top _

theorem rate_ne_top (h : Fin 8) : rate h ≠ ⊤ := by
  unfold rate Ideal.log1p
  exact log_ne_top _ (one_sub_ne_top _ (exp_nonneg _))

/-- The decay of the state up to a row is a nonnegative real. -/
theorem decay_real (h : Fin 8) (i : Fin 128) : 0 ≤ Ideal.exp (rate h * (num i + 1)) ∧ Ideal.exp (rate h * (num i + 1)) ≠ ⊤ := by
  have hn : num i + 1 = (((i.val : ℝ) + 1 : ℝ) : EReal) := by rw [num_eq i.isLt]; push_cast; rfl
  have hp : (0 : ℝ) < (i.val : ℝ) + 1 := by positivity
  have hr := rate_ne_top h
  rw [hn]
  generalize rate h = l at hr
  induction l with
  | bot => rw [EReal.bot_mul_coe_of_pos hp]; exact ⟨le_refl (0 : EReal), EReal.zero_ne_top⟩
  | top => exact absurd rfl hr
  | coe r =>
    rw [← EReal.coe_mul]
    exact ⟨EReal.coe_nonneg.mpr (Real.exp_pos _).le, EReal.coe_ne_top _⟩

/-- A nonnegative real factor goes into a sum. -/
theorem sum_mul_real {ι : Type} (t : Finset ι) (f : ι → EReal) {c : EReal} (h0 : 0 ≤ c) (h1 : c ≠ ⊤) :
    (∑ x ∈ t, f x) * c = ∑ x ∈ t, f x * c := by
  classical
  induction t using Finset.induction_on with
  | empty => simp
  | insert a t ha ih => rw [Finset.sum_insert ha, Finset.sum_insert ha, EReal.right_distrib_of_nonneg_of_ne_top h0 h1, ih]

/-- A chunk's rows with the decay on the queries and the products the other way round. -/
theorem rowsOut_eq (h : Fin 8) (q k : Fin 128 → Fin 256 → EReal) (v : Fin 128 → Fin 512 → EReal)
    (s : Fin 256 → Fin 512 → EReal) (i : Fin 128) (e : Fin 512) :
    (∑ x, v x e * ((∑ x1, q i x1 * k x x1) * dec (rate h) i x)) + ∑ x, s x e * (q i x * Ideal.exp (rate h * (num i + 1)))
      = rowsOut (rate h) q k v s i e := by
  unfold rowsOut
  rw [sum_mul_real _ _ (decay_real h i).1 (decay_real h i).2]
  congr 1
  · exact Finset.sum_congr rfl fun x _ => mul_comm _ _
  · exact Finset.sum_congr rfl fun x _ => by rw [← mul_assoc, mul_comm (s x e)]

/-- The shape of the input projection. -/
abbrev Z : Shape := ⟨2, ![9216, 12288]⟩

variable (z : Z.Idx → EReal) (b : Fin 2) (h : Fin 8)

/-- Row `i` of chunk `n` of sequence `b`. -/
def row (b : Fin 2) (n : ℕ) (i : Fin 128) : Fin 9216 := ⟨b.val * 4096 + n % 32 * 128 + i.val, by omega⟩

/-- The queries, keys, values and gates of head `h` in chunk `n` of sequence `b`. -/
def qc (n : ℕ) (i : Fin 128) (d : Fin 256) : EReal := z (ix2 (row b n i) ⟨h.val * 256 + d.val, by omega⟩)
def kc (n : ℕ) (i : Fin 128) (d : Fin 256) : EReal := z (ix2 (row b n i) ⟨2048 + h.val * 256 + d.val, by omega⟩)
def vc (n : ℕ) (i : Fin 128) (e : Fin 512) : EReal := z (ix2 (row b n i) ⟨4096 + h.val * 512 + e.val, by omega⟩)
def gc (n : ℕ) (i : Fin 128) (e : Fin 512) : EReal := z (ix2 (row b n i) ⟨8192 + h.val * 512 + e.val, by omega⟩)

/-- The state before chunk `n`. -/
def S : ℕ → Fin 256 → Fin 512 → EReal
  | 0 => fun _ _ => 0
  | n + 1 => next (rate h) (kc z b h n) (vc z b h n) (S n)

/-- The rows of chunk `n` before they are normalized. -/
def O (n : ℕ) : Fin 128 → Fin 512 → EReal := rowsOut (rate h) (qc z b h n) (kc z b h n) (vc z b h n) (S z b h n)

/-- The rows of chunk `n`, normalized and gated. -/
def Y (n : ℕ) (i : Fin 128) (e : Fin 512) : EReal := normed (O z b h n i) e * gc z b h n i e

/-- Row `p` of the layer's rows: sequence `p / 4096`, chunk `p / 128 % 32`. -/
def yRow (z : Z.Idx → EReal) (p : Fin 9216) (e : Fin 4096) : EReal :=
  Y z ⟨p.val / 4096 % 2, by omega⟩ ⟨e.val / 512, by omega⟩ (p.val / 128 % 32) ⟨p.val % 128, by omega⟩ ⟨e.val % 512, by omega⟩

theorem Y_congr {z : Z.Idx → EReal} {b b' : Fin 2} {h h' : Fin 8} {n n' : ℕ} {i i' : Fin 128} {e e' : Fin 512} (hb : b.val = b'.val)
    (hh : h.val = h'.val) (hn : n = n') (hi : i.val = i'.val) (he : e.val = e'.val) : Y z b h n i e = Y z b' h' n' i' e' := by
  rw [Fin.ext hb, Fin.ext hh, hn, Fin.ext hi, Fin.ext he]

end Cert.Retention

end
-- ==== Proof.Retention.Pay.lean ====
/- What one trip of the kernel's loop stores: from a chunk of queries, keys, values and gates and the state before it,
   the chunk's rows and the state after it. -/
module

public import proofs.«01_k».proof.Proof.Gen.KernelIdeal.Frame
public import proofs.«01_k».proof.Proof.Retention.Chunk

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen Cert.Layer Cert.Retention

theorem dmat_apply (lg : EReal) (i j : Fin 128) : k0_pay5 (F := Ideal) lg (ix2 i j) = dec lg i j := by
  pointwise [k0_pay5]
  rw [num_sub i.isLt j.isLt]
  rfl
theorem qdec_apply (lg : EReal) (i : Fin 128) (a : Fin 1) : k0_pay7 (F := Ideal) lg (ix2 i a) = Ideal.exp (lg * (num i + 1)) := by
  pointwise [k0_pay7, k0_pay6]
  try rfl
theorem kdec_apply (lg : EReal) (i : Fin 128) (a : Fin 1) :
    k0_pay8 (F := Ideal) lg (ix2 i a) = Ideal.exp (lg * (Ideal.ofBits .f32 1123942400#32 - num i)) := by
  pointwise [k0_pay8, k0_pay6]
  try rfl
theorem sdec_apply (lg : EReal) (a b : Fin 1) :
    k0_pay9 (F := Ideal) lg (ix2 a b) = Ideal.exp (lg * Ideal.ofBits .f32 1124073472#32) := by
  pointwise [k0_pay9, k0_pay6]
  try rfl

variable {z : Z.Idx → EReal} {b : Fin 2} {h : Fin 8} {n : ℕ}

/-- A block that holds the chunk's queries, keys, values, gates; the state before chunk `n`; the chunk's rows. -/
def IsQ (z : Z.Idx → EReal) (b : Fin 2) (h : Fin 8) (n : ℕ) (x : S128x256.Idx → EReal) : Prop := ∀ i d, x (ix2 i d) = qc z b h n i d
def IsK (z : Z.Idx → EReal) (b : Fin 2) (h : Fin 8) (n : ℕ) (x : S128x256.Idx → EReal) : Prop := ∀ i d, x (ix2 i d) = kc z b h n i d
def IsV (z : Z.Idx → EReal) (b : Fin 2) (h : Fin 8) (n : ℕ) (x : S128x512.Idx → EReal) : Prop := ∀ i e, x (ix2 i e) = vc z b h n i e
def IsG (z : Z.Idx → EReal) (b : Fin 2) (h : Fin 8) (n : ℕ) (x : S128x512.Idx → EReal) : Prop := ∀ i e, x (ix2 i e) = gc z b h n i e
def IsS (z : Z.Idx → EReal) (b : Fin 2) (h : Fin 8) (n : ℕ) (x : S256x512.Idx → EReal) : Prop := ∀ d e, x (ix2 d e) = S z b h n d e
def IsY (z : Z.Idx → EReal) (b : Fin 2) (h : Fin 8) (n : ℕ) (x : S128x512.Idx → EReal) : Prop := ∀ i e, x (ix2 i e) = Y z b h n i e

variable {q k : S128x256.Idx → EReal} {v g : S128x512.Idx → EReal} {s : S256x512.Idx → EReal} {lg : EReal}

theorem step_apply (D E : S128x1.Idx → EReal) (sd : S1x1.Idx → EReal) (d : Fin 256) (e : Fin 512) :
    k0_pay12 (F := Ideal) D sd k v s (ix2 d e) = s (ix2 d e) * sd (ix2 0 0) + ∑ x : Fin 128, k (ix2 x d) * D (ix2 x 0) * v (ix2 x e) := by
  pointwise [k0_pay12]
  try rfl

theorem isS_12 (hl : lg = rate h) (hk : IsK z b h n k) (hv : IsV z b h n v) (hs : IsS z b h n s) :
    IsS z b h (n + 1) (k0_pay12 (F := Ideal) (k0_pay8 lg) (k0_pay9 lg) k v s) := fun d e => by
  subst hl
  refine (step_apply _ (fun _ => 0) _ d e).trans ?_
  simp only [kdec_apply, sdec_apply, hk _ _, hv _ _, hs _ _]
  rfl

theorem isS_10 (hl : lg = rate h) (hk : IsK z b h n k) (hv : IsV z b h n v) (hs : IsS z b h n s) :
    IsS z b h (n + 1) (k0_pay10 (F := Ideal) (k0_pay8 lg) (k0_pay9 lg) k v s) := isS_12 hl hk hv hs
theorem isS_14 (hl : lg = rate h) (hk : IsK z b h n k) (hv : IsV z b h n v) (hs : IsS z b h n s) :
    IsS z b h (n + 1) (k0_pay14 (F := Ideal) (k0_pay8 lg) (k0_pay9 lg) k v s) := isS_12 hl hk hv hs
theorem isS_16 (hl : lg = rate h) (hk : IsK z b h n k) (hv : IsV z b h n v) (hs : IsS z b h n s) :
    IsS z b h (n + 1) (k0_pay16 (F := Ideal) (k0_pay8 lg) (k0_pay9 lg) k v s) := isS_12 hl hk hv hs
theorem isS_20 (hl : lg = rate h) (hk : IsK z b h n k) (hv : IsV z b h n v) (hs : IsS z b h n s) :
    IsS z b h (n + 1) (k0_pay20 (F := Ideal) (k0_pay8 lg) (k0_pay9 lg) k v s) := isS_12 hl hk hv hs
theorem isS_24 (hl : lg = rate h) (hk : IsK z b h n k) (hv : IsV z b h n v) (hs : IsS z b h n s) :
    IsS z b h (n + 1) (k0_pay24 (F := Ideal) (k0_pay8 lg) (k0_pay9 lg) k v s) := isS_12 hl hk hv hs
theorem isS_28 (hl : lg = rate h) (hk : IsK z b h n k) (hv : IsV z b h n v) (hs : IsS z b h n s) :
    IsS z b h (n + 1) (k0_pay29 (k0_pay28 (F := Ideal) (k0_pay8 lg) (k0_pay9 lg) k v s)) := isS_12 hl hk hv hs
theorem isS_1 (hl : lg = rate h) (hk : IsK z b h n k) (hv : IsV z b h n v) (hs : IsS z b h n s) :
    IsS z b h (n + 1) (k0_pay1 (F := Ideal) (k0_pay9 lg) v s (k0_pay32 (k0_pay8 lg) k)) := isS_12 hl hk hv hs

theorem out_apply (D : S128x128.Idx → EReal) (qd : S128x1.Idx → EReal) (i : Fin 128) (e : Fin 512) :
    k0_pay13 (F := Ideal) D qd q k v s g (ix2 i e)
      = normed (fun e => (∑ x : Fin 128, (∑ x1 : Fin 256, q (ix2 i x1) * k (ix2 x x1)) * D (ix2 i x) * v (ix2 x e))
          + (∑ x : Fin 256, q (ix2 i x) * s (ix2 x e)) * qd (ix2 i 0)) e * g (ix2 i e) := by
  pointwise [k0_pay13]
  try rfl

theorem isY_13 (hl : lg = rate h) (hq : IsQ z b h n q) (hk : IsK z b h n k) (hv : IsV z b h n v) (hs : IsS z b h n s)
    (hg : IsG z b h n g) : IsY z b h n (k0_pay13 (F := Ideal) (k0_pay5 lg) (k0_pay7 lg) q k v s g) := fun i e => by
  subst hl
  refine (out_apply _ _ i e).trans ?_
  simp only [dmat_apply, qdec_apply, hq _ _, hk _ _, hv _ _, hs _ _, hg _ _]
  rfl

end Cert.KernelIdeal.Retention

end
-- ==== Proof.Retention.Block.lean ====
/- What one grid point of the kernel leaves: eight chunks in turn, each from the state that the chunk before it left; the
   rows of the chunks as the eight parts of the output block, and the state after the last one in the scratch. -/
module

public import proofs.«01_k».proof.Proof.Retention.Pay
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen Cert.Layer Cert.Retention

theorem inb256 (o : ℕ) (ho : o + 128 ≤ 1024) : ∀ a, (![o, 0] : Fin 2 → ℕ) a + S128x256.size a ≤ S1024x256.size a := by
  intro a; fin_cases a
  · exact ho
  · exact Nat.le_refl 256
theorem inb512 (o : ℕ) (ho : o + 128 ≤ 1024) : ∀ a, (![o, 0] : Fin 2 → ℕ) a + S128x512.size a ≤ S1024x512.size a := by
  intro a; fin_cases a
  · exact ho
  · exact Nat.le_refl 512

/-- Rows `o` to `o + 127` of a block. -/
abbrev part256 (o : ℕ) (ho : o + 128 ≤ 1024) (x : FVec Ideal S1024x256 .bf16) : FVec Ideal S128x256 .bf16 :=
  View.ld (Val := Elt Ideal) (e' := .bf16) x (Rect.unit (s := S1024x256) ![o, 0] S128x256.size (inb256 o ho))
abbrev part512 (o : ℕ) (ho : o + 128 ≤ 1024) (x : FVec Ideal S1024x512 .bf16) : FVec Ideal S128x512 .bf16 :=
  View.ld (Val := Elt Ideal) (e' := .bf16) x (Rect.unit (s := S1024x512) ![o, 0] S128x512.size (inb512 o ho))

theorem part256_apply (o : ℕ) (ho : o + 128 ≤ 1024) (x : FVec Ideal S1024x256 .bf16) (i : Fin 128) (d : Fin 256) :
    part256 o ho x (ix2 i d) = x (ix2 ⟨o + i.val, by omega⟩ d) := by
  refine congrArg x (funext fun a => Fin.ext ?_)
  fin_cases a
  · exact congrArg (o + ·) (Nat.one_mul _)
  · exact (Nat.zero_add _).trans (Nat.one_mul _)
theorem part512_apply (o : ℕ) (ho : o + 128 ≤ 1024) (x : FVec Ideal S1024x512 .bf16) (i : Fin 128) (d : Fin 512) :
    part512 o ho x (ix2 i d) = x (ix2 ⟨o + i.val, by omega⟩ d) := by
  refine congrArg x (funext fun a => Fin.ext ?_)
  fin_cases a
  · exact congrArg (o + ·) (Nat.one_mul _)
  · exact (Nat.zero_add _).trans (Nat.one_mul _)

variable (lg : EReal) (x1 x2 : FVec Ideal S1024x256 .bf16) (x3 x4 : FVec Ideal S1024x512 .bf16) (s : FVec Ideal S256x512 .f32)

/-- The state after one, two, …, eight chunks, from the state `s` before the first. -/
abbrev st1 : FVec Ideal S256x512 .f32 := k0_pay10 (F := Ideal) (k0_pay8 lg) (k0_pay9 lg) (part256 0 (by omega) x2) (part512 0 (by omega) x3) s
abbrev st2 : FVec Ideal S256x512 .f32 := k0_pay12 (F := Ideal) (k0_pay8 lg) (k0_pay9 lg) (part256 128 (by omega) x2) (part512 128 (by omega) x3) (st1 lg x2 x3 s)
abbrev st3 : FVec Ideal S256x512 .f32 := k0_pay14 (F := Ideal) (k0_pay8 lg) (k0_pay9 lg) (part256 256 (by omega) x2) (part512 256 (by omega) x3) (st2 lg x2 x3 s)
abbrev st4 : FVec Ideal S256x512 .f32 := k0_pay16 (F := Ideal) (k0_pay8 lg) (k0_pay9 lg) (part256 384 (by omega) x2) (part512 384 (by omega) x3) (st3 lg x2 x3 s)
abbrev st5 : FVec Ideal S256x512 .f32 := k0_pay20 (F := Ideal) (k0_pay8 lg) (k0_pay9 lg) (part256 512 (by omega) x2) (part512 512 (by omega) x3) (st4 lg x2 x3 s)
abbrev st6 : FVec Ideal S256x512 .f32 := k0_pay24 (F := Ideal) (k0_pay8 lg) (k0_pay9 lg) (part256 640 (by omega) x2) (part512 640 (by omega) x3) (st5 lg x2 x3 s)
abbrev st7 : FVec Ideal S256x512 .f32 := k0_pay29 (F := Ideal) (k0_pay28 (k0_pay8 lg) (k0_pay9 lg) (part256 768 (by omega) x2) (part512 768 (by omega) x3) (st6 lg x2 x3 s))
abbrev st8 : FVec Ideal S256x512 .f32 := k0_pay1 (F := Ideal) (k0_pay9 lg) (part512 896 (by omega) x3) (st7 lg x2 x3 s) (k0_pay32 (k0_pay8 lg) (part256 896 (by omega) x2))

/-- The rows of the first, …, the eighth chunk. -/
abbrev rows0 : FVec Ideal S128x512 .bf16 := k0_pay11 (F := Ideal) (k0_pay5 lg) (k0_pay7 lg) (part256 0 (by omega) x1) (part256 0 (by omega) x2) (part512 0 (by omega) x3) (constant S128x128 .f32 0#32) s (part512 0 (by omega) x4)
abbrev rows1 : FVec Ideal S128x512 .bf16 := k0_pay13 (F := Ideal) (k0_pay5 lg) (k0_pay7 lg) (part256 128 (by omega) x1) (part256 128 (by omega) x2) (part512 128 (by omega) x3) (st1 lg x2 x3 s) (part512 128 (by omega) x4)
abbrev rows2 : FVec Ideal S128x512 .bf16 := k0_pay15 (F := Ideal) (k0_pay5 lg) (k0_pay7 lg) (part256 256 (by omega) x1) (part256 256 (by omega) x2) (part512 256 (by omega) x3) (st2 lg x2 x3 s) (part512 256 (by omega) x4)
abbrev rows3 : FVec Ideal S128x512 .bf16 := k0_pay18 (F := Ideal) (k0_pay17 (k0_pay5 lg) (k0_pay7 lg) (part256 384 (by omega) x1) (part256 384 (by omega) x2) (part512 384 (by omega) x3) (st3 lg x2 x3 s)) (part512 384 (by omega) x4)
abbrev rows4 : FVec Ideal S128x512 .bf16 := k0_pay22 (F := Ideal) (k0_pay19 (k0_pay5 lg) (k0_pay7 lg) (part256 512 (by omega) x1) (part256 512 (by omega) x2) (part512 512 (by omega) x3) (st4 lg x2 x3 s)) (k0_pay21 (k0_pay5 lg) (k0_pay7 lg) (part256 512 (by omega) x1) (part256 512 (by omega) x2) (part512 512 (by omega) x3) (st4 lg x2 x3 s)) (part512 512 (by omega) x4)
abbrev rows5 : FVec Ideal S128x512 .bf16 := k0_pay26 (F := Ideal) (k0_pay23 (k0_pay5 lg) (k0_pay7 lg) (part256 640 (by omega) x1) (part256 640 (by omega) x2) (part512 640 (by omega) x3) (st5 lg x2 x3 s)) (k0_pay25 (k0_pay5 lg) (k0_pay7 lg) (part256 640 (by omega) x1) (part256 640 (by omega) x2) (part512 640 (by omega) x3) (st5 lg x2 x3 s)) (part512 640 (by omega) x4)
abbrev rows6 : FVec Ideal S128x512 .bf16 := k0_pay30 (F := Ideal) (k0_pay27 (k0_pay5 lg) (k0_pay7 lg) (part256 768 (by omega) x1) (part256 768 (by omega) x2) (part512 768 (by omega) x3) (st6 lg x2 x3 s)) (part512 768 (by omega) x4)
abbrev rows7 : FVec Ideal S128x512 .bf16 := k0_pay2 (F := Ideal) (k0_pay31 (k0_pay5 lg) (k0_pay7 lg) (part256 896 (by omega) x1) (part256 896 (by omega) x2) (part512 896 (by omega) x3) (st7 lg x2 x3 s)) (part512 896 (by omega) x4)

/-- The output block: the eight chunks' rows one under the other. -/
abbrev outBlock : FVec Ideal S1024x512 .bf16 := View.canon (Val := Elt Ideal) (e := .bf16) (
    [⟨Rect.unit (s := S1024x512) ![896, 0] S128x512.size (inb512 896 (by omega)), rows7 lg x1 x2 x3 x4 s⟩,
    ⟨Rect.unit (s := S1024x512) ![768, 0] S128x512.size (inb512 768 (by omega)), rows6 lg x1 x2 x3 x4 s⟩,
    ⟨Rect.unit (s := S1024x512) ![640, 0] S128x512.size (inb512 640 (by omega)), rows5 lg x1 x2 x3 x4 s⟩,
    ⟨Rect.unit (s := S1024x512) ![512, 0] S128x512.size (inb512 512 (by omega)), rows4 lg x1 x2 x3 x4 s⟩,
    ⟨Rect.unit (s := S1024x512) ![384, 0] S128x512.size (inb512 384 (by omega)), rows3 lg x1 x2 x3 x4 s⟩,
    ⟨Rect.unit (s := S1024x512) ![256, 0] S128x512.size (inb512 256 (by omega)), rows2 lg x1 x2 x3 x4 s⟩,
    ⟨Rect.unit (s := S1024x512) ![128, 0] S128x512.size (inb512 128 (by omega)), rows1 lg x1 x2 x3 x4 s⟩,
    ⟨Rect.unit (s := S1024x512) ![0, 0] S128x512.size (inb512 0 (by omega)), rows0 lg x1 x2 x3 x4 s⟩])

variable (m : (ℓ : Loc nD τ sig) → Buf (Elt Ideal) ℓ) (c : Dev nD)

/-- The decay's logarithm as the grid point reads it. -/
abbrev lgAt (t : Fin cfg0.N) : EReal :=
  View.ld (Val := Elt Ideal) (e' := .f32) (iblk m c 0 t) (Rect.unit (s := S8) (k0_off1 (grid0.coords t)) S1.size (k0_off1_inb (grid0.coords t)))
    (Shape.Idx.first (smemLoad._proof_2 (Rect.unit (s := S8) (k0_off1 (grid0.coords t)) S1.size (k0_off1_inb (grid0.coords t))) numel1_S1))

theorem outs_A (t : Fin cfg0.N) (h0 : t.val % 4 = 0) (h1 : ¬ t.val % 4 = 3) :
    (outsAt0 (F := Ideal) m c t.val t.isLt).1 = outBlock (lgAt m c t) (iblk m c 1 t) (iblk m c 2 t) (iblk m c 3 t) (iblk m c 4 t) (k0_pay4 (F := Ideal))
    ∧ (outsAt0 (F := Ideal) m c t.val t.isLt).2.2 = st8 (lgAt m c t) (iblk m c 2 t) (iblk m c 3 t) (k0_pay4 (F := Ideal)) := by
  rw [outsAt0_A m c t h0 h1]; frame_out
  refine ⟨?_, ?_⟩ <;> first | rfl | trivial

theorem outs_B (t : Fin cfg0.N) (h0 : ¬ t.val % 4 = 0) (h1 : ¬ t.val % 4 = 3) :
    (outsAt0 (F := Ideal) m c t.val t.isLt).1 = outBlock (lgAt m c t) (iblk m c 1 t) (iblk m c 2 t) (iblk m c 3 t) (iblk m c 4 t) ((outsAt0 m c (t.val - 1) (Nat.lt_of_le_of_lt (Nat.sub_le _ _) t.isLt)).2.2)
    ∧ (outsAt0 (F := Ideal) m c t.val t.isLt).2.2 = st8 (lgAt m c t) (iblk m c 2 t) (iblk m c 3 t) ((outsAt0 m c (t.val - 1) (Nat.lt_of_le_of_lt (Nat.sub_le _ _) t.isLt)).2.2) := by
  rw [outsAt0_B m c t h0 h1]; frame_out
  simp only [read_unread_whole]
  refine ⟨?_, ?_⟩ <;> first | rfl | trivial

theorem outs_C (t : Fin cfg0.N) (h0 : ¬ t.val % 4 = 0) (h1 : t.val % 4 = 3) :
    (outsAt0 (F := Ideal) m c t.val t.isLt).1 = outBlock (lgAt m c t) (iblk m c 1 t) (iblk m c 2 t) (iblk m c 3 t) (iblk m c 4 t) ((outsAt0 m c (t.val - 1) (Nat.lt_of_le_of_lt (Nat.sub_le _ _) t.isLt)).2.2)
    ∧ (outsAt0 (F := Ideal) m c t.val t.isLt).2.2 = st8 (lgAt m c t) (iblk m c 2 t) (iblk m c 3 t) ((outsAt0 m c (t.val - 1) (Nat.lt_of_le_of_lt (Nat.sub_le _ _) t.isLt)).2.2)
    ∧ (outsAt0 (F := Ideal) m c t.val t.isLt).2.1 = k0_pay3 (F := Ideal) (st8 (lgAt m c t) (iblk m c 2 t) (iblk m c 3 t) ((outsAt0 m c (t.val - 1) (Nat.lt_of_le_of_lt (Nat.sub_le _ _) t.isLt)).2.2)) := by
  rw [outsAt0_C m c t h0 h1]; frame_out
  simp only [read_unread_whole]
  refine ⟨?_, ?_, ?_⟩ <;> first | rfl | trivial

end Cert.KernelIdeal.Retention

end
-- ==== Proof.Retention.Array.lean ====
/- What the kernel's two result arrays hold. Point `t` of the grid handles sequence `t / 32`, head `t / 4 % 8` and the eight
   chunks from chunk `8 * (t % 4)` on; the scratch carries the state from one point of a head to the next. -/
module

public import proofs.«01_k».proof.Proof.Retention.Block

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen Cert.Layer Cert.Retention

variable {z : Z.Idx → EReal} {b : Fin 2} {h : Fin 8} {n : ℕ}
variable {lg : EReal} {x1 x2 : FVec Ideal S1024x256 .bf16} {x3 x4 : FVec Ideal S1024x512 .bf16} {s : FVec Ideal S256x512 .f32}

/-- The blocks of a grid point hold chunks `n` to `n + 7`. -/
structure Blocks (z : Z.Idx → EReal) (b : Fin 2) (h : Fin 8) (n : ℕ) (lg : EReal) (x1 x2 : FVec Ideal S1024x256 .bf16)
    (x3 x4 : FVec Ideal S1024x512 .bf16) : Prop where
  l : lg = rate h
  q : ∀ j (hj : 128 * j + 128 ≤ 1024), IsQ z b h (n + j) (part256 (128 * j) hj x1)
  k : ∀ j (hj : 128 * j + 128 ≤ 1024), IsK z b h (n + j) (part256 (128 * j) hj x2)
  v : ∀ j (hj : 128 * j + 128 ≤ 1024), IsV z b h (n + j) (part512 (128 * j) hj x3)
  g : ∀ j (hj : 128 * j + 128 ≤ 1024), IsG z b h (n + j) (part512 (128 * j) hj x4)

theorem of_rows (j : ℕ) {R : S128x512.Idx → EReal} (hR : IsY z b h (n + j) R) (x : S128x512.Idx) (r : Fin 1024) (e : Fin 512)
    (hr : r.val = 128 * j + (x 0).val) (he : e.val = (x 1).val) :
    R x = Y z b h (n + r.val / 128) ⟨r.val % 128, Nat.mod_lt _ (by omega)⟩ e := by
  obtain ⟨i, d, rfl⟩ : ∃ (i : Fin 128) (d : Fin 512), x = ix2 i d := ⟨x 0, x 1, ValueIdx.eq_ix2 x⟩
  have hr' : r.val = 128 * j + i.val := hr
  have h1 : r.val / 128 = j := by omega
  have h2 : i = ⟨r.val % 128, Nat.mod_lt _ (by omega)⟩ := Fin.ext (by dsimp only; omega)
  have h3 : e = d := Fin.ext he
  rw [h1, ← h2, h3]
  exact hR i d

section Block

variable (B : Blocks z b h n lg x1 x2 x3 x4) (hs : IsS z b h n s)
include B hs

theorem isSt1 : IsS z b h (n + 1) (st1 lg x2 x3 s) := isS_10 B.l (B.k 0 (by omega)) (B.v 0 (by omega)) hs
theorem isSt2 : IsS z b h (n + 2) (st2 lg x2 x3 s) := isS_12 B.l (B.k 1 (by omega)) (B.v 1 (by omega)) (isSt1 B hs)
theorem isSt3 : IsS z b h (n + 3) (st3 lg x2 x3 s) := isS_14 B.l (B.k 2 (by omega)) (B.v 2 (by omega)) (isSt2 B hs)
theorem isSt4 : IsS z b h (n + 4) (st4 lg x2 x3 s) := isS_16 B.l (B.k 3 (by omega)) (B.v 3 (by omega)) (isSt3 B hs)
theorem isSt5 : IsS z b h (n + 5) (st5 lg x2 x3 s) := isS_20 B.l (B.k 4 (by omega)) (B.v 4 (by omega)) (isSt4 B hs)
theorem isSt6 : IsS z b h (n + 6) (st6 lg x2 x3 s) := isS_24 B.l (B.k 5 (by omega)) (B.v 5 (by omega)) (isSt5 B hs)
theorem isSt7 : IsS z b h (n + 7) (st7 lg x2 x3 s) := isS_28 B.l (B.k 6 (by omega)) (B.v 6 (by omega)) (isSt6 B hs)
theorem isSt8 : IsS z b h (n + 8) (st8 lg x2 x3 s) := isS_1 B.l (B.k 7 (by omega)) (B.v 7 (by omega)) (isSt7 B hs)

theorem isRows0 : IsY z b h (n + 0) (rows0 lg x1 x2 x3 x4 s) :=
  isY_13 B.l (B.q 0 (by omega)) (B.k 0 (by omega)) (B.v 0 (by omega)) hs (B.g 0 (by omega))
theorem isRows1 : IsY z b h (n + 1) (rows1 lg x1 x2 x3 x4 s) :=
  isY_13 B.l (B.q 1 (by omega)) (B.k 1 (by omega)) (B.v 1 (by omega)) (isSt1 B hs) (B.g 1 (by omega))
theorem isRows2 : IsY z b h (n + 2) (rows2 lg x1 x2 x3 x4 s) :=
  isY_13 B.l (B.q 2 (by omega)) (B.k 2 (by omega)) (B.v 2 (by omega)) (isSt2 B hs) (B.g 2 (by omega))
theorem isRows3 : IsY z b h (n + 3) (rows3 lg x1 x2 x3 x4 s) :=
  isY_13 B.l (B.q 3 (by omega)) (B.k 3 (by omega)) (B.v 3 (by omega)) (isSt3 B hs) (B.g 3 (by omega))
theorem isRows4 : IsY z b h (n + 4) (rows4 lg x1 x2 x3 x4 s) :=
  isY_13 B.l (B.q 4 (by omega)) (B.k 4 (by omega)) (B.v 4 (by omega)) (isSt4 B hs) (B.g 4 (by omega))
theorem isRows5 : IsY z b h (n + 5) (rows5 lg x1 x2 x3 x4 s) :=
  isY_13 B.l (B.q 5 (by omega)) (B.k 5 (by omega)) (B.v 5 (by omega)) (isSt5 B hs) (B.g 5 (by omega))
theorem isRows6 : IsY z b h (n + 6) (rows6 lg x1 x2 x3 x4 s) :=
  isY_13 B.l (B.q 6 (by omega)) (B.k 6 (by omega)) (B.v 6 (by omega)) (isSt6 B hs) (B.g 6 (by omega))
theorem isRows7 : IsY z b h (n + 7) (rows7 lg x1 x2 x3 x4 s) :=
  isY_13 B.l (B.q 7 (by omega)) (B.k 7 (by omega)) (B.v 7 (by omega)) (isSt7 B hs) (B.g 7 (by omega))

/-- The output block's rows are the eight chunks' rows. -/
theorem outBlock_apply (r : Fin 1024) (e : Fin 512) :
    outBlock lg x1 x2 x3 x4 s (ix2 r e) = Y z b h (n + r.val / 128) ⟨r.val % 128, Nat.mod_lt _ (by omega)⟩ e := by
  canon_tiles x hx
  · exact of_rows 7 (isRows7 B hs) x r e hx0 hx1
  · exact of_rows 6 (isRows6 B hs) x r e hx0 hx1
  · exact of_rows 5 (isRows5 B hs) x r e hx0 hx1
  · exact of_rows 4 (isRows4 B hs) x r e hx0 hx1
  · exact of_rows 3 (isRows3 B hs) x r e hx0 hx1
  · exact of_rows 2 (isRows2 B hs) x r e hx0 hx1
  · exact of_rows 1 (isRows1 B hs) x r e hx0 hx1
  · exact of_rows 0 (isRows0 B hs) x r e (hx0.trans (Nat.zero_add _).symm) hx1

end Block

variable (m : (ℓ : Loc nD τ sig) → Buf (Elt Ideal) ℓ) (c : Dev nD)

/-- The decays' logarithms, as the host computes them. -/
theorem lg_host (h : Fin 8) : V m c main_v7 (ix1 h) = rate h := by
  have e : V m c main_v7 = Host.log1p (Host.negf (Host.exp (mulf (broadcastInDim S8 ![] bcast_S_S8 (constant (F := Ideal) S_ .f32 0x3F317218#32))
    (subf (broadcastInDim S8 ![] bcast_S_S8 (constant (F := Ideal) S_ .f32 0xC0A00000#32)) (sitofp .f32 (iotaInDim S8 32 0)))))) := by
    unfold_abbrev_sides
    after_results_simp
  rw [e]
  pointwise []
  rfl

/-- Every window's block index at a grid point. -/
theorem idx : ∀ t : Fin cfg0.N, win0_0.index t = ![0] ∧ win0_1.index t = ![t.val / 32 * 4 + t.val % 4, t.val / 4 % 8]
    ∧ win0_2.index t = ![t.val / 32 * 4 + t.val % 4, 8 + t.val / 4 % 8]
    ∧ win0_3.index t = ![t.val / 32 * 4 + t.val % 4, 8 + t.val / 4 % 8]
    ∧ win0_4.index t = ![t.val / 32 * 4 + t.val % 4, 16 + t.val / 4 % 8]
    ∧ win0_5.index t = ![t.val / 32 * 4 + t.val % 4, t.val / 4 % 8]
    ∧ win0_6.index t = ![t.val / 32, t.val / 4 % 8, 0, 0] :=
  (by decide +kernel : ∀ t : Fin grid0.N, _)

theorem off (t : Fin cfg0.N) : k0_off1 (grid0.coords t) = ![t.val / 4 % 8] :=
  (by decide +kernel : ∀ t : Fin grid0.N, k0_off1 (grid0.coords t) = ![t.val / 4 % 8]) t

theorem N_lt (t : Fin cfg0.N) : t.val < 64 := lt_of_lt_of_eq t.isLt (show cfg0.N = 64 from N_0)

def seqOf (t : Fin cfg0.N) : Fin 2 := ⟨t.val / 32, by have := N_lt t; omega⟩
def headOf (t : Fin cfg0.N) : Fin 8 := ⟨t.val / 4 % 8, by omega⟩

/-- The input projection. -/
abbrev zArr : Z.Idx → EReal := m ((c : Thread nD τ).loc main_arg0)

theorem lgAt_eq (t : Fin cfg0.N) : lgAt m c t = rate (headOf t) := by
  refine Eq.trans ?_ (lg_host m c (headOf t))
  have hi := idx t
  have ho := congrFun (off t) 0
  refine (congrArg (iblk m c 0 t) (show _ = ix1 (headOf t) from funext fun a => Fin.ext ?_)).trans ?_
  · fin_cases a
    exact (congrArg (· + 1 * 0) ho).trans (Nat.add_zero _)
  · blk_ext! [iblk, hi]

theorem blk1 (t : Fin cfg0.N) (r : Fin 1024) (d : Fin 256) : iblk m c 1 t (ix2 r d)
    = zArr m c (ix2 ⟨(t.val / 32 * 4 + t.val % 4) * 1024 + r.val, by have := N_lt t; omega⟩ ⟨t.val / 4 % 8 * 256 + d.val, by omega⟩) := by
  have hi := idx t
  unfold zArr
  rw [← V_main_arg0 m c]
  blk_ext! [iblk, hi]
theorem blk2 (t : Fin cfg0.N) (r : Fin 1024) (d : Fin 256) : iblk m c 2 t (ix2 r d)
    = zArr m c (ix2 ⟨(t.val / 32 * 4 + t.val % 4) * 1024 + r.val, by have := N_lt t; omega⟩ ⟨2048 + t.val / 4 % 8 * 256 + d.val, by omega⟩) := by
  have hi := idx t
  unfold zArr
  rw [← V_main_arg0 m c]
  blk_ext! [iblk, hi]
theorem blk3 (t : Fin cfg0.N) (r : Fin 1024) (d : Fin 512) : iblk m c 3 t (ix2 r d)
    = zArr m c (ix2 ⟨(t.val / 32 * 4 + t.val % 4) * 1024 + r.val, by have := N_lt t; omega⟩ ⟨4096 + t.val / 4 % 8 * 512 + d.val, by omega⟩) := by
  have hi := idx t
  unfold zArr
  rw [← V_main_arg0 m c]
  blk_ext! [iblk, hi]
theorem blk4 (t : Fin cfg0.N) (r : Fin 1024) (d : Fin 512) : iblk m c 4 t (ix2 r d)
    = zArr m c (ix2 ⟨(t.val / 32 * 4 + t.val % 4) * 1024 + r.val, by have := N_lt t; omega⟩ ⟨8192 + t.val / 4 % 8 * 512 + d.val, by omega⟩) := by
  have hi := idx t
  unfold zArr
  rw [← V_main_arg0 m c]
  blk_ext! [iblk, hi]

/-- Row `128 * j + i` of point `t`'s blocks is row `i` of chunk `8 * (t % 4) + j`. -/
theorem row_eq (t : Fin cfg0.N) (j : ℕ) (hj : 128 * j + 128 ≤ 1024) (i : Fin 128) :
    row (seqOf t) (8 * (t.val % 4) + j) i
      = ⟨(t.val / 32 * 4 + t.val % 4) * 1024 + (128 * j + i.val), by have := N_lt t; omega⟩ :=
  Fin.ext (by dsimp only [row, seqOf]; omega)

theorem blocks (t : Fin cfg0.N) : Blocks (zArr m c) (seqOf t) (headOf t) (8 * (t.val % 4)) (lgAt m c t) (iblk m c 1 t) (iblk m c 2 t)
    (iblk m c 3 t) (iblk m c 4 t) where
  l := lgAt_eq m c t
  q := fun j hj i d => by rw [part256_apply]; refine (blk1 m c t _ d).trans ?_; unfold qc; rw [row_eq t j hj i]; rfl
  k := fun j hj i d => by rw [part256_apply]; refine (blk2 m c t _ d).trans ?_; unfold kc; rw [row_eq t j hj i]; rfl
  v := fun j hj i d => by rw [part512_apply]; refine (blk3 m c t _ d).trans ?_; unfold vc; rw [row_eq t j hj i]; rfl
  g := fun j hj i d => by rw [part512_apply]; refine (blk4 m c t _ d).trans ?_; unfold gc; rw [row_eq t j hj i]; rfl

theorem zero_state (b : Fin 2) (h : Fin 8) : IsS (zArr m c) b h 0 (k0_pay4 (F := Ideal)) := fun d e => by
  pointwise [k0_pay4]
  rfl

/-- The state before point `t`'s first chunk. -/
def before (t : Fin cfg0.N) : FVec Ideal S256x512 .f32 :=
  if t.val % 4 = 0 then k0_pay4 (F := Ideal) else (outsAt0 m c (t.val - 1) (Nat.lt_of_le_of_lt (Nat.sub_le _ _) t.isLt)).2.2

theorem outs_y (t : Fin cfg0.N) :
    (outsAt0 (F := Ideal) m c t.val t.isLt).1 = outBlock (lgAt m c t) (iblk m c 1 t) (iblk m c 2 t) (iblk m c 3 t) (iblk m c 4 t) (before m c t) := by
  unfold before
  by_cases h0 : t.val % 4 = 0
  · rw [if_pos h0]; exact (outs_A m c t h0 (by omega)).1
  · rw [if_neg h0]
    by_cases h1 : t.val % 4 = 3
    · exact (outs_C m c t h0 h1).1
    · exact (outs_B m c t h0 h1).1

theorem outs_s (t : Fin cfg0.N) :
    (outsAt0 (F := Ideal) m c t.val t.isLt).2.2 = st8 (lgAt m c t) (iblk m c 2 t) (iblk m c 3 t) (before m c t) := by
  unfold before
  by_cases h0 : t.val % 4 = 0
  · rw [if_pos h0]; exact (outs_A m c t h0 (by omega)).2
  · rw [if_neg h0]
    by_cases h1 : t.val % 4 = 3
    · exact (outs_C m c t h0 h1).2.1
    · exact (outs_B m c t h0 h1).2

/-- The scratch after point `t` is the state after its last chunk. -/
theorem isS_before : ∀ (k : ℕ) (hk : k < cfg0.N), IsS (zArr m c) (seqOf ⟨k, hk⟩) (headOf ⟨k, hk⟩) (8 * (k % 4)) (before m c ⟨k, hk⟩)
  | k, hk => by
    unfold before
    by_cases h0 : k % 4 = 0
    · rw [if_pos h0, h0]; exact zero_state m c _ _
    · rw [if_neg h0]
      cases k with
      | zero => exact absurd rfl h0
      | succ k =>
        have hk' : k < cfg0.N := Nat.lt_of_succ_lt hk
        have ih := isS_before k hk'
        have hS := isSt8 (blocks m c ⟨k, hk'⟩) ih
        rw [← outs_s m c ⟨k, hk'⟩] at hS
        have e1 : seqOf ⟨k, hk'⟩ = seqOf ⟨k + 1, hk⟩ := Fin.ext (by dsimp only [seqOf]; omega)
        have e2 : headOf ⟨k, hk'⟩ = headOf ⟨k + 1, hk⟩ := Fin.ext (by dsimp only [headOf]; omega)
        have e3 : 8 * (k % 4) + 8 = 8 * ((k + 1) % 4) := by omega
        rw [e1, e2] at hS
        intro d e
        rw [← e3]
        exact hS d e

/-- The rows' array holds the prompt's rows, and the other rows are left as they were. -/
theorem final5 : (dats m 0 c).arrAt 5 cfg0.N
    = fun i => if (i 0).val < 8192 then yRow (zArr m c) (i 0) (i 1) else V m c main_v8_0 i := by
  refine (dats m 0 c).arrAt_eq_of_coversWhere 5 (fun i => yRow (zArr m c) (i 0) (i 1)) (fun β => β 0 < 8) (by decide +kernel) (fun t hf y => ?_)
    (fun j => by blk_simp [Pipeline.Window.cell_apply]; omega)
  have hi := idx t
  have hN := N_lt t
  blk_simp
  rw [after0_5, outs_y m c t]
  obtain ⟨r, e, rfl⟩ : ∃ (r : Fin 1024) (e : Fin 512), y = ix2 r e := ⟨y 0, y 1, ValueIdx.eq_ix2 y⟩
  refine (outBlock_apply (blocks m c t) (isS_before m c t.val t.isLt) r e).trans ?_
  refine Y_congr ?_ ?_ ?_ ?_ ?_ <;> blk_simp [hi, seqOf, headOf] <;> (try simp only) <;> omega

theorem S_congr {z : Z.Idx → EReal} {b b' : Fin 2} {h h' : Fin 8} {n : ℕ} {d d' : Fin 256} {e e' : Fin 512} (hb : b.val = b'.val)
    (hh : h.val = h'.val) (hd : d.val = d'.val) (he : e.val = e'.val) : S z b h n d e = S z b' h' n d' e' := by
  rw [Fin.ext hb, Fin.ext hh, Fin.ext hd, Fin.ext he]

theorem pay3_apply (s : FVec Ideal S256x512 .f32) (a b : Fin 1) (d : Fin 256) (e : Fin 512) :
    k0_pay3 (F := Ideal) s (ix4 a b d e) = s (ix2 d e) := by
  pointwise [k0_pay3]

/-- The state's array holds the states after the last chunk. -/
theorem final6 : (dats m 0 c).arrAt 6 cfg0.N = fun i => S (zArr m c) (i 0) (i 1) 32 (i 2) (i 3) := by
  refine (dats m 0 c).arrAt_eq_of_covers 6 _ (by decide +kernel) fun t hf y => ?_
  have hi := idx t
  have hN := N_lt t
  have h3 : t.val % 4 = 3 := (flush0_6 t).mp hf
  have hS := isSt8 (blocks m c t) (isS_before m c t.val t.isLt)
  have e32 : 8 * (t.val % 4) + 8 = 32 := by omega
  unfold before at hS
  rw [if_neg (show ¬t.val % 4 = 0 by omega), e32] at hS
  blk_simp
  rw [after0_6, (outs_C m c t (by omega) h3).2.2]
  obtain ⟨a, b, d, e, rfl⟩ : ∃ (a b : Fin 1) (d : Fin 256) (e : Fin 512), y = ix4 a b d e := ⟨y 0, y 1, y 2, y 3, ValueIdx.eq_ix4 y⟩
  refine (pay3_apply _ a b d e).trans ((hS d e).trans ?_)
  refine S_congr ?_ ?_ ?_ ?_ <;> blk_simp [hi, seqOf, headOf] <;> (try simp only) <;> (try omega)

end Cert.KernelIdeal.Retention

end
-- ==== Proof.Retention.Reference.lean ====
/- What the reference computes: its scan's state holds the recurrence's state before each chunk and the rows of the chunks
   so far; its first result is the normalized and gated rows on the prompt's rows. -/
module

public import proofs.«01_k».proof.Proof.Gen.ReferenceIdeal.Step
public import proofs.«01_k».proof.Proof.Retention.Chunk
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.ReferenceIdeal.Retention

open Cert.ReferenceIdeal Cert.ReferenceIdeal.Gen Cert.ReferenceIdeal.Step Cert.Layer Cert.Retention

variable (n : ℕ) (s : State Ideal)

theorem lg_apply (h : Fin 8) : b27 n s (ix1 h) = rate h := by
  pointwise [b27, b26, b25, b24, b23, b22, b21, b20, b19, b18]
  rfl
theorem dmat_apply (h : Fin 8) (i j : Fin 128) : b50 n s (ix3 h i j) = dec (rate h) i j := by
  rw [← lg_apply n s]
  pointwise [b50, b49, b48, b47, b46, b45, b44, b43, b42, b41, b40, b39, b38, b37, b36, b35, b34, b33, b32, b31, b30, b29, b28]
  rfl
theorem qdec_apply (h : Fin 8) (i : Fin 128) : b59 n s (ix2 i h) = Ideal.exp (rate h * (num i + 1)) := by
  rw [← lg_apply n s]
  pointwise [b59, b58, b57, b56, b55, b54, b53, b52, b51, b28]
  rfl
theorem kdec_apply (h : Fin 8) (i : Fin 128) : b68 n s (ix2 i h) = Ideal.exp (rate h * (Ideal.ofBits .f32 1123942400#32 - num i)) := by
  rw [← lg_apply n s]
  pointwise [b68, b67, b66, b65, b64, b63, b62, b61, b60, b28]
  rfl
theorem o_apply (b : Fin 2) (i : Fin 128) (h : Fin 8) (e : Fin 512) : b81 n s (ix4 b i h e) =
   (∑ x : Fin 128, b17 n s (ix4 b x h e) * ((∑ x1 : Fin 256, b5 n s (ix4 b i h x1) * b11 n s (ix4 b x h x1)) * b50 n s (ix3 h i x)))
     + ∑ x : Fin 256, s.main_v16_4 (ix4 b h x e) * (b5 n s (ix4 b i h x) * b59 n s (ix2 i h)) := by
  pointwise [b81, b80, b79, b78, b77, b76, b75, b74, b73, b72, b71, b70, b69]
  try rfl
theorem s_apply (b : Fin 2) (h : Fin 8) (d : Fin 256) (e : Fin 512) : b95 n s (ix4 b h d e) =
    s.main_v16_4 (ix4 b h d e) * Ideal.exp (rate h * Ideal.ofBits .f32 1124073472#32)
     + ∑ x : Fin 128, b11 n s (ix4 b x h d) * b68 n s (ix2 x h) * b17 n s (ix4 b x h e) := by
  rw [← lg_apply n s]
  pointwise [b95, b94, b93, b92, b91, b90, b89, b88, b87, b86, b85, b84, b83, b82]
  try rfl

theorem slice_at {D : ℕ} (x : (⟨5, ![32, 2, 128, 8, D]⟩ : Shape).Idx → EReal) (st : Fin 5 → ℤ)
    (hs : (⟨5, ![32, 2, 128, 8, D]⟩ : Shape).Slices (fun _ => 0) ⟨5, ![1, 2, 128, 8, D]⟩) (hn : n < 32) (h0 : st 0 = n)
    (h1 : st 1 = 0) (h2 : st 2 = 0) (h3 : st 3 = 0) (h4 : st 4 = 0) (b : Fin 2) (i : Fin 128) (h : Fin 8) (d : Fin D) :
    Host.dynamicSlice ⟨5, ![1, 2, 128, 8, D]⟩ x st hs (ix5 0 b i h d) = x (ix5 ⟨n, hn⟩ b i h d) := by
  rw [Host.dynamicSlice_apply]
  refine congrArg x (funext fun a => Fin.ext ?_)
  fin_cases a
  · exact (congrArg (· + 0) (Host.clampedStart_of_le hs.1 st 0 n h0 (show n + 1 ≤ 32 by omega))).trans (Nat.add_zero _)
  · exact (congrArg (· + b.val) (Host.clampedStart_of_le hs.1 st 1 0 h1 (show 0 + 2 ≤ 2 by omega))).trans (Nat.zero_add _)
  · exact (congrArg (· + i.val) (Host.clampedStart_of_le hs.1 st 2 0 h2 (show 0 + 128 ≤ 128 by omega))).trans (Nat.zero_add _)
  · exact (congrArg (· + h.val) (Host.clampedStart_of_le hs.1 st 3 0 h3 (show 0 + 8 ≤ 8 by omega))).trans (Nat.zero_add _)
  · exact (congrArg (· + d.val) (Host.clampedStart_of_le hs.1 st 4 0 h4 (show 0 + D ≤ D by omega))).trans (Nat.zero_add _)

theorem update_at {D : ℕ} (x : (⟨5, ![32, 2, 128, 8, D]⟩ : Shape).Idx → EReal) (u : (⟨5, ![1, 2, 128, 8, D]⟩ : Shape).Idx → EReal)
    (st : Fin 5 → ℤ) (hs : (⟨5, ![32, 2, 128, 8, D]⟩ : Shape).Slices (fun _ => 0) ⟨5, ![1, 2, 128, 8, D]⟩) (hn : n < 32) (h0 : st 0 = n)
    (h1 : st 1 = 0) (h2 : st 2 = 0) (h3 : st 3 = 0) (h4 : st 4 = 0) (j : Fin 32) (b : Fin 2) (i : Fin 128) (h : Fin 8) (d : Fin D) :
    Host.dynamicUpdateSlice x u st hs (ix5 j b i h d) = if j.val = n then u (ix5 0 b i h d) else x (ix5 j b i h d) := by
  have c0 := Host.clampedStart_of_le hs.1 st 0 n h0 (show n + 1 ≤ 32 by omega)
  have c1 := Host.clampedStart_of_le hs.1 st 1 0 h1 (show 0 + 2 ≤ 2 by omega)
  have c2 := Host.clampedStart_of_le hs.1 st 2 0 h2 (show 0 + 128 ≤ 128 by omega)
  have c3 := Host.clampedStart_of_le hs.1 st 3 0 h3 (show 0 + 8 ≤ 8 by omega)
  have c4 := Host.clampedStart_of_le hs.1 st 4 0 h4 (show 0 + D ≤ D by omega)
  rw [Host.dynamicUpdateSlice_apply]
  by_cases hj : j.val = n
  · rw [if_pos hj, dif_pos]
    · refine congrArg u (funext fun a => Fin.ext ?_)
      fin_cases a
      · exact (congrArg (j.val - ·) c0).trans (by show j.val - n = 0; omega)
      · exact (congrArg (b.val - ·) c1).trans (Nat.sub_zero _)
      · exact (congrArg (i.val - ·) c2).trans (Nat.sub_zero _)
      · exact (congrArg (h.val - ·) c3).trans (Nat.sub_zero _)
      · exact (congrArg (d.val - ·) c4).trans (Nat.sub_zero _)
    · intro a
      fin_cases a
      · exact ⟨c0.trans_le hj.ge, hj.trans_lt (lt_of_lt_of_eq (Nat.lt_succ_self n) (congrArg (· + 1) c0.symm))⟩
      · exact ⟨c1.trans_le (Nat.zero_le _), lt_of_lt_of_eq b.isLt (((Nat.zero_add 2).symm).trans (congrArg (· + 2) c1.symm))⟩
      · exact ⟨c2.trans_le (Nat.zero_le _), lt_of_lt_of_eq i.isLt (((Nat.zero_add 128).symm).trans (congrArg (· + 128) c2.symm))⟩
      · exact ⟨c3.trans_le (Nat.zero_le _), lt_of_lt_of_eq h.isLt (((Nat.zero_add 8).symm).trans (congrArg (· + 8) c3.symm))⟩
      · exact ⟨c4.trans_le (Nat.zero_le _), lt_of_lt_of_eq d.isLt (((Nat.zero_add D).symm).trans (congrArg (· + D) c4.symm))⟩
  · rw [if_neg hj, dif_neg]
    intro hin
    have h := hin 0
    have ha : n ≤ j.val := c0.symm.trans_le h.1
    have hb : j.val < n + 1 := lt_of_lt_of_eq h.2 (congrArg (· + 1) c0)
    omega

theorem toInt_n (hn : n < 32) : (BitVec.ofNat 32 n).toInt = (n : ℤ) := toInt_ofNat_small (by omega)

theorem q_apply (hn : n < 32) (b : Fin 2) (i : Fin 128) (h : Fin 8) (d : Fin 256) : b5 n s (ix4 b i h d) = s.main_v16_0 (ix5 ⟨n, hn⟩ b i h d) := by
  have e : b5 n s (ix4 b i h d) = b4 n s (ix5 0 b i h d) := by pointwise [b5]
  exact e.trans (slice_at n (D := 256) s.main_v16_0 _ sliceFits_S32x2x128x8x256_S1x2x128x8x256 hn (toInt_n n hn) rfl rfl rfl rfl b i h d)
theorem k_apply (hn : n < 32) (b : Fin 2) (i : Fin 128) (h : Fin 8) (d : Fin 256) : b11 n s (ix4 b i h d) = s.main_v16_1 (ix5 ⟨n, hn⟩ b i h d) := by
  have e : b11 n s (ix4 b i h d) = b10 n s (ix5 0 b i h d) := by pointwise [b11]
  exact e.trans (slice_at n (D := 256) s.main_v16_1 _ sliceFits_S32x2x128x8x256_S1x2x128x8x256 hn (toInt_n n hn) rfl rfl rfl rfl b i h d)
theorem v_apply (hn : n < 32) (b : Fin 2) (i : Fin 128) (h : Fin 8) (d : Fin 512) : b17 n s (ix4 b i h d) = s.main_v16_2 (ix5 ⟨n, hn⟩ b i h d) := by
  have e : b17 n s (ix4 b i h d) = b16 n s (ix5 0 b i h d) := by pointwise [b17]
  exact e.trans (slice_at n (D := 512) s.main_v16_2 _ sliceFits_S32x2x128x8x512_S1x2x128x8x512 hn (toInt_n n hn) rfl rfl rfl rfl b i h d)
theorem upd_apply (hn : n < 32) (j : Fin 32) (b : Fin 2) (i : Fin 128) (h : Fin 8) (d : Fin 512) :
    b101 n s (ix5 j b i h d) = if j.val = n then b81 n s (ix4 b i h d) else s.main_v16_5 (ix5 j b i h d) := by
  have e : b96 n s (ix5 0 b i h d) = b81 n s (ix4 b i h d) := by pointwise [b96]
  rw [← e]
  exact update_at n (D := 512) s.main_v16_5 (b96 n s) _ updateFits_S32x2x128x8x512_S1x2x128x8x512 hn (toInt_n n hn) rfl rfl rfl rfl j b i h d

variable (z : Z.Idx → EReal)

/-- What the scan's state number `n` holds. -/
structure Holds (z : Z.Idx → EReal) (n : ℕ) (s : State Ideal) : Prop where
  q : ∀ (j : Fin 32) (b : Fin 2) (i : Fin 128) (h : Fin 8) (d : Fin 256), s.main_v16_0 (ix5 j b i h d) = qc z b h j.val i d
  k : ∀ (j : Fin 32) (b : Fin 2) (i : Fin 128) (h : Fin 8) (d : Fin 256), s.main_v16_1 (ix5 j b i h d) = kc z b h j.val i d
  v : ∀ (j : Fin 32) (b : Fin 2) (i : Fin 128) (h : Fin 8) (e : Fin 512), s.main_v16_2 (ix5 j b i h e) = vc z b h j.val i e
  st : ∀ (b : Fin 2) (h : Fin 8) (d : Fin 256) (e : Fin 512), s.main_v16_4 (ix4 b h d e) = S z b h n d e
  o : ∀ (j : Fin 32) (b : Fin 2) (i : Fin 128) (h : Fin 8) (e : Fin 512), j.val < n → s.main_v16_5 (ix5 j b i h e) = O z b h j.val i e

variable {z}

theorem holds_step {n : ℕ} {s : State Ideal} (hn : n < 32) (H : Holds z n s) : Holds z (n + 1) (step n s) where
  q := H.q
  k := H.k
  v := H.v
  st := fun b h d e => by
    rw [step_main_v16_4, s_apply]
    simp only [k_apply n s hn, v_apply n s hn, kdec_apply, H.st, H.k, H.v]
    rfl
  o := fun j b i h e hj => by
    rw [step_main_v16_5, upd_apply n s hn]
    by_cases hjn : j.val = n
    · rw [if_pos hjn, o_apply]
      simp only [q_apply n s hn, k_apply n s hn, v_apply n s hn, dmat_apply, qdec_apply, H.st, H.q, H.k, H.v, hjn]
      exact rowsOut_eq h (qc z b h n) (kc z b h n) (vc z b h n) (S z b h n) i e
    · rw [if_neg hjn]
      exact H.o j b i h e (by omega)

theorem holds_init : Holds z 0 (init (F := Ideal) z) where
  q := fun j b i h d => by
    show A_main_v10 (F := Ideal) z (ix5 j b i h d) = _
    pointwise [A_main_v10, A_main_v9, A_main_v3, A_main_v2, A_main_v1, A_main_v0]
    unfold qc
    exact congrArg₂ (fun r l => z (ix2 r l)) (Fin.ext (by dsimp only [row]; omega)) (Fin.ext (by dsimp only <;> omega))
  k := fun j b i h d => by
    show A_main_v12 (F := Ideal) z (ix5 j b i h d) = _
    pointwise [A_main_v12, A_main_v11, A_main_v5, A_main_v4, A_main_v1, A_main_v0]
    unfold kc
    exact congrArg₂ (fun r l => z (ix2 r l)) (Fin.ext (by dsimp only [row]; omega)) (Fin.ext (by dsimp only <;> omega))
  v := fun j b i h e => by
    show A_main_v14 (F := Ideal) z (ix5 j b i h e) = _
    pointwise [A_main_v14, A_main_v13, A_main_v7, A_main_v6, A_main_v1, A_main_v0]
    unfold vc
    exact congrArg₂ (fun r l => z (ix2 r l)) (Fin.ext (by dsimp only [row]; omega)) (Fin.ext (by dsimp only <;> omega))
  st := fun b h d e => by
    show K_main_v8 (F := Ideal) (ix4 b h d e) = 0
    pointwise [K_main_v8, K_main_cst]
  o := fun j b i h e hj => absurd hj (Nat.not_lt_zero _)

/-- The reference's rows: the prompt's are the recurrence's, normalized and gated. -/
theorem y_apply (s : State Ideal) (H : Holds z 32 s) (p : Fin 9216) (e : Fin 4096) (hp : p.val < 8192) :
    R_main_v35 (F := Ideal) s z (ix2 p e) = yRow z p e := by
  have ho := fun x : Fin 512 => H.o ⟨p.val % 4096 / 128, by omega⟩ ⟨p.val / 4096, by omega⟩ ⟨p.val % 4096 % 128, by omega⟩ ⟨e.val / 512, by omega⟩ x
    (show p.val % 4096 / 128 < 32 by omega)
  have hb : (⟨p.val / 4096, by omega⟩ : Fin 2) = ⟨p.val / 4096 % 2, by omega⟩ := Fin.ext (by dsimp only; omega)
  have hj : p.val % 4096 / 128 = p.val / 128 % 32 := by omega
  have hi : (⟨p.val % 4096 % 128, by omega⟩ : Fin 128) = ⟨p.val % 128, by omega⟩ := Fin.ext (by dsimp only; omega)
  pointwise [R_main_v35]
  rw [dif_pos hp]
  simp only [ho]
  unfold yRow Y
  refine congrArg₂ (· * ·) ?_ ?_
  · rw [← hb, ← hj, ← hi]
    rfl
  · unfold gc
    exact congrArg₂ (fun r l => z (ix2 r l)) (Fin.ext (by dsimp only [row]; omega)) (Fin.ext (by dsimp only <;> omega))

/-- The scan's states, one after the other. -/
def it (z : Z.Idx → EReal) : ℕ → State Ideal
  | 0 => init (F := Ideal) z
  | n + 1 => step n (it z n)

theorem holds_it (z : Z.Idx → EReal) : ∀ n ≤ 32, Holds z n (it z n)
  | 0, _ => holds_init
  | n + 1, h => holds_step (by omega) (holds_it z n (by omega))

/-- The reference's second result: the state after the last chunk. -/
theorem state_eq (z : Z.Idx → EReal) : (it z 32).main_v16_4 = fun i => S z (i 0) (i 1) 32 (i 2) (i 3) := funext fun i => by
  obtain ⟨b, h, d, e, rfl⟩ : ∃ (b : Fin 2) (h : Fin 8) (d : Fin 256) (e : Fin 512), i = ix4 b h d e :=
    ⟨i 0, i 1, i 2, i 3, ValueIdx.eq_ix4 i⟩
  exact (holds_it z 32 (le_refl _)).st b h d e

theorem rows_eq (z : Z.Idx → EReal) (p : Fin 9216) (e : Fin 4096) (hp : p.val < 8192) :
    R_main_v35 (F := Ideal) (it z 32) z (ix2 p e) = yRow z p e := y_apply _ (holds_it z 32 (le_refl _)) p e hp

end Cert.ReferenceIdeal.Retention

end
-- ==== Proof.Retention.Loop.lean ====
/- The reference's scan, trip by trip: at a valuation of the buffers that holds a state (the carried values at their
   buffers, the chunked operands at theirs, the trip's number at the counters) every value of one trip is the value that
   the step function gives, so one trip of the loop takes the holding valuation to one that holds the next state; what
   is computed before the loop holds the initial state; and the run's results are read off state number 32. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v16_4) = s.main_v16_4
  f_5 : V0 (Proc.devRef .tc main_v16_5) = s.main_v16_5
  f_0 : V0 (Proc.devRef .tc main_v16_0) = s.main_v16_0
  f_1 : V0 (Proc.devRef .tc main_v16_1) = s.main_v16_1
  f_2 : V0 (Proc.devRef .tc main_v16_2) = s.main_v16_2
  n_3 : V0 (Proc.devRef .tc main_v16_3) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x128x8x256 (V0 (Proc.devRef .tc main_v16_0)) (fun k => (((![V0 (Proc.devRef .tc main_v16_3), constantI S_ 32 0#32, constantI S_ 32 0#32, constantI S_ 32 0#32, constantI S_ 32 0#32] : Fin 5 → (⟨S_, .i32⟩ : BufTy).Contents (Elt F))) k (Shape.Idx.first h_S_)).toInt) sliceFits_S32x2x128x8x256_S1x2x128x8x256 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_3]
  try rfl
set_option maxRecDepth 8192 in
theorem al_5 (h : Holds V0 s j) : (res_main_while0b_v36 V0 : (Proc.devRef .tc main_while0b_v36 : DevRef τ sig).ty.Contents (Elt F)) = Cert.ReferenceIdeal.Step.b5 j s := by
  unfold res_main_while0b_v36 Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x128x8x256 (V0 (Proc.devRef .tc main_v16_1)) (fun k => (((![V0 (Proc.devRef .tc main_v16_3), constantI S_ 32 0#32, constantI S_ 32 0#32, constantI S_ 32 0#32, constantI S_ 32 0#32] : Fin 5 → (⟨S_, .i32⟩ : BufTy).Contents (Elt F))) k (Shape.Idx.first h_S_)).toInt) sliceFits_S32x2x128x8x256_S1x2x128x8x256 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_3]
  try rfl
set_option maxRecDepth 8192 in
theorem al_11 (h : Holds V0 s j) : (res_main_while0b_v37 V0 : (Proc.devRef .tc main_while0b_v37 : DevRef τ sig).ty.Contents (Elt F)) = Cert.ReferenceIdeal.Step.b11 j s := by
  unfold res_main_while0b_v37 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x128x8x512 (V0 (Proc.devRef .tc main_v16_2)) (fun k => (((![V0 (Proc.devRef .tc main_v16_3), constantI S_ 32 0#32, constantI S_ 32 0#32, constantI S_ 32 0#32, constantI S_ 32 0#32] : Fin 5 → (⟨S_, .i32⟩ : BufTy).Contents (Elt F))) k (Shape.Idx.first h_S_)).toInt) sliceFits_S32x2x128x8x512_S1x2x128x8x512 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_3]
  try rfl
set_option maxRecDepth 8192 in
theorem al_17 (h : Holds V0 s j) : (res_main_while0b_v38 V0 : (Proc.devRef .tc main_while0b_v38 : DevRef τ sig).ty.Contents (Elt F)) = Cert.ReferenceIdeal.Step.b17 j s := by
  unfold res_main_while0b_v38 Cert.ReferenceIdeal.Step.b17
  rw [← al_16 h]
  try rfl
set_option maxRecDepth 8192 in
theorem al_18 (h : Holds V0 s j) : (sitofp .f32 (iotaInDim S8 32 0) : (Proc.devRef .tc main_while0b_v39 : DevRef τ sig).ty.Contents (Elt F)) = Cert.ReferenceIdeal.Step.b18 j s := by
  unfold Cert.ReferenceIdeal.Step.b18
  rfl
set_option maxRecDepth 8192 in
theorem al_19 (h : Holds V0 s j) : (constant S_ .f32 0xC0A00000#32 : (Proc.devRef .tc main_while0b_cst_10 : DevRef τ sig).ty.Contents (Elt F)) = Cert.ReferenceIdeal.Step.b19 j s := by
  unfold Cert.ReferenceIdeal.Step.b19
  rfl
set_option maxRecDepth 8192 in
theorem al_20 (h : Holds V0 s j) : (broadcastInDim S8 ![] bcast_S_S8 (constant S_ .f32 0xC0A00000#32) : (Proc.devRef .tc main_while0b_v40 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (subf (broadcastInDim S8 ![] bcast_S_S8 (constant S_ .f32 0xC0A00000#32)) (sitofp .f32 (iotaInDim S8 32 0)) : (Proc.devRef .tc main_while0b_v41 : DevRef τ sig).ty.Contents (Elt F)) = Cert.ReferenceIdeal.Step.b21 j s := by
  unfold Cert.ReferenceIdeal.Step.b21
  rw [← al_20 h, ← al_18 h]
  try rfl
set_option maxRecDepth 8192 in
theorem al_22 (h : Holds V0 s j) : (constant S_ .f32 0x3F317218#32 : (Proc.devRef .tc main_while0b_cst_11 : DevRef τ sig).ty.Contents (Elt F)) = Cert.ReferenceIdeal.Step.b22 j s := by
  unfold Cert.ReferenceIdeal.Step.b22
  rfl
set_option maxRecDepth 8192 in
theorem al_23 (h : Holds V0 s j) : (broadcastInDim S8 ![] bcast_S_S8 (constant S_ .f32 0x3F317218#32) : (Proc.devRef .tc main_while0b_v42 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (mulf (broadcastInDim S8 ![] bcast_S_S8 (constant S_ .f32 0x3F317218#32)) (subf (broadcastInDim S8 ![] bcast_S_S8 (constant S_ .f32 0xC0A00000#32)) (sitofp .f32 (iotaInDim S8 32 0))) : (Proc.devRef .tc main_while0b_v43 : DevRef τ sig).ty.Contents (Elt F)) = Cert.ReferenceIdeal.Step.b24 j s := by
  unfold Cert.ReferenceIdeal.Step.b24
  rw [← al_23 h, ← al_21 h]
  try rfl
set_option maxRecDepth 8192 in
theorem al_25 (h : Holds V0 s j) : (Host.exp (mulf (broadcastInDim S8 ![] bcast_S_S8 (constant S_ .f32 0x3F317218#32)) (subf (broadcastInDim S8 ![] bcast_S_S8 (constant S_ .f32 0xC0A00000#32)) (sitofp .f32 (iotaInDim S8 32 0)))) : (Proc.devRef .tc main_while0b_v44 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))) : (Proc.devRef .tc main_while0b_v45 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (res_main_while0b_v46 V0 : (Proc.devRef .tc main_while0b_v46 : DevRef τ sig).ty.Contents (Elt F)) = Cert.ReferenceIdeal.Step.b27 j s := by
  unfold res_main_while0b_v46 Cert.ReferenceIdeal.Step.b27
  rw [← al_26 h]
  try rfl
set_option maxRecDepth 8192 in
theorem al_28 (h : Holds V0 s j) : (res_main_while0b_v47 V0 : (Proc.devRef .tc main_while0b_v47 : DevRef τ sig).ty.Contents (Elt F)) = Cert.ReferenceIdeal.Step.b28 j s := by
  unfold res_main_while0b_v47 Cert.ReferenceIdeal.Step.b28
  rfl
set_option maxRecDepth 8192 in
theorem al_29 (h : Holds V0 s j) : (broadcastInDim S128x1 ![0] bcast_S128_S128x1_0 (res_main_while0b_v47 V0) : (Proc.devRef .tc main_while0b_v48 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (broadcastInDim S1x128 ![1] bcast_S128_S1x128_1 (res_main_while0b_v47 V0) : (Proc.devRef .tc main_while0b_v49 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S128x128 ![0, 1] bcast_S128x1_S128x128_0_1 (broadcastInDim S128x1 ![0] bcast_S128_S128x1_0 (res_main_while0b_v47 V0)) : (Proc.devRef .tc main_while0b_v50 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (broadcastInDim S128x128 ![0, 1] bcast_S1x128_S128x128_0_1 (broadcastInDim S1x128 ![1] bcast_S128_S1x128_1 (res_main_while0b_v47 V0)) : (Proc.devRef .tc main_while0b_v51 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (res_main_while0b_v52 V0 : (Proc.devRef .tc main_while0b_v52 : DevRef τ sig).ty.Contents (Elt F)) = Cert.ReferenceIdeal.Step.b33 j s := by
  unfold res_main_while0b_v52 Cert.ReferenceIdeal.Step.b33
  rw [← al_31 h, ← al_32 h]
  try rfl
set_option maxRecDepth 8192 in
theorem al_34 (h : Holds V0 s j) : (constant S_ .f32 0x00000000#32 : (Proc.devRef .tc main_while0b_cst_12 : DevRef τ sig).ty.Contents (Elt F)) = Cert.ReferenceIdeal.Step.b34 j s := by
  unfold Cert.ReferenceIdeal.Step.b34
  rfl
set_option maxRecDepth 8192 in
theorem al_35 (h : Holds V0 s j) : (broadcastInDim S128x128 ![] bcast_S_S128x128 (constant S_ .f32 0x00000000#32) : (Proc.devRef .tc main_while0b_v53 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (cmpf .oge (res_main_while0b_v52 V0) (broadcastInDim S128x128 ![] bcast_S_S128x128 (constant S_ .f32 0x00000000#32)) : (Proc.devRef .tc main_while0b_v54 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (broadcastInDim S8x1x1 ![0] bcast_S8_S8x1x1_0 (res_main_while0b_v46 V0) : (Proc.devRef .tc main_while0b_v55 : DevRef τ sig).ty.Contents (Elt F)) = Cert.ReferenceIdeal.Step.b37 j s := by
  unfold Cert.ReferenceIdeal.Step.b37
  rw [← al_27 h]
  try rfl
set_option maxRecDepth 8192 in
theorem al_38 (h : Holds V0 s j) : (constant S_ .f32 0x00000000#32 : (Proc.devRef .tc main_while0b_cst_13 : DevRef τ sig).ty.Contents (Elt F)) = Cert.ReferenceIdeal.Step.b38 j s := by
  unfold Cert.ReferenceIdeal.Step.b38
  rfl
set_option maxRecDepth 8192 in
theorem al_39 (h : Holds V0 s j) : (broadcastInDim S128x128 ![] bcast_S_S128x128 (constant S_ .f32 0x00000000#32) : (Proc.devRef .tc main_while0b_v56 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (maximumf (res_main_while0b_v52 V0) (broadcastInDim S128x128 ![] bcast_S_S128x128 (constant S_ .f32 0x00000000#32)) : (Proc.devRef .tc main_while0b_v57 : DevRef τ sig).ty.Contents (Elt F)) = Cert.ReferenceIdeal.Step.b40 j s := by
  unfold Cert.ReferenceIdeal.Step.b40
  rw [← al_33 h, ← al_39 h]
  try rfl
set_option maxRecDepth 8192 in
theorem al_41 (h : Holds V0 s j) : (broadcastInDim S1x128x128 ![1, 2] bcast_S128x128_S1x128x128_1_2 (maximumf (res_main_while0b_v52 V0) (broadcastInDim S128x128 ![] bcast_S_S128x128 (constant S_ .f32 0x00000000#32))) : (Proc.devRef .tc main_while0b_v58 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (broadcastInDim S8x128x128 ![0, 1, 2] bcast_S8x1x1_S8x128x128_0_1_2 (broadcastInDim S8x1x1 ![0] bcast_S8_S8x1x1_0 (res_main_while0b_v46 V0)) : (Proc.devRef .tc main_while0b_v59 : DevRef τ sig).ty.Contents (Elt F)) = Cert.ReferenceIdeal.Step.b42 j s := by
  unfold Cert.ReferenceIdeal.Step.b42
  rw [← al_37 h]
  try rfl
set_option maxRecDepth 8192 in
theorem al_43 (h : Holds V0 s j) : (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32)))) : (Proc.devRef .tc main_while0b_v60 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))) : (Proc.devRef .tc main_while0b_v61 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32)))))) : (Proc.devRef .tc main_while0b_v62 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (constant S_ .f32 0x00000000#32 : (Proc.devRef .tc main_while0b_cst_14 : DevRef τ sig).ty.Contents (Elt F)) = Cert.ReferenceIdeal.Step.b46 j s := by
  unfold Cert.ReferenceIdeal.Step.b46
  rfl
set_option maxRecDepth 8192 in
theorem al_47 (h : Holds V0 s j) : (id (constant S_ .f32 0x00000000#32) : (Proc.devRef .tc main_while0b_call3_v0 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (broadcastInDim S8x128x128 ![1, 2] bcast_S128x128_S8x128x128_1_2 (cmpf .oge (res_main_while0b_v52 V0) (broadcastInDim S128x128 ![] bcast_S_S128x128 (constant S_ .f32 0x00000000#32))) : (Proc.devRef .tc main_while0b_call3_v1 : DevRef τ sig).ty.Contents (Elt F)) = Cert.ReferenceIdeal.Step.b48 j s := by
  unfold Cert.ReferenceIdeal.Step.b48
  rw [← al_36 h]
  try rfl
set_option maxRecDepth 8192 in
theorem al_49 (h : Holds V0 s j) : (broadcastInDim S8x128x128 ![] bcast_S_S8x128x128 (id (constant S_ .f32 0x00000000#32)) : (Proc.devRef .tc main_while0b_call3_v2 : DevRef τ sig).ty.Contents (Elt F)) = Cert.ReferenceIdeal.Step.b49 j s := by
  unfold Cert.ReferenceIdeal.Step.b49
  rw [← al_47 h]
  try rfl
set_option maxRecDepth 8192 in
theorem al_50 (h : Holds V0 s j) : (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32))) : (Proc.devRef .tc main_while0b_v63 : DevRef τ sig).ty.Contents (Elt F)) = Cert.ReferenceIdeal.Step.b50 j s := by
  unfold Cert.ReferenceIdeal.Step.b50
  rw [← al_48 h, ← al_45 h, ← al_49 h]
  try rfl
set_option maxRecDepth 8192 in
theorem al_51 (h : Holds V0 s j) : (broadcastInDim S1x8 ![1] bcast_S8_S1x8_1 (res_main_while0b_v46 V0) : (Proc.devRef .tc main_while0b_v64 : DevRef τ sig).ty.Contents (Elt F)) = Cert.ReferenceIdeal.Step.b51 j s := by
  unfold Cert.ReferenceIdeal.Step.b51
  rw [← al_27 h]
  try rfl
set_option maxRecDepth 8192 in
theorem al_52 (h : Holds V0 s j) : (broadcastInDim S128x1 ![0] bcast_S128_S128x1_0 (res_main_while0b_v47 V0) : (Proc.devRef .tc main_while0b_v65 : DevRef τ sig).ty.Contents (Elt F)) = Cert.ReferenceIdeal.Step.b52 j s := by
  unfold Cert.ReferenceIdeal.Step.b52
  rw [← al_28 h]
  try rfl
set_option maxRecDepth 8192 in
theorem al_53 (h : Holds V0 s j) : (constant S_ .f32 0x3F800000#32 : (Proc.devRef .tc main_while0b_cst_15 : DevRef τ sig).ty.Contents (Elt F)) = Cert.ReferenceIdeal.Step.b53 j s := by
  unfold Cert.ReferenceIdeal.Step.b53
  rfl
set_option maxRecDepth 8192 in
theorem al_54 (h : Holds V0 s j) : (broadcastInDim S128x1 ![] bcast_S_S128x1 (constant S_ .f32 0x3F800000#32) : (Proc.devRef .tc main_while0b_v66 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (addf (broadcastInDim S128x1 ![0] bcast_S128_S128x1_0 (res_main_while0b_v47 V0)) (broadcastInDim S128x1 ![] bcast_S_S128x1 (constant S_ .f32 0x3F800000#32)) : (Proc.devRef .tc main_while0b_v67 : DevRef τ sig).ty.Contents (Elt F)) = Cert.ReferenceIdeal.Step.b55 j s := by
  unfold Cert.ReferenceIdeal.Step.b55
  rw [← al_52 h, ← al_54 h]
  try rfl
set_option maxRecDepth 8192 in
theorem al_56 (h : Holds V0 s j) : (broadcastInDim S128x8 ![0, 1] bcast_S1x8_S128x8_0_1 (broadcastInDim S1x8 ![1] bcast_S8_S1x8_1 (res_main_while0b_v46 V0)) : (Proc.devRef .tc main_while0b_v68 : DevRef τ sig).ty.Contents (Elt F)) = Cert.ReferenceIdeal.Step.b56 j s := by
  unfold Cert.ReferenceIdeal.Step.b56
  rw [← al_51 h]
  try rfl
set_option maxRecDepth 8192 in
theorem al_57 (h : Holds V0 s j) : (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))) : (Proc.devRef .tc main_while0b_v69 : DevRef τ sig).ty.Contents (Elt F)) = Cert.ReferenceIdeal.Step.b57 j s := by
  unfold Cert.ReferenceIdeal.Step.b57
  rw [← al_55 h]
  try rfl
set_option maxRecDepth 8192 in
theorem al_58 (h : Holds V0 s j) : (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32)))) : (Proc.devRef .tc main_while0b_v70 : DevRef τ sig).ty.Contents (Elt F)) = Cert.ReferenceIdeal.Step.b58 j s := by
  unfold Cert.ReferenceIdeal.Step.b58
  rw [← al_56 h, ← al_57 h]
  try rfl
set_option maxRecDepth 8192 in
theorem al_59 (h : Holds V0 s j) : (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))) : (Proc.devRef .tc main_while0b_v71 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S1x8 ![1] bcast_S8_S1x8_1 (res_main_while0b_v46 V0) : (Proc.devRef .tc main_while0b_v72 : DevRef τ sig).ty.Contents (Elt F)) = Cert.ReferenceIdeal.Step.b60 j s := by
  unfold Cert.ReferenceIdeal.Step.b60
  rw [← al_27 h]
  try rfl
set_option maxRecDepth 8192 in
theorem al_61 (h : Holds V0 s j) : (broadcastInDim S128x1 ![0] bcast_S128_S128x1_0 (res_main_while0b_v47 V0) : (Proc.devRef .tc main_while0b_v73 : DevRef τ sig).ty.Contents (Elt F)) = Cert.ReferenceIdeal.Step.b61 j s := by
  unfold Cert.ReferenceIdeal.Step.b61
  rw [← al_28 h]
  try rfl
set_option maxRecDepth 8192 in
theorem al_62 (h : Holds V0 s j) : (constant S_ .f32 0x42FE0000#32 : (Proc.devRef .tc main_while0b_cst_16 : DevRef τ sig).ty.Contents (Elt F)) = Cert.ReferenceIdeal.Step.b62 j s := by
  unfold Cert.ReferenceIdeal.Step.b62
  rfl
set_option maxRecDepth 8192 in
theorem al_63 (h : Holds V0 s j) : (broadcastInDim S128x1 ![] bcast_S_S128x1 (constant S_ .f32 0x42FE0000#32) : (Proc.devRef .tc main_while0b_v74 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (subf (broadcastInDim S128x1 ![] bcast_S_S128x1 (constant S_ .f32 0x42FE0000#32)) (broadcastInDim S128x1 ![0] bcast_S128_S128x1_0 (res_main_while0b_v47 V0)) : (Proc.devRef .tc main_while0b_v75 : DevRef τ sig).ty.Contents (Elt F)) = Cert.ReferenceIdeal.Step.b64 j s := by
  unfold Cert.ReferenceIdeal.Step.b64
  rw [← al_63 h, ← al_61 h]
  try rfl
set_option maxRecDepth 8192 in
theorem al_65 (h : Holds V0 s j) : (broadcastInDim S128x8 ![0, 1] bcast_S1x8_S128x8_0_1 (broadcastInDim S1x8 ![1] bcast_S8_S1x8_1 (res_main_while0b_v46 V0)) : (Proc.devRef .tc main_while0b_v76 : DevRef τ sig).ty.Contents (Elt F)) = Cert.ReferenceIdeal.Step.b65 j s := by
  unfold Cert.ReferenceIdeal.Step.b65
  rw [← al_60 h]
  try rfl
set_option maxRecDepth 8192 in
theorem al_66 (h : Holds V0 s j) : (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0))) : (Proc.devRef .tc main_while0b_v77 : DevRef τ sig).ty.Contents (Elt F)) = Cert.ReferenceIdeal.Step.b66 j s := by
  unfold Cert.ReferenceIdeal.Step.b66
  rw [← al_64 h]
  try rfl
set_option maxRecDepth 8192 in
theorem al_67 (h : Holds V0 s j) : (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))) : (Proc.devRef .tc main_while0b_v78 : DevRef τ sig).ty.Contents (Elt F)) = Cert.ReferenceIdeal.Step.b67 j s := by
  unfold Cert.ReferenceIdeal.Step.b67
  rw [← al_65 h, ← al_66 h]
  try rfl
set_option maxRecDepth 8192 in
theorem al_68 (h : Holds V0 s j) : (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0))))) : (Proc.devRef .tc main_while0b_v79 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (Host.dotGeneral dot_S2x128x8x256_S2x128x8x256_S2x8x128x128_3_3_1_1_02_02 none (res_main_while0b_v36 V0) (res_main_while0b_v37 V0) : (Proc.devRef .tc main_while0b_v80 : DevRef τ sig).ty.Contents (Elt F)) = Cert.ReferenceIdeal.Step.b69 j s := by
  unfold Cert.ReferenceIdeal.Step.b69
  rw [← al_5 h, ← al_11 h]
  try rfl
set_option maxRecDepth 8192 in
theorem al_70 (h : Holds V0 s j) : (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))) : (Proc.devRef .tc main_while0b_v81 : DevRef τ sig).ty.Contents (Elt F)) = Cert.ReferenceIdeal.Step.b70 j s := by
  unfold Cert.ReferenceIdeal.Step.b70
  rw [← al_50 h]
  try rfl
set_option maxRecDepth 8192 in
theorem al_71 (h : Holds V0 s j) : (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32))))) : (Proc.devRef .tc main_while0b_v82 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))) : (Proc.devRef .tc main_while0b_v83 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32))))))) : (Proc.devRef .tc main_while0b_v84 : DevRef τ sig).ty.Contents (Elt F)) = Cert.ReferenceIdeal.Step.b73 j s := by
  unfold Cert.ReferenceIdeal.Step.b73
  rw [← al_17 h, ← al_72 h]
  try rfl
set_option maxRecDepth 8192 in
theorem al_74 (h : Holds V0 s j) : (transpose S2x128x8x512 [0, 3, 1, 2] (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))))) transposes_S2x8x512x128_S2x128x8x512_0_3_1_2 : (Proc.devRef .tc main_while0b_v85 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32)))))) : (Proc.devRef .tc main_while0b_v86 : DevRef τ sig).ty.Contents (Elt F)) = Cert.ReferenceIdeal.Step.b75 j s := by
  unfold Cert.ReferenceIdeal.Step.b75
  rw [← al_59 h]
  try rfl
set_option maxRecDepth 8192 in
theorem al_76 (h : Holds V0 s j) : (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))) : (Proc.devRef .tc main_while0b_v87 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32)))))))) : (Proc.devRef .tc main_while0b_v88 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))) : (Proc.devRef .tc main_while0b_v89 : DevRef τ sig).ty.Contents (Elt F)) = Cert.ReferenceIdeal.Step.b78 j s := by
  unfold Cert.ReferenceIdeal.Step.b78
  rw [← al_5 h, ← al_77 h]
  try rfl
set_option maxRecDepth 8192 in
theorem al_79 (h : Holds V0 s j) : (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32)))))))))) : (Proc.devRef .tc main_while0b_v90 : DevRef τ sig).ty.Contents (Elt F)) = Cert.ReferenceIdeal.Step.b79 j s := by
  unfold Cert.ReferenceIdeal.Step.b79
  rw [← al_78 h, h.f_4]
  try rfl
set_option maxRecDepth 8192 in
theorem al_80 (h : Holds V0 s j) : (transpose S2x128x8x512 [0, 3, 1, 2] (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))))) transposes_S2x8x512x128_S2x128x8x512_0_3_1_2 : (Proc.devRef .tc main_while0b_v91 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (addf (transpose S2x128x8x512 [0, 3, 1, 2] (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))))) transposes_S2x8x512x128_S2x128x8x512_0_3_1_2) (transpose S2x128x8x512 [0, 3, 1, 2] (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))))) transposes_S2x8x512x128_S2x128x8x512_0_3_1_2) : (Proc.devRef .tc main_while0b_v92 : DevRef τ sig).ty.Contents (Elt F)) = Cert.ReferenceIdeal.Step.b81 j s := by
  unfold Cert.ReferenceIdeal.Step.b81
  rw [← al_74 h, ← al_80 h]
  try rfl
set_option maxRecDepth 8192 in
theorem al_82 (h : Holds V0 s j) : (constant S_ .f32 0x43000000#32 : (Proc.devRef .tc main_while0b_cst_17 : DevRef τ sig).ty.Contents (Elt F)) = Cert.ReferenceIdeal.Step.b82 j s := by
  unfold Cert.ReferenceIdeal.Step.b82
  rfl
set_option maxRecDepth 8192 in
theorem al_83 (h : Holds V0 s j) : (broadcastInDim S8 ![] bcast_S_S8 (constant S_ .f32 0x43000000#32) : (Proc.devRef .tc main_while0b_v93 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (mulf (res_main_while0b_v46 V0) (broadcastInDim S8 ![] bcast_S_S8 (constant S_ .f32 0x43000000#32)) : (Proc.devRef .tc main_while0b_v94 : DevRef τ sig).ty.Contents (Elt F)) = Cert.ReferenceIdeal.Step.b84 j s := by
  unfold Cert.ReferenceIdeal.Step.b84
  rw [← al_27 h, ← al_83 h]
  try rfl
set_option maxRecDepth 8192 in
theorem al_85 (h : Holds V0 s j) : (Host.exp (mulf (res_main_while0b_v46 V0) (broadcastInDim S8 ![] bcast_S_S8 (constant S_ .f32 0x43000000#32))) : (Proc.devRef .tc main_while0b_v95 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (broadcastInDim S8x1x1 ![0] bcast_S8_S8x1x1_0 (Host.exp (mulf (res_main_while0b_v46 V0) (broadcastInDim S8 ![] bcast_S_S8 (constant S_ .f32 0x43000000#32)))) : (Proc.devRef .tc main_while0b_v96 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (broadcastInDim S1x8x1x1 ![1, 2, 3] bcast_S8x1x1_S1x8x1x1_1_2_3 (broadcastInDim S8x1x1 ![0] bcast_S8_S8x1x1_0 (Host.exp (mulf (res_main_while0b_v46 V0) (broadcastInDim S8 ![] bcast_S_S8 (constant S_ .f32 0x43000000#32))))) : (Proc.devRef .tc main_while0b_v97 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (broadcastInDim S2x8x256x512 ![0, 1, 2, 3] bcast_S1x8x1x1_S2x8x256x512_0_1_2_3 (broadcastInDim S1x8x1x1 ![1, 2, 3] bcast_S8x1x1_S1x8x1x1_1_2_3 (broadcastInDim S8x1x1 ![0] bcast_S8_S8x1x1_0 (Host.exp (mulf (res_main_while0b_v46 V0) (broadcastInDim S8 ![] bcast_S_S8 (constant S_ .f32 0x43000000#32)))))) : (Proc.devRef .tc main_while0b_v98 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (mulf (V0 (Proc.devRef .tc main_v16_4)) (broadcastInDim S2x8x256x512 ![0, 1, 2, 3] bcast_S1x8x1x1_S2x8x256x512_0_1_2_3 (broadcastInDim S1x8x1x1 ![1, 2, 3] bcast_S8x1x1_S1x8x1x1_1_2_3 (broadcastInDim S8x1x1 ![0] bcast_S8_S8x1x1_0 (Host.exp (mulf (res_main_while0b_v46 V0) (broadcastInDim S8 ![] bcast_S_S8 (constant S_ .f32 0x43000000#32))))))) : (Proc.devRef .tc main_while0b_v99 : DevRef τ sig).ty.Contents (Elt F)) = Cert.ReferenceIdeal.Step.b89 j s := by
  unfold Cert.ReferenceIdeal.Step.b89
  rw [← al_88 h, h.f_4]
  try rfl
set_option maxRecDepth 8192 in
theorem al_90 (h : Holds V0 s j) : (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))))) : (Proc.devRef .tc main_while0b_v100 : DevRef τ sig).ty.Contents (Elt F)) = Cert.ReferenceIdeal.Step.b90 j s := by
  unfold Cert.ReferenceIdeal.Step.b90
  rw [← al_68 h]
  try rfl
set_option maxRecDepth 8192 in
theorem al_91 (h : Holds V0 s j) : (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0))))))) : (Proc.devRef .tc main_while0b_v101 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))))))) : (Proc.devRef .tc main_while0b_v102 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (mulf (res_main_while0b_v37 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0))))))))) : (Proc.devRef .tc main_while0b_v103 : DevRef τ sig).ty.Contents (Elt F)) = Cert.ReferenceIdeal.Step.b93 j s := by
  unfold Cert.ReferenceIdeal.Step.b93
  rw [← al_11 h, ← al_92 h]
  try rfl
set_option maxRecDepth 8192 in
theorem al_94 (h : Holds V0 s j) : (Host.dotGeneral dot_S2x128x8x256_S2x128x8x512_S2x8x256x512_1_1_3_3_02_02 none (mulf (res_main_while0b_v37 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))))))))) (res_main_while0b_v38 V0) : (Proc.devRef .tc main_while0b_v104 : DevRef τ sig).ty.Contents (Elt F)) = Cert.ReferenceIdeal.Step.b94 j s := by
  unfold Cert.ReferenceIdeal.Step.b94
  rw [← al_93 h, ← al_17 h]
  try rfl
set_option maxRecDepth 8192 in
theorem al_95 (h : Holds V0 s j) : (addf (mulf (V0 (Proc.devRef .tc main_v16_4)) (broadcastInDim S2x8x256x512 ![0, 1, 2, 3] bcast_S1x8x1x1_S2x8x256x512_0_1_2_3 (broadcastInDim S1x8x1x1 ![1, 2, 3] bcast_S8x1x1_S1x8x1x1_1_2_3 (broadcastInDim S8x1x1 ![0] bcast_S8_S8x1x1_0 (Host.exp (mulf (res_main_while0b_v46 V0) (broadcastInDim S8 ![] bcast_S_S8 (constant S_ .f32 0x43000000#32)))))))) (Host.dotGeneral dot_S2x128x8x256_S2x128x8x512_S2x8x256x512_1_1_3_3_02_02 none (mulf (res_main_while0b_v37 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))))))))) (res_main_while0b_v38 V0)) : (Proc.devRef .tc main_while0b_v105 : DevRef τ sig).ty.Contents (Elt F)) = Cert.ReferenceIdeal.Step.b95 j s := by
  unfold Cert.ReferenceIdeal.Step.b95
  rw [← al_89 h, ← al_94 h]
  try rfl
set_option maxRecDepth 8192 in
theorem al_96 (h : Holds V0 s j) : (broadcastInDim S1x2x128x8x512 ![1, 2, 3, 4] bcast_S2x128x8x512_S1x2x128x8x512_1_2_3_4 (addf (transpose S2x128x8x512 [0, 3, 1, 2] (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))))) transposes_S2x8x512x128_S2x128x8x512_0_3_1_2) (transpose S2x128x8x512 [0, 3, 1, 2] (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))))) transposes_S2x8x512x128_S2x128x8x512_0_3_1_2)) : (Proc.devRef .tc main_while0b_call4_v0 : DevRef τ sig).ty.Contents (Elt F)) = Cert.ReferenceIdeal.Step.b96 j s := by
  unfold Cert.ReferenceIdeal.Step.b96
  rw [← al_81 h]
  try rfl
set_option maxRecDepth 8192 in
theorem al_97 (h : Holds V0 s j) : (constantI S_ 32 0#32 : (Proc.devRef .tc main_while0b_call4_c : DevRef τ sig).ty.Contents (Elt F)) = Cert.ReferenceIdeal.Step.b97 j s := by
  unfold Cert.ReferenceIdeal.Step.b97
  rfl
set_option maxRecDepth 8192 in
theorem al_98 (h : Holds V0 s j) : (constantI S_ 32 0#32 : (Proc.devRef .tc main_while0b_call4_c_0 : DevRef τ sig).ty.Contents (Elt F)) = Cert.ReferenceIdeal.Step.b98 j s := by
  unfold Cert.ReferenceIdeal.Step.b98
  rfl
set_option maxRecDepth 8192 in
theorem al_99 (h : Holds V0 s j) : (constantI S_ 32 0#32 : (Proc.devRef .tc main_while0b_call4_c_1 : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call4_c_2 : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v16_5)) (broadcastInDim S1x2x128x8x512 ![1, 2, 3, 4] bcast_S2x128x8x512_S1x2x128x8x512_1_2_3_4 (addf (transpose S2x128x8x512 [0, 3, 1, 2] (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))))) transposes_S2x8x512x128_S2x128x8x512_0_3_1_2) (transpose S2x128x8x512 [0, 3, 1, 2] (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))))) transposes_S2x8x512x128_S2x128x8x512_0_3_1_2))) (fun k => (((![V0 (Proc.devRef .tc main_v16_3), constantI S_ 32 0#32, constantI S_ 32 0#32, constantI S_ 32 0#32, constantI S_ 32 0#32] : Fin 5 → (⟨S_, .i32⟩ : BufTy).Contents (Elt F))) k (Shape.Idx.first h_S_)).toInt) updateFits_S32x2x128x8x512_S1x2x128x8x512 : (Proc.devRef .tc main_while0b_v106 : DevRef τ sig).ty.Contents (Elt F)) = Cert.ReferenceIdeal.Step.b101 j s := by
  unfold Cert.ReferenceIdeal.Step.b101
  rw [← al_96 h, ← al_97 h, ← al_98 h, ← al_99 h, ← al_100 h, h.f_5, h.n_3]
  try rfl

/-! One trip's step of the carried values is `step`, field by field; a counter steps to the next number. -/

theorem step_4 (h : Holds V0 s j) : step_main_v16_4 V0 = (step j s).main_v16_4 := by
  unfold step_main_v16_4 Cert.ReferenceIdeal.Step.step
  show id (addf (mulf (V0 (Proc.devRef .tc main_v16_4)) (broadcastInDim S2x8x256x512 ![0, 1, 2, 3] bcast_S1x8x1x1_S2x8x256x512_0_1_2_3 (broadcastInDim S1x8x1x1 ![1, 2, 3] bcast_S8x1x1_S1x8x1x1_1_2_3 (broadcastInDim S8x1x1 ![0] bcast_S8_S8x1x1_0 (Host.exp (mulf (res_main_while0b_v46 V0) (broadcastInDim S8 ![] bcast_S_S8 (constant S_ .f32 0x43000000#32)))))))) (Host.dotGeneral dot_S2x128x8x256_S2x128x8x512_S2x8x256x512_1_1_3_3_02_02 none (mulf (res_main_while0b_v37 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v47 V0)))))))))) (res_main_while0b_v38 V0))) = _
  rw [al_95 h]
  try rfl

theorem step_5 (h : Holds V0 s j) : step_main_v16_5 V0 = (step j s).main_v16_5 := by
  unfold step_main_v16_5 Cert.ReferenceIdeal.Step.step
  show id (Host.dynamicUpdateSlice (V0 (Proc.devRef .tc main_v16_5)) (broadcastInDim S1x2x128x8x512 ![1, 2, 3, 4] bcast_S2x128x8x512_S1x2x128x8x512_1_2_3_4 (addf (transpose S2x128x8x512 [0, 3, 1, 2] (Host.dotGeneral dot_S2x128x8x512_S2x8x128x128_S2x8x512x128_1_3_3_2_02_01 none (res_main_while0b_v38 V0) (mulf (Host.dotGeneral dot_S2x128x8x256_S2x128x8x256_S2x8x128x128_3_3_1_1_02_02 none (res_main_while0b_v36 V0) (res_main_while0b_v37 V0)) (broadcastInDim S2x8x128x128 ![0, 1, 2, 3] bcast_S1x8x128x128_S2x8x128x128_0_1_2_3 (broadcastInDim S1x8x128x128 ![1, 2, 3] bcast_S8x128x128_S1x8x128x128_1_2_3 (select (broadcastInDim S8x128x128 ![1, 2] bcast_S128x128_S8x128x128_1_2 (cmpf .oge (res_main_while0b_v52 V0) (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 (res_main_while0b_v46 V0))) (broadcastInDim S8x128x128 ![0, 1, 2] bcast_S1x128x128_S8x128x128_0_1_2 (broadcastInDim S1x128x128 ![1, 2] bcast_S128x128_S1x128x128_1_2 (maximumf (res_main_while0b_v52 V0) (broadcastInDim S128x128 ![] bcast_S_S128x128 (constant S_ .f32 0x00000000#32))))))) (broadcastInDim S8x128x128 ![] bcast_S_S8x128x128 (id (constant S_ .f32 0x00000000#32)))))))) transposes_S2x8x512x128_S2x128x8x512_0_3_1_2) (transpose S2x128x8x512 [0, 3, 1, 2] (Host.dotGeneral dot_S2x8x256x512_S2x128x8x256_S2x8x512x128_2_3_3_1_01_02 none (V0 (Proc.devRef .tc main_v16_4)) (mulf (res_main_while0b_v36 V0) (broadcastInDim S2x128x8x256 ![0, 1, 2, 3] bcast_S1x128x8x1_S2x128x8x256_0_1_2_3 (broadcastInDim S1x128x8x1 ![1, 2, 3] bcast_S128x8x1_S1x128x8x1_1_2_3 (broadcastInDim S128x8x1 ![0, 1] bcast_S128x8_S128x8x1_0_1 (Host.exp (mulf (broadcastInDim S128x8 ![0, 1] bcast_S1x8_S128x8_0_1 (broadcastInDim S1x8 ![1] bcast_S8_S1x8_1 (res_main_while0b_v46 V0))) (broadcastInDim S128x8 ![0, 1] bcast_S128x1_S128x8_0_1 (addf (broadcastInDim S128x1 ![0] bcast_S128_S128x1_0 (res_main_while0b_v47 V0)) (broadcastInDim S128x1 ![] bcast_S_S128x1 (constant S_ .f32 0x3F800000#32))))))))))) transposes_S2x8x512x128_S2x128x8x512_0_3_1_2))) (fun k => (((![V0 (Proc.devRef .tc main_v16_3), constantI S_ 32 0#32, constantI S_ 32 0#32, constantI S_ 32 0#32, constantI S_ 32 0#32] : Fin 5 → (⟨S_, .i32⟩ : BufTy).Contents (Elt F))) k (Shape.Idx.first h_S_)).toInt) updateFits_S32x2x128x8x512_S1x2x128x8x512) = _
  exact al_101 h
  try rfl
theorem step_3 (h : Holds V0 s j) : step_main_v16_3 V0 = constantI S_ 32 (BitVec.ofNat 32 (j + 1)) := by
  unfold step_main_v16_3
  rw [h.n_3]
  funext i
  show BitVec.ofNat 32 j + 1#32 = BitVec.ofNat 32 (j + 1)
  simp only [BitVec.ofNat_add]

set_option maxRecDepth 8192 in
theorem out_main_v35_holds (h : Holds V0 s j) {x_main_arg0 : (⟨S9216x12288, .bf16⟩ : BufTy).Contents (Elt F)} (h_main_arg0 : V0 (Proc.devRef .tc main_arg0) = x_main_arg0) : out_main_v35 V0 = Cert.ReferenceIdeal.Step.R_main_v35 s x_main_arg0 := by
  unfold out_main_v35 Cert.ReferenceIdeal.Step.R_main_v35
  rw [h.f_5, h_main_arg0]
  try rfl

/-- One trip keeps the valuation holding: `step` of the state, the same set-up values, the next number. -/
theorem holds_step (h : Holds V0 s j) : Holds (STEP V0) (step j s) (j + 1) where
  f_4 := (STEP_main_v16_4 V0).trans (step_4 h)
  f_5 := (STEP_main_v16_5 V0).trans (step_5 h)
  n_3 := (STEP_main_v16_3 V0).trans (step_3 h)
  f_0 := (STEP_main_v16_0 V0).trans h.f_0
  f_1 := (STEP_main_v16_1 V0).trans h.f_1
  f_2 := (STEP_main_v16_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v35) = Cert.ReferenceIdeal.Step.R_main_v35 (it c 32) (m ((c.tc : Thread nD τ).loc main_arg0))
      ∧ r.2.mem ((c.tc : Thread nD τ).loc main_v16_4) = (it c 32).main_v16_4
      ∧ r.2.mem ((c.tc : Thread nD τ).loc main_arg0) = m ((c.tc : Thread nD τ).loc main_arg0) :=
  (θ_run defs _ _).mono (fun _ h c =>
    have hk := holds_iter m c (it c) (h0 c) (hs c) 32
    ⟨(h c).1.trans (out_main_v35_holds hk (iter_main_arg0 m c 32)), (h c).2.1.trans hk.f_4, (h c).2.2⟩) (Value.run m ρ)

end Cert.ReferenceIdeal.StepRun

end
-- ==== Proof.Retention.Claim.lean ====
/- The retention over the prompt: the rows the kernel writes and the states it leaves are the plain reference's. -/
module

public import proofs.«01_k».proof.Proof.Retention.Array
public import proofs.«01_k».proof.Proof.Retention.Reference
public import proofs.«01_k».proof.Proof.Retention.Loop
public import proofs.«01_k».proof.Proof.Gen.KernelIdeal.Value
public import proofs.«01_k».proof.Proof.Gen.On_prompt_rows
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Retention

/-- The mask selects the prompt's rows. -/
theorem mask_row [Cert.On_prompt_rows.Facts] (z : Z.Idx → EReal) (i : (⟨2, ![9216, 4096]⟩ : Shape).Idx)
    (h : (Cert.On_prompt_rows.fn (F := Ideal) z).1 i = 1#1) : (i 0).val < 8192 := by
  have hi : (i 0).val < 9216 := (i 0).isLt
  have h' : BitVec.ofBool ((BitVec.ofNat 32 (i 0).val).slt 8192#32) = 1#1 := h
  by_contra hn
  have hs : (BitVec.ofNat 32 (i 0).val).slt 8192#32 = false := by
    rw [BitVec.slt, decide_eq_false_iff_not, BitVec.toInt_eq_toNat_of_lt (by rw [BitVec.toNat_ofNat]; omega), BitVec.toNat_ofNat,
      show ((8192#32 : BitVec 32).toInt) = 8192 from by decide]
    omega
  rw [hs] at h'
  exact absurd h' (by decide)

theorem algebraic : Cert.algebraic_KernelIdeal_ReferenceIdeal_on_prompt_rows := by
  pair_intro
  rotate_left 2
  · exact fun c => fun i => yRow (KernelIdeal.Retention.zArr m c) (i 0) (i 1)
  · exact fun c => fun i => S (KernelIdeal.Retention.zArr m c) (i 0) (i 1) 32 (i 2) (i 3)
  · refine (θ_run _ _ _).mono (fun r h c => ⟨fun i hi => ?_, fun i _ => ?_, (h c).2.2⟩) (KernelIdeal.Value.run_blocks m g)
    · rw [(h c).1, KernelIdeal.Retention.final5]
      exact if_pos (mask_row _ i hi)
    · rw [(h c).2.1, KernelIdeal.Retention.final6]
  · refine (θ_run _ _ _).mono (fun r h c => ⟨fun i hi => ?_, fun i _ => ?_, (h c).2.2⟩)
      (ReferenceIdeal.StepRun.run_iter m' g' (fun c => ReferenceIdeal.Retention.it (m' ((c : Thread ReferenceIdeal.nD ReferenceIdeal.τ).loc ReferenceIdeal.main_arg0)))
        (fun _ => rfl) (fun _ _ => rfl))
    · rw [(h c).1, hagree c]
      obtain ⟨p, e, rfl⟩ : ∃ (p : Fin 9216) (e : Fin 4096), i = ix2 p e := ⟨i 0, i 1, ValueIdx.eq_ix2 i⟩
      exact ReferenceIdeal.Retention.rows_eq _ p e (mask_row _ _ hi)
    · rw [(h c).2.1, hagree c, ReferenceIdeal.Retention.state_eq]

end Cert.Retention

end
-- ==== Proof.RetIn.Tile.lean ====
/- The retention layer's input projection: what one grid point stores, at the extended reals. A point has a block of 1024
   rows and the weights' block of 1024 columns, rounded once for nine points; it stores the products rotated by the
   positions' angles and scaled (queries and keys), the products themselves (values), or the products through the gate's
   activation. -/
module

public import proofs.«01_k».proof.Proof.Common
public import proofs.«01_k».proof.Proof.Gen.Kernel6Ideal.Frame
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel6Ideal.RetIn

open Cert.Kernel6Ideal Cert.Kernel6Ideal.Gen Cert.Layer

/-- The products rotated in half-split pairs of 256 columns and scaled: `v6` and `v7` are the cosines and sines of the
    rows' positions. -/
def tileRot (v5 : S1024x1024.Idx → EReal) (v6 v7 : S1024x128.Idx → EReal) (sc : EReal) (r e : Fin 1024) : EReal :=
  (if h : e.val % 256 < 128 then
      v5 (ix2 r e) * v6 (ix2 r ⟨e.val % 128, by omega⟩) - v5 (ix2 r ⟨e.val + 128, by omega⟩) * v7 (ix2 r ⟨e.val % 128, by omega⟩)
    else v5 (ix2 r e) * v6 (ix2 r ⟨e.val % 128, by omega⟩) + v5 (ix2 r ⟨e.val - 128, by omega⟩) * v7 (ix2 r ⟨e.val % 128, by omega⟩)) * sc

theorem pay1_eq (w : Vec Ideal S2048x1024 .f32) : k0_pay1 (F := Ideal) w = w := by
  funext j
  pointwise [k0_pay1]

theorem pay2_apply (v3 : Vec Ideal S1024x2048 .bf16) (v4 : Vec Ideal S2048x1024 .bf16) (r e : Fin 1024) :
    k0_pay2 (F := Ideal) v3 v4 (ix2 r e) = dotRow (fun k => v3 (ix2 r k)) (fun k e => v4 (ix2 k e)) e := by
  pointwise [k0_pay2, dotRow]

theorem pay8_apply (v3 : Vec Ideal S1024x2048 .bf16) (v4 : Vec Ideal S2048x1024 .bf16) (y : S1024x1024.Idx) :
    k0_pay8 (F := Ideal) v3 v4 y = k0_pay2 (F := Ideal) v3 v4 y := by
  pointwise [k0_pay8]

/-- The gate's activation. -/
def gate (x : EReal) : EReal := Ideal.div x (Ideal.ofBits .f32 0x3F800000#32 + Ideal.exp (-x))

theorem pay9_apply (v3 : Vec Ideal S1024x2048 .bf16) (v4 : Vec Ideal S2048x1024 .bf16) (y : S1024x1024.Idx) :
    k0_pay9 (F := Ideal) v3 v4 y = gate (k0_pay2 (F := Ideal) v3 v4 y) := by
  pointwise [k0_pay9, gate, zero_sub]

variable (m : (ℓ : Loc nD τ sig) → Buf (Elt Ideal) ℓ)

/-- The first of nine points rounds the weights' block into the scratch … -/
theorem scratch_first (c : Dev nD) (t : Fin cfg0.N) (h : t.val % 9 = 0) :
    (outsAt0 m c t.val t.isLt).2 = k0_pay1 (F := Ideal) (iblk m c 1 t) := by
  have hN : t.val < 108 := lt_of_lt_of_eq t.isLt (show cfg0.N = 108 from N_0)
  by_cases h1 : t.val < 36
  · rw [outsAt0_A m c t h h1 (by omega) (by omega)]; frame_out
  · by_cases h3 : 72 ≤ t.val
    · rw [outsAt0_E m c t h h1 (by omega) h3]; frame_out
    · rw [outsAt0_C m c t h h1 (by omega) h3]; frame_out

/-- … and the others keep it. -/
theorem scratch_kept (c : Dev nD) (t : Fin cfg0.N) (h : ¬t.val % 9 = 0) :
    (outsAt0 m c t.val t.isLt).2 = (outsAt0 m c (t.val - 1) (Nat.lt_of_le_of_lt (Nat.sub_le _ _) t.isLt)).2 := by
  have hN : t.val < 108 := lt_of_lt_of_eq t.isLt (show cfg0.N = 108 from N_0)
  by_cases h1 : t.val < 36
  · rw [outsAt0_B m c t h h1 (by omega) (by omega)]; dsimp only [sout0_B_0]
  · by_cases h3 : 72 ≤ t.val
    · rw [outsAt0_F m c t h h1 (by omega) h3]; dsimp only [sout0_F_0]
    · rw [outsAt0_D m c t h h1 (by omega) h3]; dsimp only [sout0_D_0]

/-- The scratch after any point: the weights' block its run's first point saw. -/
theorem scratch_eq (c : Dev nD) (t : Fin cfg0.N) :
    (outsAt0 m c t.val t.isLt).2 = k0_pay1 (F := Ideal) (iblk m c 1 ⟨9 * (t.val / 9), Pipeline.run_start_lt t⟩) :=
  Pipeline.eq_of_write_hold (fun n h => (outsAt0 m c n h).2) 9 (fun t => k0_pay1 (F := Ideal) (iblk m c 1 t))
    (scratch_first m c) (scratch_kept m c) t

theorem tileRot_lo (v5 : S1024x1024.Idx → EReal) (v6 v7 : S1024x128.Idx → EReal) (sc : EReal) (a b : ℕ) (ha : a % 256 = 0)
    (hb : b = a + 128) (hl : b < 1024) (x : S1024x128.Idx) (r e : Fin 1024) (hr : r.val = (x 0).val) (he : e.val = a + (x 1).val)
    (hx : (x 1).val < 128) :
    (v5 (ix2 (x 0) ⟨a + (x 1).val, by omega⟩) * v6 x - v5 (ix2 (x 0) ⟨b + (x 1).val, by omega⟩) * v7 x) * sc
      = tileRot v5 v6 v7 sc r e := by
  obtain ⟨q, w, rfl⟩ : ∃ (q : Fin 1024) (w : Fin 128), x = ix2 q w := ⟨x 0, x 1, ValueIdx.eq_ix2 x⟩
  obtain rfl : r = q := Fin.ext hr
  obtain ⟨e, hel⟩ := e
  change e = a + w.val at he
  subst he
  unfold tileRot
  rw [dif_pos (by simp only; omega)]
  have e1 : (⟨(a + w.val) % 128, by omega⟩ : Fin 128) = w := Fin.ext (by simp only; omega)
  have e2 : (⟨b + w.val, by omega⟩ : Fin 1024) = ⟨a + w.val + 128, by omega⟩ := Fin.ext (by simp only; omega)
  rw [e1, ← e2]
  rfl

theorem tileRot_hi (v5 : S1024x1024.Idx → EReal) (v6 v7 : S1024x128.Idx → EReal) (sc : EReal) (a b : ℕ) (ha : a % 256 = 0)
    (hb : b = a + 128) (hl : b < 1024) (x : S1024x128.Idx) (r e : Fin 1024) (hr : r.val = (x 0).val) (he : e.val = b + (x 1).val)
    (hx : (x 1).val < 128) :
    (v5 (ix2 (x 0) ⟨b + (x 1).val, by omega⟩) * v6 x + v5 (ix2 (x 0) ⟨a + (x 1).val, by omega⟩) * v7 x) * sc
      = tileRot v5 v6 v7 sc r e := by
  obtain ⟨q, w, rfl⟩ : ∃ (q : Fin 1024) (w : Fin 128), x = ix2 q w := ⟨x 0, x 1, ValueIdx.eq_ix2 x⟩
  obtain rfl : r = q := Fin.ext hr
  obtain ⟨e, hel⟩ := e
  change e = b + w.val at he
  subst he
  unfold tileRot
  rw [dif_neg (by simp only; omega)]
  have e1 : (⟨(b + w.val) % 128, by omega⟩ : Fin 128) = w := Fin.ext (by simp only; omega)
  have e2 : (⟨a + w.val, by omega⟩ : Fin 1024) = ⟨b + w.val - 128, by omega⟩ := Fin.ext (by simp only; omega)
  rw [e1, ← e2]
  rfl

/-- The scale as the kernel picks it. -/
abbrev scale (t : Fin cfg0.N) : EReal := k0_pay10 (F := Ideal) (BitVec.ofNat 32 (grid0.coords t 0).val)

/-- The weights' block a point multiplies by. -/
abbrev wblk (c : Dev nD) (t : Fin cfg0.N) : S2048x1024.Idx → EReal :=
  k0_pay1 (F := Ideal) (iblk m c 1 ⟨9 * (t.val / 9), Pipeline.run_start_lt t⟩)

theorem wblk_first (c : Dev nD) (t : Fin cfg0.N) (h : t.val % 9 = 0) : k0_pay1 (F := Ideal) (iblk m c 1 t) = wblk m c t :=
  (scratch_first m c t h).symm.trans (scratch_eq m c t)

theorem wblk_kept (c : Dev nD) (t : Fin cfg0.N) (h : ¬t.val % 9 = 0) :
    (outsAt0 m c (t.val - 1) (Nat.lt_of_le_of_lt (Nat.sub_le _ _) t.isLt)).2 = wblk m c t :=
  (scratch_kept m c t h).symm.trans (scratch_eq m c t)

set_option maxHeartbeats 1000000 in
theorem out_qk_first (c : Dev nD) (t : Fin cfg0.N) (hq : t.val < 36) (hz : t.val % 9 = 0) (y : S1024x1024.Idx) :
    (outsAt0 m c t.val t.isLt).1 y
      = tileRot (k0_pay2 (F := Ideal) (iblk m c 0 t) (wblk m c t)) (iblk m c 2 t) (iblk m c 3 t) (scale t) (y 0) (y 1) := by
  rw [outsAt0_A m c t hz hq (by omega) (by omega)]; frame_out
  rw [wblk_first m c t hz]
  generalize wblk m c t = W
  canon_tiles x h
  case piece0 => pointwise [k0_pay7, k0_pay4, k0_pay5]; exact tileRot_hi _ _ _ _ 768 896 rfl rfl (by decide) x _ _ h0 h1 x1_lt
  case piece1 => pointwise [k0_pay6, k0_pay4, k0_pay5]; exact tileRot_lo _ _ _ _ 768 896 rfl rfl (by decide) x _ _ h0 h1 x1_lt
  case piece2 => pointwise [k0_pay3, k0_pay19, k0_pay20]; exact tileRot_hi _ _ _ _ 512 640 rfl rfl (by decide) x _ _ h0 h1 x1_lt
  case piece3 => pointwise [k0_pay21, k0_pay19, k0_pay20]; exact tileRot_lo _ _ _ _ 512 640 rfl rfl (by decide) x _ _ h0 h1 x1_lt
  case piece4 => pointwise [k0_pay18, k0_pay15, k0_pay16]; exact tileRot_hi _ _ _ _ 256 384 rfl rfl (by decide) x _ _ h0 h1 x1_lt
  case piece5 => pointwise [k0_pay17, k0_pay15, k0_pay16]; exact tileRot_lo _ _ _ _ 256 384 rfl rfl (by decide) x _ _ h0 h1 x1_lt
  case piece6 => pointwise [k0_pay14, k0_pay11, k0_pay12]; simpa only [Nat.zero_add] using tileRot_hi _ _ _ _ 0 128 rfl rfl (by decide) x _ _ h0 h1 x1_lt
  case piece7 => pointwise [k0_pay13, k0_pay11, k0_pay12]; simpa only [Nat.zero_add] using tileRot_lo _ _ _ _ 0 128 rfl rfl (by decide) x _ _ h0 (by omega) x1_lt

set_option maxHeartbeats 1000000 in
theorem out_qk_kept (c : Dev nD) (t : Fin cfg0.N) (hq : t.val < 36) (hz : ¬t.val % 9 = 0) (y : S1024x1024.Idx) :
    (outsAt0 m c t.val t.isLt).1 y
      = tileRot (k0_pay2 (F := Ideal) (iblk m c 0 t) (wblk m c t)) (iblk m c 2 t) (iblk m c 3 t) (scale t) (y 0) (y 1) := by
  rw [outsAt0_B m c t hz hq (by omega) (by omega)]; frame_out
  simp only [read_unread_whole]
  rw [wblk_kept m c t hz]
  generalize wblk m c t = W
  canon_tiles x h
  case piece0 => pointwise [k0_pay7, k0_pay4, k0_pay5]; exact tileRot_hi _ _ _ _ 768 896 rfl rfl (by decide) x _ _ h0 h1 x1_lt
  case piece1 => pointwise [k0_pay6, k0_pay4, k0_pay5]; exact tileRot_lo _ _ _ _ 768 896 rfl rfl (by decide) x _ _ h0 h1 x1_lt
  case piece2 => pointwise [k0_pay3, k0_pay19, k0_pay20]; exact tileRot_hi _ _ _ _ 512 640 rfl rfl (by decide) x _ _ h0 h1 x1_lt
  case piece3 => pointwise [k0_pay21, k0_pay19, k0_pay20]; exact tileRot_lo _ _ _ _ 512 640 rfl rfl (by decide) x _ _ h0 h1 x1_lt
  case piece4 => pointwise [k0_pay18, k0_pay15, k0_pay16]; exact tileRot_hi _ _ _ _ 256 384 rfl rfl (by decide) x _ _ h0 h1 x1_lt
  case piece5 => pointwise [k0_pay17, k0_pay15, k0_pay16]; exact tileRot_lo _ _ _ _ 256 384 rfl rfl (by decide) x _ _ h0 h1 x1_lt
  case piece6 => pointwise [k0_pay14, k0_pay11, k0_pay12]; simpa only [Nat.zero_add] using tileRot_hi _ _ _ _ 0 128 rfl rfl (by decide) x _ _ h0 h1 x1_lt
  case piece7 => pointwise [k0_pay13, k0_pay11, k0_pay12]; simpa only [Nat.zero_add] using tileRot_lo _ _ _ _ 0 128 rfl rfl (by decide) x _ _ h0 (by omega) x1_lt

/-- Queries and keys: the rotated, scaled products. -/
theorem out_qk (c : Dev nD) (t : Fin cfg0.N) (hq : t.val < 36) (y : S1024x1024.Idx) :
    (outsAt0 m c t.val t.isLt).1 y
      = tileRot (k0_pay2 (F := Ideal) (iblk m c 0 t) (wblk m c t)) (iblk m c 2 t) (iblk m c 3 t) (scale t) (y 0) (y 1) := by
  by_cases hz : t.val % 9 = 0
  · exact out_qk_first m c t hq hz y
  · exact out_qk_kept m c t hq hz y

/-- Values: the products. -/
theorem out_v (c : Dev nD) (t : Fin cfg0.N) (h1 : 36 ≤ t.val) (h2 : t.val < 72) :
    (outsAt0 m c t.val t.isLt).1 = k0_pay8 (F := Ideal) (iblk m c 0 t) (wblk m c t) := by
  by_cases hz : t.val % 9 = 0
  · rw [outsAt0_C m c t hz (by omega) (by omega) (by omega)]; frame_out
    rw [wblk_first m c t hz]
  · rw [outsAt0_D m c t hz (by omega) (by omega) (by omega)]; frame_out
    simp only [read_unread_whole]
    rw [wblk_kept m c t hz]

/-- Gates: the activated products. -/
theorem out_g (c : Dev nD) (t : Fin cfg0.N) (h1 : 72 ≤ t.val) :
    (outsAt0 m c t.val t.isLt).1 = k0_pay9 (F := Ideal) (iblk m c 0 t) (wblk m c t) := by
  have hN : t.val < 108 := lt_of_lt_of_eq t.isLt (show cfg0.N = 108 from N_0)
  by_cases hz : t.val % 9 = 0
  · rw [outsAt0_E m c t hz (by omega) (by omega) h1]; frame_out
    rw [wblk_first m c t hz]
  · rw [outsAt0_F m c t hz (by omega) (by omega) h1]; frame_out
    simp only [read_unread_whole]
    rw [wblk_kept m c t hz]

end Cert.Kernel6Ideal.RetIn
-- ==== Proof.RetIn.Row.lean ====
/- The retention layer's input projection as rows, said once for both programs. -/
module

public import proofs.«01_k».proof.Proof.Common

@[expose] public section

noncomputable section

open Idealize.ShloMosaic

namespace Cert.RetIn

/-- The gate's activation. -/
def gate (x : EReal) : EReal := Ideal.div x (1 + Ideal.exp (-x))

/-- The row of the tables that row `p` reads: a prompt's position, or the sample row's own. -/
def tabRow (p : Fin 9216) : Fin 5120 := ⟨if p.val < 8192 then p.val % 4096 else p.val - 4096, by split <;> omega⟩

/-- A row's heads of 256 columns, rotated in half-split pairs by the angles with the given cosines and sines. -/
def rot (P : Fin 12288 → EReal) (cs sn : Fin 128 → EReal) (d : Fin 12288) : EReal :=
  if h : d.val % 256 < 128 then P d * cs ⟨d.val % 128, by omega⟩ - P ⟨d.val + 128, by omega⟩ * sn ⟨d.val % 128, by omega⟩
  else P d * cs ⟨d.val % 128, by omega⟩ + P ⟨d.val - 128, by omega⟩ * sn ⟨d.val % 128, by omega⟩

theorem rot_lo (P : Fin 12288 → EReal) (cs sn : Fin 128 → EReal) (d a b : Fin 12288) (e : Fin 128) (h : d.val % 256 < 128)
    (ha : a.val = d.val) (hb : b.val = d.val + 128) (he : e.val = d.val % 128) : P a * cs e - P b * sn e = rot P cs sn d := by
  unfold rot
  rw [dif_pos h]
  exact congrArg₂ (· - ·) (congrArg₂ (· * ·) (congrArg P (Fin.ext ha)) (congrArg cs (Fin.ext he)))
    (congrArg₂ (· * ·) (congrArg P (Fin.ext hb)) (congrArg sn (Fin.ext he)))

theorem rot_hi (P : Fin 12288 → EReal) (cs sn : Fin 128 → EReal) (d a b : Fin 12288) (e : Fin 128) (h : ¬d.val % 256 < 128)
    (ha : a.val = d.val) (hb : b.val = d.val - 128) (he : e.val = d.val % 128) : P a * cs e + P b * sn e = rot P cs sn d := by
  unfold rot
  rw [dif_neg h]
  exact congrArg₂ (· + ·) (congrArg₂ (· * ·) (congrArg P (Fin.ext ha)) (congrArg cs (Fin.ext he)))
    (congrArg₂ (· * ·) (congrArg P (Fin.ext hb)) (congrArg sn (Fin.ext he)))

/-- A row of the result: queries rotated, keys rotated and scaled by the word of 1/16, values, activated gates. -/
def zRow (P : Fin 12288 → EReal) (cs sn : Fin 128 → EReal) (d : Fin 12288) : EReal :=
  if d.val < 2048 then rot P cs sn d
  else if d.val < 4096 then rot P cs sn d * Ideal.ofBits .f32 0x3D800000#32
  else if d.val < 8192 then P d
  else gate (P d)

end Cert.RetIn

end
-- ==== Proof.RetIn.Kernel.lean ====
/- The retention layer's input projection: what the call's result array holds at the extended reals. Point `t` of the grid
   handles rows `1024 * (t % 9) …` and columns `1024 * (t / 9) …`. -/
module

public import proofs.«01_k».proof.Proof.RetIn.Tile
public import proofs.«01_k».proof.Proof.RetIn.Row

@[expose] public section

set_option maxRecDepth 16384

noncomputable section

open Idealize.ShloMosaic Idealize.ShloMosaic.TcCoe Idealize.SL.Sem
open Idealize.ShloMosaic.Pipeline (Dat)

namespace Cert.Kernel6Ideal.RetIn

open Cert.Kernel6Ideal Cert.Kernel6Ideal.Gen Cert.Layer
open Cert.RetIn (tabRow rot zRow rot_lo rot_hi)

variable (m : (ℓ : Loc nD τ sig) → Buf (Elt Ideal) ℓ)

/-- After the run the result array holds what the launch wrote into it, and the arguments are as launched. -/
theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩) (run_main m ρ)

/-- Every window's block index at a grid point. -/
theorem idx : ∀ t : Fin cfg0.N, win0_0.index t = ![t.val % 9, 0] ∧ win0_1.index t = ![0, t.val / 9]
    ∧ win0_2.index t = ![if t.val % 9 < 8 then t.val % 9 % 4 else 4, 0]
    ∧ win0_3.index t = ![if t.val % 9 < 8 then t.val % 9 % 4 else 4, 0] ∧ win0_4.index t = ![t.val % 9, t.val / 9] :=
  (by decide +kernel : ∀ t : Fin grid0.N, _)

theorem N_lt (t : Fin cfg0.N) : t.val < 108 := lt_of_lt_of_eq t.isLt (show cfg0.N = 108 from N_0)

/-- Row `r` of point `t`'s block … -/
def rowOf (t : Fin cfg0.N) (r : Fin 1024) : Fin 9216 := ⟨1024 * (t.val % 9) + r.val, by omega⟩

/-- … and column `e`. -/
def colOf (t : Fin cfg0.N) (e : Fin 1024) : Fin 12288 := ⟨1024 * (t.val / 9) + e.val, by have := N_lt t; omega⟩

/-- Row `p` of the product. -/
def prodRow (c : Dev nD) (p : Fin 9216) : Fin 12288 → EReal :=
  dotRow (fun k => m ((c : Thread nD τ).loc main_arg0) (ix2 p k)) (fun k d => m ((c : Thread nD τ).loc main_arg1) (ix2 k d))

/-- The cosines and sines of row `p`'s position. -/
def cosRow (c : Dev nD) (p : Fin 9216) : Fin 128 → EReal := fun e => m ((c : Thread nD τ).loc main_arg2) (ix2 (tabRow p) e)

def sinRow (c : Dev nD) (p : Fin 9216) : Fin 128 → EReal := fun e => m ((c : Thread nD τ).loc main_arg3) (ix2 (tabRow p) e)

theorem blk0 (c : Dev nD) (t : Fin cfg0.N) (r : Fin 1024) (k : Fin 2048) :
    iblk m c 0 t (ix2 r k) = m ((c : Thread nD τ).loc main_arg0) (ix2 (rowOf t r) k) := by
  have hi := idx t
  blk_ext! [iblk, V, hi, rowOf]

theorem wblk_apply (c : Dev nD) (t : Fin cfg0.N) (k : Fin 2048) (e : Fin 1024) :
    wblk m c t (ix2 k e) = m ((c : Thread nD τ).loc main_arg1) (ix2 k (colOf t e)) := by
  have hi := idx ⟨9 * (t.val / 9), Pipeline.run_start_lt t⟩
  unfold wblk
  rw [pay1_eq]
  blk_ext! [iblk, V, hi, colOf]

theorem blk2 (c : Dev nD) (t : Fin cfg0.N) (r : Fin 1024) (e : Fin 128) :
    iblk m c 2 t (ix2 r e) = cosRow m c (rowOf t r) e := by
  have hi := idx t
  unfold cosRow
  by_cases h : t.val % 9 < 8
  · simp only [if_pos h] at hi
    have e1 : (tabRow (rowOf t r)).val = t.val % 9 % 4 * 1024 + r.val := by
      change (if 1024 * (t.val % 9) + r.val < 8192 then (1024 * (t.val % 9) + r.val) % 4096 else 1024 * (t.val % 9) + r.val - 4096) = _
      split_ifs <;> omega
    blk_ext! [iblk, V, hi, e1]
  · simp only [if_neg h] at hi
    have e1 : (tabRow (rowOf t r)).val = 4 * 1024 + r.val := by
      change (if 1024 * (t.val % 9) + r.val < 8192 then (1024 * (t.val % 9) + r.val) % 4096 else 1024 * (t.val % 9) + r.val - 4096) = _
      split_ifs <;> omega
    blk_ext! [iblk, V, hi, e1]

theorem blk3 (c : Dev nD) (t : Fin cfg0.N) (r : Fin 1024) (e : Fin 128) :
    iblk m c 3 t (ix2 r e) = sinRow m c (rowOf t r) e := by
  have hi := idx t
  unfold sinRow
  by_cases h : t.val % 9 < 8
  · simp only [if_pos h] at hi
    have e1 : (tabRow (rowOf t r)).val = t.val % 9 % 4 * 1024 + r.val := by
      change (if 1024 * (t.val % 9) + r.val < 8192 then (1024 * (t.val % 9) + r.val) % 4096 else 1024 * (t.val % 9) + r.val - 4096) = _
      split_ifs <;> omega
    blk_ext! [iblk, V, hi, e1]
  · simp only [if_neg h] at hi
    have e1 : (tabRow (rowOf t r)).val = 4 * 1024 + r.val := by
      change (if 1024 * (t.val % 9) + r.val < 8192 then (1024 * (t.val % 9) + r.val) % 4096 else 1024 * (t.val % 9) + r.val - 4096) = _
      split_ifs <;> omega
    blk_ext! [iblk, V, hi, e1]

/-- A point's products are the rows' entries. -/
theorem prod_apply (c : Dev nD) (t : Fin cfg0.N) (r e : Fin 1024) :
    k0_pay2 (F := Ideal) (iblk m c 0 t) (wblk m c t) (ix2 r e) = prodRow m c (rowOf t r) (colOf t e) := by
  rw [pay2_apply]
  unfold prodRow dotRow
  simp only [blk0, wblk_apply]

theorem tileRot_eq (c : Dev nD) (t : Fin cfg0.N) (sc : EReal) (r e : Fin 1024) :
    tileRot (k0_pay2 (F := Ideal) (iblk m c 0 t) (wblk m c t)) (iblk m c 2 t) (iblk m c 3 t) sc r e
      = rot (prodRow m c (rowOf t r)) (cosRow m c (rowOf t r)) (sinRow m c (rowOf t r)) (colOf t e) * sc := by
  unfold tileRot
  congr 1
  split_ifs with h
  · rw [prod_apply, prod_apply, blk2, blk3]
    refine rot_lo _ _ _ _ _ _ _ ?_ ?_ ?_ ?_ <;> first | rfl | (dsimp only [colOf]; omega)
  · rw [prod_apply, prod_apply, blk2, blk3]
    refine rot_hi _ _ _ _ _ _ _ ?_ ?_ ?_ ?_ <;> first | rfl | (dsimp only [colOf]; omega)

theorem word : ∀ t : Fin cfg0.N, Scalar.cmpi .slt (BitVec.ofNat 32 (grid0.coords t 0).val) 2#32 = if t.val < 18 then 1#1 else 0#1 :=
  (by decide +kernel : ∀ t : Fin grid0.N, _)

theorem scale_lo (t : Fin cfg0.N) (h : t.val < 18) : scale t = 1 := by
  have e := word t
  rw [if_pos h] at e
  unfold scale k0_pay10
  simp only [e]
  pointwise []

theorem scale_hi (t : Fin cfg0.N) (h : ¬t.val < 18) : scale t = Ideal.ofBits .f32 0x3D800000#32 := by
  have e := word t
  rw [if_neg h] at e
  unfold scale k0_pay10
  simp only [e]
  rfl

theorem gate_eq (x : EReal) : gate x = Cert.RetIn.gate x := by
  pointwise [gate, Cert.RetIn.gate]

/-- Row `p` of the result. -/
def outRow (c : Dev nD) (p : Fin 9216) : Fin 12288 → EReal := zRow (prodRow m c p) (cosRow m c p) (sinRow m c p)

/-- What a point stores. -/
theorem out_apply (c : Dev nD) (t : Fin cfg0.N) (r e : Fin 1024) :
    (outsAt0 m c t.val t.isLt).1 (ix2 r e) = outRow m c (rowOf t r) (colOf t e) := by
  have hN := N_lt t
  have hc : (colOf t e).val = 1024 * (t.val / 9) + e.val := rfl
  unfold outRow zRow
  by_cases h1 : t.val < 18
  · rw [if_pos (by omega), out_qk m c t (by omega), scale_lo t h1]
    exact (tileRot_eq m c t 1 r e).trans (mul_one _)
  · rw [if_neg (by omega)]
    by_cases h2 : t.val < 36
    · rw [if_pos (by omega), out_qk m c t h2, scale_hi t h1]
      exact tileRot_eq m c t _ r e
    · rw [if_neg (by omega)]
      by_cases h3 : t.val < 72
      · rw [if_pos (by omega), out_v m c t (by omega) h3, pay8_apply, prod_apply]
      · rw [if_neg (by omega), out_g m c t (by omega), pay9_apply, prod_apply, gate_eq]

/-- The result array holds the rows `outRow`. -/
theorem final4 (c : Dev nD) : (dats m 0 c).arrAt 4 cfg0.N = fun i => outRow m c (i 0) (i 1) := by
  refine (dats m 0 c).arrAt_eq_of_covers 4 _ (by decide +kernel) fun t hf y => ?_
  have hi := idx t
  blk_simp
  rw [after0_4]
  obtain ⟨r, e, rfl⟩ : ∃ (r : Fin 1024) (e : Fin 1024), y = ix2 r e := ⟨y 0, y 1, ValueIdx.eq_ix2 y⟩
  refine (out_apply m c t r e).trans ?_
  congr 1
  · ext; blk_simp [hi, rowOf]; simp only; omega
  · ext; blk_simp [hi, colOf]; simp only; omega

end Cert.Kernel6Ideal.RetIn

end
-- ==== Proof.RetIn.Reference.lean ====
/- The retention layer's input projection, written plainly: the entries of the reference's result at the extended reals. -/
module

public import proofs.«01_k».proof.Proof.Common
public import proofs.«01_k».proof.Proof.RetIn.Row
public import proofs.«01_k».proof.Proof.Gen.Reference6Ideal.Read

@[expose] public section

set_option maxRecDepth 16384

noncomputable section

open Idealize.ShloMosaic Idealize.ShloMosaic.TcCoe Idealize.SL.Sem

namespace Cert.Reference6Ideal.RetIn

open Cert.Reference6Ideal Cert.Reference6Ideal.Read Cert.Layer Cert.RetIn

variable (x0 : (⟨S9216x2048, .bf16⟩ : BufTy).Contents (Elt Ideal)) (x1 : (⟨S2048x12288, .f32⟩ : BufTy).Contents (Elt Ideal))
  (x2 x3 : (⟨S5120x128, .f32⟩ : BufTy).Contents (Elt Ideal))

/-- Row `p` of the product. -/
def prod (p : Fin 9216) : Fin 12288 → EReal := dotRow (fun k => x0 (ix2 p k)) (fun k d => x1 (ix2 k d))

theorem prod_apply (p : Fin 9216) (d : Fin 12288) : val_main_v9 (F := Ideal) x0 x1 (ix2 p d) = prod x0 x1 p d := by
  pointwise [val_main_v9, val_main_v8, prod, dotRow]

set_option maxRecDepth 100000 in
theorem cos_apply (p : Fin 9216) (e : Fin 128) : val_main_v3 (F := Ideal) x2 (ix2 p e) = x2 (ix2 (tabRow p) e) := by
  pointwise [val_main_v3, val_main_v2, val_main_v1, val_main_v0]
  split_ifs with h1 h2
  all_goals exact congrArg (fun r => x2 (ix2 r e)) (Fin.ext (by unfold tabRow; dsimp only; split_ifs <;> omega))

set_option maxRecDepth 100000 in
theorem sin_apply (p : Fin 9216) (e : Fin 128) : val_main_v7 (F := Ideal) x3 (ix2 p e) = x3 (ix2 (tabRow p) e) := by
  pointwise [val_main_v7, val_main_v6, val_main_v5, val_main_v4]
  split_ifs with h1 h2
  all_goals exact congrArg (fun r => x3 (ix2 r e)) (Fin.ext (by unfold tabRow; dsimp only; split_ifs <;> omega))

theorem q_apply (p : Fin 9216) (d : Fin 2048) : val_main_v30 (F := Ideal) x0 x1 x2 x3 (ix2 p d)
    = rot (prod x0 x1 p) (fun e => x2 (ix2 (tabRow p) e)) (fun e => x3 (ix2 (tabRow p) e)) ⟨d.val, by omega⟩ := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v10]
  by_cases h : d.val % 256 < 128
  · simp only [dif_pos h, prod_apply, cos_apply, sin_apply]
    refine (rot_lo (prod x0 x1 p) (fun e => x2 (ix2 (tabRow p) e)) (fun e => x3 (ix2 (tabRow p) e)) ⟨d.val, by omega⟩ _ _ _ ?_ ?_ ?_ ?_) <;> first | rfl | omega | (dsimp only; omega)
  · simp only [dif_neg h, prod_apply, cos_apply, sin_apply]
    refine (rot_hi (prod x0 x1 p) (fun e => x2 (ix2 (tabRow p) e)) (fun e => x3 (ix2 (tabRow p) e)) ⟨d.val, by omega⟩ _ _ _ ?_ ?_ ?_ ?_) <;> first | rfl | omega | (dsimp only; omega)

theorem k_apply (p : Fin 9216) (d : Fin 2048) : val_main_v49 (F := Ideal) x0 x1 x2 x3 (ix2 p d)
    = rot (prod x0 x1 p) (fun e => x2 (ix2 (tabRow p) e)) (fun e => x3 (ix2 (tabRow p) e)) ⟨2048 + d.val, by omega⟩
      * Ideal.ofBits .f32 0x3D800000#32 := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v11, val_main_cst]
  by_cases h : d.val % 256 < 128
  · simp only [dif_pos h, prod_apply, cos_apply, sin_apply]
    refine (congrArg (· * Ideal.ofBits .f32 0x3D800000#32) (rot_lo (prod x0 x1 p) (fun e => x2 (ix2 (tabRow p) e)) (fun e => x3 (ix2 (tabRow p) e)) ⟨2048 + d.val, by omega⟩ _ _ _ ?_ ?_ ?_ ?_)) <;> first | rfl | omega | (dsimp only; omega)
  · simp only [dif_neg h, prod_apply, cos_apply, sin_apply]
    refine (congrArg (· * Ideal.ofBits .f32 0x3D800000#32) (rot_hi (prod x0 x1 p) (fun e => x2 (ix2 (tabRow p) e)) (fun e => x3 (ix2 (tabRow p) e)) ⟨2048 + d.val, by omega⟩ _ _ _ ?_ ?_ ?_ ?_)) <;> first | rfl | omega | (dsimp only; omega)

theorem z_apply (p : Fin 9216) (d : Fin 12288) : val_main_v56 (F := Ideal) x0 x1 x2 x3 (ix2 p d)
    = zRow (prod x0 x1 p) (fun e => x2 (ix2 (tabRow p) e)) (fun e => x3 (ix2 (tabRow p) e)) d := by
  pointwise [val_main_v56, val_main_v55, val_main_v54, val_main_v53, val_main_v52, val_main_v51, val_main_v50, val_main_v12, val_main_v13, val_main_cst_0]
  unfold zRow
  by_cases h1 : d.val < 2048
  · rw [dif_pos h1, if_pos h1, q_apply]
  · rw [dif_neg h1, if_neg h1]
    by_cases h2 : d.val < 4096
    · have e : (⟨2048 + (d.val - 2048), by omega⟩ : Fin 12288) = d := Fin.ext (by simp only; omega)
      rw [dif_pos (show d.val - 2048 < 2048 by omega), if_pos h2, k_apply, e]
    · rw [dif_neg (show ¬d.val - 2048 < 2048 by omega), if_neg h2]
      by_cases h3 : d.val < 8192
      · have e : (⟨4096 + (d.val - 2048 - 2048), by omega⟩ : Fin 12288) = d := Fin.ext (by simp only; omega)
        rw [dif_pos (show d.val - 2048 - 2048 < 4096 by omega), if_pos h3, e, prod_apply]
      · have e : (⟨8192 + (d.val - 2048 - 2048 - 4096), by omega⟩ : Fin 12288) = d := Fin.ext (by simp only; omega)
        rw [dif_neg (show ¬d.val - 2048 - 2048 < 4096 by omega), if_neg h3, e, prod_apply]
        rfl

end Cert.Reference6Ideal.RetIn

end
-- ==== Proof.RetIn.Claim.lean ====
/- The retention layer's input projection: the equation between the call and the plain reference. -/
module

public import proofs.«01_k».proof.Proof.RetIn.Kernel
public import proofs.«01_k».proof.Proof.RetIn.Reference
public import proofs.«01_k».proof.Proof.Gen.Reference6Ideal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.RetIn

variable (m0 : (ℓ : Loc Kernel6Ideal.nD Kernel6Ideal.τ Kernel6Ideal.sig) → Buf (Elt Ideal) ℓ)

/-- On the same arguments the reference's result holds the same rows. -/
theorem z_eq (c : Dev Kernel6Ideal.nD) (y : Reference6Ideal.S9216x12288.Idx) :
    Reference6Ideal.Read.val_main_v56 (F := Ideal) (m0 ((c : Thread Kernel6Ideal.nD Kernel6Ideal.τ).loc Kernel6Ideal.main_arg0)) (m0 ((c : Thread Kernel6Ideal.nD Kernel6Ideal.τ).loc Kernel6Ideal.main_arg1))
      (m0 ((c : Thread Kernel6Ideal.nD Kernel6Ideal.τ).loc Kernel6Ideal.main_arg2)) (m0 ((c : Thread Kernel6Ideal.nD Kernel6Ideal.τ).loc Kernel6Ideal.main_arg3)) y
      = Kernel6Ideal.RetIn.outRow m0 c (y 0) (y 1) := by
  obtain ⟨p, d, rfl⟩ : ∃ (p : Fin 9216) (d : Fin 12288), y = ix2 p d := ⟨y 0, y 1, ValueIdx.eq_ix2 y⟩
  exact Reference6Ideal.RetIn.z_apply _ _ _ _ p d

theorem algebraic : Cert.algebraic_Kernel6Ideal_Reference6Ideal := by
  pair_intro
  rotate_left 2
  · exact fun c => (Kernel6Ideal.Gen.dats m 0 c).arrAt 4 Kernel6Ideal.cfg0.N
  · run_from Kernel6Ideal.RetIn.run_blocks m g
  · run_from Reference6Ideal.Value.run m' g'
    refine (Reference6Ideal.Read.val_main_v56_eq _ _).trans ?_
    rw [(hagree c).1, (hagree c).2.1, (hagree c).2.2.1, (hagree c).2.2.2, Kernel6Ideal.RetIn.final4]
    exact funext fun y => z_eq m c y

end Cert.RetIn

end
-- ==== Proof.AbIn.Row.lean ====
/- The first layer's input projection as rows, said once for the programs: the GELU, the layer norm of a row of 1024
   values, and the partial rotation of a row's heads. -/
module

public import proofs.«01_k».proof.Proof.Common

@[expose] public section

noncomputable section

open Idealize.ShloMosaic

namespace Cert.AbIn

/-- The GELU by its tanh form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

theorem gelu_comm (x : EReal) : gelu x = x * (Ideal.ofBits .f32 0x3F000000#32 * (Ideal.ofBits .f32 0x3F800000#32
    + Ideal.tanh (Ideal.ofBits .f32 0x3F4C422A#32 * (x + Ideal.ofBits .f32 0x3D372713#32 * (x * (x * x)))))) := by
  rw [mul_comm x (x * x)]
  rfl

/-- The mean of a row of 1024 values. -/
def mean (y : Fin 1024 → EReal) : EReal := Ideal.div (∑ k, y k) (Ideal.ofBits .f32 0x44800000#32)

/-- The row less its mean, over its standard deviation. -/
def normed (y : Fin 1024 → EReal) (d : Fin 1024) : EReal :=
  (y d - mean y) * Ideal.rsqrt (mean (fun k => (y k - mean y) * (y k - mean y)) + Ideal.ofBits .f32 0x358637BD#32)

/-- The layer norm of a row, with weights `g` and shifts `b`. -/
def lnRow (y g b : Fin 1024 → EReal) (d : Fin 1024) : EReal := normed y d * g d + b d

/-- The row of the rotation's tables that row `p` reads: a prompt's position, or the sample row's own. -/
def tabRow (p : Fin 9216) : Fin 5120 := ⟨if p.val < 8192 then p.val % 4096 else p.val - 4096, by split <;> omega⟩

/-- A row's heads of 64 columns, whose first sixteen are rotated in half-split pairs of eight by the angles with the given
    cosines and sines. -/
def partialRot {N : ℕ} (hN : N % 64 = 0) (P : Fin N → EReal) (cs sn : Fin 8 → EReal) (d : Fin N) : EReal :=
  if h : d.val % 64 < 8 then P d * cs ⟨d.val % 64, h⟩ - P ⟨d.val + 8, by omega⟩ * sn ⟨d.val % 64, h⟩
  else if h' : d.val % 64 < 16 then
    P d * cs ⟨d.val % 64 - 8, by omega⟩ + P ⟨d.val - 8, by omega⟩ * sn ⟨d.val % 64 - 8, by omega⟩
  else P d

section
variable {N : ℕ} (hN : N % 64 = 0) (P : Fin N → EReal) (cs sn : Fin 8 → EReal) (d a b : Fin N) (e : Fin 8)

theorem partialRot_lo (h : d.val % 64 < 8) (ha : a.val = d.val) (hb : b.val = d.val + 8) (he : e.val = d.val % 64) :
    P a * cs e - P b * sn e = partialRot hN P cs sn d := by
  unfold partialRot
  rw [dif_pos h]
  exact congrArg₂ (· - ·) (congrArg₂ (· * ·) (congrArg P (Fin.ext ha)) (congrArg cs (Fin.ext he)))
    (congrArg₂ (· * ·) (congrArg P (Fin.ext hb)) (congrArg sn (Fin.ext he)))

theorem partialRot_hi (h : ¬d.val % 64 < 8) (h' : d.val % 64 < 16) (ha : a.val = d.val) (hb : b.val = d.val - 8)
    (he : e.val = d.val % 64 - 8) : P a * cs e + P b * sn e = partialRot hN P cs sn d := by
  unfold partialRot
  rw [dif_neg h, dif_pos h']
  exact congrArg₂ (· + ·) (congrArg₂ (· * ·) (congrArg P (Fin.ext ha)) (congrArg cs (Fin.ext he)))
    (congrArg₂ (· * ·) (congrArg P (Fin.ext hb)) (congrArg sn (Fin.ext he)))

theorem partialRot_rest (h' : ¬d.val % 64 < 16) (ha : a.val = d.val) : P a = partialRot hN P cs sn d := by
  unfold partialRot
  rw [dif_neg (by omega), dif_neg h']
  exact congrArg P (Fin.ext ha)

end

/-- Two heads' table of factors of a column itself: its cosine, or 1. -/
def tab0 (cs : Fin 8 → EReal) (l : Fin 128) : EReal :=
  if h : l.val % 64 < 8 then cs ⟨l.val % 64, h⟩ else if h' : l.val % 64 < 16 then cs ⟨l.val % 64 - 8, by omega⟩ else 1

/-- … of the column eight after it: minus its sine, or 0 … -/
def tab1 (sn : Fin 8 → EReal) (l : Fin 128) : EReal := if h : l.val % 64 < 8 then -sn ⟨l.val % 64, h⟩ else 0

/-- … and of the column eight before it: its sine, or 0. -/
def tab2 (sn : Fin 8 → EReal) (l : Fin 128) : EReal :=
  if h : l.val % 64 < 8 then 0 else if h' : l.val % 64 < 16 then sn ⟨l.val % 64 - 8, by omega⟩ else 0

/-- The tables as they are set side by side. -/
theorem tab0_beside (f : Fin 8 → EReal) (l : Fin 128) : (if h : l.val < 8 then f ⟨l.val, h⟩ else if h : l.val - 8 < 8 then f ⟨l.val - 8, h⟩
    else if h : l.val - 8 - 8 < 48 then 1 else if h : l.val - 8 - 8 - 48 < 8 then f ⟨l.val - 8 - 8 - 48, h⟩
    else if h : l.val - 8 - 8 - 48 - 8 < 8 then f ⟨l.val - 8 - 8 - 48 - 8, h⟩ else 1) = tab0 f l := by
  unfold tab0
  split_ifs <;> first | (exfalso; omega) | rfl | exact congrArg f (Fin.ext (by simp only; omega))

theorem tab1_beside (f : Fin 8 → EReal) (l : Fin 128) : (if h : l.val < 8 then -f ⟨l.val, h⟩ else if h : l.val - 8 < 56 then 0
    else if h : l.val - 8 - 56 < 8 then -f ⟨l.val - 8 - 56, h⟩ else 0) = tab1 f l := by
  unfold tab1
  split_ifs <;> first | (exfalso; omega) | rfl | exact congrArg (fun e => -f e) (Fin.ext (by simp only; omega))

theorem tab2_beside (f : Fin 8 → EReal) (l : Fin 128) : (if h : l.val < 8 then 0 else if h : l.val - 8 < 8 then f ⟨l.val - 8, h⟩
    else if h : l.val - 8 - 8 < 48 then 0 else if h : l.val - 8 - 8 - 48 < 8 then 0
    else if h : l.val - 8 - 8 - 48 - 8 < 8 then f ⟨l.val - 8 - 8 - 48 - 8, h⟩ else 0) = tab2 f l := by
  unfold tab2
  split_ifs <;> first | (exfalso; omega) | rfl | exact congrArg f (Fin.ext (by simp only; omega))

/-- A column with its two neighbours through the tables is the rotated column. -/
theorem lane_eq {N : ℕ} (hN : N % 64 = 0) (P : Fin N → EReal) (cs sn : Fin 8 → EReal) (d : Fin N) (l : Fin 128)
    (hl : l.val % 64 = d.val % 64) (x1 x2 : EReal) (h1 : ∀ h : d.val % 64 < 8, x1 = P ⟨d.val + 8, by omega⟩)
    (h2 : ∀ h : 8 ≤ d.val % 64, x2 = P ⟨d.val - 8, by omega⟩) :
    P d * tab0 cs l + x1 * tab1 sn l + x2 * tab2 sn l = partialRot hN P cs sn d := by
  unfold tab0 tab1 tab2 partialRot
  simp only [hl]
  split_ifs with h h'
  · rw [h1 h, mul_zero, add_zero, mul_neg, ← sub_eq_add_neg]
  · rw [h2 (by omega), mul_zero, add_zero]
  · rw [mul_one, mul_zero, mul_zero, add_zero, add_zero]

end Cert.AbIn

end
-- ==== Proof.AbIn.U.lean ====
/- The first layer's gate projection: what one grid point stores, and what the call's result array holds, at the extended
   reals. A point has a block of 1024 rows and the weights' block of 512 columns, rounded once for nine points; point `t`
   handles rows `1024 * (t % 9) …` and columns `512 * (t / 9) …`. -/
module

public import proofs.«01_k».proof.Proof.AbIn.Row
public import proofs.«01_k».proof.Proof.Gen.Kernel7Ideal.Value
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel7Ideal.AbInU

open Cert.Kernel7Ideal Cert.Kernel7Ideal.Gen Cert.Layer Cert.AbIn

theorem pay1_eq (w : Vec Ideal S2048x512 .f32) : k0_pay1 (F := Ideal) w = w := by
  funext j
  pointwise [k0_pay1]

theorem pay2_apply (v3 : Vec Ideal S1024x2048 .bf16) (v4 : Vec Ideal S2048x512 .bf16) (r : Fin 1024) (e : Fin 512) :
    k0_pay2 (F := Ideal) v3 v4 (ix2 r e) = gelu (dotRow (fun k => v3 (ix2 r k)) (fun k e => v4 (ix2 k e)) e) := by
  pointwise [k0_pay2, dotRow, gelu, mul_comm, mul_assoc, mul_left_comm]

variable (m : (ℓ : Loc nD τ sig) → Buf (Elt Ideal) ℓ)

/-- The first of nine points rounds the weights' block into the scratch … -/
theorem scratch_first (c : Dev nD) (t : Fin cfg0.N) (h : t.val % 9 = 0) :
    (outsAt0 m c t.val t.isLt).2 = k0_pay1 (F := Ideal) (iblk m c 1 t) := by
  rw [outsAt0_A m c t h]; frame_out

/-- … and the others keep it. -/
theorem scratch_kept (c : Dev nD) (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]; dsimp only [sout0_B_0]

/-- The weights' block a point multiplies by. -/
abbrev wblk (c : Dev nD) (t : Fin cfg0.N) : S2048x512.Idx → EReal :=
  k0_pay1 (F := Ideal) (iblk m c 1 ⟨9 * (t.val / 9), Pipeline.run_start_lt t⟩)

theorem scratch_eq (c : Dev nD) (t : Fin cfg0.N) : (outsAt0 m c t.val t.isLt).2 = wblk m c t :=
  Pipeline.eq_of_write_hold (fun n h => (outsAt0 m c n h).2) 9 (fun t => k0_pay1 (F := Ideal) (iblk m c 1 t))
    (scratch_first m c) (scratch_kept m c) t

theorem wblk_first (c : Dev nD) (t : Fin cfg0.N) (h : t.val % 9 = 0) : k0_pay1 (F := Ideal) (iblk m c 1 t) = wblk m c t :=
  (scratch_first m c t h).symm.trans (scratch_eq m c t)

theorem wblk_kept (c : Dev nD) (t : Fin cfg0.N) (h : ¬t.val % 9 = 0) :
    (outsAt0 m c (t.val - 1) (Nat.lt_of_le_of_lt (Nat.sub_le _ _) t.isLt)).2 = wblk m c t :=
  (scratch_kept m c t h).symm.trans (scratch_eq m c t)

theorem out_eq (c : Dev nD) (t : Fin cfg0.N) :
    (outsAt0 m c t.val t.isLt).1 = k0_pay2 (F := Ideal) (iblk m c 0 t) (wblk m c t) := by
  by_cases hz : t.val % 9 = 0
  · rw [outsAt0_A m c t hz]; frame_out
    rw [wblk_first m c t hz]
  · rw [outsAt0_B m c t hz]; frame_out
    simp only [read_unread_whole]
    rw [wblk_kept m c t hz]

/-- Every window's block index at a grid point. -/
theorem idx : ∀ t : Fin cfg0.N, win0_0.index t = ![t.val % 9, 0] ∧ win0_1.index t = ![0, 3 + t.val / 9]
    ∧ win0_2.index t = ![t.val % 9, t.val / 9] :=
  (by decide +kernel : ∀ t : Fin grid0.N, _)

theorem N_lt (t : Fin cfg0.N) : t.val < 18 := lt_of_lt_of_eq t.isLt (show cfg0.N = 18 from N_0)

/-- Row `r` of point `t`'s block … -/
def rowOf (t : Fin cfg0.N) (r : Fin 1024) : Fin 9216 := ⟨1024 * (t.val % 9) + r.val, by omega⟩

/-- … and column `e`. -/
def colOf (t : Fin cfg0.N) (e : Fin 512) : Fin 1024 := ⟨512 * (t.val / 9) + e.val, by have := N_lt t; omega⟩

theorem blk0 (c : Dev nD) (t : Fin cfg0.N) (r : Fin 1024) (k : Fin 2048) :
    iblk m c 0 t (ix2 r k) = m ((c : Thread nD τ).loc main_arg0) (ix2 (rowOf t r) k) := by
  have hi := idx t
  blk_ext! [iblk, V, hi, rowOf]

theorem wblk_apply (c : Dev nD) (t : Fin cfg0.N) (k : Fin 2048) (e : Fin 512) :
    wblk m c t (ix2 k e) = m ((c : Thread nD τ).loc main_arg1) (ix2 k ⟨1536 + (colOf t e).val, by omega⟩) := by
  have hi := idx ⟨9 * (t.val / 9), Pipeline.run_start_lt t⟩
  unfold wblk
  rw [pay1_eq]
  blk_ext! [iblk, V, hi, colOf]

/-- Row `p` of the result. -/
def outRow (c : Dev nD) (p : Fin 9216) (d : Fin 1024) : EReal :=
  gelu (dotRow (fun k => m ((c : Thread nD τ).loc main_arg0) (ix2 p k))
    (fun k (e : Fin 1024) => m ((c : Thread nD τ).loc main_arg1) (ix2 k ⟨1536 + e.val, by omega⟩)) d)

theorem out_apply (c : Dev nD) (t : Fin cfg0.N) (r : Fin 1024) (e : Fin 512) :
    (outsAt0 m c t.val t.isLt).1 (ix2 r e) = outRow m c (rowOf t r) (colOf t e) := by
  rw [out_eq, pay2_apply]
  unfold outRow dotRow
  simp only [blk0, wblk_apply]

/-- The result array holds the rows `outRow`. -/
theorem final2 (c : Dev nD) : (dats m 0 c).arrAt 2 cfg0.N = fun i => outRow m c (i 0) (i 1) := by
  refine (dats m 0 c).arrAt_eq_of_covers 2 _ (by decide +kernel) fun t hf y => ?_
  have hi := idx t
  blk_simp
  rw [after0_2]
  obtain ⟨r, e, rfl⟩ : ∃ (r : Fin 1024) (e : Fin 512), y = ix2 r e := ⟨y 0, y 1, ValueIdx.eq_ix2 y⟩
  refine (out_apply m c t r e).trans ?_
  congr 1
  · ext; blk_simp [hi, rowOf]; simp only; omega
  · ext; blk_simp [hi, colOf]; simp only; omega

end Cert.Kernel7Ideal.AbInU

end
-- ==== Proof.AbIn.UClaim.lean ====
/- The first layer's gate projection: the plain reference's entries, and the equation between the two. -/
module

public import proofs.«01_k».proof.Proof.AbIn.U
public import proofs.«01_k».proof.Proof.Gen.Reference7Ideal.Read
public import proofs.«01_k».proof.Proof.Gen.Reference7Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Reference7Ideal.AbInU

open Cert.Reference7Ideal Cert.Reference7Ideal.Read Cert.Layer Cert.AbIn

variable (x0 : (⟨S9216x2048, .bf16⟩ : BufTy).Contents (Elt Ideal)) (x1 : (⟨S2048x3584, .f32⟩ : BufTy).Contents (Elt Ideal))

theorem prod_apply (p : Fin 9216) (d : Fin 1024) : val_main_v2 (F := Ideal) x0 x1 (ix2 p d)
    = dotRow (fun k => x0 (ix2 p k)) (fun k (e : Fin 1024) => x1 (ix2 k ⟨1536 + e.val, by omega⟩)) d := by
  pointwise [val_main_v2, val_main_v1, val_main_v0, dotRow]

theorem out_apply (p : Fin 9216) (d : Fin 1024) : val_main_v16 (F := Ideal) x0 x1 (ix2 p d)
    = gelu (dotRow (fun k => x0 (ix2 p k)) (fun k (e : Fin 1024) => x1 (ix2 k ⟨1536 + e.val, by omega⟩)) d) := by
  rw [← prod_apply x0 x1]
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, gelu]

end Cert.Reference7Ideal.AbInU

namespace Cert.AbInU

theorem algebraic : Cert.algebraic_Kernel7Ideal_Reference7Ideal := by
  pair_intro
  rotate_left 2
  · exact fun c => (Kernel7Ideal.Gen.dats m 0 c).arrAt 2 Kernel7Ideal.cfg0.N
  · run_from Kernel7Ideal.Value.run_blocks m g
  · run_from Reference7Ideal.Value.run m' g'
    refine (Reference7Ideal.Read.val_main_v16_eq _ _).trans ?_
    rw [Kernel7Ideal.AbInU.final2]
    refine funext fun y => ?_
    obtain ⟨p, d, rfl⟩ : ∃ (p : Fin 9216) (d : Fin 1024), y = ix2 p d := ⟨y 0, y 1, ValueIdx.eq_ix2 y⟩
    exact Reference7Ideal.AbInU.out_apply _ _ p d

end Cert.AbInU

end
-- ==== Proof.AbIn.Zv.lean ====
/- The first layer's memory projection: what one grid point stores, and what the call's result arrays hold, at the
   extended reals. A point has a block of 1024 rows and the whole of the weights, rounded once; point `t` handles rows
   `1024 * t …`, and the last point also writes its block unrounded. -/
module

public import proofs.«01_k».proof.Proof.AbIn.Row
public import proofs.«01_k».proof.Proof.Gen.Kernel8Ideal.Value
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel8Ideal.AbInZv

open Cert.Kernel8Ideal Cert.Kernel8Ideal.Gen Cert.Layer Cert.AbIn

theorem pay3_eq (w : Vec Ideal S2048x1024 .f32) : k0_pay3 (F := Ideal) w = w := by
  funext j
  pointwise [k0_pay3]

/-- A row of the products through the GELU. -/
def actRow (v3 : Vec Ideal S1024x2048 .bf16) (v4 : Vec Ideal S2048x1024 .bf16) (r e : Fin 1024) : EReal :=
  gelu (dotRow (fun k => v3 (ix2 r k)) (fun k e => v4 (ix2 k e)) e)

theorem pay4_apply (v3 : Vec Ideal S1024x2048 .bf16) (v4 : Vec Ideal S2048x1024 .bf16) (g : Vec Ideal S1x1024 .f32) (r e : Fin 1024) :
    k0_pay4 (F := Ideal) v3 v4 g (ix2 r e) = normed (actRow v3 v4 r) e * g (ix2 0 e) := by
  pointwise [k0_pay4, normed, mean, actRow, gelu_comm, dotRow]

theorem pay1_apply (v : FVec Ideal S1024x1024 .f32) (b : Vec Ideal S1x1024 .f32) (r e : Fin 1024) :
    k0_pay1 (F := Ideal) v b (ix2 r e) = v (ix2 r e) + b (ix2 0 e) := by
  pointwise [k0_pay1]

theorem pay2_eq (v : FVec Ideal S1024x1024 .f32) (b : Vec Ideal S1x1024 .f32) :
    k0_pay2 (F := Ideal) v b = k0_pay1 (F := Ideal) v b := by
  funext j
  pointwise [k0_pay2]

variable (m : (ℓ : Loc nD τ sig) → Buf (Elt Ideal) ℓ)

/-- The first point rounds the weights' block into the scratch … -/
theorem scratch_first (c : Dev nD) (t : Fin cfg0.N) (h : t.val % 9 = 0) :
    (outsAt0 m c t.val t.isLt).2.2 = k0_pay3 (F := Ideal) (iblk m c 1 t) := by
  rw [outsAt0_A m c t h (by omega)]; frame_out

/-- … and the others keep it. -/
theorem scratch_kept (c : Dev nD) (t : Fin cfg0.N) (h : ¬t.val % 9 = 0) :
    (outsAt0 m c t.val t.isLt).2.2 = (outsAt0 m c (t.val - 1) (Nat.lt_of_le_of_lt (Nat.sub_le _ _) t.isLt)).2.2 := by
  by_cases h1 : t.val % 9 = 8
  · rw [outsAt0_C m c t h h1]; dsimp only [sout0_C_0]
  · rw [outsAt0_B m c t h h1]; dsimp only [sout0_B_0]

/-- The weights a point multiplies by. -/
abbrev wblk (c : Dev nD) (t : Fin cfg0.N) : S2048x1024.Idx → EReal :=
  k0_pay3 (F := Ideal) (iblk m c 1 ⟨9 * (t.val / 9), Pipeline.run_start_lt t⟩)

theorem scratch_eq (c : Dev nD) (t : Fin cfg0.N) : (outsAt0 m c t.val t.isLt).2.2 = wblk m c t :=
  Pipeline.eq_of_write_hold (fun n h => (outsAt0 m c n h).2.2) 9 (fun t => k0_pay3 (F := Ideal) (iblk m c 1 t))
    (scratch_first m c) (scratch_kept m c) t

theorem wblk_first (c : Dev nD) (t : Fin cfg0.N) (h : t.val % 9 = 0) : k0_pay3 (F := Ideal) (iblk m c 1 t) = wblk m c t :=
  (scratch_first m c t h).symm.trans (scratch_eq m c t)

theorem wblk_kept (c : Dev nD) (t : Fin cfg0.N) (h : ¬t.val % 9 = 0) :
    (outsAt0 m c (t.val - 1) (Nat.lt_of_le_of_lt (Nat.sub_le _ _) t.isLt)).2.2 = wblk m c t :=
  (scratch_kept m c t h).symm.trans (scratch_eq m c t)

/-- A point's block of the result. -/
abbrev tile (c : Dev nD) (t : Fin cfg0.N) : S1024x1024.Idx → EReal :=
  k0_pay1 (F := Ideal) (k0_pay4 (F := Ideal) (iblk m c 0 t) (wblk m c t) (iblk m c 2 t)) (iblk m c 3 t)

theorem out_eq (c : Dev nD) (t : Fin cfg0.N) : (outsAt0 m c t.val t.isLt).1 = tile m c t := by
  by_cases hz : t.val % 9 = 0
  · rw [outsAt0_A m c t hz (by omega)]; frame_out
    rw [wblk_first m c t hz, pay2_eq]
  · by_cases h1 : t.val % 9 = 8
    · rw [outsAt0_C m c t hz h1]; frame_out
      simp only [read_unread_whole]
      rw [wblk_kept m c t hz, pay2_eq]
    · rw [outsAt0_B m c t hz h1]; frame_out
      simp only [read_unread_whole]
      rw [wblk_kept m c t hz, pay2_eq]

/-- The last point's unrounded block. -/
theorem out_last (c : Dev nD) (t : Fin cfg0.N) (h1 : t.val % 9 = 8) : (outsAt0 m c t.val t.isLt).2.1 = tile m c t := by
  rw [outsAt0_C m c t (by omega) h1]; frame_out
  simp only [read_unread_whole]
  rw [wblk_kept m c t (by omega)]

/-- Every window's block index at a grid point. -/
theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![0, 0] :=
  (by decide +kernel : ∀ t : Fin grid0.N, _)

theorem N_lt (t : Fin cfg0.N) : t.val < 9 := lt_of_lt_of_eq t.isLt (show cfg0.N = 9 from N_0)

/-- Row `r` of point `t`'s block. -/
def rowOf (t : Fin cfg0.N) (r : Fin 1024) : Fin 9216 := ⟨1024 * t.val + r.val, by have := N_lt t; omega⟩

theorem V_w (c : Dev nD) : V m c main_v0
    = extractStridedSlice S2048x1024 ![0, 2560] (m ((c : Thread nD τ).loc main_arg1)) slices_S2048x3584_S2048x1024_0_2560 := by
  unfold_abbrev_sides
  after_results

theorem blk0 (c : Dev nD) (t : Fin cfg0.N) (r : Fin 1024) (k : Fin 2048) :
    iblk m c 0 t (ix2 r k) = m ((c : Thread nD τ).loc main_arg0) (ix2 (rowOf t r) k) := by
  have hi := idx t
  rw [← V_main_arg0 m c]
  blk_ext! [iblk, hi, rowOf]

theorem wblk_apply (c : Dev nD) (t : Fin cfg0.N) (k : Fin 2048) (e : Fin 1024) :
    wblk m c t (ix2 k e) = m ((c : Thread nD τ).loc main_arg1) (ix2 k ⟨2560 + e.val, by omega⟩) := by
  have hi := idx ⟨9 * (t.val / 9), Pipeline.run_start_lt t⟩
  have e1 : wblk m c t (ix2 k e) = V m c main_v0 (ix2 k e) := by
    unfold wblk
    rw [pay3_eq]
    blk_ext! [iblk, hi]
  rw [e1, V_w]
  pointwise []

theorem blk2 (c : Dev nD) (t : Fin cfg0.N) (e : Fin 1024) :
    iblk m c 2 t (ix2 0 e) = m ((c : Thread nD τ).loc main_arg2) (ix2 0 e) := by
  have hi := idx t
  rw [← V_main_arg2 m c]
  blk_ext! [iblk, hi]

theorem blk3 (c : Dev nD) (t : Fin cfg0.N) (e : Fin 1024) :
    iblk m c 3 t (ix2 0 e) = m ((c : Thread nD τ).loc main_arg3) (ix2 0 e) := by
  have hi := idx t
  rw [← V_main_arg3 m c]
  blk_ext! [iblk, hi]

/-- Row `p` of the products through the GELU. -/
def preRow (c : Dev nD) (p : Fin 9216) (d : Fin 1024) : EReal :=
  gelu (dotRow (fun k => m ((c : Thread nD τ).loc main_arg0) (ix2 p k))
    (fun k (e : Fin 1024) => m ((c : Thread nD τ).loc main_arg1) (ix2 k ⟨2560 + e.val, by omega⟩)) d)

/-- Row `p` of the result. -/
def outRow (c : Dev nD) (p : Fin 9216) : Fin 1024 → EReal :=
  lnRow (preRow m c p) (fun e => m ((c : Thread nD τ).loc main_arg2) (ix2 0 e)) (fun e => m ((c : Thread nD τ).loc main_arg3) (ix2 0 e))

theorem act_eq (c : Dev nD) (t : Fin cfg0.N) (r : Fin 1024) :
    actRow (iblk m c 0 t) (wblk m c t) r = preRow m c (rowOf t r) := by
  funext e
  unfold actRow preRow dotRow
  simp only [blk0, wblk_apply]

theorem tile_apply (c : Dev nD) (t : Fin cfg0.N) (r e : Fin 1024) : tile m c t (ix2 r e) = outRow m c (rowOf t r) e := by
  unfold tile
  rw [pay1_apply, pay4_apply, act_eq, blk2, blk3]
  rfl

/-- The rounded result holds the rows `outRow` … -/
theorem final4 (c : Dev nD) : (dats m 0 c).arrAt 4 cfg0.N = fun i => outRow m c (i 0) (i 1) := by
  refine (dats m 0 c).arrAt_eq_of_covers 4 _ (by decide +kernel) fun t hf y => ?_
  have hi := idx t
  blk_simp
  rw [after0_4, out_eq]
  obtain ⟨r, e, rfl⟩ : ∃ (r : Fin 1024) (e : Fin 1024), y = ix2 r e := ⟨y 0, y 1, ValueIdx.eq_ix2 y⟩
  refine (tile_apply m c t r e).trans ?_
  congr 1
  · ext; blk_simp [hi, rowOf]; simp only; omega
  · ext; blk_simp [hi]

/-- … and the unrounded one its last 1024 rows. -/
theorem final5 (c : Dev nD) : (dats m 0 c).arrAt 5 cfg0.N = fun i => outRow m c ⟨8192 + (i 0).val, Nat.add_lt_add_left (i 0).isLt 8192⟩ (i 1) := by
  refine (dats m 0 c).arrAt_eq_of_covers 5 _ (by decide +kernel) fun t hf y => ?_
  have hi := idx t
  have ht : t.val = 8 := (by decide +kernel : ∀ t : Fin grid0.N, win0_5.flush t = true → t.val = 8) t hf
  blk_simp
  rw [after0_5, out_last m c t (by omega)]
  obtain ⟨r, e, rfl⟩ : ∃ (r : Fin 1024) (e : Fin 1024), y = ix2 r e := ⟨y 0, y 1, ValueIdx.eq_ix2 y⟩
  refine (tile_apply m c t r e).trans ?_
  congr 1
  · ext; blk_simp [hi, rowOf]; simp only; omega
  · ext; blk_simp [hi]

end Cert.Kernel8Ideal.AbInZv

end
-- ==== Proof.AbIn.ZvClaim.lean ====
/- The first layer's memory projection: the plain reference's entries, and the equation between the two. -/
module

public import proofs.«01_k».proof.Proof.AbIn.Zv
public import proofs.«01_k».proof.Proof.Gen.Reference8Ideal.Read
public import proofs.«01_k».proof.Proof.Gen.Reference8Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Reference8Ideal.AbInZv

open Cert.Reference8Ideal Cert.Reference8Ideal.Read Cert.Layer Cert.AbIn

variable (x0 : (⟨S9216x2048, .bf16⟩ : BufTy).Contents (Elt Ideal)) (x1 : (⟨S2048x3584, .f32⟩ : BufTy).Contents (Elt Ideal))
  (x2 x3 : (⟨S1x1024, .f32⟩ : BufTy).Contents (Elt Ideal))

theorem prod_apply (p : Fin 9216) (d : Fin 1024) : val_main_v2 (F := Ideal) x0 x1 (ix2 p d)
    = dotRow (fun k => x0 (ix2 p k)) (fun k (e : Fin 1024) => x1 (ix2 k ⟨2560 + e.val, by omega⟩)) d := by
  pointwise [val_main_v2, val_main_v1, val_main_v0, dotRow]

/-- Row `p` of the products through the GELU. -/
def preRow (p : Fin 9216) (d : Fin 1024) : EReal :=
  gelu (dotRow (fun k => x0 (ix2 p k)) (fun k (e : Fin 1024) => x1 (ix2 k ⟨2560 + e.val, by omega⟩)) d)

theorem act_apply (p : Fin 9216) (d : Fin 1024) : val_main_v15 (F := Ideal) x0 x1 (ix2 p d) = preRow x0 x1 p d := by
  unfold preRow
  rw [← prod_apply x0 x1]
  pointwise [val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, gelu]

theorem mean_apply (p : Fin 9216) : val_main_v19 (F := Ideal) x0 x1 (ix2 p 0) = mean (preRow x0 x1 p) := by
  pointwise [val_main_v19, val_main_v18, val_main_v17, val_main_v16, val_main_cst_3, val_main_cst_4, mean]
  simp only [act_apply]

theorem dev_apply (p : Fin 9216) (d : Fin 1024) : val_main_v21 (F := Ideal) x0 x1 (ix2 p d)
    = preRow x0 x1 p d - mean (preRow x0 x1 p) := by
  pointwise [val_main_v21, val_main_v20]
  rw [act_apply, mean_apply]

theorem var_apply (p : Fin 9216) : val_main_v26 (F := Ideal) x0 x1 (ix2 p 0)
    = mean (fun k => (preRow x0 x1 p k - mean (preRow x0 x1 p)) * (preRow x0 x1 p k - mean (preRow x0 x1 p))) := by
  pointwise [val_main_v26, val_main_v25, val_main_v24, val_main_v23, val_main_v22, val_main_cst_5, val_main_cst_6, mean]
  simp only [dev_apply]
  rfl

theorem out_apply (p : Fin 9216) (d : Fin 1024) : val_main_v35 (F := Ideal) x0 x1 x2 x3 (ix2 p d)
    = lnRow (preRow x0 x1 p) (fun e => x2 (ix2 0 e)) (fun e => x3 (ix2 0 e)) d := by
  pointwise [val_main_v35, val_main_v34, val_main_v33, val_main_v32, val_main_v31, val_main_v30, val_main_v29, val_main_v28, val_main_v27, val_main_cst_7, lnRow, normed]
  rw [dev_apply, var_apply]

end Cert.Reference8Ideal.AbInZv

namespace Cert.AbInZv

variable (m0 : (ℓ : Loc Kernel8Ideal.nD Kernel8Ideal.τ Kernel8Ideal.sig) → Buf (Elt Ideal) ℓ)

/-- On the same arguments the reference's rows are the call's … -/
theorem rows_eq (c : Dev Kernel8Ideal.nD) (p : Fin 9216) (d : Fin 1024) :
    Reference8Ideal.Read.val_main_v35 (F := Ideal) (m0 ((c : Thread Kernel8Ideal.nD Kernel8Ideal.τ).loc Kernel8Ideal.main_arg0)) (m0 ((c : Thread Kernel8Ideal.nD Kernel8Ideal.τ).loc Kernel8Ideal.main_arg1))
      (m0 ((c : Thread Kernel8Ideal.nD Kernel8Ideal.τ).loc Kernel8Ideal.main_arg2)) (m0 ((c : Thread Kernel8Ideal.nD Kernel8Ideal.τ).loc Kernel8Ideal.main_arg3)) (ix2 p d)
      = Kernel8Ideal.AbInZv.outRow m0 c p d :=
  Reference8Ideal.AbInZv.out_apply _ _ _ _ p d

theorem zv_eq (c : Dev Kernel8Ideal.nD) (y : Reference8Ideal.S9216x1024.Idx) :
    Reference8Ideal.Read.val_main_v36 (F := Ideal) (m0 ((c : Thread Kernel8Ideal.nD Kernel8Ideal.τ).loc Kernel8Ideal.main_arg0)) (m0 ((c : Thread Kernel8Ideal.nD Kernel8Ideal.τ).loc Kernel8Ideal.main_arg1))
      (m0 ((c : Thread Kernel8Ideal.nD Kernel8Ideal.τ).loc Kernel8Ideal.main_arg2)) (m0 ((c : Thread Kernel8Ideal.nD Kernel8Ideal.τ).loc Kernel8Ideal.main_arg3)) y
      = Kernel8Ideal.AbInZv.outRow m0 c (y 0) (y 1) := by
  obtain ⟨p, d, rfl⟩ : ∃ (p : Fin 9216) (d : Fin 1024), y = ix2 p d := ⟨y 0, y 1, ValueIdx.eq_ix2 y⟩
  refine Eq.trans ?_ (rows_eq m0 c p d)
  pointwise [Reference8Ideal.Read.val_main_v36]

theorem zvs_eq (c : Dev Kernel8Ideal.nD) (y : Reference8Ideal.S1024x1024.Idx) :
    Reference8Ideal.Read.val_main_v37 (F := Ideal) (m0 ((c : Thread Kernel8Ideal.nD Kernel8Ideal.τ).loc Kernel8Ideal.main_arg0)) (m0 ((c : Thread Kernel8Ideal.nD Kernel8Ideal.τ).loc Kernel8Ideal.main_arg1))
      (m0 ((c : Thread Kernel8Ideal.nD Kernel8Ideal.τ).loc Kernel8Ideal.main_arg2)) (m0 ((c : Thread Kernel8Ideal.nD Kernel8Ideal.τ).loc Kernel8Ideal.main_arg3)) y
      = Kernel8Ideal.AbInZv.outRow m0 c ⟨8192 + (y 0).val, Nat.add_lt_add_left (y 0).isLt 8192⟩ (y 1) := by
  obtain ⟨p, d, rfl⟩ : ∃ (p : Fin 1024) (d : Fin 1024), y = ix2 p d := ⟨y 0, y 1, ValueIdx.eq_ix2 y⟩
  refine Eq.trans ?_ (rows_eq m0 c ⟨8192 + p.val, by omega⟩ d)
  pointwise [Reference8Ideal.Read.val_main_v37]

theorem algebraic : Cert.algebraic_Kernel8Ideal_Reference8Ideal := by
  pair_intro
  rotate_left 2
  · exact fun c => fun i => Kernel8Ideal.AbInZv.outRow m c (i 0) (i 1)
  · exact fun c => fun i => Kernel8Ideal.AbInZv.outRow m c ⟨8192 + (i 0).val, Nat.add_lt_add_left (i 0).isLt 8192⟩ (i 1)
  · run_from Kernel8Ideal.Value.run_blocks m g
    · exact Kernel8Ideal.AbInZv.final4 m c
    · exact Kernel8Ideal.AbInZv.final5 m c
  · refine (θ_run _ _ _).mono (fun r h c => ⟨(h c).1.trans ?_, (h c).2.1.trans ?_, (h c).2.2⟩) (Reference8Ideal.Value.run m' g')
    · refine (Reference8Ideal.Read.val_main_v36_eq m' c).trans ?_
      rw [(hagree c).1, (hagree c).2.1, (hagree c).2.2.1, (hagree c).2.2.2]
      exact funext fun y => zv_eq m c y
    · refine (Reference8Ideal.Read.val_main_v37_eq m' c).trans ?_
      rw [(hagree c).1, (hagree c).2.1, (hagree c).2.2.1, (hagree c).2.2.2]
      exact funext fun y => zvs_eq m c y

end Cert.AbInZv

end
-- ==== Proof.AbIn.Kv.lean ====
/- The first layer's key and value projection: what one grid point stores, at the extended reals. A point has a block of 1024 rows
   and the weights' block of 512 columns, rounded once for nine points, and stores the keys rotated beside the values. -/
module

public import proofs.«01_k».proof.Proof.AbIn.Row
public import proofs.«01_k».proof.Proof.Gen.Kernel9Ideal.Frame
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel9Ideal.AbInKv

open Cert.Kernel9Ideal Cert.Kernel9Ideal.Gen Cert.Layer Cert.AbIn

theorem pay1_eq (w : Vec Ideal S2048x512 .f32) : k0_pay1 (F := Ideal) w = w := by
  funext j
  pointwise [k0_pay1]

theorem pay2_apply (v3 : Vec Ideal S1024x2048 .bf16) (v4 : Vec Ideal S2048x512 .bf16) (r : Fin 1024) (e : Fin 512) :
    k0_pay2 (F := Ideal) v3 v4 (ix2 r e) = dotRow (fun k => v3 (ix2 r k)) (fun k e => v4 (ix2 k e)) e := by
  pointwise [k0_pay2, dotRow]

/-- The products through the tables: each pair of heads' 128 columns, and the columns eight after and eight before. -/
def tileRope (v : S1024x512.Idx → EReal) (T0 T1 T2 : S1024x128.Idx → EReal) (r : Fin 1024) (e : Fin 512) : EReal :=
  v (ix2 r e) * T0 (ix2 r ⟨e.val % 128, by omega⟩)
    + v (ix2 r ⟨e.val / 128 * 128 + (e.val % 128 + 8) % 128, by omega⟩) * T1 (ix2 r ⟨e.val % 128, by omega⟩)
    + v (ix2 r ⟨e.val / 128 * 128 + (e.val % 128 + 120) % 128, by omega⟩) * T2 (ix2 r ⟨e.val % 128, by omega⟩)

theorem piece (v : S1024x512.Idx → EReal) (T0 T1 T2 : S1024x128.Idx → EReal) (a : ℕ) (ha : a % 128 = 0) (hl : a + 128 ≤ 512)
    (x : S1024x128.Idx) (r : Fin 1024) (e : Fin 512) (hr : r.val = (x 0).val) (he : e.val = a + (x 1).val) (hx : (x 1).val < 128)
    (e0 e1 e2 : Fin 512) (h0 : e0.val = a + (x 1).val) (h1 : e1.val = a + ((x 1).val + 8) % 128)
    (h2 : e2.val = a + ((x 1).val + 120) % 128) :
    v (ix2 (x 0) e0) * T0 x + v (ix2 (x 0) e1) * T1 x + v (ix2 (x 0) e2) * T2 x = tileRope v T0 T1 T2 r e := by
  obtain ⟨q, w, rfl⟩ : ∃ (q : Fin 1024) (w : Fin 128), x = ix2 q w := ⟨x 0, x 1, ValueIdx.eq_ix2 x⟩
  obtain rfl : r = q := Fin.ext hr
  change e.val = a + w.val at he
  change e0.val = a + w.val at h0
  change e1.val = a + (w.val + 8) % 128 at h1
  change e2.val = a + (w.val + 120) % 128 at h2
  unfold tileRope
  have g : (⟨e.val % 128, by omega⟩ : Fin 128) = w := Fin.ext (by simp only; omega)
  have g0 : e0 = e := Fin.ext (by omega)
  have g1 : e1 = ⟨e.val / 128 * 128 + (e.val % 128 + 8) % 128, by omega⟩ := Fin.ext (by simp only; omega)
  have g2 : e2 = ⟨e.val / 128 * 128 + (e.val % 128 + 120) % 128, by omega⟩ := Fin.ext (by simp only; omega)
  exact congrArg₂ (· + ·) (congrArg₂ (· + ·)
      (congrArg₂ (· * ·) (congrArg (fun e => v (ix2 r e)) g0) (congrArg (fun w => T0 (ix2 r w)) g.symm))
      (congrArg₂ (· * ·) (congrArg (fun e => v (ix2 r e)) g1) (congrArg (fun w => T1 (ix2 r w)) g.symm)))
    (congrArg₂ (· * ·) (congrArg (fun e => v (ix2 r e)) g2) (congrArg (fun w => T2 (ix2 r w)) g.symm))

variable (m : (ℓ : Loc nD τ sig) → Buf (Elt Ideal) ℓ)

/-- The first of nine points rounds the weights' block into the scratch … -/
theorem scratch_first (c : Dev nD) (t : Fin cfg0.N) (h : t.val % 9 = 0) :
    (outsAt0 m c t.val t.isLt).2 = k0_pay1 (F := Ideal) (iblk m c 1 t) := by
  rw [outsAt0_A m c t h]; frame_out

/-- … and the others keep it. -/
theorem scratch_kept (c : Dev nD) (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]; dsimp only [sout0_B_0]

/-- The weights' block a point multiplies by. -/
abbrev wblk (c : Dev nD) (t : Fin cfg0.N) : S2048x512.Idx → EReal :=
  k0_pay1 (F := Ideal) (iblk m c 1 ⟨9 * (t.val / 9), Pipeline.run_start_lt t⟩)

theorem scratch_eq (c : Dev nD) (t : Fin cfg0.N) : (outsAt0 m c t.val t.isLt).2 = wblk m c t :=
  Pipeline.eq_of_write_hold (fun n h => (outsAt0 m c n h).2) 9 (fun t => k0_pay1 (F := Ideal) (iblk m c 1 t))
    (scratch_first m c) (scratch_kept m c) t

theorem wblk_first (c : Dev nD) (t : Fin cfg0.N) (h : t.val % 9 = 0) : k0_pay1 (F := Ideal) (iblk m c 1 t) = wblk m c t :=
  (scratch_first m c t h).symm.trans (scratch_eq m c t)

theorem wblk_kept (c : Dev nD) (t : Fin cfg0.N) (h : ¬t.val % 9 = 0) :
    (outsAt0 m c (t.val - 1) (Nat.lt_of_le_of_lt (Nat.sub_le _ _) t.isLt)).2 = wblk m c t :=
  (scratch_kept m c t h).symm.trans (scratch_eq m c t)

/-- What a point stores: the keys' 256 columns rotated, the values' 256 as they are. -/
def tileKv (v : S1024x512.Idx → EReal) (T0 T1 T2 : S1024x128.Idx → EReal) (r : Fin 1024) (e : Fin 512) : EReal :=
  if e.val < 256 then tileRope v T0 T1 T2 r e else v (ix2 r e)

theorem keys (v : S1024x512.Idx → EReal) (T0 T1 T2 : S1024x128.Idx → EReal) (a : ℕ) (ha : a % 128 = 0) (hl : a + 128 ≤ 256)
    (x : S1024x128.Idx) (r : Fin 1024) (e : Fin 512) (hr : r.val = (x 0).val) (he : e.val = a + (x 1).val) (hx : (x 1).val < 128)
    (e0 e1 e2 : Fin 512) (h0 : e0.val = a + (x 1).val) (h1 : e1.val = a + ((x 1).val + 8) % 128)
    (h2 : e2.val = a + ((x 1).val + 120) % 128) :
    v (ix2 (x 0) e0) * T0 x + v (ix2 (x 0) e1) * T1 x + v (ix2 (x 0) e2) * T2 x = tileKv v T0 T1 T2 r e := by
  have he' : e.val < 256 := by omega
  exact (piece v T0 T1 T2 a ha (by omega) x r e hr he hx e0 e1 e2 h0 h1 h2).trans (if_pos he').symm

theorem plain (v : S1024x512.Idx → EReal) (T0 T1 T2 : S1024x128.Idx → EReal)
    (x : S1024x256.Idx) (r : Fin 1024) (e : Fin 512) (hr : r.val = (x 0).val) (he : e.val = 256 + (x 1).val)
    (e0 : Fin 512) (h0 : e0.val = 256 + (x 1).val) : v (ix2 (x 0) e0) = tileKv v T0 T1 T2 r e := by
  obtain rfl : e0 = e := Fin.ext (h0.trans he.symm)
  have he' : ¬e0.val < 256 := by omega
  exact (congrArg (fun r => v (ix2 r e0)) (Fin.ext hr.symm)).trans (if_neg he').symm

theorem out_eq (c : Dev nD) (t : Fin cfg0.N) (y : S1024x512.Idx) : (outsAt0 m c t.val t.isLt).1 y
    = tileKv (k0_pay2 (F := Ideal) (iblk m c 0 t) (wblk m c t)) (iblk m c 2 t) (iblk m c 3 t) (iblk m c 4 t) (y 0) (y 1) := by
  by_cases hz : t.val % 9 = 0
  · rw [outsAt0_A m c t hz]; frame_out
    rw [wblk_first m c t hz]
    generalize wblk m c t = W
    canon_tiles x h using (View.cover_of_tiledBy _ ![1024, 128] (by sl_kernel_rfl) _)
    case piece0 => pointwise [k0_pay8]; exact plain _ _ _ _ x _ _ h0 h1 _ rfl
    case piece1 => pointwise [k0_pay7, k0_pay3, k0_pay4, k0_pay5]; exact keys _ _ _ _ 128 rfl (by decide) x _ _ h0 h1 x1_lt _ _ _ rfl (by dsimp only; omega) (by dsimp only; omega)
    case piece2 => pointwise [k0_pay6, k0_pay3, k0_pay4, k0_pay5]; exact keys _ _ _ _ 0 rfl (by decide) x _ _ h0 (by omega) x1_lt _ _ _ (by dsimp only; omega) (by dsimp only; omega) (by dsimp only; omega)
  · rw [outsAt0_B m c t hz]; frame_out
    simp only [read_unread_whole]
    rw [wblk_kept m c t hz]
    generalize wblk m c t = W
    canon_tiles x h using (View.cover_of_tiledBy _ ![1024, 128] (by sl_kernel_rfl) _)
    case piece0 => pointwise [k0_pay8]; exact plain _ _ _ _ x _ _ h0 h1 _ rfl
    case piece1 => pointwise [k0_pay7, k0_pay3, k0_pay4, k0_pay5]; exact keys _ _ _ _ 128 rfl (by decide) x _ _ h0 h1 x1_lt _ _ _ rfl (by dsimp only; omega) (by dsimp only; omega)
    case piece2 => pointwise [k0_pay6, k0_pay3, k0_pay4, k0_pay5]; exact keys _ _ _ _ 0 rfl (by decide) x _ _ h0 (by omega) x1_lt _ _ _ (by dsimp only; omega) (by dsimp only; omega) (by dsimp only; omega)

end Cert.Kernel9Ideal.AbInKv

end
-- ==== Proof.AbIn.KvKernel.lean ====
/- The first layer's key and value projection: what the call's result array holds at the extended reals. Point `t` of the grid
   handles rows `1024 * (t % 9) …`. -/
module

public import proofs.«01_k».proof.Proof.AbIn.Kv

@[expose] public section

set_option maxRecDepth 16384

noncomputable section

open Idealize.ShloMosaic Idealize.ShloMosaic.TcCoe Idealize.SL.Sem
open Idealize.ShloMosaic.Pipeline (Dat)

namespace Cert.Kernel9Ideal.AbInKv

open Cert.Kernel9Ideal Cert.Kernel9Ideal.Gen Cert.Layer Cert.AbIn

variable (m : (ℓ : Loc nD τ sig) → Buf (Elt Ideal) ℓ)

/-- The host's tables: what is set beside what. -/
def ones48 : (⟨S5120x48, .f32⟩ : BufTy).Contents (Elt Ideal) :=
  broadcastInDim S5120x48 ![] bcast_S_S5120x48 (constant (F := Ideal) S_ .f32 0x3F800000#32)

def zeros64 : (⟨S5120x64, .f32⟩ : BufTy).Contents (Elt Ideal) :=
  broadcastInDim S5120x64 ![] bcast_S_S5120x64 (constant (F := Ideal) S_ .f32 0x00000000#32)

def zeros56 : (⟨S5120x56, .f32⟩ : BufTy).Contents (Elt Ideal) :=
  extractStridedSlice S5120x56 ![0, 8] zeros64 slices_S5120x64_S5120x56_0_8

def zeros8 : (⟨S5120x8, .f32⟩ : BufTy).Contents (Elt Ideal) :=
  extractStridedSlice S5120x8 ![0, 0] zeros64 slices_S5120x64_S5120x8_0_0

def zeros48 : (⟨S5120x48, .f32⟩ : BufTy).Contents (Elt Ideal) :=
  extractStridedSlice S5120x48 ![0, 16] zeros64 slices_S5120x64_S5120x48_0_16

def host0 (x : (⟨S5120x8, .f32⟩ : BufTy).Contents (Elt Ideal)) : (⟨S5120x128, .f32⟩ : BufTy).Contents (Elt Ideal) :=
  concatenate S5120x128 1 [⟨S5120x8, x⟩, ⟨S5120x8, x⟩, ⟨S5120x48, ones48⟩, ⟨S5120x8, x⟩, ⟨S5120x8, x⟩, ⟨S5120x48, ones48⟩]
    concatenates_S5120x8_S5120x8_S5120x48_S5120x8_S5120x8_S5120x48_S5120x128_d1

def negs (x : (⟨S5120x8, .f32⟩ : BufTy).Contents (Elt Ideal)) : (⟨S5120x8, .f32⟩ : BufTy).Contents (Elt Ideal) :=
  Host.negf (show FVec Ideal S5120x8 .f32 from x)

def host1 (x : (⟨S5120x8, .f32⟩ : BufTy).Contents (Elt Ideal)) : (⟨S5120x128, .f32⟩ : BufTy).Contents (Elt Ideal) :=
  concatenate S5120x128 1 [⟨S5120x8, negs x⟩, ⟨S5120x56, zeros56⟩, ⟨S5120x8, negs x⟩, ⟨S5120x56, zeros56⟩]
    concatenates_S5120x8_S5120x56_S5120x8_S5120x56_S5120x128_d1

def host2 (x : (⟨S5120x8, .f32⟩ : BufTy).Contents (Elt Ideal)) : (⟨S5120x128, .f32⟩ : BufTy).Contents (Elt Ideal) :=
  concatenate S5120x128 1 [⟨S5120x8, zeros8⟩, ⟨S5120x8, x⟩, ⟨S5120x48, zeros48⟩, ⟨S5120x8, zeros8⟩, ⟨S5120x8, x⟩, ⟨S5120x48, zeros48⟩]
    concatenates_S5120x8_S5120x8_S5120x48_S5120x8_S5120x8_S5120x48_S5120x128_d1

theorem V_host0 (c : Dev nD) : V m c main_v2 = host0 (m ((c : Thread nD τ).loc main_arg2)) := by
  change StableHlo.after (hostOps0 (F := Ideal)) (fun b => m (c, b)) main_v2 = _
  unfold_abbrev_sides
  after_results_simp
  rfl

theorem V_host1 (c : Dev nD) : V m c main_v5 = host1 (m ((c : Thread nD τ).loc main_arg3)) := by
  change StableHlo.after (hostOps0 (F := Ideal)) (fun b => m (c, b)) main_v5 = _
  unfold_abbrev_sides
  after_results_simp
  rfl

theorem V_host2 (c : Dev nD) : V m c main_v8 = host2 (m ((c : Thread nD τ).loc main_arg3)) := by
  change StableHlo.after (hostOps0 (F := Ideal)) (fun b => m (c, b)) main_v8 = _
  unfold_abbrev_sides
  after_results_simp
  rfl

set_option maxRecDepth 100000 in
theorem tab0_apply (c : Dev nD) (p : Fin 5120) (l : Fin 128) : V m c main_v2 (ix2 p l)
    = tab0 (fun e => m ((c : Thread nD τ).loc main_arg2) (ix2 p e)) l := by
  rw [V_host0]
  refine Eq.trans ?_ (tab0_beside _ l)
  pointwise [host0, negs, ones48, zeros56, zeros8, zeros48, zeros64]

set_option maxRecDepth 100000 in
theorem tab1_apply (c : Dev nD) (p : Fin 5120) (l : Fin 128) : V m c main_v5 (ix2 p l)
    = tab1 (fun e => m ((c : Thread nD τ).loc main_arg3) (ix2 p e)) l := by
  rw [V_host1]
  refine Eq.trans ?_ (tab1_beside _ l)
  pointwise [host1, negs, ones48, zeros56, zeros8, zeros48, zeros64]

set_option maxRecDepth 100000 in
theorem tab2_apply (c : Dev nD) (p : Fin 5120) (l : Fin 128) : V m c main_v8 (ix2 p l)
    = tab2 (fun e => m ((c : Thread nD τ).loc main_arg3) (ix2 p e)) l := by
  rw [V_host2]
  refine Eq.trans ?_ (tab2_beside _ l)
  pointwise [host2, negs, ones48, zeros56, zeros8, zeros48, zeros64]

/-- Every window's block index at a grid point. -/
theorem idx : ∀ t : Fin cfg0.N, win0_0.index t = ![t.val % 9, 0] ∧ win0_1.index t = ![0, 2]
    ∧ win0_2.index t = ![if t.val % 9 < 8 then t.val % 9 % 4 else 4, 0]
    ∧ win0_3.index t = ![if t.val % 9 < 8 then t.val % 9 % 4 else 4, 0]
    ∧ win0_4.index t = ![if t.val % 9 < 8 then t.val % 9 % 4 else 4, 0] ∧ win0_5.index t = ![t.val % 9, 0] :=
  (by decide +kernel : ∀ t : Fin grid0.N, _)

theorem N_lt (t : Fin cfg0.N) : t.val < 9 := lt_of_lt_of_eq t.isLt (show cfg0.N = 9 from N_0)

/-- Row `r` of point `t`'s block. -/
def rowOf (t : Fin cfg0.N) (r : Fin 1024) : Fin 9216 := ⟨1024 * (t.val % 9) + r.val, by omega⟩

/-- Row `p` of the products: keys, then values. -/
def prodRow (c : Dev nD) (p : Fin 9216) (d : Fin 512) : EReal :=
  dotRow (fun k => m ((c : Thread nD τ).loc main_arg0) (ix2 p k))
    (fun k (d : Fin 512) => m ((c : Thread nD τ).loc main_arg1) (ix2 k ⟨1024 + d.val, by omega⟩)) d

/-- The keys' part. -/
def keyRow (c : Dev nD) (p : Fin 9216) (d : Fin 256) : EReal := prodRow m c p ⟨d.val, by omega⟩

/-- The cosines and sines of row `p`'s position. -/
def cosRow (c : Dev nD) (p : Fin 9216) : Fin 8 → EReal := fun e => m ((c : Thread nD τ).loc main_arg2) (ix2 (tabRow p) e)

def sinRow (c : Dev nD) (p : Fin 9216) : Fin 8 → EReal := fun e => m ((c : Thread nD τ).loc main_arg3) (ix2 (tabRow p) e)

theorem blk0 (c : Dev nD) (t : Fin cfg0.N) (r : Fin 1024) (k : Fin 2048) :
    iblk m c 0 t (ix2 r k) = m ((c : Thread nD τ).loc main_arg0) (ix2 (rowOf t r) k) := by
  have hi := idx t
  rw [← V_main_arg0 m c]
  blk_ext! [iblk, hi, rowOf]

theorem wblk_apply (c : Dev nD) (t : Fin cfg0.N) (k : Fin 2048) (e : Fin 512) :
    wblk m c t (ix2 k e) = m ((c : Thread nD τ).loc main_arg1) (ix2 k ⟨1024 + e.val, by omega⟩) := by
  have hi := idx ⟨9 * (t.val / 9), Pipeline.run_start_lt t⟩
  unfold wblk
  rw [pay1_eq, ← V_main_arg1 m c]
  blk_ext! [iblk, hi]

theorem tabRow_lo (t : Fin cfg0.N) (r : Fin 1024) (h : t.val % 9 < 8) : (tabRow (rowOf t r)).val = t.val % 9 % 4 * 1024 + r.val := by
  change (if 1024 * (t.val % 9) + r.val < 8192 then (1024 * (t.val % 9) + r.val) % 4096 else 1024 * (t.val % 9) + r.val - 4096) = _
  split_ifs <;> omega

theorem tabRow_hi (t : Fin cfg0.N) (r : Fin 1024) (h : ¬t.val % 9 < 8) : (tabRow (rowOf t r)).val = 4 * 1024 + r.val := by
  change (if 1024 * (t.val % 9) + r.val < 8192 then (1024 * (t.val % 9) + r.val) % 4096 else 1024 * (t.val % 9) + r.val - 4096) = _
  split_ifs <;> omega

theorem blk2 (c : Dev nD) (t : Fin cfg0.N) (r : Fin 1024) (l : Fin 128) :
    iblk m c 2 t (ix2 r l) = tab0 (cosRow m c (rowOf t r)) l := by
  have hi := idx t
  refine Eq.trans ?_ (tab0_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

theorem blk3 (c : Dev nD) (t : Fin cfg0.N) (r : Fin 1024) (l : Fin 128) :
    iblk m c 3 t (ix2 r l) = tab1 (sinRow m c (rowOf t r)) l := by
  have hi := idx t
  refine Eq.trans ?_ (tab1_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

theorem blk4 (c : Dev nD) (t : Fin cfg0.N) (r : Fin 1024) (l : Fin 128) :
    iblk m c 4 t (ix2 r l) = tab2 (sinRow m c (rowOf t r)) l := by
  have hi := idx t
  refine Eq.trans ?_ (tab2_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

/-- A point's products are the rows' entries. -/
theorem prod_apply (c : Dev nD) (t : Fin cfg0.N) (r : Fin 1024) (e : Fin 512) :
    k0_pay2 (F := Ideal) (iblk m c 0 t) (wblk m c t) (ix2 r e) = prodRow m c (rowOf t r) e := by
  rw [pay2_apply]
  unfold prodRow dotRow
  simp only [blk0, wblk_apply]

theorem tileRope_eq (c : Dev nD) (t : Fin cfg0.N) (r : Fin 1024) (e : Fin 512) (he : e.val < 256) :
    tileRope (k0_pay2 (F := Ideal) (iblk m c 0 t) (wblk m c t)) (iblk m c 2 t) (iblk m c 3 t) (iblk m c 4 t) r e
      = partialRot (N := 256) rfl (keyRow m c (rowOf t r)) (cosRow m c (rowOf t r)) (sinRow m c (rowOf t r)) ⟨e.val, he⟩ := by
  unfold tileRope
  rw [prod_apply, prod_apply, prod_apply, blk2, blk3, blk4]
  refine lane_eq (N := 256) rfl (keyRow m c (rowOf t r)) _ _ ⟨e.val, he⟩ _ (by dsimp only; omega) _ _
    (fun h => congrArg (prodRow m c (rowOf t r)) (Fin.ext ?_)) (fun h => congrArg (prodRow m c (rowOf t r)) (Fin.ext ?_))
  · have h' : e.val % 64 < 8 := h
    dsimp only; omega
  · have h' : 8 ≤ e.val % 64 := h
    dsimp only; omega

/-- Row `p` of the result. -/
def outRow (c : Dev nD) (p : Fin 9216) (d : Fin 512) : EReal :=
  if h : d.val < 256 then partialRot (N := 256) rfl (keyRow m c p) (cosRow m c p) (sinRow m c p) ⟨d.val, h⟩ else prodRow m c p d

/-- What a point stores. -/
theorem out_apply (c : Dev nD) (t : Fin cfg0.N) (r : Fin 1024) (e : Fin 512) :
    (outsAt0 m c t.val t.isLt).1 (ix2 r e) = outRow m c (rowOf t r) e := by
  refine (out_eq m c t (ix2 r e)).trans ?_
  change tileKv _ _ _ _ r e = _
  unfold tileKv outRow
  by_cases h : e.val < 256
  · rw [if_pos h, dif_pos h]; exact tileRope_eq m c t r e h
  · rw [if_neg h, dif_neg h]; exact prod_apply m c t r e

/-- The call's array holds the rows `outRow`. -/
theorem final5 (c : Dev nD) : (dats m 0 c).arrAt 5 cfg0.N = fun i => outRow m c (i 0) (i 1) := by
  refine (dats m 0 c).arrAt_eq_of_covers 5 _ (by decide +kernel) fun t hf y => ?_
  have hi := idx t
  blk_simp
  rw [after0_5]
  obtain ⟨r, e, rfl⟩ : ∃ (r : Fin 1024) (e : Fin 512), y = ix2 r e := ⟨y 0, y 1, ValueIdx.eq_ix2 y⟩
  refine (out_apply m c t r e).trans ?_
  congr 1
  · ext; blk_simp [hi, rowOf]; simp only; omega
  · ext; blk_simp [hi]

/-- The host's last lines: the prompt's rows by batch and position, its last 128 positions, … -/
def hostLast (x : (⟨S9216x512, .f32⟩ : BufTy).Contents (Elt Ideal)) : (⟨S2x128x2x4x64, .f32⟩ : BufTy).Contents (Elt Ideal) :=
  extractStridedSlice S2x128x2x4x64 ![0, 3968, 0, 0, 0]
    (shapeCast S2x4096x2x4x64 (extractStridedSlice S8192x512 ![0, 0] x slices_S9216x512_S8192x512_0_0) shapeCasts_S8192x512_S2x4096x2x4x64)
    slices_S2x4096x2x4x64_S2x128x2x4x64_0_3968_0_0_0

/-- … the keys of these … -/
def hostK (x : (⟨S9216x512, .f32⟩ : BufTy).Contents (Elt Ideal)) : (⟨S2x128x4x64, .f32⟩ : BufTy).Contents (Elt Ideal) :=
  shapeCast S2x128x4x64 (extractStridedSlice S2x128x1x4x64 ![0, 0, 0, 0, 0] (hostLast x) slices_S2x128x2x4x64_S2x128x1x4x64_0_0_0_0_0)
    shapeCasts_S2x128x1x4x64_S2x128x4x64

/-- … and the values. -/
def hostV (x : (⟨S9216x512, .f32⟩ : BufTy).Contents (Elt Ideal)) : (⟨S2x128x4x64, .f32⟩ : BufTy).Contents (Elt Ideal) :=
  shapeCast S2x128x4x64 (extractStridedSlice S2x128x1x4x64 ![0, 0, 1, 0, 0] (hostLast x) slices_S2x128x2x4x64_S2x128x1x4x64_0_0_1_0_0)
    shapeCasts_S2x128x1x4x64_S2x128x4x64

set_option maxRecDepth 100000 in
theorem hostK_apply (x : (⟨S9216x512, .f32⟩ : BufTy).Contents (Elt Ideal)) (b : Fin 2) (j : Fin 128) (h : Fin 4) (d : Fin 64) :
    hostK x (ix4 b j h d) = x (ix2 ⟨b.val * 4096 + (3968 + j.val), by omega⟩ ⟨h.val * 64 + d.val, by omega⟩) := by
  pointwise [hostK, hostLast]

set_option maxRecDepth 100000 in
theorem hostV_apply (x : (⟨S9216x512, .f32⟩ : BufTy).Contents (Elt Ideal)) (b : Fin 2) (j : Fin 128) (h : Fin 4) (d : Fin 64) :
    hostV x (ix4 b j h d) = x (ix2 ⟨b.val * 4096 + (3968 + j.val), by omega⟩ ⟨256 + h.val * 64 + d.val, by omega⟩) := by
  pointwise [hostV, hostLast]

theorem arrays_v9 (c : Dev nD) : Pipeline.withArrays (cfgs 0).spec c (V0 m c) (fun w => (dats m 0 c).arrAt w (cfgs 0).N)
    (Proc.tc.devRef main_v9) = (dats m 0 c).arrAt 5 cfg0.N :=
  Pipeline.withArrays_arr spec0 (by decide) c (V0 m c) (fun w => (dats m 0 c).arrAt w (cfgs 0).N) 5

theorem tail_k (c : Dev nD) : Pipeline.afterTail₀ cfgs (dats m) 0 (V0 m) [hostOps1] c main_v14
    = hostK (fun i => outRow m c (i 0) (i 1)) := by
  refine Eq.trans ?_ (congrArg hostK ((arrays_v9 m c).trans (final5 m c)))
  unfold Pipeline.afterTail₀
  change StableHlo.after (hostOps1 (F := Ideal)) _ main_v14 = _
  after_results_simp
  rfl

theorem tail_v (c : Dev nD) : Pipeline.afterTail₀ cfgs (dats m) 0 (V0 m) [hostOps1] c main_v16
    = hostV (fun i => outRow m c (i 0) (i 1)) := by
  refine Eq.trans ?_ (congrArg hostV ((arrays_v9 m c).trans (final5 m c)))
  unfold Pipeline.afterTail₀
  change StableHlo.after (hostOps1 (F := Ideal)) _ main_v16 = _
  after_results_simp
  rfl

/-- The whole program's run: the call's array, its two slices, and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v9) = (fun i => outRow m c (i 0) (i 1))
      ∧ r.2.mem ((c.tc : Thread nD τ).loc main_v14) = hostK (fun i => outRow m c (i 0) (i 1))
      ∧ r.2.mem ((c.tc : Thread nD τ).loc main_v16) = hostV (fun i => outRow m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final5 m c),
      ((h c).2 main_v14 (Pipeline.mem_restRefs_of main_v14 (by decide) (by decide))).trans (tail_k m c),
      ((h c).2 main_v16 (Pipeline.mem_restRefs_of main_v16 (by decide) (by decide))).trans (tail_v m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

end Cert.Kernel9Ideal.AbInKv

end
-- ==== Proof.AbIn.KvClaim.lean ====
/- The first layer's key and value projection: the plain reference's entries, and the equation between the two. -/
module

public import proofs.«01_k».proof.Proof.AbIn.KvKernel
public import proofs.«01_k».proof.Proof.Gen.Reference9Ideal.Read
public import proofs.«01_k».proof.Proof.Gen.Reference9Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Reference9Ideal.AbInKv

open Cert.Reference9Ideal Cert.Reference9Ideal.Read Cert.Layer Cert.AbIn

variable (x0 : (⟨S9216x2048, .bf16⟩ : BufTy).Contents (Elt Ideal)) (x1 : (⟨S2048x3584, .f32⟩ : BufTy).Contents (Elt Ideal))
  (x2 x3 : (⟨S5120x8, .f32⟩ : BufTy).Contents (Elt Ideal))

/-- Row `p` of the products: keys, then values. -/
def prod (p : Fin 9216) (d : Fin 512) : EReal :=
  dotRow (fun k => x0 (ix2 p k)) (fun k (d : Fin 512) => x1 (ix2 k ⟨1024 + d.val, by omega⟩)) d

/-- The keys' part. -/
def keys (p : Fin 9216) (d : Fin 256) : EReal := prod x0 x1 p ⟨d.val, by omega⟩

theorem keys_apply (p : Fin 9216) (d : Fin 256) : val_main_v2 (F := Ideal) x0 x1 (ix2 p d) = keys x0 x1 p d := by
  pointwise [val_main_v2, val_main_v1, val_main_v0, keys, prod, dotRow]

theorem values_apply (p : Fin 9216) (d : Fin 256) :
    val_main_v4 (F := Ideal) x0 x1 (ix2 p d) = prod x0 x1 p ⟨256 + d.val, by omega⟩ := by
  pointwise [val_main_v4, val_main_v3, val_main_v0, prod, dotRow]
  refine Finset.sum_congr rfl fun k _ => congrArg (fun e => x0 (ix2 p k) * x1 (ix2 k e)) (Fin.ext ?_)
  dsimp only; omega

set_option maxRecDepth 100000 in
theorem cos_apply (p : Fin 9216) (e : Fin 8) : val_main_v9 (F := Ideal) x2 (ix2 p e) = x2 (ix2 (tabRow p) e) := by
  pointwise [val_main_v9, val_main_v8, val_main_v7, val_main_v6]
  split_ifs with h1 h2
  all_goals exact congrArg (fun r => x2 (ix2 r e)) (Fin.ext (by unfold tabRow; dsimp only; split_ifs <;> omega))

set_option maxRecDepth 100000 in
theorem sin_apply (p : Fin 9216) (e : Fin 8) : val_main_v13 (F := Ideal) x3 (ix2 p e) = x3 (ix2 (tabRow p) e) := by
  pointwise [val_main_v13, val_main_v12, val_main_v11, val_main_v10]
  split_ifs with h1 h2
  all_goals exact congrArg (fun r => x3 (ix2 r e)) (Fin.ext (by unfold tabRow; dsimp only; split_ifs <;> omega))

theorem rot_apply (p : Fin 9216) (h : Fin 4) (e : Fin 64) : val_main_v31 (F := Ideal) x0 x1 x2 x3 (ix3 p h e)
    = partialRot (N := 256) rfl (keys x0 x1 p) (fun e => x2 (ix2 (tabRow p) e)) (fun e => x3 (ix2 (tabRow p) e)) ⟨h.val * 64 + e.val, by omega⟩ := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v5]
  simp only [keys_apply, cos_apply, sin_apply]
  by_cases h1 : e.val < 16
  · by_cases h2 : e.val < 8
    · simp only [dif_pos h1, dif_pos h2]
      refine (partialRot_lo (N := 256) rfl (keys x0 x1 p) (fun e => x2 (ix2 (tabRow p) e)) (fun e => x3 (ix2 (tabRow p) e)) ⟨h.val * 64 + e.val, by omega⟩ _ _ _ (by dsimp only; omega) ?_ ?_ ?_) <;> first | rfl | (dsimp only; omega)
    · simp only [dif_pos h1, dif_neg h2]
      refine (partialRot_hi (N := 256) rfl (keys x0 x1 p) (fun e => x2 (ix2 (tabRow p) e)) (fun e => x3 (ix2 (tabRow p) e)) ⟨h.val * 64 + e.val, by omega⟩ _ _ _ (by dsimp only; omega) (by dsimp only; omega) ?_ ?_ ?_) <;> first | rfl | (dsimp only; omega)
  · simp only [dif_neg h1]
    refine (partialRot_rest (N := 256) rfl (keys x0 x1 p) (fun e => x2 (ix2 (tabRow p) e)) (fun e => x3 (ix2 (tabRow p) e)) ⟨h.val * 64 + e.val, by omega⟩ _ (by dsimp only; omega) ?_)
    dsimp only; omega

/-- Row `p` of the result. -/
def row (p : Fin 9216) (d : Fin 512) : EReal :=
  if h : d.val < 256 then partialRot (N := 256) rfl (keys x0 x1 p) (fun e => x2 (ix2 (tabRow p) e)) (fun e => x3 (ix2 (tabRow p) e)) ⟨d.val, h⟩ else prod x0 x1 p d

theorem out_apply (p : Fin 9216) (d : Fin 512) : val_main_v33 (F := Ideal) x0 x1 x2 x3 (ix2 p d) = row x0 x1 x2 x3 p d := by
  unfold row
  pointwise [val_main_v33, val_main_v32]
  by_cases h : d.val < 256
  · simp only [dif_pos h, rot_apply]
    exact congrArg (partialRot (N := 256) rfl (keys x0 x1 p) (fun e => x2 (ix2 (tabRow p) e)) (fun e => x3 (ix2 (tabRow p) e))) (Fin.ext (by dsimp only; omega))
  · simp only [dif_neg h, values_apply]
    exact congrArg (prod x0 x1 p) (Fin.ext (by dsimp only; omega))

theorem lastK_apply (b : Fin 2) (j : Fin 128) (h : Fin 4) (d : Fin 64) : val_main_v36 (F := Ideal) x0 x1 x2 x3 (ix4 b j h d)
    = row x0 x1 x2 x3 ⟨b.val * 4096 + (3968 + j.val), by omega⟩ ⟨h.val * 64 + d.val, by omega⟩ := by
  unfold row
  have hd : h.val * 64 + d.val < 256 := by omega
  rw [dif_pos hd, ← rot_apply x0 x1 x2 x3]
  pointwise [val_main_v36, val_main_v35, val_main_v34]

theorem lastV_apply (b : Fin 2) (j : Fin 128) (h : Fin 4) (d : Fin 64) : val_main_v39 (F := Ideal) x0 x1 (ix4 b j h d)
    = row x0 x1 x2 x3 ⟨b.val * 4096 + (3968 + j.val), by omega⟩ ⟨256 + h.val * 64 + d.val, by omega⟩ := by
  unfold row
  have hd : ¬256 + h.val * 64 + d.val < 256 := by omega
  rw [dif_neg hd]
  pointwise [val_main_v39, val_main_v38, val_main_v37]
  rw [values_apply]
  exact congrArg (prod x0 x1 _) (Fin.ext (by dsimp only; omega))

end Cert.Reference9Ideal.AbInKv

namespace Cert.AbInKv

variable (m0 : (ℓ : Loc Kernel9Ideal.nD Kernel9Ideal.τ Kernel9Ideal.sig) → Buf (Elt Ideal) ℓ)

/-- On the same arguments the reference's rows are the call's. -/
theorem row_eq (c : Dev Kernel9Ideal.nD) (p : Fin 9216) (d : Fin 512) :
    Reference9Ideal.AbInKv.row (m0 ((c : Thread Kernel9Ideal.nD Kernel9Ideal.τ).loc Kernel9Ideal.main_arg0)) (m0 ((c : Thread Kernel9Ideal.nD Kernel9Ideal.τ).loc Kernel9Ideal.main_arg1)) (m0 ((c : Thread Kernel9Ideal.nD Kernel9Ideal.τ).loc Kernel9Ideal.main_arg2)) (m0 ((c : Thread Kernel9Ideal.nD Kernel9Ideal.τ).loc Kernel9Ideal.main_arg3)) p d
      = Kernel9Ideal.AbInKv.outRow m0 c p d := rfl

theorem kv_eq (c : Dev Kernel9Ideal.nD) (y : Reference9Ideal.S9216x512.Idx) :
    Reference9Ideal.Read.val_main_v33 (F := Ideal) (m0 ((c : Thread Kernel9Ideal.nD Kernel9Ideal.τ).loc Kernel9Ideal.main_arg0)) (m0 ((c : Thread Kernel9Ideal.nD Kernel9Ideal.τ).loc Kernel9Ideal.main_arg1)) (m0 ((c : Thread Kernel9Ideal.nD Kernel9Ideal.τ).loc Kernel9Ideal.main_arg2)) (m0 ((c : Thread Kernel9Ideal.nD Kernel9Ideal.τ).loc Kernel9Ideal.main_arg3)) y
      = Kernel9Ideal.AbInKv.outRow m0 c (y 0) (y 1) := by
  obtain ⟨p, d, rfl⟩ : ∃ (p : Fin 9216) (d : Fin 512), y = ix2 p d := ⟨y 0, y 1, ValueIdx.eq_ix2 y⟩
  exact (Reference9Ideal.AbInKv.out_apply _ _ _ _ p d).trans (row_eq m0 c p d)

theorem k_eq (c : Dev Kernel9Ideal.nD) (y : Reference9Ideal.S2x128x4x64.Idx) :
    Reference9Ideal.Read.val_main_v36 (F := Ideal) (m0 ((c : Thread Kernel9Ideal.nD Kernel9Ideal.τ).loc Kernel9Ideal.main_arg0)) (m0 ((c : Thread Kernel9Ideal.nD Kernel9Ideal.τ).loc Kernel9Ideal.main_arg1)) (m0 ((c : Thread Kernel9Ideal.nD Kernel9Ideal.τ).loc Kernel9Ideal.main_arg2)) (m0 ((c : Thread Kernel9Ideal.nD Kernel9Ideal.τ).loc Kernel9Ideal.main_arg3)) y
      = Kernel9Ideal.AbInKv.hostK (fun i => Kernel9Ideal.AbInKv.outRow m0 c (i 0) (i 1)) y := by
  obtain ⟨b, j, h, d, rfl⟩ : ∃ (b : Fin 2) (j : Fin 128) (h : Fin 4) (d : Fin 64), y = ix4 b j h d := ⟨y 0, y 1, y 2, y 3, ValueIdx.eq_ix4 y⟩
  exact ((Reference9Ideal.AbInKv.lastK_apply _ _ _ _ b j h d).trans (row_eq m0 c _ _)).trans (Kernel9Ideal.AbInKv.hostK_apply (fun i => Kernel9Ideal.AbInKv.outRow m0 c (i 0) (i 1)) b j h d).symm

theorem v_eq (c : Dev Kernel9Ideal.nD) (y : Reference9Ideal.S2x128x4x64.Idx) :
    Reference9Ideal.Read.val_main_v39 (F := Ideal) (m0 ((c : Thread Kernel9Ideal.nD Kernel9Ideal.τ).loc Kernel9Ideal.main_arg0)) (m0 ((c : Thread Kernel9Ideal.nD Kernel9Ideal.τ).loc Kernel9Ideal.main_arg1)) y
      = Kernel9Ideal.AbInKv.hostV (fun i => Kernel9Ideal.AbInKv.outRow m0 c (i 0) (i 1)) y := by
  obtain ⟨b, j, h, d, rfl⟩ : ∃ (b : Fin 2) (j : Fin 128) (h : Fin 4) (d : Fin 64), y = ix4 b j h d := ⟨y 0, y 1, y 2, y 3, ValueIdx.eq_ix4 y⟩
  exact ((Reference9Ideal.AbInKv.lastV_apply _ _ (m0 ((c : Thread Kernel9Ideal.nD Kernel9Ideal.τ).loc Kernel9Ideal.main_arg2)) (m0 ((c : Thread Kernel9Ideal.nD Kernel9Ideal.τ).loc Kernel9Ideal.main_arg3)) b j h d).trans (row_eq m0 c _ _)).trans
    (Kernel9Ideal.AbInKv.hostV_apply (fun i => Kernel9Ideal.AbInKv.outRow m0 c (i 0) (i 1)) b j h d).symm

theorem algebraic : Cert.algebraic_Kernel9Ideal_Reference9Ideal := by
  pair_intro
  rotate_left 2
  · exact fun c => fun i => Kernel9Ideal.AbInKv.outRow m c (i 0) (i 1)
  · exact fun c => Kernel9Ideal.AbInKv.hostK (fun i => Kernel9Ideal.AbInKv.outRow m c (i 0) (i 1))
  · exact fun c => Kernel9Ideal.AbInKv.hostV (fun i => Kernel9Ideal.AbInKv.outRow m c (i 0) (i 1))
  · exact Kernel9Ideal.AbInKv.run_blocks m g
  · refine (θ_run _ _ _).mono (fun r h c => ⟨(h c).1.trans ?_, (h c).2.1.trans ?_, (h c).2.2.1.trans ?_, (h c).2.2.2⟩) (Reference9Ideal.Value.run m' g')
    · refine (Reference9Ideal.Read.val_main_v33_eq m' c).trans ?_
      rw [(hagree c).1, (hagree c).2.1, (hagree c).2.2.1, (hagree c).2.2.2]
      exact funext fun y => kv_eq m c y
    · refine (Reference9Ideal.Read.val_main_v36_eq m' c).trans ?_
      rw [(hagree c).1, (hagree c).2.1, (hagree c).2.2.1, (hagree c).2.2.2]
      exact funext fun y => k_eq m c y
    · refine Eq.trans (b := Reference9Ideal.Read.val_main_v39 (F := Ideal) (m' ((c : Thread Reference9Ideal.nD Reference9Ideal.τ).loc Reference9Ideal.main_arg0)) (m' ((c : Thread Reference9Ideal.nD Reference9Ideal.τ).loc Reference9Ideal.main_arg1))) rfl ?_
      rw [(hagree c).1, (hagree c).2.1]
      exact funext fun y => v_eq m c y

end Cert.AbInKv

end
-- ==== Proof.AbIn.Q.lean ====
/- The first layer's query projection: what one grid point stores, at the extended reals. A point has a block of 1024 rows
   and the weights' block of 512 columns, rounded once for nine points, and stores the products rotated and scaled. -/
module

public import proofs.«01_k».proof.Proof.AbIn.Row
public import proofs.«01_k».proof.Proof.Gen.Kernel10Ideal.Value
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel10Ideal.AbInQ

open Cert.Kernel10Ideal Cert.Kernel10Ideal.Gen Cert.Layer Cert.AbIn

theorem pay3_eq (w : Vec Ideal S2048x512 .f32) : k0_pay3 (F := Ideal) w = w := by
  funext j
  pointwise [k0_pay3]

theorem pay4_apply (v3 : Vec Ideal S1024x2048 .bf16) (v4 : Vec Ideal S2048x512 .bf16) (r : Fin 1024) (e : Fin 512) :
    k0_pay4 (F := Ideal) v3 v4 (ix2 r e) = dotRow (fun k => v3 (ix2 r k)) (fun k e => v4 (ix2 k e)) e := by
  pointwise [k0_pay4, dotRow]

/-- The products through the tables: each pair of heads' 128 columns, and the columns eight after and eight before. -/
def tileRope (v : S1024x512.Idx → EReal) (T0 T1 T2 : S1024x128.Idx → EReal) (r : Fin 1024) (e : Fin 512) : EReal :=
  v (ix2 r e) * T0 (ix2 r ⟨e.val % 128, by omega⟩)
    + v (ix2 r ⟨e.val / 128 * 128 + (e.val % 128 + 8) % 128, by omega⟩) * T1 (ix2 r ⟨e.val % 128, by omega⟩)
    + v (ix2 r ⟨e.val / 128 * 128 + (e.val % 128 + 120) % 128, by omega⟩) * T2 (ix2 r ⟨e.val % 128, by omega⟩)

theorem piece (v : S1024x512.Idx → EReal) (T0 T1 T2 : S1024x128.Idx → EReal) (a : ℕ) (ha : a % 128 = 0) (hl : a + 128 ≤ 512)
    (x : S1024x128.Idx) (r : Fin 1024) (e : Fin 512) (hr : r.val = (x 0).val) (he : e.val = a + (x 1).val) (hx : (x 1).val < 128)
    (e0 e1 e2 : Fin 512) (h0 : e0.val = a + (x 1).val) (h1 : e1.val = a + ((x 1).val + 8) % 128)
    (h2 : e2.val = a + ((x 1).val + 120) % 128) :
    v (ix2 (x 0) e0) * T0 x + v (ix2 (x 0) e1) * T1 x + v (ix2 (x 0) e2) * T2 x = tileRope v T0 T1 T2 r e := by
  obtain ⟨q, w, rfl⟩ : ∃ (q : Fin 1024) (w : Fin 128), x = ix2 q w := ⟨x 0, x 1, ValueIdx.eq_ix2 x⟩
  obtain rfl : r = q := Fin.ext hr
  change e.val = a + w.val at he
  change e0.val = a + w.val at h0
  change e1.val = a + (w.val + 8) % 128 at h1
  change e2.val = a + (w.val + 120) % 128 at h2
  unfold tileRope
  have g : (⟨e.val % 128, by omega⟩ : Fin 128) = w := Fin.ext (by simp only; omega)
  have g0 : e0 = e := Fin.ext (by omega)
  have g1 : e1 = ⟨e.val / 128 * 128 + (e.val % 128 + 8) % 128, by omega⟩ := Fin.ext (by simp only; omega)
  have g2 : e2 = ⟨e.val / 128 * 128 + (e.val % 128 + 120) % 128, by omega⟩ := Fin.ext (by simp only; omega)
  exact congrArg₂ (· + ·) (congrArg₂ (· + ·)
      (congrArg₂ (· * ·) (congrArg (fun e => v (ix2 r e)) g0) (congrArg (fun w => T0 (ix2 r w)) g.symm))
      (congrArg₂ (· * ·) (congrArg (fun e => v (ix2 r e)) g1) (congrArg (fun w => T1 (ix2 r w)) g.symm)))
    (congrArg₂ (· * ·) (congrArg (fun e => v (ix2 r e)) g2) (congrArg (fun w => T2 (ix2 r w)) g.symm))

variable (m : (ℓ : Loc nD τ sig) → Buf (Elt Ideal) ℓ)

/-- The first of nine points rounds the weights' block into the scratch … -/
theorem scratch_first (c : Dev nD) (t : Fin cfg0.N) (h : t.val % 9 = 0) :
    (outsAt0 m c t.val t.isLt).2 = k0_pay3 (F := Ideal) (iblk m c 1 t) := by
  rw [outsAt0_A m c t h]; frame_out

/-- … and the others keep it. -/
theorem scratch_kept (c : Dev nD) (t : Fin cfg0.N) (h : ¬t.val % 9 = 0) :
    (outsAt0 m c t.val t.isLt).2 = (outsAt0 m c (t.val - 1) (Nat.lt_of_le_of_lt (Nat.sub_le _ _) t.isLt)).2 := by
  rw [outsAt0_B m c t h]; dsimp only [sout0_B_0]

/-- The weights' block a point multiplies by. -/
abbrev wblk (c : Dev nD) (t : Fin cfg0.N) : S2048x512.Idx → EReal :=
  k0_pay3 (F := Ideal) (iblk m c 1 ⟨9 * (t.val / 9), Pipeline.run_start_lt t⟩)

theorem scratch_eq (c : Dev nD) (t : Fin cfg0.N) : (outsAt0 m c t.val t.isLt).2 = wblk m c t :=
  Pipeline.eq_of_write_hold (fun n h => (outsAt0 m c n h).2) 9 (fun t => k0_pay3 (F := Ideal) (iblk m c 1 t))
    (scratch_first m c) (scratch_kept m c) t

theorem wblk_first (c : Dev nD) (t : Fin cfg0.N) (h : t.val % 9 = 0) : k0_pay3 (F := Ideal) (iblk m c 1 t) = wblk m c t :=
  (scratch_first m c t h).symm.trans (scratch_eq m c t)

theorem wblk_kept (c : Dev nD) (t : Fin cfg0.N) (h : ¬t.val % 9 = 0) :
    (outsAt0 m c (t.val - 1) (Nat.lt_of_le_of_lt (Nat.sub_le _ _) t.isLt)).2 = wblk m c t :=
  (scratch_kept m c t h).symm.trans (scratch_eq m c t)

/-- The word of 1/8, by which the queries are scaled. -/
abbrev eighth : EReal := Ideal.ofBits .f32 0x3E000000#32

theorem out_eq (c : Dev nD) (t : Fin cfg0.N) (y : S1024x512.Idx) : (outsAt0 m c t.val t.isLt).1 y
    = tileRope (k0_pay4 (F := Ideal) (iblk m c 0 t) (wblk m c t)) (iblk m c 2 t) (iblk m c 3 t) (iblk m c 4 t) (y 0) (y 1) * eighth := by
  by_cases hz : t.val % 9 = 0
  · rw [outsAt0_A m c t hz]; frame_out
    rw [wblk_first m c t hz]
    generalize wblk m c t = W
    canon_tiles x h
    case piece0 => pointwise [k0_pay2, k0_pay5, k0_pay6, k0_pay7]; exact congrArg (· * eighth) (piece _ _ _ _ 384 rfl (by decide) x _ _ h0 h1 x1_lt _ _ _ rfl (by dsimp only; omega) (by dsimp only; omega))
    case piece1 => pointwise [k0_pay1, k0_pay5, k0_pay6, k0_pay7]; exact congrArg (· * eighth) (piece _ _ _ _ 256 rfl (by decide) x _ _ h0 h1 x1_lt _ _ _ rfl (by dsimp only; omega) (by dsimp only; omega))
    case piece2 => pointwise [k0_pay9, k0_pay5, k0_pay6, k0_pay7]; exact congrArg (· * eighth) (piece _ _ _ _ 128 rfl (by decide) x _ _ h0 h1 x1_lt _ _ _ rfl (by dsimp only; omega) (by dsimp only; omega))
    case piece3 => pointwise [k0_pay8, k0_pay5, k0_pay6, k0_pay7]; exact congrArg (· * eighth) (piece _ _ _ _ 0 rfl (by decide) x _ _ h0 (by omega) x1_lt _ _ _ (by dsimp only; omega) (by dsimp only; omega) (by dsimp only; omega))
  · rw [outsAt0_B m c t hz]; frame_out
    simp only [read_unread_whole]
    rw [wblk_kept m c t hz]
    generalize wblk m c t = W
    canon_tiles x h
    case piece0 => pointwise [k0_pay2, k0_pay5, k0_pay6, k0_pay7]; exact congrArg (· * eighth) (piece _ _ _ _ 384 rfl (by decide) x _ _ h0 h1 x1_lt _ _ _ rfl (by dsimp only; omega) (by dsimp only; omega))
    case piece1 => pointwise [k0_pay1, k0_pay5, k0_pay6, k0_pay7]; exact congrArg (· * eighth) (piece _ _ _ _ 256 rfl (by decide) x _ _ h0 h1 x1_lt _ _ _ rfl (by dsimp only; omega) (by dsimp only; omega))
    case piece2 => pointwise [k0_pay9, k0_pay5, k0_pay6, k0_pay7]; exact congrArg (· * eighth) (piece _ _ _ _ 128 rfl (by decide) x _ _ h0 h1 x1_lt _ _ _ rfl (by dsimp only; omega) (by dsimp only; omega))
    case piece3 => pointwise [k0_pay8, k0_pay5, k0_pay6, k0_pay7]; exact congrArg (· * eighth) (piece _ _ _ _ 0 rfl (by decide) x _ _ h0 (by omega) x1_lt _ _ _ (by dsimp only; omega) (by dsimp only; omega) (by dsimp only; omega))

end Cert.Kernel10Ideal.AbInQ

end
-- ==== Proof.AbIn.QKernel.lean ====
/- The first layer's query projection: what the call's result array holds at the extended reals. Point `t` of the grid
   handles rows `1024 * (t % 9) …` and columns `512 * (t / 9) …`. -/
module

public import proofs.«01_k».proof.Proof.AbIn.Q

@[expose] public section

set_option maxRecDepth 16384

noncomputable section

open Idealize.ShloMosaic Idealize.ShloMosaic.TcCoe Idealize.SL.Sem
open Idealize.ShloMosaic.Pipeline (Dat)

namespace Cert.Kernel10Ideal.AbInQ

open Cert.Kernel10Ideal Cert.Kernel10Ideal.Gen Cert.Layer Cert.AbIn

variable (m : (ℓ : Loc nD τ sig) → Buf (Elt Ideal) ℓ)

/-- The host's tables: what is set beside what. -/
def ones48 : (⟨S5120x48, .f32⟩ : BufTy).Contents (Elt Ideal) :=
  broadcastInDim S5120x48 ![] bcast_S_S5120x48 (constant (F := Ideal) S_ .f32 0x3F800000#32)

def zeros64 : (⟨S5120x64, .f32⟩ : BufTy).Contents (Elt Ideal) :=
  broadcastInDim S5120x64 ![] bcast_S_S5120x64 (constant (F := Ideal) S_ .f32 0x00000000#32)

def zeros56 : (⟨S5120x56, .f32⟩ : BufTy).Contents (Elt Ideal) :=
  extractStridedSlice S5120x56 ![0, 8] zeros64 slices_S5120x64_S5120x56_0_8

def zeros8 : (⟨S5120x8, .f32⟩ : BufTy).Contents (Elt Ideal) :=
  extractStridedSlice S5120x8 ![0, 0] zeros64 slices_S5120x64_S5120x8_0_0

def zeros48 : (⟨S5120x48, .f32⟩ : BufTy).Contents (Elt Ideal) :=
  extractStridedSlice S5120x48 ![0, 16] zeros64 slices_S5120x64_S5120x48_0_16

def host0 (x : (⟨S5120x8, .f32⟩ : BufTy).Contents (Elt Ideal)) : (⟨S5120x128, .f32⟩ : BufTy).Contents (Elt Ideal) :=
  concatenate S5120x128 1 [⟨S5120x8, x⟩, ⟨S5120x8, x⟩, ⟨S5120x48, ones48⟩, ⟨S5120x8, x⟩, ⟨S5120x8, x⟩, ⟨S5120x48, ones48⟩]
    concatenates_S5120x8_S5120x8_S5120x48_S5120x8_S5120x8_S5120x48_S5120x128_d1

def negs (x : (⟨S5120x8, .f32⟩ : BufTy).Contents (Elt Ideal)) : (⟨S5120x8, .f32⟩ : BufTy).Contents (Elt Ideal) :=
  Host.negf (show FVec Ideal S5120x8 .f32 from x)

def host1 (x : (⟨S5120x8, .f32⟩ : BufTy).Contents (Elt Ideal)) : (⟨S5120x128, .f32⟩ : BufTy).Contents (Elt Ideal) :=
  concatenate S5120x128 1 [⟨S5120x8, negs x⟩, ⟨S5120x56, zeros56⟩, ⟨S5120x8, negs x⟩, ⟨S5120x56, zeros56⟩]
    concatenates_S5120x8_S5120x56_S5120x8_S5120x56_S5120x128_d1

def host2 (x : (⟨S5120x8, .f32⟩ : BufTy).Contents (Elt Ideal)) : (⟨S5120x128, .f32⟩ : BufTy).Contents (Elt Ideal) :=
  concatenate S5120x128 1 [⟨S5120x8, zeros8⟩, ⟨S5120x8, x⟩, ⟨S5120x48, zeros48⟩, ⟨S5120x8, zeros8⟩, ⟨S5120x8, x⟩, ⟨S5120x48, zeros48⟩]
    concatenates_S5120x8_S5120x8_S5120x48_S5120x8_S5120x8_S5120x48_S5120x128_d1

theorem V_host0 (c : Dev nD) : V m c main_v2 = host0 (m ((c : Thread nD τ).loc main_arg2)) := by
  unfold_abbrev_sides
  after_results_simp
  rfl

theorem V_host1 (c : Dev nD) : V m c main_v5 = host1 (m ((c : Thread nD τ).loc main_arg3)) := by
  unfold_abbrev_sides
  after_results_simp
  rfl

theorem V_host2 (c : Dev nD) : V m c main_v8 = host2 (m ((c : Thread nD τ).loc main_arg3)) := by
  unfold_abbrev_sides
  after_results_simp
  rfl

set_option maxRecDepth 100000 in
theorem tab0_apply (c : Dev nD) (p : Fin 5120) (l : Fin 128) : V m c main_v2 (ix2 p l)
    = tab0 (fun e => m ((c : Thread nD τ).loc main_arg2) (ix2 p e)) l := by
  rw [V_host0]
  refine Eq.trans ?_ (tab0_beside _ l)
  pointwise [host0, negs, ones48, zeros56, zeros8, zeros48, zeros64]

set_option maxRecDepth 100000 in
theorem tab1_apply (c : Dev nD) (p : Fin 5120) (l : Fin 128) : V m c main_v5 (ix2 p l)
    = tab1 (fun e => m ((c : Thread nD τ).loc main_arg3) (ix2 p e)) l := by
  rw [V_host1]
  refine Eq.trans ?_ (tab1_beside _ l)
  pointwise [host1, negs, ones48, zeros56, zeros8, zeros48, zeros64]

set_option maxRecDepth 100000 in
theorem tab2_apply (c : Dev nD) (p : Fin 5120) (l : Fin 128) : V m c main_v8 (ix2 p l)
    = tab2 (fun e => m ((c : Thread nD τ).loc main_arg3) (ix2 p e)) l := by
  rw [V_host2]
  refine Eq.trans ?_ (tab2_beside _ l)
  pointwise [host2, negs, ones48, zeros56, zeros8, zeros48, zeros64]

/-- Every window's block index at a grid point. -/
theorem idx : ∀ t : Fin cfg0.N, win0_0.index t = ![t.val % 9, 0] ∧ win0_1.index t = ![0, t.val / 9]
    ∧ win0_2.index t = ![if t.val % 9 < 8 then t.val % 9 % 4 else 4, 0]
    ∧ win0_3.index t = ![if t.val % 9 < 8 then t.val % 9 % 4 else 4, 0]
    ∧ win0_4.index t = ![if t.val % 9 < 8 then t.val % 9 % 4 else 4, 0] ∧ win0_5.index t = ![t.val % 9, t.val / 9] :=
  (by decide +kernel : ∀ t : Fin grid0.N, _)

theorem N_lt (t : Fin cfg0.N) : t.val < 18 := lt_of_lt_of_eq t.isLt (show cfg0.N = 18 from N_0)

/-- Row `r` of point `t`'s block … -/
def rowOf (t : Fin cfg0.N) (r : Fin 1024) : Fin 9216 := ⟨1024 * (t.val % 9) + r.val, by omega⟩

/-- … and column `e`. -/
def colOf (t : Fin cfg0.N) (e : Fin 512) : Fin 1024 := ⟨512 * (t.val / 9) + e.val, by have := N_lt t; omega⟩

/-- Row `p` of the product. -/
def prodRow (c : Dev nD) (p : Fin 9216) (d : Fin 1024) : EReal :=
  dotRow (fun k => m ((c : Thread nD τ).loc main_arg0) (ix2 p k))
    (fun k (d : Fin 1024) => m ((c : Thread nD τ).loc main_arg1) (ix2 k ⟨d.val, by omega⟩)) d

/-- The cosines and sines of row `p`'s position. -/
def cosRow (c : Dev nD) (p : Fin 9216) : Fin 8 → EReal := fun e => m ((c : Thread nD τ).loc main_arg2) (ix2 (tabRow p) e)

def sinRow (c : Dev nD) (p : Fin 9216) : Fin 8 → EReal := fun e => m ((c : Thread nD τ).loc main_arg3) (ix2 (tabRow p) e)

theorem blk0 (c : Dev nD) (t : Fin cfg0.N) (r : Fin 1024) (k : Fin 2048) :
    iblk m c 0 t (ix2 r k) = m ((c : Thread nD τ).loc main_arg0) (ix2 (rowOf t r) k) := by
  have hi := idx t
  rw [← V_main_arg0 m c]
  blk_ext! [iblk, hi, rowOf]

theorem wblk_apply (c : Dev nD) (t : Fin cfg0.N) (k : Fin 2048) (e : Fin 512) :
    wblk m c t (ix2 k e) = m ((c : Thread nD τ).loc main_arg1) (ix2 k ⟨(colOf t e).val, by omega⟩) := by
  have hi := idx ⟨9 * (t.val / 9), Pipeline.run_start_lt t⟩
  unfold wblk
  rw [pay3_eq, ← V_main_arg1 m c]
  blk_ext! [iblk, hi, colOf]

theorem tabRow_lo (t : Fin cfg0.N) (r : Fin 1024) (h : t.val % 9 < 8) : (tabRow (rowOf t r)).val = t.val % 9 % 4 * 1024 + r.val := by
  change (if 1024 * (t.val % 9) + r.val < 8192 then (1024 * (t.val % 9) + r.val) % 4096 else 1024 * (t.val % 9) + r.val - 4096) = _
  split_ifs <;> omega

theorem tabRow_hi (t : Fin cfg0.N) (r : Fin 1024) (h : ¬t.val % 9 < 8) : (tabRow (rowOf t r)).val = 4 * 1024 + r.val := by
  change (if 1024 * (t.val % 9) + r.val < 8192 then (1024 * (t.val % 9) + r.val) % 4096 else 1024 * (t.val % 9) + r.val - 4096) = _
  split_ifs <;> omega

theorem blk2 (c : Dev nD) (t : Fin cfg0.N) (r : Fin 1024) (l : Fin 128) :
    iblk m c 2 t (ix2 r l) = tab0 (cosRow m c (rowOf t r)) l := by
  have hi := idx t
  refine Eq.trans ?_ (tab0_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

theorem blk3 (c : Dev nD) (t : Fin cfg0.N) (r : Fin 1024) (l : Fin 128) :
    iblk m c 3 t (ix2 r l) = tab1 (sinRow m c (rowOf t r)) l := by
  have hi := idx t
  refine Eq.trans ?_ (tab1_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

theorem blk4 (c : Dev nD) (t : Fin cfg0.N) (r : Fin 1024) (l : Fin 128) :
    iblk m c 4 t (ix2 r l) = tab2 (sinRow m c (rowOf t r)) l := by
  have hi := idx t
  refine Eq.trans ?_ (tab2_apply m c (tabRow (rowOf t r)) l)
  by_cases h : t.val % 9 < 8
  · simp only [if_pos h] at hi
    blk_ext! [iblk, hi, tabRow_lo t r h]
  · simp only [if_neg h] at hi
    blk_ext! [iblk, hi, tabRow_hi t r h]

/-- A point's products are the rows' entries. -/
theorem prod_apply (c : Dev nD) (t : Fin cfg0.N) (r : Fin 1024) (e : Fin 512) :
    k0_pay4 (F := Ideal) (iblk m c 0 t) (wblk m c t) (ix2 r e) = prodRow m c (rowOf t r) (colOf t e) := by
  rw [pay4_apply]
  unfold prodRow dotRow
  simp only [blk0, wblk_apply]

theorem tileRope_eq (c : Dev nD) (t : Fin cfg0.N) (r : Fin 1024) (e : Fin 512) :
    tileRope (k0_pay4 (F := Ideal) (iblk m c 0 t) (wblk m c t)) (iblk m c 2 t) (iblk m c 3 t) (iblk m c 4 t) r e
      = partialRot (N := 1024) rfl (prodRow m c (rowOf t r)) (cosRow m c (rowOf t r)) (sinRow m c (rowOf t r)) (colOf t e) := by
  have hc : (colOf t e).val = 512 * (t.val / 9) + e.val := rfl
  unfold tileRope
  rw [prod_apply, prod_apply, prod_apply, blk2, blk3, blk4]
  refine lane_eq rfl _ _ _ _ _ (by simp only; omega) _ _ (fun h => congrArg _ (Fin.ext ?_)) (fun h => congrArg _ (Fin.ext ?_))
  · dsimp only [colOf] at *; omega
  · dsimp only [colOf] at *; omega

/-- Row `p` of the result. -/
def outRow (c : Dev nD) (p : Fin 9216) (d : Fin 1024) : EReal :=
  partialRot (N := 1024) rfl (prodRow m c p) (cosRow m c p) (sinRow m c p) d * eighth

/-- What a point stores. -/
theorem out_apply (c : Dev nD) (t : Fin cfg0.N) (r : Fin 1024) (e : Fin 512) :
    (outsAt0 m c t.val t.isLt).1 (ix2 r e) = outRow m c (rowOf t r) (colOf t e) :=
  (out_eq m c t (ix2 r e)).trans (congrArg (· * eighth) (tileRope_eq m c t r e))

/-- The result array holds the rows `outRow`. -/
theorem final5 (c : Dev nD) : (dats m 0 c).arrAt 5 cfg0.N = fun i => outRow m c (i 0) (i 1) := by
  refine (dats m 0 c).arrAt_eq_of_covers 5 _ (by decide +kernel) fun t hf y => ?_
  have hi := idx t
  blk_simp
  rw [after0_5]
  obtain ⟨r, e, rfl⟩ : ∃ (r : Fin 1024) (e : Fin 512), y = ix2 r e := ⟨y 0, y 1, ValueIdx.eq_ix2 y⟩
  refine (out_apply m c t r e).trans ?_
  congr 1
  · ext; blk_simp [hi, rowOf]; simp only; omega
  · ext; blk_simp [hi, colOf]; simp only; omega

end Cert.Kernel10Ideal.AbInQ

end
-- ==== Proof.AbIn.QClaim.lean ====
/- The first layer's query projection: the plain reference's entries, and the equation between the two. -/
module

public import proofs.«01_k».proof.Proof.AbIn.QKernel
public import proofs.«01_k».proof.Proof.Gen.Reference10Ideal.Read
public import proofs.«01_k».proof.Proof.Gen.Reference10Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Reference10Ideal.AbInQ

open Cert.Reference10Ideal Cert.Reference10Ideal.Read Cert.Layer Cert.AbIn

variable (x0 : (⟨S9216x2048, .bf16⟩ : BufTy).Contents (Elt Ideal)) (x1 : (⟨S2048x3584, .f32⟩ : BufTy).Contents (Elt Ideal))
  (x2 x3 : (⟨S5120x8, .f32⟩ : BufTy).Contents (Elt Ideal))

/-- Row `p` of the product. -/
def prod (p : Fin 9216) (d : Fin 1024) : EReal :=
  dotRow (fun k => x0 (ix2 p k)) (fun k (d : Fin 1024) => x1 (ix2 k ⟨d.val, by omega⟩)) d

theorem prod_apply (p : Fin 9216) (d : Fin 1024) : val_main_v2 (F := Ideal) x0 x1 (ix2 p d) = prod x0 x1 p d := by
  pointwise [val_main_v2, val_main_v1, val_main_v0, prod, dotRow]

set_option maxRecDepth 100000 in
theorem cos_apply (p : Fin 9216) (e : Fin 8) : val_main_v7 (F := Ideal) x2 (ix2 p e) = x2 (ix2 (tabRow p) e) := by
  pointwise [val_main_v7, val_main_v6, val_main_v5, val_main_v4]
  split_ifs with h1 h2
  all_goals exact congrArg (fun r => x2 (ix2 r e)) (Fin.ext (by unfold tabRow; dsimp only; split_ifs <;> omega))

set_option maxRecDepth 100000 in
theorem sin_apply (p : Fin 9216) (e : Fin 8) : val_main_v11 (F := Ideal) x3 (ix2 p e) = x3 (ix2 (tabRow p) e) := by
  pointwise [val_main_v11, val_main_v10, val_main_v9, val_main_v8]
  split_ifs with h1 h2
  all_goals exact congrArg (fun r => x3 (ix2 r e)) (Fin.ext (by unfold tabRow; dsimp only; split_ifs <;> omega))

theorem rot_apply (p : Fin 9216) (d : Fin 1024) : val_main_v30 (F := Ideal) x0 x1 x2 x3 (ix2 p d)
    = partialRot (N := 1024) rfl (prod x0 x1 p) (fun e => x2 (ix2 (tabRow p) e)) (fun e => x3 (ix2 (tabRow p) e)) d := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v3]
  simp only [prod_apply, cos_apply, sin_apply]
  by_cases h1 : d.val % 64 < 16
  · by_cases h2 : d.val % 64 < 8
    · simp only [dif_pos h1, dif_pos h2]
      refine (partialRot_lo (N := 1024) rfl (prod x0 x1 p) (fun e => x2 (ix2 (tabRow p) e)) (fun e => x3 (ix2 (tabRow p) e)) d _ _ _ h2 ?_ ?_ ?_) <;> first | rfl | (dsimp only; omega)
    · simp only [dif_pos h1, dif_neg h2]
      refine (partialRot_hi (N := 1024) rfl (prod x0 x1 p) (fun e => x2 (ix2 (tabRow p) e)) (fun e => x3 (ix2 (tabRow p) e)) d _ _ _ h2 h1 ?_ ?_ ?_) <;> first | rfl | (dsimp only; omega)
  · simp only [dif_neg h1]
    refine (partialRot_rest (N := 1024) rfl (prod x0 x1 p) (fun e => x2 (ix2 (tabRow p) e)) (fun e => x3 (ix2 (tabRow p) e)) d _ h1 ?_)
    dsimp only; omega

theorem out_apply (p : Fin 9216) (d : Fin 1024) : val_main_v33 (F := Ideal) x0 x1 x2 x3 (ix2 p d)
    = partialRot (N := 1024) rfl (prod x0 x1 p) (fun e => x2 (ix2 (tabRow p) e)) (fun e => x3 (ix2 (tabRow p) e)) d
      * Ideal.ofBits .f32 0x3E000000#32 := by
  rw [← rot_apply x0 x1 x2 x3]
  pointwise [val_main_v33, val_main_v32, val_main_v31, val_main_cst]

end Cert.Reference10Ideal.AbInQ

namespace Cert.AbInQ

variable (m0 : (ℓ : Loc Kernel10Ideal.nD Kernel10Ideal.τ Kernel10Ideal.sig) → Buf (Elt Ideal) ℓ)

/-- On the same arguments the reference's result holds the call's rows. -/
theorem q_eq (c : Dev Kernel10Ideal.nD) (y : Reference10Ideal.S9216x1024.Idx) :
    Reference10Ideal.Read.val_main_v33 (F := Ideal) (m0 ((c : Thread Kernel10Ideal.nD Kernel10Ideal.τ).loc Kernel10Ideal.main_arg0)) (m0 ((c : Thread Kernel10Ideal.nD Kernel10Ideal.τ).loc Kernel10Ideal.main_arg1))
      (m0 ((c : Thread Kernel10Ideal.nD Kernel10Ideal.τ).loc Kernel10Ideal.main_arg2)) (m0 ((c : Thread Kernel10Ideal.nD Kernel10Ideal.τ).loc Kernel10Ideal.main_arg3)) y
      = Kernel10Ideal.AbInQ.outRow m0 c (y 0) (y 1) := by
  obtain ⟨p, d, rfl⟩ : ∃ (p : Fin 9216) (d : Fin 1024), y = ix2 p d := ⟨y 0, y 1, ValueIdx.eq_ix2 y⟩
  exact Reference10Ideal.AbInQ.out_apply _ _ _ _ p d

theorem algebraic : Cert.algebraic_Kernel10Ideal_Reference10Ideal := by
  pair_intro
  rotate_left 2
  · exact fun c => fun i => Kernel10Ideal.AbInQ.outRow m c (i 0) (i 1)
  · run_from Kernel10Ideal.Value.run_blocks m g
    exact Kernel10Ideal.AbInQ.final5 m c
  · refine (θ_run _ _ _).mono (fun r h c => ⟨(h c).1.trans ?_, (h c).2⟩) (Reference10Ideal.Value.run m' g')
    refine (Reference10Ideal.Read.val_main_v33_eq m' c).trans ?_
    rw [(hagree c).1, (hagree c).2.1, (hagree c).2.2.1, (hagree c).2.2.2]
    exact funext fun y => q_eq m c y

end Cert.AbInQ

end
-- ==== Proof.RetSample.Step.lean ====
/- One step of the retention for a sample: eight rows of one head, the state before them read from the cache. The input
   projection `z` holds the samples' rows below the prompt's, eight for each of the 128 sequences. -/
module

public import proofs.«01_k».proof.Proof.Retention.Chunk

@[expose] public section

set_option maxRecDepth 16384

noncomputable section

open Idealize.ShloMosaic Idealize.ShloMosaic.TcCoe

namespace Cert.RetSample

open Cert.Layer Cert.Retention

/-- The shape of the states. -/
abbrev St : Shape := ⟨4, ![128, 8, 256, 512]⟩

/-- Row `i` of sequence `n`. -/
def row (n : Fin 128) (i : Fin 8) : Fin 9216 := ⟨8192 + n.val * 8 + i.val, by omega⟩

variable (z : Z.Idx → EReal) (s : St.Idx → EReal) (n : Fin 128) (h : Fin 8)

/-- The queries, keys, values and gates of head `h` in sequence `n`. -/
def qc (i : Fin 8) (d : Fin 256) : EReal := z (ix2 (row n i) ⟨h.val * 256 + d.val, by omega⟩)
def kc (i : Fin 8) (d : Fin 256) : EReal := z (ix2 (row n i) ⟨2048 + h.val * 256 + d.val, by omega⟩)
def vc (i : Fin 8) (e : Fin 512) : EReal := z (ix2 (row n i) ⟨4096 + h.val * 512 + e.val, by omega⟩)
def gc (i : Fin 8) (e : Fin 512) : EReal := z (ix2 (row n i) ⟨8192 + h.val * 512 + e.val, by omega⟩)

/-- The state after the eight rows. -/
def S1 (d : Fin 256) (e : Fin 512) : EReal :=
  s (ix4 n h d e) * Ideal.exp (rate h * Ideal.ofBits .f32 1090519040#32)
    + ∑ x, kc z n h x d * Ideal.exp (rate h * (Ideal.ofBits .f32 1088421888#32 - num x)) * vc z n h x e

/-- The rows before they are normalized. -/
def O (i : Fin 8) (e : Fin 512) : EReal :=
  (∑ x, (∑ x1, qc z n h i x1 * kc z n h x x1) * dec (rate h) i x * vc z n h x e)
    + (∑ x, qc z n h i x * s (ix4 n h x e)) * Ideal.exp (rate h * (num i + 1))

/-- The rows, normalized and gated. -/
def Y (i : Fin 8) (e : Fin 512) : EReal := normed (O z s n h i) e * gc z n h i e

/-- Row `p` of the layer's rows, `p` at least 8192. -/
def yRow (p : Fin 9216) (e : Fin 4096) : EReal :=
  Y z s ⟨(p.val - 8192) / 8 % 128, by omega⟩ ⟨e.val / 512, by omega⟩ ⟨p.val % 8, by omega⟩ ⟨e.val % 512, by omega⟩

theorem Y_congr {z : Z.Idx → EReal} {s : St.Idx → EReal} {n n' : Fin 128} {h h' : Fin 8} {i i' : Fin 8} {e e' : Fin 512} (hn : n.val = n'.val)
    (hh : h.val = h'.val) (hi : i.val = i'.val) (he : e.val = e'.val) : Y z s n h i e = Y z s n' h' i' e' := by
  rw [Fin.ext hn, Fin.ext hh, Fin.ext hi, Fin.ext he]

theorem S1_congr {z : Z.Idx → EReal} {s : St.Idx → EReal} {n n' : Fin 128} {h h' : Fin 8} {d d' : Fin 256} {e e' : Fin 512} (hn : n.val = n'.val)
    (hh : h.val = h'.val) (hd : d.val = d'.val) (he : e.val = e'.val) : S1 z s n h d e = S1 z s n' h' d' e' := by
  rw [Fin.ext hn, Fin.ext hh, Fin.ext hd, Fin.ext he]

/-- The rows with the decay on the queries and the products the other way round. -/
theorem O_eq (i : Fin 8) (e : Fin 512) :
    (∑ x, vc z n h x e * ((∑ x1, qc z n h i x1 * kc z n h x x1) * dec (rate h) i x))
      + ∑ x, s (ix4 n h x e) * (qc z n h i x * Ideal.exp (rate h * (num i + 1))) = O z s n h i e := by
  have hd := decay_real h ⟨i.val, by omega⟩
  unfold O
  rw [sum_mul_real _ _ hd.1 hd.2]
  congr 1
  · exact Finset.sum_congr rfl fun x _ => mul_comm _ _
  · exact Finset.sum_congr rfl fun x _ => by rw [← mul_assoc, mul_comm (s (ix4 n h x e))]

/-- A sum over 128 rows that is zero outside one group of eight. -/
theorem sum_group (g : Fin 16) (f : Fin 128 → EReal) (h0 : ∀ x : Fin 128, x.val / 8 ≠ g.val → f x = 0) :
    ∑ x, f x = ∑ i : Fin 8, f ⟨g.val * 8 + i.val, by omega⟩ := by
  symm
  refine Fintype.sum_of_injective (fun i : Fin 8 => (⟨g.val * 8 + i.val, by omega⟩ : Fin 128)) (fun a b hab => ?_) _ f (fun x hx => h0 x fun hg => hx ?_) (fun i => rfl)
  · have := congrArg Fin.val hab
    exact Fin.ext (by dsimp only at this; omega)
  · exact ⟨⟨x.val % 8, by omega⟩, Fin.ext (by dsimp only; omega)⟩

/-- A row's number within its group, as the low bits say it. -/
theorem low_bits : ∀ i : Fin 128, IntOp.andi (BitVec.ofNat 32 i.val) 7#32 = BitVec.ofNat 32 (i.val % 8) := by decide +kernel

end Cert.RetSample

end
-- ==== Proof.RetSample.Block.lean ====
/- What one grid point of the samples' kernel leaves: the rows of sixteen sequences for one head, and their sixteen states. -/
module

public import proofs.«01_k».proof.Proof.Gen.Kernel11Ideal.Frame
public import proofs.«01_k».proof.Proof.RetSample.Step
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel11Ideal.RetSample

open Cert.Kernel11Ideal Cert.Kernel11Ideal.Gen Cert.Layer Cert.Retention Cert.RetSample

variable (m : (ℓ : Loc nD τ sig) → Buf (Elt Ideal) ℓ) (c : Dev nD)

theorem inb (o : ℕ) (ho : o < 16) : ∀ a, (![o, 0, 0, 0] : Fin 4 → ℕ) a + S1x1x256x512.size a ≤ S16x1x256x512.size a := by
  intro a; fin_cases a
  · exact ho
  · exact Nat.le_refl 1
  · exact Nat.le_refl 256
  · exact Nat.le_refl 512

variable (lg : EReal) (x1 x2 : FVec Ideal S128x256 .bf16) (x3 x4 : FVec Ideal S128x512 .bf16) (x5 : FVec Ideal S16x1x256x512 .f32)

/-- The state of the block's sequence `o`. -/
abbrev part (o : ℕ) (ho : o < 16) : FVec Ideal S1x1x256x512 .f32 :=
  View.ld (Val := Elt Ideal) (e' := .f32) x5 (Rect.unit (s := S16x1x256x512) ![o, 0, 0, 0] S1x1x256x512.size (inb o ho))

theorem part_apply (o : ℕ) (ho : o < 16) (a b : Fin 1) (d : Fin 256) (e : Fin 512) :
    part x5 o ho (ix4 a b d e) = x5 (ix4 ⟨o, ho⟩ 0 d e) := by
  refine congrArg x5 (funext fun i => Fin.ext ?_)
  have ha : a.val = 0 := by omega
  have hb : b.val = 0 := by omega
  fin_cases i
  · show o + 1 * a.val = o; omega
  · show 0 + 1 * b.val = 0; omega
  · exact (Nat.zero_add _).trans (Nat.one_mul _)
  · exact (Nat.zero_add _).trans (Nat.one_mul _)

/-- The number of a row's group of eight. -/
abbrev grp : IVec S128x1 32 := k0_pay20 (iota .tc S128x1 32 [0] iota_S128x1_d0_w32)

theorem grp_bits : ∀ i : Fin 128, Scalar.select
      (IntOp.andi
        (IntOp.cmpi CmpIPredicate.ne
          (IntOp.subi (BitVec.setWidth 32 (IntOp.cmpi CmpIPredicate.sgt (BitVec.ofNat 32 ↑i) 0#32))
            (BitVec.setWidth 32 (IntOp.cmpi CmpIPredicate.slt (BitVec.ofNat 32 ↑i) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 ↑i) 8#32) 0#32))
      (IntOp.subi (IntOp.divsi ArithUnit.vector (BitVec.ofNat 32 ↑i) 8#32) 1#32)
      (IntOp.divsi ArithUnit.vector (BitVec.ofNat 32 ↑i) 8#32) = BitVec.ofNat 32 (i.val / 8) := by decide +kernel

theorem grp_apply (i : Fin 128) (a : Fin 1) : grp (ix2 i a) = BitVec.ofNat 32 (i.val / 8) := by
  pointwise [grp, k0_pay20]
  exact grp_bits i

/-- The state that the kernel leaves of the block's sequence `o`. -/
abbrev tile (o : ℕ) (ho : o < 16) : FVec Ideal S1x1x256x512 .f32 :=
  k0_pay21 (F := Ideal) (k0_pay10 lg) (k0_pay11 x2 k0_pay8 (k0_pay9 lg)) (k0_pay13 x3) (k0_pay18 (part x5 o ho)) grp (BitVec.ofNat 32 o)

/-- The sixteen states. -/
abbrev stBlock : FVec Ideal S16x1x256x512 .f32 := View.canon (Val := Elt Ideal) (e := .f32) (
    [⟨Rect.unit (s := S16x1x256x512) ![15, 0, 0, 0] S1x1x256x512.size (inb 15 (by omega)), tile lg x2 x3 x5 15 (by omega)⟩,
    ⟨Rect.unit (s := S16x1x256x512) ![14, 0, 0, 0] S1x1x256x512.size (inb 14 (by omega)), tile lg x2 x3 x5 14 (by omega)⟩,
    ⟨Rect.unit (s := S16x1x256x512) ![13, 0, 0, 0] S1x1x256x512.size (inb 13 (by omega)), tile lg x2 x3 x5 13 (by omega)⟩,
    ⟨Rect.unit (s := S16x1x256x512) ![12, 0, 0, 0] S1x1x256x512.size (inb 12 (by omega)), tile lg x2 x3 x5 12 (by omega)⟩,
    ⟨Rect.unit (s := S16x1x256x512) ![11, 0, 0, 0] S1x1x256x512.size (inb 11 (by omega)), tile lg x2 x3 x5 11 (by omega)⟩,
    ⟨Rect.unit (s := S16x1x256x512) ![10, 0, 0, 0] S1x1x256x512.size (inb 10 (by omega)), tile lg x2 x3 x5 10 (by omega)⟩,
    ⟨Rect.unit (s := S16x1x256x512) ![9, 0, 0, 0] S1x1x256x512.size (inb 9 (by omega)), tile lg x2 x3 x5 9 (by omega)⟩,
    ⟨Rect.unit (s := S16x1x256x512) ![8, 0, 0, 0] S1x1x256x512.size (inb 8 (by omega)), tile lg x2 x3 x5 8 (by omega)⟩,
    ⟨Rect.unit (s := S16x1x256x512) ![7, 0, 0, 0] S1x1x256x512.size (inb 7 (by omega)), tile lg x2 x3 x5 7 (by omega)⟩,
    ⟨Rect.unit (s := S16x1x256x512) ![6, 0, 0, 0] S1x1x256x512.size (inb 6 (by omega)), tile lg x2 x3 x5 6 (by omega)⟩,
    ⟨Rect.unit (s := S16x1x256x512) ![5, 0, 0, 0] S1x1x256x512.size (inb 5 (by omega)), tile lg x2 x3 x5 5 (by omega)⟩,
    ⟨Rect.unit (s := S16x1x256x512) ![4, 0, 0, 0] S1x1x256x512.size (inb 4 (by omega)), tile lg x2 x3 x5 4 (by omega)⟩,
    ⟨Rect.unit (s := S16x1x256x512) ![3, 0, 0, 0] S1x1x256x512.size (inb 3 (by omega)), tile lg x2 x3 x5 3 (by omega)⟩,
    ⟨Rect.unit (s := S16x1x256x512) ![2, 0, 0, 0] S1x1x256x512.size (inb 2 (by omega)), tile lg x2 x3 x5 2 (by omega)⟩,
    ⟨Rect.unit (s := S16x1x256x512) ![1, 0, 0, 0] S1x1x256x512.size (inb 1 (by omega)), tile lg x2 x3 x5 1 (by omega)⟩,
    ⟨Rect.unit (s := S16x1x256x512) ![0, 0, 0, 0] S1x1x256x512.size (inb 0 (by omega)), tile lg x2 x3 x5 0 (by omega)⟩])

/-- The rows against the states before them, sequence by sequence. -/
abbrev heads : FVec Ideal S128x512 .f32 :=
  concatenate S128x512 0 [⟨S8x512, k0_pay15 (F := Ideal) x1 (part x5 0 (by omega))⟩,
    ⟨S8x512, k0_pay19 (F := Ideal) (k0_pay12 x1) (part x5 1 (by omega))⟩,
    ⟨S8x512, k0_pay23 (F := Ideal) (k0_pay12 x1) (part x5 2 (by omega))⟩,
    ⟨S8x512, k0_pay28 (F := Ideal) (k0_pay12 x1) (part x5 3 (by omega))⟩,
    ⟨S8x512, k0_pay34 (F := Ideal) (k0_pay12 x1) (part x5 4 (by omega))⟩,
    ⟨S8x512, k0_pay40 (F := Ideal) (k0_pay12 x1) (part x5 5 (by omega))⟩,
    ⟨S8x512, k0_pay45 (F := Ideal) (k0_pay12 x1) (part x5 6 (by omega))⟩,
    ⟨S8x512, k0_pay50 (F := Ideal) (k0_pay12 x1) (part x5 7 (by omega))⟩,
    ⟨S8x512, k0_pay55 (F := Ideal) (k0_pay12 x1) (part x5 8 (by omega))⟩,
    ⟨S8x512, k0_pay59 (F := Ideal) (k0_pay12 x1) (part x5 9 (by omega))⟩,
    ⟨S8x512, k0_pay63 (F := Ideal) (k0_pay61 (part x5 10 (by omega))) (k0_pay62 (k0_pay12 x1))⟩,
    ⟨S8x512, k0_pay66 (F := Ideal) (k0_pay12 x1) (part x5 11 (by omega))⟩,
    ⟨S8x512, k0_pay69 (F := Ideal) (k0_pay12 x1) (part x5 12 (by omega))⟩,
    ⟨S8x512, k0_pay73 (F := Ideal) (k0_pay12 x1) (part x5 13 (by omega))⟩,
    ⟨S8x512, k0_pay78 (F := Ideal) (k0_pay12 x1) (part x5 14 (by omega))⟩,
    ⟨S8x512, k0_pay82 (F := Ideal) (k0_pay12 x1) (part x5 15 (by omega))⟩] concatenates_S8x512_S8x512_S8x512_S8x512_S8x512_S8x512_S8x512_S8x512_S8x512_S8x512_S8x512_S8x512_S8x512_S8x512_S8x512_S8x512_S128x512_d0

/-- The sixteen sequences' rows. -/
abbrev rowBlock : FVec Ideal S128x512 .bf16 :=
  k0_pay85 (F := Ideal) (k0_pay5 lg x1 x2 x3 (iota .tc S128x128 32 [1] iota_S128x128_d1_w32) (k0_pay1 (F := Ideal)) k0_pay2 8#32 k0_pay3 k0_pay4)
    (k0_pay7 lg) (heads x1 x5) x4

/-- The decay's logarithm as the grid point reads it. -/
abbrev lgAt (t : Fin cfg0.N) : EReal :=
  View.ld (Val := Elt Ideal) (e' := .f32) (iblk m c 0 t) (Rect.unit (s := S8) (k0_off1 (grid0.coords t)) S1.size (k0_off1_inb (grid0.coords t)))
    (Shape.Idx.first (smemLoad._proof_2 (Rect.unit (s := S8) (k0_off1 (grid0.coords t)) S1.size (k0_off1_inb (grid0.coords t))) numel1_S1))

variable (p : FVec Ideal S1x1x256x512 .f32)

theorem head0 (a : Fin 8) (e : Fin 512) (i : Fin 128) (hi : i.val = 0 + a.val) :
    k0_pay15 (F := Ideal) x1 p (ix2 a e) = ∑ x, x1 (ix2 i x) * p (ix4 0 0 x e) := by
  rw [show i = ⟨0 + a.val, by omega⟩ from Fin.ext hi]
  pointwise [k0_pay15, k0_pay14, k0_pay12]
theorem head1 (a : Fin 8) (e : Fin 512) (i : Fin 128) (hi : i.val = 8 + a.val) :
    k0_pay19 (F := Ideal) (k0_pay12 x1) p (ix2 a e) = ∑ x, x1 (ix2 i x) * p (ix4 0 0 x e) := by
  rw [show i = ⟨8 + a.val, by omega⟩ from Fin.ext hi]
  pointwise [k0_pay19, k0_pay12, k0_pay18]
theorem head2 (a : Fin 8) (e : Fin 512) (i : Fin 128) (hi : i.val = 16 + a.val) :
    k0_pay23 (F := Ideal) (k0_pay12 x1) p (ix2 a e) = ∑ x, x1 (ix2 i x) * p (ix4 0 0 x e) := by
  rw [show i = ⟨16 + a.val, by omega⟩ from Fin.ext hi]
  pointwise [k0_pay23, k0_pay12, k0_pay22]
theorem head3 (a : Fin 8) (e : Fin 512) (i : Fin 128) (hi : i.val = 24 + a.val) :
    k0_pay28 (F := Ideal) (k0_pay12 x1) p (ix2 a e) = ∑ x, x1 (ix2 i x) * p (ix4 0 0 x e) := by
  rw [show i = ⟨24 + a.val, by omega⟩ from Fin.ext hi]
  pointwise [k0_pay28, k0_pay12, k0_pay27]
theorem head4 (a : Fin 8) (e : Fin 512) (i : Fin 128) (hi : i.val = 32 + a.val) :
    k0_pay34 (F := Ideal) (k0_pay12 x1) p (ix2 a e) = ∑ x, x1 (ix2 i x) * p (ix4 0 0 x e) := by
  rw [show i = ⟨32 + a.val, by omega⟩ from Fin.ext hi]
  pointwise [k0_pay34, k0_pay12, k0_pay33]
theorem head5 (a : Fin 8) (e : Fin 512) (i : Fin 128) (hi : i.val = 40 + a.val) :
    k0_pay40 (F := Ideal) (k0_pay12 x1) p (ix2 a e) = ∑ x, x1 (ix2 i x) * p (ix4 0 0 x e) := by
  rw [show i = ⟨40 + a.val, by omega⟩ from Fin.ext hi]
  pointwise [k0_pay40, k0_pay12, k0_pay39]
theorem head6 (a : Fin 8) (e : Fin 512) (i : Fin 128) (hi : i.val = 48 + a.val) :
    k0_pay45 (F := Ideal) (k0_pay12 x1) p (ix2 a e) = ∑ x, x1 (ix2 i x) * p (ix4 0 0 x e) := by
  rw [show i = ⟨48 + a.val, by omega⟩ from Fin.ext hi]
  pointwise [k0_pay45, k0_pay12, k0_pay44]
theorem head7 (a : Fin 8) (e : Fin 512) (i : Fin 128) (hi : i.val = 56 + a.val) :
    k0_pay50 (F := Ideal) (k0_pay12 x1) p (ix2 a e) = ∑ x, x1 (ix2 i x) * p (ix4 0 0 x e) := by
  rw [show i = ⟨56 + a.val, by omega⟩ from Fin.ext hi]
  pointwise [k0_pay50, k0_pay12, k0_pay49]
theorem head8 (a : Fin 8) (e : Fin 512) (i : Fin 128) (hi : i.val = 64 + a.val) :
    k0_pay55 (F := Ideal) (k0_pay12 x1) p (ix2 a e) = ∑ x, x1 (ix2 i x) * p (ix4 0 0 x e) := by
  rw [show i = ⟨64 + a.val, by omega⟩ from Fin.ext hi]
  pointwise [k0_pay55, k0_pay12, k0_pay54]
theorem head9 (a : Fin 8) (e : Fin 512) (i : Fin 128) (hi : i.val = 72 + a.val) :
    k0_pay59 (F := Ideal) (k0_pay12 x1) p (ix2 a e) = ∑ x, x1 (ix2 i x) * p (ix4 0 0 x e) := by
  rw [show i = ⟨72 + a.val, by omega⟩ from Fin.ext hi]
  pointwise [k0_pay59, k0_pay12, k0_pay58]
theorem head10 (a : Fin 8) (e : Fin 512) (i : Fin 128) (hi : i.val = 80 + a.val) :
    k0_pay63 (F := Ideal) (k0_pay61 p) (k0_pay62 (k0_pay12 x1)) (ix2 a e) = ∑ x, x1 (ix2 i x) * p (ix4 0 0 x e) := by
  rw [show i = ⟨80 + a.val, by omega⟩ from Fin.ext hi]
  pointwise [k0_pay63, k0_pay61, k0_pay62, k0_pay12]
theorem head11 (a : Fin 8) (e : Fin 512) (i : Fin 128) (hi : i.val = 88 + a.val) :
    k0_pay66 (F := Ideal) (k0_pay12 x1) p (ix2 a e) = ∑ x, x1 (ix2 i x) * p (ix4 0 0 x e) := by
  rw [show i = ⟨88 + a.val, by omega⟩ from Fin.ext hi]
  pointwise [k0_pay66, k0_pay12, k0_pay65]
theorem head12 (a : Fin 8) (e : Fin 512) (i : Fin 128) (hi : i.val = 96 + a.val) :
    k0_pay69 (F := Ideal) (k0_pay12 x1) p (ix2 a e) = ∑ x, x1 (ix2 i x) * p (ix4 0 0 x e) := by
  rw [show i = ⟨96 + a.val, by omega⟩ from Fin.ext hi]
  pointwise [k0_pay69, k0_pay12, k0_pay68]
theorem head13 (a : Fin 8) (e : Fin 512) (i : Fin 128) (hi : i.val = 104 + a.val) :
    k0_pay73 (F := Ideal) (k0_pay12 x1) p (ix2 a e) = ∑ x, x1 (ix2 i x) * p (ix4 0 0 x e) := by
  rw [show i = ⟨104 + a.val, by omega⟩ from Fin.ext hi]
  pointwise [k0_pay73, k0_pay12, k0_pay72]
theorem head14 (a : Fin 8) (e : Fin 512) (i : Fin 128) (hi : i.val = 112 + a.val) :
    k0_pay78 (F := Ideal) (k0_pay12 x1) p (ix2 a e) = ∑ x, x1 (ix2 i x) * p (ix4 0 0 x e) := by
  rw [show i = ⟨112 + a.val, by omega⟩ from Fin.ext hi]
  pointwise [k0_pay78, k0_pay12, k0_pay77]
theorem head15 (a : Fin 8) (e : Fin 512) (i : Fin 128) (hi : i.val = 120 + a.val) :
    k0_pay82 (F := Ideal) (k0_pay12 x1) p (ix2 a e) = ∑ x, x1 (ix2 i x) * p (ix4 0 0 x e) := by
  rw [show i = ⟨120 + a.val, by omega⟩ from Fin.ext hi]
  pointwise [k0_pay82, k0_pay12, k0_pay81]

/-- The sixteen pieces of `heads`. -/
abbrev piece : Fin 16 → FVec Ideal S8x512 .f32 := ![k0_pay15 (F := Ideal) x1 (part x5 0 (by omega)),
    k0_pay19 (F := Ideal) (k0_pay12 x1) (part x5 1 (by omega)),
    k0_pay23 (F := Ideal) (k0_pay12 x1) (part x5 2 (by omega)),
    k0_pay28 (F := Ideal) (k0_pay12 x1) (part x5 3 (by omega)),
    k0_pay34 (F := Ideal) (k0_pay12 x1) (part x5 4 (by omega)),
    k0_pay40 (F := Ideal) (k0_pay12 x1) (part x5 5 (by omega)),
    k0_pay45 (F := Ideal) (k0_pay12 x1) (part x5 6 (by omega)),
    k0_pay50 (F := Ideal) (k0_pay12 x1) (part x5 7 (by omega)),
    k0_pay55 (F := Ideal) (k0_pay12 x1) (part x5 8 (by omega)),
    k0_pay59 (F := Ideal) (k0_pay12 x1) (part x5 9 (by omega)),
    k0_pay63 (F := Ideal) (k0_pay61 (part x5 10 (by omega))) (k0_pay62 (k0_pay12 x1)),
    k0_pay66 (F := Ideal) (k0_pay12 x1) (part x5 11 (by omega)),
    k0_pay69 (F := Ideal) (k0_pay12 x1) (part x5 12 (by omega)),
    k0_pay73 (F := Ideal) (k0_pay12 x1) (part x5 13 (by omega)),
    k0_pay78 (F := Ideal) (k0_pay12 x1) (part x5 14 (by omega)),
    k0_pay82 (F := Ideal) (k0_pay12 x1) (part x5 15 (by omega))]

theorem piece_apply (g : Fin 16) (a : Fin 8) (e : Fin 512) (i : Fin 128) (hi : i.val = 8 * g.val + a.val) :
    piece x1 x5 g (ix2 a e) = ∑ x, x1 (ix2 i x) * x5 (ix4 g 0 x e) := by
  fin_cases g
  · exact (head0 x1 (part x5 0 (by omega)) a e i hi).trans (Finset.sum_congr rfl fun x _ => by rw [part_apply])
  · exact (head1 x1 (part x5 1 (by omega)) a e i hi).trans (Finset.sum_congr rfl fun x _ => by rw [part_apply])
  · exact (head2 x1 (part x5 2 (by omega)) a e i hi).trans (Finset.sum_congr rfl fun x _ => by rw [part_apply])
  · exact (head3 x1 (part x5 3 (by omega)) a e i hi).trans (Finset.sum_congr rfl fun x _ => by rw [part_apply])
  · exact (head4 x1 (part x5 4 (by omega)) a e i hi).trans (Finset.sum_congr rfl fun x _ => by rw [part_apply])
  · exact (head5 x1 (part x5 5 (by omega)) a e i hi).trans (Finset.sum_congr rfl fun x _ => by rw [part_apply])
  · exact (head6 x1 (part x5 6 (by omega)) a e i hi).trans (Finset.sum_congr rfl fun x _ => by rw [part_apply])
  · exact (head7 x1 (part x5 7 (by omega)) a e i hi).trans (Finset.sum_congr rfl fun x _ => by rw [part_apply])
  · exact (head8 x1 (part x5 8 (by omega)) a e i hi).trans (Finset.sum_congr rfl fun x _ => by rw [part_apply])
  · exact (head9 x1 (part x5 9 (by omega)) a e i hi).trans (Finset.sum_congr rfl fun x _ => by rw [part_apply])
  · exact (head10 x1 (part x5 10 (by omega)) a e i hi).trans (Finset.sum_congr rfl fun x _ => by rw [part_apply])
  · exact (head11 x1 (part x5 11 (by omega)) a e i hi).trans (Finset.sum_congr rfl fun x _ => by rw [part_apply])
  · exact (head12 x1 (part x5 12 (by omega)) a e i hi).trans (Finset.sum_congr rfl fun x _ => by rw [part_apply])
  · exact (head13 x1 (part x5 13 (by omega)) a e i hi).trans (Finset.sum_congr rfl fun x _ => by rw [part_apply])
  · exact (head14 x1 (part x5 14 (by omega)) a e i hi).trans (Finset.sum_congr rfl fun x _ => by rw [part_apply])
  · exact (head15 x1 (part x5 15 (by omega)) a e i hi).trans (Finset.sum_congr rfl fun x _ => by rw [part_apply])

theorem heads_apply (i : Fin 128) (e : Fin 512) :
    heads x1 x5 (ix2 i e) = ∑ x, x1 (ix2 i x) * x5 (ix4 ⟨i.val / 8, by omega⟩ 0 x e) := by
  refine Eq.trans ?_ (piece_apply x1 x5 ⟨i.val / 8, by omega⟩ ⟨i.val % 8, by omega⟩ e i (by dsimp only; omega))
  refine concatenate_ofFn_apply (α := EReal) (t := S128x512) (s₁ := S8x512) 0 (piece x1 x5) concatenates_S8x512_S8x512_S8x512_S8x512_S8x512_S8x512_S8x512_S8x512_S8x512_S8x512_S8x512_S8x512_S8x512_S8x512_S8x512_S8x512_S128x512_d0
    rfl 8 rfl (ix2 i e) ⟨i.val / 8, by omega⟩ rfl (ix2 ⟨i.val % 8, by omega⟩ e) rfl fun b hb => ?_
  fin_cases b
  · exact absurd rfl hb
  · rfl

theorem cmp_group {a b : ℕ} (ha : a < 128) (hb : b < 128) :
    IntOp.cmpi CmpIPredicate.eq (BitVec.ofNat 32 a) (BitVec.ofNat 32 b) = BitVec.ofBool (decide (a = b)) := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  show BitVec.ofBool _ = _
  congr 1
  by_cases hab : a = b
  · subst hab; simp
  · have := mt h.mp hab
    simp [hab, this]

theorem intra_apply (i : Fin 128) (e : Fin 512) :
    k0_pay5 (F := Ideal) lg x1 x2 x3 (iota .tc S128x128 32 [1] iota_S128x128_d1_w32) (k0_pay1 (F := Ideal)) k0_pay2 8#32 k0_pay3 k0_pay4 (ix2 i e)
      = ∑ x : Fin 8, (∑ j, x1 (ix2 i j) * x2 (ix2 ⟨i.val / 8 * 8 + x.val, by omega⟩ j)) * dec lg (i.val % 8) x.val * x3 (ix2 ⟨i.val / 8 * 8 + x.val, by omega⟩ e) := by
  pointwise [k0_pay5, k0_pay1, k0_pay2, k0_pay3, k0_pay4]
  simp only [grp_bits, low_bits, num_sub (Nat.lt_trans (Nat.mod_lt _ (by decide : 0 < 8)) (by decide : 8 < 128)) (Nat.lt_trans (Nat.mod_lt _ (by decide : 0 < 8)) (by decide : 8 < 128)),
    cmp_group (Nat.lt_of_le_of_lt (Nat.div_le_self _ 8) (Fin.isLt _)) (Nat.lt_of_le_of_lt (Nat.div_le_self _ 8) (Fin.isLt _))]
  have hz : ∀ c : BitVec 1, IntOp.andi (BitVec.ofBool false) c = 0 := by decide
  have ho : ∀ c : BitVec 1, IntOp.andi (BitVec.ofBool true) c = c := by decide
  rw [sum_group ⟨i.val / 8, by omega⟩ _ fun x hx => ?_]
  · refine Finset.sum_congr rfl fun x _ => ?_
    have h1 : (i.val / 8 * 8 + x.val) / 8 = i.val / 8 := by omega
    have h2 : (i.val / 8 * 8 + x.val) % 8 = x.val := by omega
    simp only [h1, h2, decide_true, ho]
    unfold dec
    by_cases h : 0 ≤ num (i.val % 8) - num x.val
    · rw [if_pos h]
      exact if_pos (by rw [decide_eq_true h]; rfl)
    · rw [if_neg h, mul_zero, zero_mul]
      exact if_neg (by rw [decide_eq_false h]; decide)
  · have hx' : ¬ i.val / 8 = x.val / 8 := fun h => hx h.symm
    simp only [hx', decide_false, hz]
    exact if_neg (by decide)

theorem tile_apply (o : ℕ) (ho : o < 16) (a b : Fin 1) (d : Fin 256) (e : Fin 512) :
    tile lg x2 x3 x5 o ho (ix4 a b d e) = x5 (ix4 ⟨o, ho⟩ 0 d e) * Ideal.exp (lg * Ideal.ofBits .f32 1090519040#32)
      + ∑ x : Fin 8, x2 (ix2 ⟨o * 8 + x.val, by omega⟩ d) * Ideal.exp (lg * (Ideal.ofBits .f32 1088421888#32 - num x.val)) * x3 (ix2 ⟨o * 8 + x.val, by omega⟩ e) := by
  unfold tile
  rw [← part_apply x5 o ho 0 0]
  generalize part x5 o ho = p
  pointwise [k0_pay21, k0_pay10, k0_pay11, k0_pay13, k0_pay18, k0_pay8, k0_pay9, k0_pay6]
  simp only [grp_apply, low_bits]
  congr 1
  rw [sum_group ⟨o, ho⟩ _ fun x hx => ?_]
  · refine Finset.sum_congr rfl fun x _ => ?_
    have h1 : (o * 8 + x.val) / 8 = o := by omega
    have h2 : (o * 8 + x.val) % 8 = x.val := by omega
    simp only [h1, h2]
    exact (if_pos (by rw [cmp_group (by omega) (by omega)]; simp)).trans rfl
  · rw [cmp_group (by omega) (by omega)]
    have hx' : ¬ x.val / 8 = o := hx
    simp only [hx', decide_false]
    rfl

theorem st_apply (n : Fin 16) (b : Fin 1) (d : Fin 256) (e : Fin 512) :
    stBlock lg x2 x3 x5 (ix4 n b d e) = x5 (ix4 n 0 d e) * Ideal.exp (lg * Ideal.ofBits .f32 1090519040#32)
      + ∑ x : Fin 8, x2 (ix2 ⟨n.val * 8 + x.val, by omega⟩ d) * Ideal.exp (lg * (Ideal.ofBits .f32 1088421888#32 - num x.val)) * x3 (ix2 ⟨n.val * 8 + x.val, by omega⟩ e) := by
  have key : ∀ (o : ℕ) (ho : o < 16) (y : S1x1x256x512.Idx), n.val = o + (y 0).val → d.val = (y 2).val → e.val = (y 3).val →
      tile lg x2 x3 x5 o ho y = x5 (ix4 n 0 d e) * Ideal.exp (lg * Ideal.ofBits .f32 1090519040#32)
        + ∑ x : Fin 8, x2 (ix2 ⟨n.val * 8 + x.val, by omega⟩ d) * Ideal.exp (lg * (Ideal.ofBits .f32 1088421888#32 - num x.val)) * x3 (ix2 ⟨n.val * 8 + x.val, by omega⟩ e) := by
    intro o ho y h0 h2 h3
    obtain ⟨a, b, d', e', rfl⟩ : ∃ (a b : Fin 1) (d : Fin 256) (e : Fin 512), y = ix4 a b d e := ⟨y 0, y 1, y 2, y 3, ValueIdx.eq_ix4 y⟩
    obtain rfl : d = d' := Fin.ext h2
    obtain rfl : e = e' := Fin.ext h3
    obtain rfl : n = ⟨o, ho⟩ := Fin.ext (by have h0' : n.val = o + a.val := h0; dsimp only; omega)
    exact tile_apply lg x2 x3 x5 o ho a b d e
  canon_tiles x hx
  · exact key 15 (by decide) x hx0 hx2 hx3
  · exact key 14 (by decide) x hx0 hx2 hx3
  · exact key 13 (by decide) x hx0 hx2 hx3
  · exact key 12 (by decide) x hx0 hx2 hx3
  · exact key 11 (by decide) x hx0 hx2 hx3
  · exact key 10 (by decide) x hx0 hx2 hx3
  · exact key 9 (by decide) x hx0 hx2 hx3
  · exact key 8 (by decide) x hx0 hx2 hx3
  · exact key 7 (by decide) x hx0 hx2 hx3
  · exact key 6 (by decide) x hx0 hx2 hx3
  · exact key 5 (by decide) x hx0 hx2 hx3
  · exact key 4 (by decide) x hx0 hx2 hx3
  · exact key 3 (by decide) x hx0 hx2 hx3
  · exact key 2 (by decide) x hx0 hx2 hx3
  · exact key 1 (by decide) x hx0 hx2 hx3
  · exact key 0 (by decide) x (hx0.trans (Nat.zero_add _).symm) hx2 hx3

theorem rows_apply (i : Fin 128) (e : Fin 512) :
    rowBlock lg x1 x2 x3 x4 x5 (ix2 i e) = normed (fun e =>
      (∑ x : Fin 8, (∑ j, x1 (ix2 i j) * x2 (ix2 ⟨i.val / 8 * 8 + x.val, by omega⟩ j)) * dec lg (i.val % 8) x.val * x3 (ix2 ⟨i.val / 8 * 8 + x.val, by omega⟩ e))
        + (∑ x, x1 (ix2 i x) * x5 (ix4 ⟨i.val / 8, by omega⟩ 0 x e)) * Ideal.exp (lg * (num (i.val % 8) + 1))) e * x4 (ix2 i e) := by
  simp only [← intra_apply, ← heads_apply]
  unfold rowBlock
  generalize heads x1 x5 = h
  generalize k0_pay5 (F := Ideal) _ _ _ _ _ _ _ _ _ _ = aa
  pointwise [k0_pay85, k0_pay7, k0_pay6]
  simp only [low_bits]
  rfl

/-- The point's states and rows in terms of the blocks it reads. -/
theorem outs_s (t : Fin cfg0.N) : (outsAt0 (F := Ideal) m c t).2 = stBlock (lgAt m c t) (iblk m c 2 t) (iblk m c 3 t) (iblk m c 5 t) := by
  unfold outsAt0
  frame_out
  unfold tile lgAt
  generalize iblk m c 0 t = x0
  generalize iblk m c 2 t = x2
  generalize iblk m c 3 t = x3
  generalize iblk m c 5 t = x5
  generalize View.ld x0 _ _ = l
  generalize hk : k0_pay11 x2 k0_pay8 (k0_pay9 l) = kd
  generalize hs : k0_pay10 l = sd
  generalize hv : k0_pay13 x3 = vf
  refine congrArg (View.canon (Val := Elt Ideal) (e := .f32)) ?_
  refine congrArg₂ List.cons (congrArg (Sigma.mk _) ?_) ?_
  · rfl
  iterate 14
    refine congrArg₂ List.cons (congrArg (Sigma.mk _) ?_) ?_
    · rfl
  refine congrArg₂ List.cons (congrArg (Sigma.mk _) ?_) rfl
  rfl

theorem outs_y (t : Fin cfg0.N) : (outsAt0 (F := Ideal) m c t).1
    = rowBlock (lgAt m c t) (iblk m c 1 t) (iblk m c 2 t) (iblk m c 3 t) (iblk m c 4 t) (iblk m c 5 t) := by
  unfold outsAt0
  frame_out
  try simp only [read_unread_whole]
  unfold rowBlock lgAt heads
  generalize iblk m c 0 t = x0
  generalize iblk m c 1 t = x1
  generalize iblk m c 2 t = x2
  generalize iblk m c 3 t = x3
  generalize iblk m c 4 t = x4
  generalize iblk m c 5 t = x5
  generalize View.ld x0 _ _ = l
  generalize k0_pay5 l x1 x2 x3 _ _ _ _ _ _ = aa
  generalize hq : View.ld (View.read (Elt Ideal) (ms0_1 t).view _) _ = q1
  generalize h5 : View.read (Elt Ideal) (ms0_5 t).view _ = s5
  have eq : q1 = x1 := by rw [← hq]; frame_out
  have e5 : s5 = x5 := by rw [← h5]; frame_out
  subst eq e5
  rfl

end Cert.Kernel11Ideal.RetSample

end
-- ==== Proof.RetSample.Array.lean ====
/- What the samples' kernel's two result arrays hold. Point `t` of the grid handles the sixteen sequences from sequence
   `16 * (t / 8)` on, and head `t % 8`. -/
module

public import proofs.«01_k».proof.Proof.RetSample.Block

@[expose] public section

set_option maxRecDepth 16384

noncomputable section

open Idealize.ShloMosaic Idealize.ShloMosaic.TcCoe Idealize.SL.Sem
open Idealize.ShloMosaic.Pipeline (Dat)

namespace Cert.Kernel11Ideal.RetSample

open Cert.Kernel11Ideal Cert.Kernel11Ideal.Gen Cert.Layer Cert.RetSample
open Cert.Retention hiding row qc kc vc gc S O Y yRow Y_congr

variable (m : (ℓ : Loc nD τ sig) → Buf (Elt Ideal) ℓ) (c : Dev nD)

/-- The decays' logarithms, as the host computes them. -/
theorem lg_host (h : Fin 8) : V m c main_v7 (ix1 h) = rate h := by
  have e : V m c main_v7 = Host.log1p (Host.negf (Host.exp (mulf (broadcastInDim S8 ![] bcast_S_S8 (constant (F := Ideal) S_ .f32 0x3F317218#32))
    (subf (broadcastInDim S8 ![] bcast_S_S8 (constant (F := Ideal) S_ .f32 0xC0A00000#32)) (sitofp .f32 (iotaInDim S8 32 0)))))) := by
    unfold_abbrev_sides
    after_results_simp
  rw [e]
  pointwise []
  rfl

/-- Every window's block index at a grid point. -/
theorem idx : ∀ t : Fin cfg0.N, win0_0.index t = ![0] ∧ win0_1.index t = ![64 + t.val / 8, t.val % 8]
    ∧ win0_2.index t = ![64 + t.val / 8, 8 + t.val % 8]
    ∧ win0_3.index t = ![64 + t.val / 8, 8 + t.val % 8]
    ∧ win0_4.index t = ![64 + t.val / 8, 16 + t.val % 8]
    ∧ win0_5.index t = ![t.val / 8, t.val % 8, 0, 0]
    ∧ win0_6.index t = ![64 + t.val / 8, t.val % 8]
    ∧ win0_7.index t = ![t.val / 8, t.val % 8, 0, 0] :=
  (by decide +kernel : ∀ t : Fin grid0.N, _)

theorem off (t : Fin cfg0.N) : k0_off1 (grid0.coords t) = ![t.val % 8] :=
  (by decide +kernel : ∀ t : Fin grid0.N, k0_off1 (grid0.coords t) = ![t.val % 8]) t

theorem N_lt (t : Fin cfg0.N) : t.val < 64 := lt_of_lt_of_eq t.isLt (show cfg0.N = 64 from N_0)

def seqOf (t : Fin cfg0.N) (g : Fin 16) : Fin 128 := ⟨t.val / 8 * 16 + g.val, by have := N_lt t; omega⟩
def headOf (t : Fin cfg0.N) : Fin 8 := ⟨t.val % 8, by omega⟩

/-- The rows before the call, the input projection and the states before the eight rows. -/
abbrev yArr : (⟨2, ![9216, 4096]⟩ : Shape).Idx → EReal := m ((c : Thread nD τ).loc main_arg0)
abbrev zArr : Z.Idx → EReal := m ((c : Thread nD τ).loc main_arg1)
abbrev sArr : St.Idx → EReal := m ((c : Thread nD τ).loc main_arg2)

/-- The result's array starts as the rows before the call. -/
theorem y_host : V m c main_v8_0 = yArr m c := by
  unfold_abbrev_sides
  after_results_simp
  rfl

theorem lgAt_eq (t : Fin cfg0.N) : lgAt m c t = rate (headOf t) := by
  refine Eq.trans ?_ (lg_host m c (headOf t))
  have hi := idx t
  have ho := congrFun (off t) 0
  refine (congrArg (iblk m c 0 t) (show _ = ix1 (headOf t) from funext fun a => Fin.ext ?_)).trans ?_
  · fin_cases a
    exact (congrArg (· + 1 * 0) ho).trans (Nat.add_zero _)
  · blk_ext! [iblk, hi]

theorem blk1 (t : Fin cfg0.N) (r : Fin 128) (d : Fin 256) : iblk m c 1 t (ix2 r d)
    = zArr m c (ix2 ⟨(64 + t.val / 8) * 128 + r.val, by have := N_lt t; omega⟩ ⟨t.val % 8 * 256 + d.val, by omega⟩) := by
  have hi := idx t
  unfold zArr
  rw [← V_main_arg1 m c]
  blk_ext! [iblk, hi]
theorem blk2 (t : Fin cfg0.N) (r : Fin 128) (d : Fin 256) : iblk m c 2 t (ix2 r d)
    = zArr m c (ix2 ⟨(64 + t.val / 8) * 128 + r.val, by have := N_lt t; omega⟩ ⟨2048 + t.val % 8 * 256 + d.val, by omega⟩) := by
  have hi := idx t
  unfold zArr
  rw [← V_main_arg1 m c]
  blk_ext! [iblk, hi]
theorem blk3 (t : Fin cfg0.N) (r : Fin 128) (d : Fin 512) : iblk m c 3 t (ix2 r d)
    = zArr m c (ix2 ⟨(64 + t.val / 8) * 128 + r.val, by have := N_lt t; omega⟩ ⟨4096 + t.val % 8 * 512 + d.val, by omega⟩) := by
  have hi := idx t
  unfold zArr
  rw [← V_main_arg1 m c]
  blk_ext! [iblk, hi]
theorem blk4 (t : Fin cfg0.N) (r : Fin 128) (d : Fin 512) : iblk m c 4 t (ix2 r d)
    = zArr m c (ix2 ⟨(64 + t.val / 8) * 128 + r.val, by have := N_lt t; omega⟩ ⟨8192 + t.val % 8 * 512 + d.val, by omega⟩) := by
  have hi := idx t
  unfold zArr
  rw [← V_main_arg1 m c]
  blk_ext! [iblk, hi]
theorem blk5 (t : Fin cfg0.N) (g : Fin 16) (d : Fin 256) (e : Fin 512) : iblk m c 5 t (ix4 g 0 d e)
    = sArr m c (ix4 (seqOf t g) (headOf t) d e) := by
  have hi := idx t
  unfold sArr seqOf headOf
  rw [← V_main_arg2 m c]
  blk_ext! [iblk, hi]

theorem row_eq (t : Fin cfg0.N) (g : Fin 16) (i : Fin 8) (r : Fin 128) (hr : r.val = g.val * 8 + i.val) :
    (⟨(64 + t.val / 8) * 128 + r.val, by have := N_lt t; omega⟩ : Fin 9216) = row (seqOf t g) i :=
  Fin.ext (by dsimp only [row, seqOf]; omega)

theorem q_eq (t : Fin cfg0.N) (g : Fin 16) (i : Fin 8) (r : Fin 128) (hr : r.val = g.val * 8 + i.val) (d : Fin 256) :
    iblk m c 1 t (ix2 r d) = qc (zArr m c) (seqOf t g) (headOf t) i d := by
  rw [blk1, row_eq t g i r hr]; rfl
theorem k_eq (t : Fin cfg0.N) (g : Fin 16) (i : Fin 8) (r : Fin 128) (hr : r.val = g.val * 8 + i.val) (d : Fin 256) :
    iblk m c 2 t (ix2 r d) = kc (zArr m c) (seqOf t g) (headOf t) i d := by
  rw [blk2, row_eq t g i r hr]; rfl
theorem v_eq (t : Fin cfg0.N) (g : Fin 16) (i : Fin 8) (r : Fin 128) (hr : r.val = g.val * 8 + i.val) (d : Fin 512) :
    iblk m c 3 t (ix2 r d) = vc (zArr m c) (seqOf t g) (headOf t) i d := by
  rw [blk3, row_eq t g i r hr]; rfl
theorem g_eq (t : Fin cfg0.N) (g : Fin 16) (i : Fin 8) (r : Fin 128) (hr : r.val = g.val * 8 + i.val) (d : Fin 512) :
    iblk m c 4 t (ix2 r d) = gc (zArr m c) (seqOf t g) (headOf t) i d := by
  rw [blk4, row_eq t g i r hr]; rfl

theorem st_out (t : Fin cfg0.N) (g : Fin 16) (b : Fin 1) (d : Fin 256) (e : Fin 512) :
    (outsAt0 (F := Ideal) m c t).2 (ix4 g b d e) = Cert.RetSample.S1 (zArr m c) (sArr m c) (seqOf t g) (headOf t) d e := by
  rw [outs_s, st_apply, blk5, lgAt_eq]
  unfold Cert.RetSample.S1
  refine congrArg _ (Finset.sum_congr rfl fun x _ => ?_)
  rw [k_eq m c t g x _ rfl, v_eq m c t g x _ rfl]

theorem rows_out (t : Fin cfg0.N) (r : Fin 128) (e : Fin 512) :
    (outsAt0 (F := Ideal) m c t).1 (ix2 r e)
      = Y (zArr m c) (sArr m c) (seqOf t ⟨r.val / 8, by omega⟩) (headOf t) ⟨r.val % 8, by omega⟩ e := by
  have hr : r.val = (⟨r.val / 8, by omega⟩ : Fin 16).val * 8 + (⟨r.val % 8, by omega⟩ : Fin 8).val := by dsimp only; omega
  rw [outs_y, rows_apply, g_eq m c t _ _ r hr]
  unfold Y
  refine congrArg (normed · e * _) (funext fun e => ?_)
  unfold O
  refine congrArg₂ (· + ·) (Finset.sum_congr rfl fun x _ => ?_) (congrArg₂ (· * ·) (Finset.sum_congr rfl fun x _ => ?_) ?_)
  · rw [v_eq m c t ⟨r.val / 8, by omega⟩ x _ rfl, lgAt_eq]
    refine congrArg (· * _ * _) (Finset.sum_congr rfl fun d _ => ?_)
    rw [q_eq m c t _ _ r hr, k_eq m c t ⟨r.val / 8, by omega⟩ x _ rfl]
  · rw [q_eq m c t _ _ r hr, blk5]
  · rw [lgAt_eq]

/-- The rows' array holds the samples' rows, and the prompt's rows are left as they were. -/
theorem final6 : (dats m 0 c).arrAt 6 cfg0.N
    = fun i => if (i 0).val < 8192 then yArr m c i else yRow (zArr m c) (sArr m c) (i 0) (i 1) := by
  have key : (dats m 0 c).arrAt 6 cfg0.N
      = fun i => if 8192 ≤ (i 0).val then yRow (zArr m c) (sArr m c) (i 0) (i 1) else V m c main_v8_0 i := by
    refine (dats m 0 c).arrAt_eq_of_coversWhere 6 (fun i => yRow (zArr m c) (sArr m c) (i 0) (i 1)) (fun β => 64 ≤ β 0) (by decide +kernel)
      (fun t hf y => ?_) (fun j => by blk_simp [Pipeline.Window.cell_apply]; omega)
    have hi := idx t
    have hN := N_lt t
    blk_simp
    rw [after0_6]
    obtain ⟨r, e, rfl⟩ : ∃ (r : Fin 128) (e : Fin 512), y = ix2 r e := ⟨y 0, y 1, ValueIdx.eq_ix2 y⟩
    refine (rows_out m c t r e).trans ?_
    refine Y_congr ?_ ?_ ?_ ?_ <;> blk_simp [hi, seqOf, headOf] <;> (try simp only) <;> omega
  rw [key, y_host]
  funext i
  by_cases h : (i 0).val < 8192
  · rw [if_pos h, if_neg (by omega)]
  · rw [if_neg h, if_pos (by omega)]

/-- The states' array holds the states after the eight rows. -/
theorem final7 : (dats m 0 c).arrAt 7 cfg0.N = fun i => Cert.RetSample.S1 (zArr m c) (sArr m c) (i 0) (i 1) (i 2) (i 3) := by
  refine (dats m 0 c).arrAt_eq_of_covers 7 _ (by decide +kernel) fun t hf y => ?_
  have hi := idx t
  have hN := N_lt t
  blk_simp
  rw [after0_7]
  obtain ⟨a, b, d, e, rfl⟩ : ∃ (a : Fin 16) (b : Fin 1) (d : Fin 256) (e : Fin 512), y = ix4 a b d e := ⟨y 0, y 1, y 2, y 3, ValueIdx.eq_ix4 y⟩
  refine (st_out m c t a b d e).trans ?_
  refine S1_congr ?_ ?_ ?_ ?_ <;> blk_simp [hi, seqOf, headOf] <;> (try simp only) <;> (try omega)

end Cert.Kernel11Ideal.RetSample

end
-- ==== Proof.RetSample.Reference.lean ====
/- What the samples' reference computes: the states after the eight rows, and the rows normalized and gated below the prompt's. -/
module

public import proofs.«01_k».proof.Proof.Gen.Reference11Ideal.Read
public import proofs.«01_k».proof.Proof.RetSample.Step
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Reference11Ideal.RetSample

open Cert.Reference11Ideal Cert.Reference11Ideal.Gen Cert.Reference11Ideal.Read Cert.Layer Cert.RetSample
open Cert.Retention hiding row qc kc vc gc S O Y yRow Y_congr

theorem lg_apply (h : Fin 8) : val_main_v15 (F := Ideal) (ix1 h) = rate h := by
  pointwise [val_main_v15, val_main_v14, val_main_v13, val_main_v12, val_main_v11, val_main_v10, val_main_v9, val_main_v8, val_main_cst, val_main_cst_0]
  rfl
theorem dmat_apply (h : Fin 8) (i j : Fin 8) : val_main_v32 (F := Ideal) (ix3 h i j) = dec (rate h) i j := by
  rw [← lg_apply]
  pointwise [val_main_v32, val_main_call0_v2, val_main_call0_v1, val_main_call0_v0, id_eq, val_main_cst_3, val_main_v31, val_main_v30, val_main_v29, val_main_v28,
    val_main_v27, val_main_v26, val_main_v25, val_main_cst_2, val_main_v24, val_main_v23, val_main_v22, val_main_cst_1, val_main_v21, val_main_v20,
    val_main_v19, val_main_v18, val_main_v17, val_main_v16]
  rfl
theorem qdec_apply (h : Fin 8) (i : Fin 8) : val_main_v40 (F := Ideal) (ix2 i h) = Ideal.exp (rate h * (num i + 1)) := by
  rw [← lg_apply]
  pointwise [val_main_v40, val_main_v39, val_main_v38, val_main_v37, val_main_v36, val_main_v35, val_main_cst_4, val_main_v34, val_main_v33, val_main_v16]
  rfl
theorem kdec_apply (h : Fin 8) (i : Fin 8) : val_main_v48 (F := Ideal) (ix2 i h) = Ideal.exp (rate h * (Ideal.ofBits .f32 1088421888#32 - num i)) := by
  rw [← lg_apply]
  pointwise [val_main_v48, val_main_v47, val_main_v46, val_main_v45, val_main_v44, val_main_v43, val_main_cst_5, val_main_v42, val_main_v41, val_main_v16]
  rfl

variable (y : (⟨2, ![9216, 4096]⟩ : Shape).Idx → EReal) (z : Z.Idx → EReal) (s : St.Idx → EReal)

theorem q_apply (n : Fin 128) (i : Fin 8) (h : Fin 8) (d : Fin 256) : val_main_v3 (F := Ideal) z (ix4 n i h d) = qc z n h i d := by
  pointwise [val_main_v3, val_main_v2, val_main_v1, val_main_v0]
  unfold qc
  exact congrArg₂ (fun r l => z (ix2 r l)) (Fin.ext (by dsimp only [row]; omega)) (Fin.ext (by dsimp only <;> omega))
theorem k_apply (n : Fin 128) (i : Fin 8) (h : Fin 8) (d : Fin 256) : val_main_v5 (F := Ideal) z (ix4 n i h d) = kc z n h i d := by
  pointwise [val_main_v5, val_main_v4, val_main_v1, val_main_v0]
  unfold kc
  exact congrArg₂ (fun r l => z (ix2 r l)) (Fin.ext (by dsimp only [row]; omega)) (Fin.ext (by dsimp only <;> omega))
theorem v_apply (n : Fin 128) (i : Fin 8) (h : Fin 8) (e : Fin 512) : val_main_v7 (F := Ideal) z (ix4 n i h e) = vc z n h i e := by
  pointwise [val_main_v7, val_main_v6, val_main_v1, val_main_v0]
  unfold vc
  exact congrArg₂ (fun r l => z (ix2 r l)) (Fin.ext (by dsimp only [row]; omega)) (Fin.ext (by dsimp only <;> omega))

/-- The states after the eight rows. -/
theorem state_apply (n : Fin 128) (h : Fin 8) (d : Fin 256) (e : Fin 512) : val_main_v74 (F := Ideal) z s (ix4 n h d e) = S1 z s n h d e := by
  pointwise [val_main_v74, val_main_v73, val_main_v72, val_main_v71, val_main_v70, val_main_v69, val_main_v68, val_main_v67, val_main_v66, val_main_v65,
    val_main_v64, val_main_v63, val_main_v62, val_main_cst_6]
  simp only [lg_apply, kdec_apply, k_apply, v_apply]
  rfl

/-- The rows before they are normalized. -/
theorem o_apply (n : Fin 128) (i : Fin 8) (h : Fin 8) (e : Fin 512) : val_main_v61 (F := Ideal) z s (ix4 n i h e) = O z s n h i e := by
  rw [← O_eq]
  pointwise [val_main_v61, val_main_v60, val_main_v59, val_main_v58, val_main_v57, val_main_v56, val_main_v55, val_main_v54, val_main_v53, val_main_v52,
    val_main_v51, val_main_v50, val_main_v49]
  simp only [dmat_apply, qdec_apply, q_apply, k_apply, v_apply]

/-- The rows, normalized. -/
theorem normed_apply (n : Fin 128) (i : Fin 8) (h : Fin 8) (e : Fin 512) :
    val_main_v84 (F := Ideal) z s (ix4 n i h e) = normed (O z s n h i) e := by
  pointwise [val_main_v84, val_main_v83, val_main_v82, val_main_v81,
    val_main_v80, val_main_v79, val_main_v78, val_main_v77, val_main_v76, val_main_v75, val_main_cst_7, val_main_cst_8, val_main_cst_9]
  simp only [o_apply]
  rfl

/-- The samples' rows. -/
theorem gated_apply (r : Fin 1024) (e : Fin 4096) :
    val_main_v88 (F := Ideal) z s (ix2 r e) = yRow z s ⟨8192 + r.val, by omega⟩ e := by
  pointwise [val_main_v88, val_main_v87, val_main_v86, val_main_v85, val_main_v1, val_main_v0]
  simp only [normed_apply]
  have hz : z (ix2 ⟨8192 + r.val, by omega⟩ ⟨8192 + e.val, by omega⟩) = gc z ⟨r.val / 8, by omega⟩ ⟨e.val / 512, by omega⟩ ⟨r.val % 8, by omega⟩ ⟨e.val % 512, by omega⟩ :=
    congrArg₂ (fun r l => z (ix2 r l)) (Fin.ext (by dsimp only [row]; omega)) (Fin.ext (by dsimp only; omega))
  rw [hz]
  exact Y_congr (by dsimp only; omega) rfl (by dsimp only; omega) rfl

/-- The samples' rows below the prompt's, which are left as they were. -/
theorem rows_apply (p : Fin 9216) (e : Fin 4096) :
    val_main_v90 (F := Ideal) y z s (ix2 p e) = if p.val < 8192 then y (ix2 p e) else yRow z s p e := by
  unfold val_main_v90
  have h89 : ∀ r e, val_main_v89 (F := Ideal) y (ix2 r e) = y (ix2 ⟨r.val, by omega⟩ e) := fun r e => by pointwise [val_main_v89]
  generalize val_main_v89 (F := Ideal) y = a at h89
  have h88 := gated_apply z s
  generalize val_main_v88 (F := Ideal) z s = b at h88
  pointwise []
  by_cases hp : p.val < 8192
  · rw [dif_pos hp, if_pos hp]
    exact h89 _ e
  · rw [dif_neg hp, if_neg hp]
    refine (h88 _ e).trans (congrArg (yRow z s · e) (Fin.ext ?_))
    dsimp only
    omega

end Cert.Reference11Ideal.RetSample

end
-- ==== Proof.RetSample.Claim.lean ====
/- The retention of the samples: the rows the kernel writes and the states it leaves are the plain reference's. -/
module

public import proofs.«01_k».proof.Proof.RetSample.Array
public import proofs.«01_k».proof.Proof.RetSample.Reference
public import proofs.«01_k».proof.Proof.Gen.Kernel11.Frame
public import proofs.«01_k».proof.Proof.Gen.Kernel11Ideal.Value
public import proofs.«01_k».proof.Proof.Gen.Reference11Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.RetSample

theorem algebraic : Cert.algebraic_Kernel11Ideal_Reference11Ideal := by
  pair_intro
  rotate_left 2
  · exact fun c => fun i => if (i 0).val < 8192 then Kernel11Ideal.RetSample.yArr m c i
      else yRow (Kernel11Ideal.RetSample.zArr m c) (Kernel11Ideal.RetSample.sArr m c) (i 0) (i 1)
  · exact fun c => fun i => S1 (Kernel11Ideal.RetSample.zArr m c) (Kernel11Ideal.RetSample.sArr m c) (i 0) (i 1) (i 2) (i 3)
  · exact (θ_run _ _ _).mono (fun r h c => ⟨(h c).1.trans (Kernel11Ideal.RetSample.final6 m c),
      (h c).2.1.trans (Kernel11Ideal.RetSample.final7 m c), (h c).2.2⟩) (Kernel11Ideal.Value.run_blocks m g)
  · refine (θ_run _ _ _).mono (fun r h c => ⟨(h c).1.trans ?_, (h c).2.1.trans ?_, (h c).2.2⟩) (Reference11Ideal.Value.run m' g')
    · refine (Reference11Ideal.Read.val_main_v90_eq m' c).trans ?_
      rw [(hagree c).1, (hagree c).2.1, (hagree c).2.2]
      funext i
      obtain ⟨p, e, rfl⟩ : ∃ (p : Fin 9216) (e : Fin 4096), i = ix2 p e := ⟨i 0, i 1, ValueIdx.eq_ix2 i⟩
      exact Reference11Ideal.RetSample.rows_apply _ _ _ p e
    · refine (Reference11Ideal.Read.val_main_v74_eq _ _).trans ?_
      rw [(hagree c).2.1, (hagree c).2.2]
      funext i
      obtain ⟨n, h, d, e, rfl⟩ : ∃ (n : Fin 128) (h : Fin 8) (d : Fin 256) (e : Fin 512), i = ix4 n h d e := ⟨i 0, i 1, i 2, i 3, ValueIdx.eq_ix4 i⟩
      exact Reference11Ideal.RetSample.state_apply _ _ n h d e

end Cert.RetSample

end
-- ==== Proof.AbMix.Step.lean ====
/- The samples' mixed rows: attention of eight new tokens to the last 128 keys, those of the cache and the new ones, with a
   sink; and the gate, the eight rows mixed by the lower triangle of the weights. -/
module

public import proofs.«01_k».proof.Proof.RetSample.Step

@[expose] public section

set_option maxRecDepth 16384

noncomputable section

open Idealize.ShloMosaic Idealize.ShloMosaic.TcCoe

namespace Cert.AbMix

open Cert.RetSample (row)

/-- The shapes of the mixed rows, the queries and gates, the keys and values, the cache, the weights and the biases. -/
abbrev C : Shape := ⟨2, ![9216, 2048]⟩
abbrev Q : Shape := ⟨2, ![9216, 1024]⟩
abbrev KV : Shape := ⟨2, ![9216, 512]⟩
abbrev Zs : Shape := ⟨2, ![1024, 1024]⟩
abbrev Ca : Shape := ⟨4, ![128, 128, 4, 64]⟩
abbrev Si : Shape := ⟨1, ![16]⟩
abbrev W : Shape := ⟨3, ![4, 128, 128]⟩
abbrev B : Shape := ⟨2, ![4, 128]⟩

/-- The key a token `i` may see: one of the 128 that end with its own. -/
def sees (i : Fin 8) (k : Fin 136) : Prop := i.val < k.val ∧ k.val ≤ i.val + 128

instance (i : Fin 8) (k : Fin 136) : Decidable (sees i k) := by unfold sees; infer_instance

/-- Softmax over the scores `s` and a sink, and the sum of the values `v` by it. -/
def att {N : ℕ} (s v : Fin N → EReal) (sink : EReal) : EReal :=
  Ideal.div (∑ k, Ideal.exp (s k - max (Finset.univ.sup s) sink) * v k)
    (∑ k, Ideal.exp (s k - max (Finset.univ.sup s) sink) + Ideal.exp (sink - max (Finset.univ.sup s) sink))

theorem bot_sub (x : EReal) : (⊥ : EReal) - x = ⊥ := by rw [sub_eq_add_neg, EReal.bot_add]

/-- Keys whose score is `-∞` add nothing. -/
theorem att_pad (S V : Fin 256 → EReal) (s v : Fin 136 → EReal) (sink : EReal)
    (hs : ∀ k : Fin 136, S ⟨k.val, by omega⟩ = s k) (hv : ∀ k : Fin 136, V ⟨k.val, by omega⟩ = v k)
    (hb : ∀ k : Fin 256, 136 ≤ k.val → S k = ⊥) : att S V sink = att s v sink := by
  have hm : Finset.univ.sup S = Finset.univ.sup s := by
    refine le_antisymm (Finset.sup_le fun k _ => ?_) (Finset.sup_le fun k _ => ?_)
    · by_cases hk : k.val < 136
      · rw [show k = ⟨(⟨k.val, hk⟩ : Fin 136).val, by omega⟩ from rfl, hs]
        exact Finset.le_sup (f := s) (Finset.mem_univ _)
      · rw [hb k (by omega)]; exact bot_le
    · rw [← hs]; exact Finset.le_sup (f := S) (Finset.mem_univ _)
  have split (f : Fin 256 → EReal) (hf : ∀ k : Fin 256, 136 ≤ k.val → f k = 0) : ∑ k, f k = ∑ k : Fin 136, f ⟨k.val, by omega⟩ := by
    refine (Fin.sum_univ_add (a := 136) (b := 120) f).trans ?_
    rw [Finset.sum_eq_zero (s := Finset.univ) (f := fun i : Fin 120 => f (Fin.natAdd 136 i)) fun i _ => hf _ (by simp), add_zero]
    rfl
  have h0 (k : Fin 256) (hk : 136 ≤ k.val) (x : EReal) : Ideal.exp (S k - x) = 0 := by rw [hb k hk, bot_sub]; rfl
  unfold att
  rw [hm, split _ fun k hk => by rw [h0 k hk, zero_mul], split _ fun k hk => h0 k hk _]
  simp only [hs, hv]

variable (q : Q.Idx → EReal) (kv : KV.Idx → EReal) (ck cv : Ca.Idx → EReal) (si : Si.Idx → EReal)

/-- Column `e` of key (`o = 0`) or value (`o = 256`) `k` of sequence `n`: the cache's, then the new ones. -/
def cell (c : Ca.Idx → EReal) (o : Fin 257) (n : Fin 128) (k : Fin 136) (e : Fin 256) : EReal :=
  if h : k.val < 128 then c (ix4 n ⟨k.val, h⟩ ⟨e.val / 64, by omega⟩ ⟨e.val % 64, by omega⟩)
  else kv (ix2 (row n ⟨k.val - 128, by omega⟩) ⟨o.val + e.val, by omega⟩)

/-- The scores of head `4 a + g`. -/
def score (n : Fin 128) (a g : Fin 4) (i : Fin 8) (k : Fin 136) : EReal :=
  if sees i k then ∑ x : Fin 64, q (ix2 (row n i) ⟨a.val * 256 + g.val * 64 + x.val, by omega⟩) * cell kv ck 0 n k ⟨a.val * 64 + x.val, by omega⟩ else ⊥

/-- The attention's rows. -/
def A (n : Fin 128) (a g : Fin 4) (i : Fin 8) (d : Fin 64) : EReal :=
  att (score q kv ck n a g i) (fun k => cell kv cv 256 n k ⟨a.val * 64 + d.val, by omega⟩) (si (ix1 ⟨a.val * 4 + g.val, by omega⟩))

variable (u : Q.Idx → EReal) (z : Zs.Idx → EReal) (w : W.Idx → EReal) (b : B.Idx → EReal)

/-- The gate's rows, group `g`. -/
def G (n : Fin 128) (g : Fin 4) (i : Fin 8) (e : Fin 256) : EReal :=
  u (ix2 (row n i) ⟨g.val * 256 + e.val, by omega⟩)
    * (b (ix2 g ⟨i.val, by omega⟩) + ∑ j : Fin 8, z (ix2 ⟨n.val * 8 + j.val, by omega⟩ ⟨g.val * 256 + e.val, by omega⟩)
        * (if j.val ≤ i.val then w (ix3 g ⟨i.val, by omega⟩ ⟨j.val, by omega⟩) else 0))

/-- The mixed rows: attention and gate side by side, for row `i` of sequence `n`. -/
def mix (n : Fin 128) (i : Fin 8) (e : Fin 2048) : EReal :=
  if h : e.val < 1024 then A q kv ck cv si n ⟨e.val / 256, by omega⟩ ⟨e.val % 256 / 64, by omega⟩ i ⟨e.val % 64, by omega⟩
  else G u z w b n ⟨(e.val - 1024) / 256, by omega⟩ i ⟨(e.val - 1024) % 256, by omega⟩

/-- The rows of all samples by their row `p` of the whole. -/
def mixRow (p : Fin 9216) (e : Fin 2048) : EReal :=
  mix q kv ck cv si u z w b ⟨(p.val - 8192) / 8, by omega⟩ ⟨p.val % 8, by omega⟩ e

/-- The cache after the eight tokens: its last 120 rows and theirs. -/
def next (c : Ca.Idx → EReal) (o : Fin 257) (n j : Fin 128) (e : Fin 256) : EReal := cell kv c o n ⟨j.val + 8, by omega⟩ e

end Cert.AbMix

end
-- ==== Proof.AbMix.Attn.lean ====
/- One group of four heads as the samples' kernel computes it: 32 rows against 256 keys, of which the last 120 are padding. -/
module

public import proofs.«01_k».proof.Proof.Gen.Kernel12Ideal.Frame
public import proofs.«01_k».proof.Proof.AbMix.Step
public import Idealize.ShloMosaic.Lib.Pipeline.Value
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem

namespace Cert.Kernel12Ideal.AbMix

open Cert.Kernel12Ideal Cert.Kernel12Ideal.Gen Cert.AbMix

/-- The mask of a group's rows and keys. -/
def maskK : IVec S32x256 1 :=
  k0_pay16 (andi (iota Kind.tc S32x256 32 [0] iota_S32x256_d0_w32) (broadcast S32x256 7#32)) (iota Kind.tc S32x256 32 [1] iota_S32x256_d1_w32)
    (andi (cmpi CmpIPredicate.slt (iota Kind.tc S32x256 32 [1] iota_S32x256_d1_w32) (broadcast S32x256 128#32))
      (cmpi CmpIPredicate.sgt (iota Kind.tc S32x256 32 [1] iota_S32x256_d1_w32) (andi (iota Kind.tc S32x256 32 [0] iota_S32x256_d0_w32) (broadcast S32x256 7#32))))
    (cmpi CmpIPredicate.sge (iota Kind.tc S32x256 32 [1] iota_S32x256_d1_w32) (broadcast S32x256 128#32))
    (broadcast S32x256 128#32)

theorem mask_bits : ∀ (r : Fin 32) (k : Fin 256), IntOp.ori
    (IntOp.andi (IntOp.cmpi CmpIPredicate.slt (BitVec.ofNat 32 ↑k) 128#32)
      (IntOp.cmpi CmpIPredicate.sgt (BitVec.ofNat 32 ↑k) (IntOp.andi (BitVec.ofNat 32 ↑r) 7#32)))
    (IntOp.andi (IntOp.cmpi CmpIPredicate.sge (BitVec.ofNat 32 ↑k) 128#32)
      (IntOp.cmpi CmpIPredicate.sle (IntOp.subi (BitVec.ofNat 32 ↑k) 128#32) (IntOp.andi (BitVec.ofNat 32 ↑r) 7#32)))
    = BitVec.ofBool (decide (r.val % 8 < k.val ∧ k.val ≤ r.val % 8 + 128)) := by decide +kernel

theorem mask_apply (r : Fin 32) (k : Fin 256) : maskK (ix2 r k) = BitVec.ofBool (decide (r.val % 8 < k.val ∧ k.val ≤ r.val % 8 + 128)) := by
  pointwise [maskK, k0_pay16]
  exact mask_bits r k

variable (qs : FVec Ideal S16x32x64 .bf16) (kc vc : FVec Ideal S16x256x64 .bf16) (s0 s1 s2 s3 : EReal)

def scoreK : FVec Ideal S16x32x256 .f32 :=
  select (broadcastTo S16x32x256 (shapeCast S1x32x256 (shapeCast S1x32x256 maskK shapeCasts_S32x256_S1x32x256) shapeCasts_S1x32x256_S1x32x256) broadcasts_S1x32x256_S16x32x256)
    (matmul dot_S16x32x64_S16x256x64_S16x32x256_2_2_1_1_0_0 none qs kc (constant S16x32x256 .f32 0x00000000#32))
    (broadcast S16x32x256 (Named.named (F := Ideal) (φ := .f32) κ "mask" 0xF149F2CA#32))

def sinkK : FVec Ideal S1x32x1 .f32 :=
  shapeCast S1x32x1 (concatenate S32x1 0 [⟨S8x1, broadcast S8x1 s0⟩, ⟨S8x1, broadcast S8x1 s1⟩, ⟨S8x1, broadcast S8x1 s2⟩, ⟨S8x1, broadcast S8x1 s3⟩]
    concatenates_S8x1_S8x1_S8x1_S8x1_S32x1_d0) shapeCasts_S32x1_S1x32x1

section
variable (s : FVec Ideal S16x32x256 .f32) (k : FVec Ideal S1x32x1 .f32) (mx : FVec Ideal S16x32x1 .f32) (e : FVec Ideal S16x32x256 .f32)

def topK : FVec Ideal S16x32x1 .f32 :=
  maximumf (shapeCast S16x32x1 (multiReduction .maximumf [2] S16x32 s 0xFF800000#32 reduces_S16x32x256_S16x32 (.inl rfl) rfl) shapeCasts_S16x32_S16x32x1)
    (broadcastTo S16x32x1 k broadcasts_S1x32x1_S16x32x1)

def expK : FVec Ideal S16x32x256 .f32 := exp (subf s (broadcastTo S16x32x256 mx broadcasts_S16x32x1_S16x32x256))

def denK : FVec Ideal S16x32x1 .f32 :=
  addf (shapeCast S16x32x1 (multiReduction .add [2] S16x32 e 0x00000000#32 reduces_S16x32x256_S16x32 (.inl rfl) rfl) shapeCasts_S16x32_S16x32x1)
    (exp (subf (broadcastTo S16x32x1 k broadcasts_S1x32x1_S16x32x1) mx))

def outK : FVec Ideal S16x32x64 .f32 :=
  divf (matmul dot_S16x32x256_S16x256x64_S16x32x64_2_1_1_2_0_0 none (truncf .bf16 e bitsLt_bf16_f32) vc (constant S16x32x64 .f32 0x00000000#32))
    (broadcastTo S16x32x64 (denK k mx e) broadcasts_S16x32x1_S16x32x64)

theorem topK_apply (n : Fin 16) (r : Fin 32) (j : Fin 1) : topK s k (ix3 n r j) = max (Finset.univ.sup fun x => s (ix3 n r x)) (k (ix3 0 r 0)) := by
  pointwise [topK]
  refine congrArg (max · _) ?_
  rw [show Ideal.ofBits FTy.f32 4286578688#32 = ⊥ from by simp [Ideal.ofBits, Ideal.ieee]]
  rfl

theorem expK_apply (n : Fin 16) (r : Fin 32) (x : Fin 256) : expK s mx (ix3 n r x) = Ideal.exp (s (ix3 n r x) - mx (ix3 n r 0)) := by
  pointwise [expK]

theorem denK_apply (n : Fin 16) (r : Fin 32) (j : Fin 1) :
    denK k mx e (ix3 n r j) = ∑ x, e (ix3 n r x) + Ideal.exp (k (ix3 0 r 0) - mx (ix3 n r 0)) := by
  obtain rfl : j = 0 := Subsingleton.elim _ _
  pointwise [denK]

theorem outK_apply (n : Fin 16) (r : Fin 32) (d : Fin 64) :
    outK vc k mx e (ix3 n r d) = Ideal.div (∑ x, e (ix3 n r x) * vc (ix3 n x d)) (denK k mx e (ix3 n r 0)) := by
  unfold outK
  generalize denK k mx e = y
  pointwise []
end

theorem named_bot : (Named.named (F := Ideal) (φ := .f32) κ "mask" 0xF149F2CA#32 : EReal) = ⊥ :=
  IdealRules.named_const.ideal_named_scalar κ "mask" _ ⊥ rfl

theorem scoreK_apply (n : Fin 16) (r : Fin 32) (k : Fin 256) : scoreK qs kc (ix3 n r k)
    = if r.val % 8 < k.val ∧ k.val ≤ r.val % 8 + 128 then ∑ x, qs (ix3 n r x) * kc (ix3 n k x) else ⊥ := by
  unfold scoreK
  rw [named_bot]
  have h := mask_apply r k
  generalize maskK = mk at h ⊢
  pointwise []
  rw [h]
  by_cases hk : r.val % 8 < k.val ∧ k.val ≤ r.val % 8 + 128
  · rw [if_pos hk, decide_eq_true hk]; rfl
  · rw [if_neg hk, decide_eq_false hk]; rfl

theorem sinkK_apply (g : Fin 4) (i : Fin 8) : sinkK s0 s1 s2 s3 (ix3 0 ⟨g.val * 8 + i.val, by omega⟩ 0) = (![s0, s1, s2, s3] : Fin 4 → EReal) g := by
  fin_cases g
  all_goals
    pointwise [sinkK]
  all_goals split_ifs <;> first | rfl | omega

/-- A group of four heads. -/
def headK : FVec Ideal S16x32x64 .f32 :=
  outK vc (sinkK s0 s1 s2 s3) (topK (scoreK qs kc) (sinkK s0 s1 s2 s3)) (expK (scoreK qs kc) (topK (scoreK qs kc) (sinkK s0 s1 s2 s3)))

theorem headK_apply (n : Fin 16) (g : Fin 4) (i : Fin 8) (d : Fin 64) :
    headK qs kc vc s0 s1 s2 s3 (ix3 n ⟨g.val * 8 + i.val, by omega⟩ d)
      = att (fun k : Fin 256 => if i.val < k.val ∧ k.val ≤ i.val + 128 then ∑ x, qs (ix3 n ⟨g.val * 8 + i.val, by omega⟩ x) * kc (ix3 n k x) else ⊥)
        (fun k => vc (ix3 n k d)) ((![s0, s1, s2, s3] : Fin 4 → EReal) g) := by
  have hm : (g.val * 8 + i.val) % 8 = i.val := by omega
  unfold headK
  rw [outK_apply, denK_apply]
  simp only [expK_apply, topK_apply, scoreK_apply, sinkK_apply, hm]
  rfl

end Cert.Kernel12Ideal.AbMix

end
-- ==== Proof.AbMix.Tile.lean ====
/- The attention's columns of one block of the samples' kernel. -/
module

public import proofs.«01_k».proof.Proof.AbMix.Attn

@[expose] public section

set_option maxRecDepth 16384

noncomputable section

open Idealize.ShloMosaic Idealize.ShloMosaic.TcCoe Idealize.SL.Sem

namespace Cert.Kernel12Ideal.AbMix

open Cert.Kernel12Ideal Cert.Kernel12Ideal.Gen Cert.AbMix

variable (x0 : FVec Ideal S16 .f32) (x1 : FVec Ideal S128x1024 .bf16) (x2 : FVec Ideal S128x512 .f32) (x5 x6 : FVec Ideal S16x128x256 .f32)

/-- The queries of group `a`. -/
def qsA (a : Fin 4) : FVec Ideal S16x32x64 .bf16 := match a with
  | 0 => truncf .bf16 (concatenate S16x32x64 1 [⟨S16x8x64, extractStridedSlice S16x8x64 ![0, 0, 0] (k0_pay17 (F := Ideal) x1) slices_S16x8x1024_o0_0_0_S16x8x64⟩, ⟨S16x8x64, extractStridedSlice S16x8x64 ![0, 0, 64] (k0_pay17 (F := Ideal) x1) slices_S16x8x1024_o0_0_64_S16x8x64⟩, ⟨S16x8x64, extractStridedSlice S16x8x64 ![0, 0, 128] (k0_pay17 (F := Ideal) x1) slices_S16x8x1024_o0_0_128_S16x8x64⟩, ⟨S16x8x64, extractStridedSlice S16x8x64 ![0, 0, 192] (k0_pay17 (F := Ideal) x1) slices_S16x8x1024_o0_0_192_S16x8x64⟩]
      concatenates_S16x8x64_S16x8x64_S16x8x64_S16x8x64_S16x32x64_d1) bitsLt_bf16_f32
  | 1 => truncf .bf16 (concatenate S16x32x64 1 [⟨S16x8x64, extractStridedSlice S16x8x64 ![0, 0, 256] (k0_pay17 (F := Ideal) x1) slices_S16x8x1024_o0_0_256_S16x8x64⟩, ⟨S16x8x64, extractStridedSlice S16x8x64 ![0, 0, 320] (k0_pay17 (F := Ideal) x1) slices_S16x8x1024_o0_0_320_S16x8x64⟩, ⟨S16x8x64, extractStridedSlice S16x8x64 ![0, 0, 384] (k0_pay17 (F := Ideal) x1) slices_S16x8x1024_o0_0_384_S16x8x64⟩, ⟨S16x8x64, extractStridedSlice S16x8x64 ![0, 0, 448] (k0_pay17 (F := Ideal) x1) slices_S16x8x1024_o0_0_448_S16x8x64⟩]
      concatenates_S16x8x64_S16x8x64_S16x8x64_S16x8x64_S16x32x64_d1) bitsLt_bf16_f32
  | 2 => truncf .bf16 (concatenate S16x32x64 1 [⟨S16x8x64, extractStridedSlice S16x8x64 ![0, 0, 512] (k0_pay17 (F := Ideal) x1) slices_S16x8x1024_o0_0_512_S16x8x64⟩, ⟨S16x8x64, extractStridedSlice S16x8x64 ![0, 0, 576] (k0_pay17 (F := Ideal) x1) slices_S16x8x1024_o0_0_576_S16x8x64⟩, ⟨S16x8x64, extractStridedSlice S16x8x64 ![0, 0, 640] (k0_pay17 (F := Ideal) x1) slices_S16x8x1024_o0_0_640_S16x8x64⟩, ⟨S16x8x64, extractStridedSlice S16x8x64 ![0, 0, 704] (k0_pay17 (F := Ideal) x1) slices_S16x8x1024_o0_0_704_S16x8x64⟩]
      concatenates_S16x8x64_S16x8x64_S16x8x64_S16x8x64_S16x32x64_d1) bitsLt_bf16_f32
  | 3 => truncf .bf16 (concatenate S16x32x64 1 [⟨S16x8x64, extractStridedSlice S16x8x64 ![0, 0, 768] (k0_pay17 (F := Ideal) x1) slices_S16x8x1024_o0_0_768_S16x8x64⟩, ⟨S16x8x64, extractStridedSlice S16x8x64 ![0, 0, 832] (k0_pay17 (F := Ideal) x1) slices_S16x8x1024_o0_0_832_S16x8x64⟩, ⟨S16x8x64, extractStridedSlice S16x8x64 ![0, 0, 896] (k0_pay17 (F := Ideal) x1) slices_S16x8x1024_o0_0_896_S16x8x64⟩, ⟨S16x8x64, extractStridedSlice S16x8x64 ![0, 0, 960] (k0_pay17 (F := Ideal) x1) slices_S16x8x1024_o0_0_960_S16x8x64⟩]
      concatenates_S16x8x64_S16x8x64_S16x8x64_S16x8x64_S16x32x64_d1) bitsLt_bf16_f32

theorem qsA_apply (a g : Fin 4) (n : Fin 16) (i : Fin 8) (x : Fin 64) :
    qsA x1 a (ix3 n ⟨g.val * 8 + i.val, by omega⟩ x) = x1 (ix2 ⟨n.val * 8 + i.val, by omega⟩ ⟨a.val * 256 + g.val * 64 + x.val, by omega⟩) := by
  have h17 (n : Fin 16) (i : Fin 8) (e : Fin 1024) : k0_pay17 (F := Ideal) x1 (ix3 n i e) = x1 (ix2 ⟨n.val * 8 + i.val, by omega⟩ e) := by
    pointwise [k0_pay17]
  have hc (o0 o1 o2 o3 : FVec Ideal S16x8x64 .f32) : truncf .bf16 (concatenate S16x32x64 1 [⟨S16x8x64, o0⟩, ⟨S16x8x64, o1⟩, ⟨S16x8x64, o2⟩, ⟨S16x8x64, o3⟩]
      concatenates_S16x8x64_S16x8x64_S16x8x64_S16x8x64_S16x32x64_d1) bitsLt_bf16_f32 (ix3 n ⟨g.val * 8 + i.val, by omega⟩ x)
      = (![o0, o1, o2, o3] : Fin 4 → FVec Ideal S16x8x64 .f32) g (ix3 n i x) := by
    pointwise []
    fin_cases g
    all_goals
      simp only []
      split_ifs <;> first | omega | (refine congrArg (fun k => (_ : FVec Ideal S16x8x64 .f32) (ix3 n k x)) (Fin.ext ?_); first | (simp; done) | (simp; omega))
  have hs (o : ℕ) (ho : S16x8x1024.Slices ![0, 0, o] S16x8x64) (hb : o + 64 ≤ 1024) :
      extractStridedSlice S16x8x64 ![0, 0, o] (k0_pay17 (F := Ideal) x1) ho (ix3 n i x) = x1 (ix2 ⟨n.val * 8 + i.val, by omega⟩ ⟨o + x.val, by omega⟩) := by
    rw [← h17]
    generalize k0_pay17 (F := Ideal) x1 = y
    pointwise []
  unfold qsA
  fin_cases a
  all_goals
    refine (hc _ _ _ _).trans ?_
    fin_cases g
  all_goals exact hs _ (by decide) (by decide)

/-- Columns of the keys or values `K` that belong to group `a`. -/
def colsA (K : FVec Ideal S16x256x256 .bf16) (a : Fin 4) : FVec Ideal S16x256x64 .bf16 := match a with
  | 0 => extractStridedSlice S16x256x64 ![0, 0, 0] K slices_S16x256x256_o0_0_0_S16x256x64
  | 1 => extractStridedSlice S16x256x64 ![0, 0, 64] K slices_S16x256x256_o0_0_64_S16x256x64
  | 2 => extractStridedSlice S16x256x64 ![0, 0, 128] K slices_S16x256x256_o0_0_128_S16x256x64
  | 3 => extractStridedSlice S16x256x64 ![0, 0, 192] K slices_S16x256x256_o0_0_192_S16x256x64

theorem colsA_apply (K : FVec Ideal S16x256x256 .bf16) (a : Fin 4) (n : Fin 16) (k : Fin 256) (d : Fin 64) :
    colsA K a (ix3 n k d) = K (ix3 n k ⟨a.val * 64 + d.val, by omega⟩) := by
  unfold colsA
  fin_cases a
  all_goals
    pointwise []
  all_goals rfl

def keysK : FVec Ideal S16x256x256 .bf16 :=
  truncf .bf16 (concatenate S16x256x256 1 [⟨S16x128x256, shapeCast S16x128x256 x5 shapeCasts_S16x128x256_S16x128x256⟩,
    ⟨S16x8x256, extractStridedSlice S16x8x256 ![0, 0, 0] (shapeCast S16x8x512 x2 shapeCasts_S128x512_S16x8x512) slices_S16x8x512_o0_0_0_S16x8x256⟩,
    ⟨S16x120x256, broadcast S16x120x256 (FloatOps.ofBits FTy.f32 0#32)⟩] concatenates_S16x128x256_S16x8x256_S16x120x256_S16x256x256_d1) bitsLt_bf16_f32

def valsK : FVec Ideal S16x256x256 .bf16 :=
  truncf .bf16 (concatenate S16x256x256 1 [⟨S16x128x256, shapeCast S16x128x256 x6 shapeCasts_S16x128x256_S16x128x256⟩,
    ⟨S16x8x256, extractStridedSlice S16x8x256 ![0, 0, 256] (shapeCast S16x8x512 x2 shapeCasts_S128x512_S16x8x512) slices_S16x8x512_o0_0_256_S16x8x256⟩,
    ⟨S16x120x256, broadcast S16x120x256 (FloatOps.ofBits FTy.f32 0#32)⟩] concatenates_S16x128x256_S16x8x256_S16x120x256_S16x256x256_d1) bitsLt_bf16_f32

/-- Column `e` of the block's key or value `k`. -/
def cellK (c : FVec Ideal S16x128x256 .f32) (o : Fin 257) (n : Fin 16) (k : Fin 136) (e : Fin 256) : EReal :=
  if h : k.val < 128 then c (ix3 n ⟨k.val, h⟩ e) else x2 (ix2 ⟨n.val * 8 + (k.val - 128), by omega⟩ ⟨o.val + e.val, by omega⟩)

theorem keysK_apply (n : Fin 16) (k : Fin 136) (e : Fin 256) : keysK x2 x5 (ix3 n ⟨k.val, by omega⟩ e) = cellK x2 x5 0 n k e := by
  pointwise [keysK]
  unfold cellK
  by_cases h : k.val < 128
  · rw [dif_pos h, dif_pos h]
  · rw [dif_neg h, dif_neg h, dif_pos (by omega)]
    exact congrArg₂ (fun r l => x2 (ix2 r l)) (Fin.ext (by simp)) (Fin.ext (by simp))

theorem valsK_apply (n : Fin 16) (k : Fin 136) (e : Fin 256) : valsK x2 x6 (ix3 n ⟨k.val, by omega⟩ e) = cellK x2 x6 256 n k e := by
  pointwise [valsK]
  unfold cellK
  by_cases h : k.val < 128
  · rw [dif_pos h, dif_pos h]
  · rw [dif_neg h, dif_neg h, dif_pos (by omega)]
    exact congrArg₂ (fun r l => x2 (ix2 r l)) (Fin.ext (by simp)) (Fin.ext (by simp))

/-- The sink of head `j`, as the kernel reads it. -/
abbrev sinkAt (j : ℕ) (hj : j < 16) : EReal :=
  View.ld (Val := Elt Ideal) (e' := .f32) x0 (Rect.unit (s := S16) ![j] S1.size (by intro a; fin_cases a; exact hj)) (Shape.Idx.first (show 0 < S1.numel by decide))

theorem sinkAt_eq (j : ℕ) (hj : j < 16) : sinkAt x0 j hj = x0 (ix1 ⟨j, hj⟩) := by
  refine congrArg x0 (funext fun a => Fin.ext ?_)
  fin_cases a
  rfl

/-- Group `a`'s attention. -/
def O (a : Fin 4) : FVec Ideal S16x32x64 .f32 := match a with
  | 0 => headK (qsA x1 0) (colsA (keysK x2 x5) 0) (colsA (valsK x2 x6) 0) (sinkAt x0 0 (by decide)) (sinkAt x0 1 (by decide)) (sinkAt x0 2 (by decide)) (sinkAt x0 3 (by decide))
  | 1 => headK (qsA x1 1) (colsA (keysK x2 x5) 1) (colsA (valsK x2 x6) 1) (sinkAt x0 4 (by decide)) (sinkAt x0 5 (by decide)) (sinkAt x0 6 (by decide)) (sinkAt x0 7 (by decide))
  | 2 => headK (qsA x1 2) (colsA (keysK x2 x5) 2) (colsA (valsK x2 x6) 2) (sinkAt x0 8 (by decide)) (sinkAt x0 9 (by decide)) (sinkAt x0 10 (by decide)) (sinkAt x0 11 (by decide))
  | 3 => headK (qsA x1 3) (colsA (keysK x2 x5) 3) (colsA (valsK x2 x6) 3) (sinkAt x0 12 (by decide)) (sinkAt x0 13 (by decide)) (sinkAt x0 14 (by decide)) (sinkAt x0 15 (by decide))

theorem O_apply (a g : Fin 4) (n : Fin 16) (i : Fin 8) (d : Fin 64) :
    O x0 x1 x2 x5 x6 a (ix3 n ⟨g.val * 8 + i.val, by omega⟩ d)
      = att (fun k : Fin 136 => if sees i k then ∑ x : Fin 64, x1 (ix2 ⟨n.val * 8 + i.val, by omega⟩ ⟨a.val * 256 + g.val * 64 + x.val, by omega⟩)
          * cellK x2 x5 0 n k ⟨a.val * 64 + x.val, by omega⟩ else ⊥)
        (fun k => cellK x2 x6 256 n k ⟨a.val * 64 + d.val, by omega⟩) (x0 (ix1 ⟨a.val * 4 + g.val, by omega⟩)) := by
  have e : ∀ (s0 s1 s2 s3 : EReal), headK (qsA x1 a) (colsA (keysK x2 x5) a) (colsA (valsK x2 x6) a) s0 s1 s2 s3 (ix3 n ⟨g.val * 8 + i.val, by omega⟩ d)
      = att (fun k : Fin 136 => if sees i k then ∑ x : Fin 64, x1 (ix2 ⟨n.val * 8 + i.val, by omega⟩ ⟨a.val * 256 + g.val * 64 + x.val, by omega⟩)
          * cellK x2 x5 0 n k ⟨a.val * 64 + x.val, by omega⟩ else ⊥)
        (fun k => cellK x2 x6 256 n k ⟨a.val * 64 + d.val, by omega⟩) ((![s0, s1, s2, s3] : Fin 4 → EReal) g) := by
    intro s0 s1 s2 s3
    rw [headK_apply]
    refine att_pad _ _ _ _ _ (fun k => ?_) (fun k => ?_) fun k hk => if_neg (by omega)
    · refine if_congr Iff.rfl (Finset.sum_congr rfl fun x _ => ?_) rfl
      rw [qsA_apply, colsA_apply, keysK_apply]
    · rw [colsA_apply, valsK_apply]
  fin_cases a
  all_goals
    refine (e _ _ _ _).trans (congrArg (att _ _) ?_)
    fin_cases g
  all_goals exact sinkAt_eq x0 _ _

/-- Head `h`'s columns. -/
def pieceA (h : Fin 16) : FVec Ideal S16x8x64 .f32 :=
  extractStridedSlice S16x8x64 ![0, 8 * (h.val % 4), 0] (O x0 x1 x2 x5 x6 ⟨h.val / 4, by omega⟩)
    (by revert h; decide)

/-- The attention's columns. -/
def attTile : FVec Ideal S128x1024 .bf16 :=
  truncf .bf16 (shapeCast S128x1024 (concatenate S16x8x1024 2 (List.ofFn fun h => ⟨S16x8x64, pieceA x0 x1 x2 x5 x6 h⟩)
    concatenates_S16x8x64_S16x8x64_S16x8x64_S16x8x64_S16x8x64_S16x8x64_S16x8x64_S16x8x64_S16x8x64_S16x8x64_S16x8x64_S16x8x64_S16x8x64_S16x8x64_S16x8x64_S16x8x64_S16x8x1024_d2) shapeCasts_S16x8x1024_S128x1024) bitsLt_bf16_f32

theorem attTile_apply (n : Fin 16) (i : Fin 8) (e : Fin 1024) :
    attTile x0 x1 x2 x5 x6 (ix2 ⟨n.val * 8 + i.val, by omega⟩ e)
      = O x0 x1 x2 x5 x6 ⟨e.val / 256, by omega⟩ (ix3 n ⟨e.val % 256 / 64 * 8 + i.val, by omega⟩ ⟨e.val % 64, by omega⟩) := by
  have h (y : FVec Ideal S16x8x1024 .f32) : truncf .bf16 (shapeCast S128x1024 y shapeCasts_S16x8x1024_S128x1024) bitsLt_bf16_f32 (ix2 ⟨n.val * 8 + i.val, by omega⟩ e)
      = y (ix3 n i e) := by
    pointwise []
  refine (h _).trans ?_
  refine (concatenate_ofFn_apply (α := EReal) (t := S16x8x1024) (s₁ := S16x8x64) 2 (pieceA x0 x1 x2 x5 x6) concatenates_S16x8x64_S16x8x64_S16x8x64_S16x8x64_S16x8x64_S16x8x64_S16x8x64_S16x8x64_S16x8x64_S16x8x64_S16x8x64_S16x8x64_S16x8x64_S16x8x64_S16x8x64_S16x8x64_S16x8x1024_d2
    rfl 64 rfl (ix3 n i e) ⟨e.val / 64, by omega⟩ rfl (ix3 n i ⟨e.val % 64, by omega⟩) rfl fun b hb => ?_).trans ?_
  · fin_cases b
    · rfl
    · rfl
    · exact absurd rfl hb
  · unfold pieceA
    have hO : (⟨e.val / 64 / 4, by omega⟩ : Fin 4) = ⟨e.val / 256, by omega⟩ := Fin.ext (by dsimp only; omega)
    dsimp only
    rw [hO]
    generalize O x0 x1 x2 x5 x6 _ = y
    refine congrArg y (funext fun b => Fin.ext ?_)
    fin_cases b
    · exact Nat.zero_add _
    · show 8 * (e.val / 64 % 4) + i.val = e.val % 256 / 64 * 8 + i.val
      omega
    · exact Nat.zero_add _

end Cert.Kernel12Ideal.AbMix

end
-- ==== Proof.AbMix.Gate.lean ====
/- The gate's columns of one block of the samples' kernel: one group of 256 columns. -/
module

public import proofs.«01_k».proof.Proof.AbMix.Attn

@[expose] public section

set_option maxRecDepth 16384

noncomputable section

open Idealize.ShloMosaic Idealize.ShloMosaic.TcCoe Idealize.SL.Sem

namespace Cert.Kernel12Ideal.AbMix

open Cert.Kernel12Ideal Cert.Kernel12Ideal.Gen Cert.AbMix

variable (x3 : FVec Ideal S128x1024 .bf16) (x4 : FVec Ideal S128x1024 .f32) (x7 : FVec Ideal S4x8x8x256 .f32) (x8 : FVec Ideal S4x8x256 .f32)

/-- The weights and the bias, as the kernel reads them. -/
abbrev ldw (g j : ℕ) (hg : g < 4) (hj : j < 8) : FVec Ideal S1x1x8x256 .f32 :=
  View.ld (Val := Elt Ideal) (e' := .f32) x7 (Rect.unit (s := S4x8x8x256) ![g, j, 0, 0] S1x1x8x256.size
    (by intro a; fin_cases a; exacts [hg, hj, Nat.le_refl 8, Nat.le_refl 256]))

abbrev ldb (g : ℕ) (hg : g < 4) : FVec Ideal S1x8x256 .f32 :=
  View.ld (Val := Elt Ideal) (e' := .f32) x8 (Rect.unit (s := S4x8x256) ![g, 0, 0] S1x8x256.size
    (by intro a; fin_cases a; exacts [hg, Nat.le_refl 8, Nat.le_refl 256]))

theorem ldw_apply (g j : ℕ) (hg : g < 4) (hj : j < 8) (i : Fin 8) (e : Fin 256) : ldw x7 g j hg hj (ix4 0 0 i e) = x7 (ix4 ⟨g, hg⟩ ⟨j, hj⟩ i e) := by
  refine congrArg x7 (funext fun a => Fin.ext ?_)
  fin_cases a
  · rfl
  · rfl
  · exact (Nat.zero_add _).trans (Nat.one_mul _)
  · exact (Nat.zero_add _).trans (Nat.one_mul _)

theorem ldb_apply (g : ℕ) (hg : g < 4) (i : Fin 8) (e : Fin 256) : ldb x8 g hg (ix3 0 i e) = x8 (ix3 ⟨g, hg⟩ i e) := by
  refine congrArg x8 (funext fun a => Fin.ext ?_)
  fin_cases a
  · rfl
  · exact (Nat.zero_add _).trans (Nat.one_mul _)
  · exact (Nat.zero_add _).trans (Nat.one_mul _)

/-- One row of `z` by its weights, where the weights are of the lower triangle. -/
def term (zj : FVec Ideal S16x1x256 .f32) (j : BitVec 32) (w : FVec Ideal S1x1x8x256 .f32) : FVec Ideal S16x8x256 .f32 :=
  mulf (broadcastTo S16x8x256 zj broadcasts_S16x1x256_S16x8x256)
    (broadcastTo S16x8x256 (shapeCast S1x8x256 (select (cmpi .sge (iota .tc S8x256 32 [0] iota_S8x256_d0_w32) (broadcast S8x256 j))
      (shapeCast S8x256 w shapeCasts_S1x1x8x256_S8x256) (broadcast S8x256 (FloatOps.ofBits (F := Ideal) FTy.f32 0#32)))
      shapeCasts_S8x256_S1x8x256) broadcasts_S1x8x256_S16x8x256)

theorem ge_bits : ∀ i j : Fin 8, IntOp.cmpi CmpIPredicate.sge (BitVec.ofNat 32 ↑i) (BitVec.ofNat 32 ↑j) = BitVec.ofBool (decide (j.val ≤ i.val)) := by
  decide +kernel

theorem term_apply (zj : FVec Ideal S16x1x256 .f32) (j : Fin 8) (w : FVec Ideal S1x1x8x256 .f32) (n : Fin 16) (i : Fin 8) (e : Fin 256) :
    term zj (BitVec.ofNat 32 j.val) w (ix3 n i e) = zj (ix3 n 0 e) * (if j.val ≤ i.val then w (ix4 0 0 i e) else 0) := by
  pointwise [term]
  rw [ge_bits i j]
  by_cases h : j.val ≤ i.val
  · rw [if_pos h, decide_eq_true h]; rfl
  · rw [if_neg h, decide_eq_false h]; exact (mul_zero (M₀ := EReal) _).symm

variable (uu zz : FVec Ideal S16x8x256 .f32) (bb : FVec Ideal S1x8x256 .f32) (w0 w1 w2 w3 w4 w5 w6 w7 : FVec Ideal S1x1x8x256 .f32)

/-- The mixed rows and their gate. -/
def gate : FVec Ideal S128x256 .bf16 :=
  truncf .bf16 (shapeCast S128x256 (mulf uu (addf (addf (addf (addf (addf (addf (addf (addf (addf (broadcast S16x8x256 (FloatOps.ofBits (F := Ideal) FTy.f32 0#32)) (broadcastTo S16x8x256 (shapeCast S1x8x256 (shapeCast S8x256 bb shapeCasts_S1x8x256_S8x256) shapeCasts_S8x256_S1x8x256) broadcasts_S1x8x256_S16x8x256))
      (term (extractStridedSlice S16x1x256 ![0, 0, 0] zz slices_S16x8x256_o0_0_0_S16x1x256) 0#32 w0))
      (term (extractStridedSlice S16x1x256 ![0, 1, 0] zz slices_S16x8x256_o0_1_0_S16x1x256) 1#32 w1))
      (term (extractStridedSlice S16x1x256 ![0, 2, 0] zz slices_S16x8x256_o0_2_0_S16x1x256) 2#32 w2))
      (term (extractStridedSlice S16x1x256 ![0, 3, 0] zz slices_S16x8x256_o0_3_0_S16x1x256) 3#32 w3))
      (term (extractStridedSlice S16x1x256 ![0, 4, 0] zz slices_S16x8x256_o0_4_0_S16x1x256) 4#32 w4))
      (term (extractStridedSlice S16x1x256 ![0, 5, 0] zz slices_S16x8x256_o0_5_0_S16x1x256) 5#32 w5))
      (term (extractStridedSlice S16x1x256 ![0, 6, 0] zz slices_S16x8x256_o0_6_0_S16x1x256) 6#32 w6))
      (term (extractStridedSlice S16x1x256 ![0, 7, 0] zz slices_S16x8x256_o0_7_0_S16x1x256) 7#32 w7))) shapeCasts_S16x8x256_S128x256) bitsLt_bf16_f32

theorem gate_apply (n : Fin 16) (i : Fin 8) (e : Fin 256) : gate uu zz bb w0 w1 w2 w3 w4 w5 w6 w7 (ix2 ⟨n.val * 8 + i.val, by omega⟩ e)
    = uu (ix3 n i e) * (bb (ix3 0 i e) + ∑ j : Fin 8, zz (ix3 n j e) * (if j.val ≤ i.val then (![w0, w1, w2, w3, w4, w5, w6, w7] : Fin 8 → FVec Ideal S1x1x8x256 .f32) j (ix4 0 0 i e) else 0)) := by
  have h (y : FVec Ideal S16x8x256 .f32) : truncf .bf16 (shapeCast S128x256 y shapeCasts_S16x8x256_S128x256) bitsLt_bf16_f32 (ix2 ⟨n.val * 8 + i.val, by omega⟩ e) = y (ix3 n i e) := by
    pointwise []
  have hz (j : ℕ) (hj : j < 8) (hs : S16x8x256.Slices ![0, j, 0] S16x1x256) : extractStridedSlice S16x1x256 ![0, j, 0] zz hs (ix3 n 0 e) = zz (ix3 n ⟨j, hj⟩ e) := by
    pointwise []
  have hb : addf (broadcast S16x8x256 (FloatOps.ofBits (F := Ideal) FTy.f32 0#32))
      (broadcastTo S16x8x256 (shapeCast S1x8x256 (shapeCast S8x256 bb shapeCasts_S1x8x256_S8x256) shapeCasts_S8x256_S1x8x256) broadcasts_S1x8x256_S16x8x256) (ix3 n i e)
      = bb (ix3 0 i e) := by
    pointwise []
  have ht (j : Fin 8) (hs : S16x8x256.Slices ![0, j.val, 0] S16x1x256) (w : FVec Ideal S1x1x8x256 .f32) :
      term (extractStridedSlice S16x1x256 ![0, j.val, 0] zz hs) (BitVec.ofNat 32 j.val) w (ix3 n i e)
        = zz (ix3 n j e) * (if j.val ≤ i.val then w (ix4 0 0 i e) else 0) := by
    rw [term_apply, hz j.val j.isLt]
  have ha (x y : FVec Ideal S16x8x256 .f32) : addf x y (ix3 n i e) = x (ix3 n i e) + y (ix3 n i e) := rfl
  unfold gate
  refine (h _).trans ?_
  refine congrArg (uu (ix3 n i e) * ·) ?_
  rw [Fin.sum_univ_eight]
  simp only [ha]
  simp only [← add_assoc]
  refine congrArg₂ (· + ·) (congrArg₂ (· + ·) (congrArg₂ (· + ·) (congrArg₂ (· + ·) (congrArg₂ (· + ·) (congrArg₂ (· + ·)
    (congrArg₂ (· + ·) (congrArg₂ (· + ·) hb (ht 0 _ _)) (ht 1 _ _)) (ht 2 _ _)) (ht 3 _ _)) (ht 4 _ _)) (ht 5 _ _)) (ht 6 _ _)) (ht 7 _ _)

/-- Group `g`'s columns. -/
def gateTile (g : Fin 4) : FVec Ideal S128x256 .bf16 := match g with
  | 0 => gate (extractStridedSlice S16x8x256 ![0, 0, 0] (shapeCast S16x8x1024 (extf .f32 x3 bitsLt_bf16_f32) shapeCasts_S128x1024_S16x8x1024) slices_S16x8x1024_o0_0_0_S16x8x256)
      (extractStridedSlice S16x8x256 ![0, 0, 0] (shapeCast S16x8x1024 x4 shapeCasts_S128x1024_S16x8x1024) slices_S16x8x1024_o0_0_0_S16x8x256)
      (ldb x8 0 (by decide)) (ldw x7 0 0 (by decide) (by decide)) (ldw x7 0 1 (by decide) (by decide)) (ldw x7 0 2 (by decide) (by decide)) (ldw x7 0 3 (by decide) (by decide)) (ldw x7 0 4 (by decide) (by decide)) (ldw x7 0 5 (by decide) (by decide)) (ldw x7 0 6 (by decide) (by decide)) (ldw x7 0 7 (by decide) (by decide))
  | 1 => gate (extractStridedSlice S16x8x256 ![0, 0, 256] (shapeCast S16x8x1024 (extf .f32 x3 bitsLt_bf16_f32) shapeCasts_S128x1024_S16x8x1024) slices_S16x8x1024_o0_0_256_S16x8x256)
      (extractStridedSlice S16x8x256 ![0, 0, 256] (shapeCast S16x8x1024 x4 shapeCasts_S128x1024_S16x8x1024) slices_S16x8x1024_o0_0_256_S16x8x256)
      (ldb x8 1 (by decide)) (ldw x7 1 0 (by decide) (by decide)) (ldw x7 1 1 (by decide) (by decide)) (ldw x7 1 2 (by decide) (by decide)) (ldw x7 1 3 (by decide) (by decide)) (ldw x7 1 4 (by decide) (by decide)) (ldw x7 1 5 (by decide) (by decide)) (ldw x7 1 6 (by decide) (by decide)) (ldw x7 1 7 (by decide) (by decide))
  | 2 => gate (extractStridedSlice S16x8x256 ![0, 0, 512] (shapeCast S16x8x1024 (extf .f32 x3 bitsLt_bf16_f32) shapeCasts_S128x1024_S16x8x1024) slices_S16x8x1024_o0_0_512_S16x8x256)
      (extractStridedSlice S16x8x256 ![0, 0, 512] (shapeCast S16x8x1024 x4 shapeCasts_S128x1024_S16x8x1024) slices_S16x8x1024_o0_0_512_S16x8x256)
      (ldb x8 2 (by decide)) (ldw x7 2 0 (by decide) (by decide)) (ldw x7 2 1 (by decide) (by decide)) (ldw x7 2 2 (by decide) (by decide)) (ldw x7 2 3 (by decide) (by decide)) (ldw x7 2 4 (by decide) (by decide)) (ldw x7 2 5 (by decide) (by decide)) (ldw x7 2 6 (by decide) (by decide)) (ldw x7 2 7 (by decide) (by decide))
  | 3 => gate (extractStridedSlice S16x8x256 ![0, 0, 768] (shapeCast S16x8x1024 (extf .f32 x3 bitsLt_bf16_f32) shapeCasts_S128x1024_S16x8x1024) slices_S16x8x1024_o0_0_768_S16x8x256)
      (extractStridedSlice S16x8x256 ![0, 0, 768] (shapeCast S16x8x1024 x4 shapeCasts_S128x1024_S16x8x1024) slices_S16x8x1024_o0_0_768_S16x8x256)
      (ldb x8 3 (by decide)) (ldw x7 3 0 (by decide) (by decide)) (ldw x7 3 1 (by decide) (by decide)) (ldw x7 3 2 (by decide) (by decide)) (ldw x7 3 3 (by decide) (by decide)) (ldw x7 3 4 (by decide) (by decide)) (ldw x7 3 5 (by decide) (by decide)) (ldw x7 3 6 (by decide) (by decide)) (ldw x7 3 7 (by decide) (by decide))

theorem gateTile_apply (g : Fin 4) (n : Fin 16) (i : Fin 8) (e : Fin 256) : gateTile x3 x4 x7 x8 g (ix2 ⟨n.val * 8 + i.val, by omega⟩ e)
    = x3 (ix2 ⟨n.val * 8 + i.val, by omega⟩ ⟨g.val * 256 + e.val, by omega⟩)
      * (x8 (ix3 g i e) + ∑ j : Fin 8, x4 (ix2 ⟨n.val * 8 + j.val, by omega⟩ ⟨g.val * 256 + e.val, by omega⟩) * (if j.val ≤ i.val then x7 (ix4 g j i e) else 0)) := by
  have hu (i : Fin 8) (o : ℕ) (ho : S16x8x1024.Slices ![0, 0, o] S16x8x256) (hb : o + 256 ≤ 1024) :
      extractStridedSlice S16x8x256 ![0, 0, o] (shapeCast S16x8x1024 (extf .f32 x3 bitsLt_bf16_f32) shapeCasts_S128x1024_S16x8x1024) ho (ix3 n i e)
        = x3 (ix2 ⟨n.val * 8 + i.val, by omega⟩ ⟨o + e.val, by omega⟩) := by
    pointwise []
  have hz (i : Fin 8) (o : ℕ) (ho : S16x8x1024.Slices ![0, 0, o] S16x8x256) (hb : o + 256 ≤ 1024) :
      extractStridedSlice S16x8x256 ![0, 0, o] (shapeCast S16x8x1024 x4 shapeCasts_S128x1024_S16x8x1024) ho (ix3 n i e)
        = x4 (ix2 ⟨n.val * 8 + i.val, by omega⟩ ⟨o + e.val, by omega⟩) := by
    pointwise []
  unfold gateTile
  fin_cases g
  all_goals
    refine (gate_apply _ _ _ _ _ _ _ _ _ _ _ n i e).trans ?_
    refine congrArg₂ (· * ·) (hu i _ (by decide) (by decide)) (congrArg₂ (· + ·) (ldb_apply x8 _ _ i e) (Finset.sum_congr rfl fun j _ => ?_))
    refine congrArg₂ (· * ·) (hz j _ (by decide) (by decide)) (if_congr Iff.rfl ?_ rfl)
    fin_cases j
  all_goals exact ldw_apply x7 _ _ _ _ i e

end Cert.Kernel12Ideal.AbMix

end
-- ==== Proof.AbMix.Block.lean ====
/- What one grid point of the samples' kernel leaves: the mixed rows of sixteen sequences, and their caches. -/
module

public import proofs.«01_k».proof.Proof.AbMix.Tile
public import proofs.«01_k».proof.Proof.AbMix.Gate

@[expose] public section

set_option maxRecDepth 16384

noncomputable section

open Idealize.ShloMosaic Idealize.ShloMosaic.TcCoe Idealize.SL.Sem
open Idealize.ShloMosaic.Pipeline (Dat)

namespace Cert.Kernel12Ideal.AbMix

open Cert.Kernel12Ideal Cert.Kernel12Ideal.Gen Cert.AbMix

variable (m : (ℓ : Loc nD τ sig) → Buf (Elt Ideal) ℓ) (c : Dev nD)

theorem inbc (o k : ℕ) (ho : o + k ≤ 2048) : ∀ a, (![0, o] : Fin 2 → ℕ) a + (![128, k] : Fin 2 → ℕ) a ≤ S128x2048.size a := by
  intro a; fin_cases a
  · exact Nat.le_refl 128
  · exact ho

variable (x0 : FVec Ideal S16 .f32) (x1 : FVec Ideal S128x1024 .bf16) (x2 : FVec Ideal S128x512 .f32) (x3 : FVec Ideal S128x1024 .bf16)
variable (x4 : FVec Ideal S128x1024 .f32) (x5 x6 : FVec Ideal S16x128x256 .f32) (x7 : FVec Ideal S4x8x8x256 .f32) (x8 : FVec Ideal S4x8x256 .f32)

/-- The block's mixed rows. -/
abbrev catBlock : FVec Ideal S128x2048 .bf16 := View.canon (Val := Elt Ideal) (e := .bf16)
  [⟨Rect.unit (s := S128x2048) ![0, 1792] ![128, 256] (inbc 1792 256 (by decide)), gateTile x3 x4 x7 x8 3⟩,
   ⟨Rect.unit (s := S128x2048) ![0, 1536] ![128, 256] (inbc 1536 256 (by decide)), gateTile x3 x4 x7 x8 2⟩,
   ⟨Rect.unit (s := S128x2048) ![0, 1280] ![128, 256] (inbc 1280 256 (by decide)), gateTile x3 x4 x7 x8 1⟩,
   ⟨Rect.unit (s := S128x2048) ![0, 1024] ![128, 256] (inbc 1024 256 (by decide)), gateTile x3 x4 x7 x8 0⟩,
   ⟨Rect.unit (s := S128x2048) ![0, 0] ![128, 1024] (inbc 0 1024 (by decide)), attTile x0 x1 x2 x5 x6⟩]

theorem outs_cat (t : Fin cfg0.N) : (outsAt0 (F := Ideal) m c t).1
    = catBlock (iblk m c 0 t) (iblk m c 1 t) (iblk m c 2 t) (iblk m c 3 t) (iblk m c 4 t) (iblk m c 5 t) (iblk m c 6 t) (iblk m c 7 t) (iblk m c 8 t) := by
  unfold outsAt0
  frame_out
  have e2 : View.ld (View.read (Elt Ideal) (ms0_2 t).view ((hs0_2 t).unread (iblk m c 2 t))) (Rect.unit ![0, 0] ![128, 512] inb_S128x512_S128x512_0_0) = iblk m c 2 t := by frame_out
  have e5 : View.ld (View.read (Elt Ideal) (ms0_5 t).view ((hs0_5 t).unread (iblk m c 5 t))) (Rect.unit ![0, 0, 0] ![16, 128, 256] inb_S16x128x256_S16x128x256_0_0_0) = iblk m c 5 t := by frame_out
  have e6 : View.ld (View.read (Elt Ideal) (ms0_6 t).view ((hs0_6 t).unread (iblk m c 6 t))) (Rect.unit ![0, 0, 0] ![16, 128, 256] inb_S16x128x256_S16x128x256_0_0_0) = iblk m c 6 t := by frame_out
  rw [e2, e5, e6]
  clear e2 e5 e6
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  refine congrArg (View.canon (Val := Elt Ideal) (e := .bf16)) ?_
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) rfl
  rfl

theorem inbn (o k : ℕ) (ho : o + k ≤ 128) : ∀ a, (![0, o, 0] : Fin 3 → ℕ) a + (![16, k, 256] : Fin 3 → ℕ) a ≤ S16x128x256.size a := by
  intro a; fin_cases a
  · exact Nat.le_refl 16
  · exact ho
  · exact Nat.le_refl 256

/-- The block's keys and values after the eight tokens: the last 120 rows of the cache, then the new ones. -/
abbrev newTile (o : ℕ) (ho : S16x8x512.Slices ![0, 0, o] S16x8x256) : FVec Ideal S16x8x256 .f32 :=
  extractStridedSlice S16x8x256 ![0, 0, o] (shapeCast S16x8x512 x2 shapeCasts_S128x512_S16x8x512) ho
abbrev oldTile : FVec Ideal S16x120x256 .f32 :=
  extractStridedSlice S16x120x256 ![0, 8, 0] (shapeCast S16x128x256 x5 shapeCasts_S16x128x256_S16x128x256) slices_S16x128x256_o0_8_0_S16x120x256
abbrev nextBlock (o : ℕ) (ho : S16x8x512.Slices ![0, 0, o] S16x8x256) : FVec Ideal S16x128x256 .f32 := View.canon (Val := Elt Ideal) (e := .f32)
  [⟨Rect.unit (s := S16x128x256) ![0, 120, 0] ![16, 8, 256] (inbn 120 8 (by decide)), newTile x2 o ho⟩,
   ⟨Rect.unit (s := S16x128x256) ![0, 0, 0] ![16, 120, 256] (inbn 0 120 (by decide)), oldTile x5⟩]

theorem outs_nk (t : Fin cfg0.N) : (outsAt0 (F := Ideal) m c t).2.1
    = nextBlock (iblk m c 2 t) (iblk m c 5 t) 0 slices_S16x8x512_o0_0_0_S16x8x256 := by
  unfold outsAt0
  frame_out

theorem outs_nv (t : Fin cfg0.N) : (outsAt0 (F := Ideal) m c t).2.2
    = nextBlock (iblk m c 2 t) (iblk m c 6 t) 256 slices_S16x8x512_o0_0_256_S16x8x256 := by
  unfold outsAt0
  frame_out

theorem next_apply (o : Fin 257) (ho : S16x8x512.Slices ![0, 0, o.val] S16x8x256) (n : Fin 16) (j : Fin 128) (e : Fin 256) :
    nextBlock x2 x5 o.val ho (ix3 n j e) = cellK x2 x5 o n ⟨j.val + 8, by omega⟩ e := by
  have hn (n : Fin 16) (i : Fin 8) (e : Fin 256) : newTile x2 o.val ho (ix3 n i e) = x2 (ix2 ⟨n.val * 8 + i.val, by omega⟩ ⟨o.val + e.val, by omega⟩) := by
    pointwise []
  have hq (n : Fin 16) (i : Fin 120) (e : Fin 256) : oldTile x5 (ix3 n i e) = x5 (ix3 n ⟨8 + i.val, by omega⟩ e) := by
    pointwise []
  unfold cellK
  canon_tiles x hx using (by
    by_cases hj : j.val < 120
    · refine ⟨_, List.mem_cons_of_mem _ (List.mem_cons_self ..), (Rect.mem_set_unit (inb := inbn 0 120 (by decide))).mpr fun a => ?_⟩
      fin_cases a
      exacts [⟨Nat.zero_le _, Nat.lt_of_lt_of_le n.isLt (Nat.le_add_left _ _)⟩, ⟨Nat.zero_le _, by show j.val < 0 + 120; omega⟩,
        ⟨Nat.zero_le _, by show e.val < 0 + 256; omega⟩]
    · refine ⟨_, List.mem_cons_self .., (Rect.mem_set_unit (inb := inbn 120 8 (by decide))).mpr fun a => ?_⟩
      fin_cases a
      exacts [⟨Nat.zero_le _, Nat.lt_of_lt_of_le n.isLt (Nat.le_add_left _ _)⟩, ⟨by show 120 ≤ j.val; omega, by show j.val < 120 + 8; omega⟩,
        ⟨Nat.zero_le _, by show e.val < 0 + 256; omega⟩])
  · obtain ⟨n', i, e', rfl⟩ : ∃ (n : Fin 16) (i : Fin 8) (e : Fin 256), x = ix3 n i e := ⟨x 0, x 1, x 2, ValueIdx.eq_ix3 x⟩
    obtain rfl : n = n' := Fin.ext hx0
    obtain rfl : e = e' := Fin.ext hx2
    have h1 : j.val = 120 + i.val := hx1
    rw [dif_neg (by dsimp only; omega), hn]
    exact congrArg₂ (fun a b => x2 (ix2 a b)) (Fin.ext (by dsimp only; omega)) rfl
  · obtain ⟨n', i, e', rfl⟩ : ∃ (n : Fin 16) (i : Fin 120) (e : Fin 256), x = ix3 n i e := ⟨x 0, x 1, x 2, ValueIdx.eq_ix3 x⟩
    obtain rfl : n = n' := Fin.ext hx0
    obtain rfl : e = e' := Fin.ext hx2
    have h1 : j.val = i.val := hx1
    rw [dif_pos (by dsimp only; omega), hq]
    exact congrArg (fun a => x5 (ix3 n a e)) (Fin.ext (by dsimp only; omega))

/-- What the block's row `i` of sequence `n` holds in column `e`. -/
def catAt (n : Fin 16) (i : Fin 8) (e : Fin 2048) : EReal :=
  if h : e.val < 1024 then
    att (fun k : Fin 136 => if sees i k then ∑ x : Fin 64, x1 (ix2 ⟨n.val * 8 + i.val, by omega⟩ ⟨e.val / 256 * 256 + e.val % 256 / 64 * 64 + x.val, by omega⟩)
          * cellK x2 x5 0 n k ⟨e.val / 256 * 64 + x.val, by omega⟩ else ⊥)
        (fun k => cellK x2 x6 256 n k ⟨e.val / 256 * 64 + e.val % 64, by omega⟩) (x0 (ix1 ⟨e.val / 256 * 4 + e.val % 256 / 64, by omega⟩))
  else x3 (ix2 ⟨n.val * 8 + i.val, by omega⟩ ⟨e.val - 1024, by omega⟩)
    * (x8 (ix3 ⟨(e.val - 1024) / 256, by omega⟩ i ⟨(e.val - 1024) % 256, by omega⟩)
      + ∑ j : Fin 8, x4 (ix2 ⟨n.val * 8 + j.val, by omega⟩ ⟨e.val - 1024, by omega⟩)
        * (if j.val ≤ i.val then x7 (ix4 ⟨(e.val - 1024) / 256, by omega⟩ j i ⟨(e.val - 1024) % 256, by omega⟩) else 0))

theorem catBlock_apply (n : Fin 16) (i : Fin 8) (e : Fin 2048) :
    catBlock x0 x1 x2 x3 x4 x5 x6 x7 x8 (ix2 ⟨n.val * 8 + i.val, by omega⟩ e) = catAt x0 x1 x2 x3 x4 x5 x6 x7 x8 n i e := by
  have key : ∀ (g : Fin 4) (y : S128x256.Idx), n.val * 8 + i.val = (y 0).val → e.val = 1024 + g.val * 256 + (y 1).val →
      gateTile x3 x4 x7 x8 g y = catAt x0 x1 x2 x3 x4 x5 x6 x7 x8 n i e := by
    intro g y h0 h1
    obtain ⟨p, d, rfl⟩ : ∃ (p : Fin 128) (d : Fin 256), y = ix2 p d := ⟨y 0, y 1, ValueIdx.eq_ix2 y⟩
    have h0' : n.val * 8 + i.val = p.val := h0
    have h1' : e.val = 1024 + g.val * 256 + d.val := h1
    clear h0 h1
    obtain ⟨p, hp⟩ := p
    obtain rfl : n.val * 8 + i.val = p := h0'
    obtain ⟨e, he⟩ := e
    obtain rfl : e = 1024 + g.val * 256 + d.val := h1'
    rw [gateTile_apply]
    unfold catAt
    rw [dif_neg (by dsimp only; omega)]
    have hg : (⟨(1024 + g.val * 256 + d.val - 1024) / 256, by omega⟩ : Fin 4) = g := Fin.ext (by dsimp only; omega)
    have hd : (⟨(1024 + g.val * 256 + d.val - 1024) % 256, by omega⟩ : Fin 256) = d := Fin.ext (by dsimp only; omega)
    have hc : (⟨1024 + g.val * 256 + d.val - 1024, by omega⟩ : Fin 1024) = ⟨g.val * 256 + d.val, by omega⟩ := Fin.ext (by dsimp only; omega)
    simp only [hg, hd, hc]
  canon_tiles x hx using (by
    rcases (by omega : e.val < 1024 ∨ (1024 ≤ e.val ∧ e.val < 1280) ∨ (1280 ≤ e.val ∧ e.val < 1536) ∨ (1536 ≤ e.val ∧ e.val < 1792) ∨ 1792 ≤ e.val) with he | he | he | he | he
    · exact ⟨_, List.mem_cons_of_mem _ (List.mem_cons_of_mem _ (List.mem_cons_of_mem _ (List.mem_cons_of_mem _ (List.mem_cons_self ..)))), (Rect.mem_set_unit (inb := inbc 0 1024 (by decide))).mpr fun a => by
        fin_cases a
        exacts [⟨Nat.zero_le _, by show n.val * 8 + i.val < 0 + 128; omega⟩, ⟨by show 0 ≤ e.val; omega, by show e.val < 0 + 1024; omega⟩]⟩
    · exact ⟨_, List.mem_cons_of_mem _ (List.mem_cons_of_mem _ (List.mem_cons_of_mem _ (List.mem_cons_self ..))), (Rect.mem_set_unit (inb := inbc 1024 256 (by decide))).mpr fun a => by
        fin_cases a
        exacts [⟨Nat.zero_le _, by show n.val * 8 + i.val < 0 + 128; omega⟩, ⟨by show 1024 ≤ e.val; omega, by show e.val < 1024 + 256; omega⟩]⟩
    · exact ⟨_, List.mem_cons_of_mem _ (List.mem_cons_of_mem _ (List.mem_cons_self ..)), (Rect.mem_set_unit (inb := inbc 1280 256 (by decide))).mpr fun a => by
        fin_cases a
        exacts [⟨Nat.zero_le _, by show n.val * 8 + i.val < 0 + 128; omega⟩, ⟨by show 1280 ≤ e.val; omega, by show e.val < 1280 + 256; omega⟩]⟩
    · exact ⟨_, List.mem_cons_of_mem _ (List.mem_cons_self ..), (Rect.mem_set_unit (inb := inbc 1536 256 (by decide))).mpr fun a => by
        fin_cases a
        exacts [⟨Nat.zero_le _, by show n.val * 8 + i.val < 0 + 128; omega⟩, ⟨by show 1536 ≤ e.val; omega, by show e.val < 1536 + 256; omega⟩]⟩
    · exact ⟨_, List.mem_cons_self .., (Rect.mem_set_unit (inb := inbc 1792 256 (by decide))).mpr fun a => by
        fin_cases a
        exacts [⟨Nat.zero_le _, by show n.val * 8 + i.val < 0 + 128; omega⟩, ⟨by show 1792 ≤ e.val; omega, by show e.val < 1792 + 256; omega⟩]⟩)
  · exact key 3 x hx0 hx1
  · exact key 2 x hx0 hx1
  · exact key 1 x hx0 hx1
  · exact key 0 x hx0 hx1
  · obtain ⟨p, d, rfl⟩ : ∃ (p : Fin 128) (d : Fin 1024), x = ix2 p d := ⟨x 0, x 1, ValueIdx.eq_ix2 x⟩
    have h0 : n.val * 8 + i.val = p.val := hx0
    have h1 : e.val = d.val := hx1
    clear hx0 hx1
    obtain ⟨p, hp⟩ := p
    obtain rfl : n.val * 8 + i.val = p := h0
    clear key
    obtain ⟨e, he⟩ := e
    obtain rfl : e = d.val := h1
    rw [attTile_apply]
    refine (O_apply x0 x1 x2 x5 x6 ⟨d.val / 256, by omega⟩ ⟨d.val % 256 / 64, by omega⟩ n i ⟨d.val % 64, by omega⟩).trans ?_
    unfold catAt
    rw [dif_pos d.isLt]

end Cert.Kernel12Ideal.AbMix

end
-- ==== Proof.AbMix.Array.lean ====
/- What the three arrays the samples' kernel writes hold. Point `t` of the grid handles the sixteen sequences from sequence
   `16 * t` on. -/
module

public import proofs.«01_k».proof.Proof.AbMix.Block

@[expose] public section

set_option maxRecDepth 16384

noncomputable section

open Idealize.ShloMosaic Idealize.ShloMosaic.TcCoe Idealize.SL.Sem
open Idealize.ShloMosaic.Pipeline (Dat)

namespace Cert.Kernel12Ideal.AbMix

open Cert.Kernel12Ideal Cert.Kernel12Ideal.Gen Cert.AbMix
open Cert.RetSample (row)

variable (m : (ℓ : Loc nD τ sig) → Buf (Elt Ideal) ℓ) (c : Dev nD)

/-- The arguments. -/
abbrev cArr : C.Idx → EReal := m ((c : Thread nD τ).loc main_arg0)
abbrev qArr : Q.Idx → EReal := m ((c : Thread nD τ).loc main_arg1)
abbrev kvArr : KV.Idx → EReal := m ((c : Thread nD τ).loc main_arg2)
abbrev uArr : Q.Idx → EReal := m ((c : Thread nD τ).loc main_arg3)
abbrev zArr : Zs.Idx → EReal := m ((c : Thread nD τ).loc main_arg4)
abbrev ckArr : Ca.Idx → EReal := m ((c : Thread nD τ).loc main_arg5)
abbrev cvArr : Ca.Idx → EReal := m ((c : Thread nD τ).loc main_arg6)
abbrev siArr : Si.Idx → EReal := m ((c : Thread nD τ).loc main_arg7)
abbrev wArr : W.Idx → EReal := m ((c : Thread nD τ).loc main_arg8)
abbrev bArr : B.Idx → EReal := m ((c : Thread nD τ).loc main_arg9)

/-- The caches, their heads side by side. -/
theorem k_host (n k : Fin 128) (e : Fin 256) : V m c main_v0 (ix3 n k e) = ckArr m c (ix4 n k ⟨e.val / 64, by omega⟩ ⟨e.val % 64, by omega⟩) := by
  have h : V m c main_v0 = shapeCast S128x128x256 (ckArr m c : FVec Ideal S128x128x4x64 .f32) shapeCasts_S128x128x4x64_S128x128x256 := by
    unfold_abbrev_sides
    after_results_simp
    rfl
  rw [h]
  generalize ckArr m c = x
  pointwise []
theorem v_host (n k : Fin 128) (e : Fin 256) : V m c main_v1 (ix3 n k e) = cvArr m c (ix4 n k ⟨e.val / 64, by omega⟩ ⟨e.val % 64, by omega⟩) := by
  have h : V m c main_v1 = shapeCast S128x128x256 (cvArr m c : FVec Ideal S128x128x4x64 .f32) shapeCasts_S128x128x4x64_S128x128x256 := by
    unfold_abbrev_sides
    after_results_simp
    rfl
  rw [h]
  generalize cvArr m c = x
  pointwise []

/-- The weights of the eight rows, one column of them in 256 columns. -/
theorem w_host (g : Fin 4) (j i : Fin 8) (e : Fin 256) : V m c main_v5 (ix4 g j i e) = wArr m c (ix3 g ⟨i.val, by omega⟩ ⟨j.val, by omega⟩) := by
  have h : V m c main_v5 = broadcastInDim S4x8x8x256 ![0, 1, 2, 3] bcast_S4x8x8x1_S4x8x8x256_0_1_2_3 (broadcastInDim S4x8x8x1 ![0, 1, 2] bcast_S4x8x8_S4x8x8x1_0_1_2
      (transpose S4x8x8 [0, 2, 1] (extractStridedSlice S4x8x8 ![0, 0, 0] (wArr m c : FVec Ideal S4x128x128 .f32) slices_S4x128x128_S4x8x8_0_0_0) transposes_S4x8x8_S4x8x8_0_2_1)) := by
    unfold_abbrev_sides
    after_results_simp
  rw [h]
  generalize wArr m c = x
  pointwise []
theorem b_host (g : Fin 4) (i : Fin 8) (e : Fin 256) : V m c main_v8 (ix3 g i e) = bArr m c (ix2 g ⟨i.val, by omega⟩) := by
  have h : V m c main_v8 = broadcastInDim S4x8x256 ![0, 1, 2] bcast_S4x8x1_S4x8x256_0_1_2 (broadcastInDim S4x8x1 ![0, 1] bcast_S4x8_S4x8x1_0_1
      (extractStridedSlice S4x8 ![0, 0] (bArr m c : FVec Ideal S4x128 .f32) slices_S4x128_S4x8_0_0)) := by
    unfold_abbrev_sides
    after_results_simp
  rw [h]
  generalize bArr m c = x
  pointwise []

/-- The mixed rows' array starts as the rows before the call. -/
theorem cat_host : V m c main_v9_0 = cArr m c := by
  unfold_abbrev_sides
  after_results_simp
  rfl

/-- Every window's block index at a grid point. -/
theorem idx : ∀ t : Fin cfg0.N, win0_0.index t = ![0] ∧ win0_1.index t = ![64 + t.val, 0]
    ∧ win0_2.index t = ![64 + t.val, 0] ∧ win0_3.index t = ![64 + t.val, 0] ∧ win0_4.index t = ![t.val, 0]
    ∧ win0_5.index t = ![t.val, 0, 0] ∧ win0_6.index t = ![t.val, 0, 0]
    ∧ win0_7.index t = ![0, 0, 0, 0] ∧ win0_8.index t = ![0, 0, 0]
    ∧ win0_9.index t = ![64 + t.val, 0] ∧ win0_10.index t = ![t.val, 0, 0] ∧ win0_11.index t = ![t.val, 0, 0] :=
  (by decide +kernel : ∀ t : Fin grid0.N, _)

theorem N_lt (t : Fin cfg0.N) : t.val < 8 := lt_of_lt_of_eq t.isLt (show cfg0.N = 8 from N_0)

def seqOf (t : Fin cfg0.N) (n : Fin 16) : Fin 128 := ⟨t.val * 16 + n.val, by have := N_lt t; omega⟩

theorem blk0 (t : Fin cfg0.N) (j : Fin 16) : iblk m c 0 t (ix1 j) = siArr m c (ix1 j) := by
  have hi := idx t
  unfold siArr
  rw [← V_main_arg7 m c]
  blk_ext! [iblk, hi]
theorem blk1 (t : Fin cfg0.N) (n : Fin 16) (i : Fin 8) (e : Fin 1024) : iblk m c 1 t (ix2 ⟨n.val * 8 + i.val, by omega⟩ e) = qArr m c (ix2 (row (seqOf t n) i) e) := by
  have hi := idx t
  unfold qArr seqOf row
  rw [← V_main_arg1 m c]
  blk_ext! [iblk, hi]
theorem blk2 (t : Fin cfg0.N) (n : Fin 16) (i : Fin 8) (e : Fin 512) : iblk m c 2 t (ix2 ⟨n.val * 8 + i.val, by omega⟩ e) = kvArr m c (ix2 (row (seqOf t n) i) e) := by
  have hi := idx t
  unfold kvArr seqOf row
  rw [← V_main_arg2 m c]
  blk_ext! [iblk, hi]
theorem blk3 (t : Fin cfg0.N) (n : Fin 16) (i : Fin 8) (e : Fin 1024) : iblk m c 3 t (ix2 ⟨n.val * 8 + i.val, by omega⟩ e) = uArr m c (ix2 (row (seqOf t n) i) e) := by
  have hi := idx t
  unfold uArr seqOf row
  rw [← V_main_arg3 m c]
  blk_ext! [iblk, hi]
theorem blk4 (t : Fin cfg0.N) (n : Fin 16) (i : Fin 8) (e : Fin 1024) : iblk m c 4 t (ix2 ⟨n.val * 8 + i.val, by omega⟩ e)
    = zArr m c (ix2 ⟨(seqOf t n).val * 8 + i.val, by omega⟩ e) := by
  have hi := idx t
  unfold zArr seqOf
  rw [← V_main_arg4 m c]
  blk_ext! [iblk, hi]
theorem blk5 (t : Fin cfg0.N) (n : Fin 16) (k : Fin 128) (e : Fin 256) : iblk m c 5 t (ix3 n k e)
    = ckArr m c (ix4 (seqOf t n) k ⟨e.val / 64, by omega⟩ ⟨e.val % 64, by omega⟩) := by
  have hi := idx t
  rw [← k_host]
  unfold seqOf
  blk_ext! [iblk, hi]
theorem blk6 (t : Fin cfg0.N) (n : Fin 16) (k : Fin 128) (e : Fin 256) : iblk m c 6 t (ix3 n k e)
    = cvArr m c (ix4 (seqOf t n) k ⟨e.val / 64, by omega⟩ ⟨e.val % 64, by omega⟩) := by
  have hi := idx t
  rw [← v_host]
  unfold seqOf
  blk_ext! [iblk, hi]
theorem blk7 (t : Fin cfg0.N) (g : Fin 4) (j i : Fin 8) (e : Fin 256) : iblk m c 7 t (ix4 g j i e)
    = wArr m c (ix3 g ⟨i.val, by omega⟩ ⟨j.val, by omega⟩) := by
  have hi := idx t
  rw [← w_host m c g j i e]
  blk_ext! [iblk, hi]
theorem blk8 (t : Fin cfg0.N) (g : Fin 4) (i : Fin 8) (e : Fin 256) : iblk m c 8 t (ix3 g i e) = bArr m c (ix2 g ⟨i.val, by omega⟩) := by
  have hi := idx t
  rw [← b_host m c g i e]
  blk_ext! [iblk, hi]

/-- The block's keys and values are the sequences'. -/
theorem keys_eq (t : Fin cfg0.N) (n : Fin 16) (k : Fin 136) (e : Fin 256) :
    cellK (iblk m c 2 t) (iblk m c 5 t) 0 n k e = cell (kvArr m c) (ckArr m c) 0 (seqOf t n) k e := by
  unfold cellK cell
  by_cases h : k.val < 128
  · rw [dif_pos h, dif_pos h, blk5]
  · rw [dif_neg h, dif_neg h]
    exact blk2 m c t n ⟨k.val - 128, by omega⟩ _
theorem vals_eq (t : Fin cfg0.N) (n : Fin 16) (k : Fin 136) (e : Fin 256) :
    cellK (iblk m c 2 t) (iblk m c 6 t) 256 n k e = cell (kvArr m c) (cvArr m c) 256 (seqOf t n) k e := by
  unfold cellK cell
  by_cases h : k.val < 128
  · rw [dif_pos h, dif_pos h, blk6]
  · rw [dif_neg h, dif_neg h]
    exact blk2 m c t n ⟨k.val - 128, by omega⟩ _

theorem catAt_eq (t : Fin cfg0.N) (n : Fin 16) (i : Fin 8) (e : Fin 2048) :
    catAt (iblk m c 0 t) (iblk m c 1 t) (iblk m c 2 t) (iblk m c 3 t) (iblk m c 4 t) (iblk m c 5 t) (iblk m c 6 t) (iblk m c 7 t) (iblk m c 8 t) n i e
      = mix (qArr m c) (kvArr m c) (ckArr m c) (cvArr m c) (siArr m c) (uArr m c) (zArr m c) (wArr m c) (bArr m c) (seqOf t n) i e := by
  unfold catAt mix
  by_cases h : e.val < 1024
  · rw [dif_pos h, dif_pos h]
    unfold A score
    simp only [keys_eq, vals_eq, blk0, blk1]
  · rw [dif_neg h, dif_neg h]
    unfold G
    have hc : (⟨(e.val - 1024) / 256 * 256 + (e.val - 1024) % 256, by omega⟩ : Fin 1024) = ⟨e.val - 1024, by omega⟩ := Fin.ext (by dsimp only; omega)
    simp only [hc, blk3, blk4, blk7, blk8]

theorem cat_out (t : Fin cfg0.N) (r : Fin 128) (e : Fin 2048) :
    (outsAt0 (F := Ideal) m c t).1 (ix2 r e)
      = mix (qArr m c) (kvArr m c) (ckArr m c) (cvArr m c) (siArr m c) (uArr m c) (zArr m c) (wArr m c) (bArr m c)
          (seqOf t ⟨r.val / 8, by omega⟩) ⟨r.val % 8, by omega⟩ e := by
  rw [outs_cat, ← catAt_eq, ← catBlock_apply]
  congr 2
  exact Fin.ext (by dsimp only; omega)

theorem nk_out (t : Fin cfg0.N) (n : Fin 16) (j : Fin 128) (e : Fin 256) :
    (outsAt0 (F := Ideal) m c t).2.1 (ix3 n j e) = next (kvArr m c) (ckArr m c) 0 (seqOf t n) j e := by
  rw [outs_nk]
  refine (next_apply _ _ 0 _ n j e).trans (keys_eq m c t n _ e)

theorem nv_out (t : Fin cfg0.N) (n : Fin 16) (j : Fin 128) (e : Fin 256) :
    (outsAt0 (F := Ideal) m c t).2.2 (ix3 n j e) = next (kvArr m c) (cvArr m c) 256 (seqOf t n) j e := by
  rw [outs_nv]
  refine (next_apply _ _ 256 _ n j e).trans (vals_eq m c t n _ e)

theorem mix_congr {q : Q.Idx → EReal} {kv : KV.Idx → EReal} {ck cv : Ca.Idx → EReal} {si : Si.Idx → EReal} {u : Q.Idx → EReal} {z : Zs.Idx → EReal}
    {w : W.Idx → EReal} {b : B.Idx → EReal} {n n' : Fin 128} {i i' : Fin 8} {e e' : Fin 2048} (hn : n.val = n'.val) (hi : i.val = i'.val) (he : e.val = e'.val) :
    mix q kv ck cv si u z w b n i e = mix q kv ck cv si u z w b n' i' e' := by
  obtain rfl := Fin.ext hn; obtain rfl := Fin.ext hi; obtain rfl := Fin.ext he; rfl

theorem next_congr {kv : KV.Idx → EReal} {k : Ca.Idx → EReal} {o : Fin 257} {n n' j j' : Fin 128} {e e' : Fin 256} (hn : n.val = n'.val) (hj : j.val = j'.val)
    (he : e.val = e'.val) : next kv k o n j e = next kv k o n' j' e' := by
  obtain rfl := Fin.ext hn; obtain rfl := Fin.ext hj; obtain rfl := Fin.ext he; rfl

/-- The mixed rows' array holds the samples' rows, and the prompt's rows are left as they were. -/
theorem final9 : (dats m 0 c).arrAt 9 cfg0.N
    = fun i => if (i 0).val < 8192 then cArr m c i
        else mixRow (qArr m c) (kvArr m c) (ckArr m c) (cvArr m c) (siArr m c) (uArr m c) (zArr m c) (wArr m c) (bArr m c) (i 0) (i 1) := by
  have key : (dats m 0 c).arrAt 9 cfg0.N
      = fun i => if 8192 ≤ (i 0).val then mixRow (qArr m c) (kvArr m c) (ckArr m c) (cvArr m c) (siArr m c) (uArr m c) (zArr m c) (wArr m c) (bArr m c) (i 0) (i 1)
          else V m c main_v9_0 i := by
    refine (dats m 0 c).arrAt_eq_of_coversWhere 9 (fun i => mixRow (qArr m c) (kvArr m c) (ckArr m c) (cvArr m c) (siArr m c) (uArr m c) (zArr m c) (wArr m c) (bArr m c) (i 0) (i 1))
      (fun β => 64 ≤ β 0) (by decide +kernel) (fun t hf y => ?_) (fun j => by blk_simp [Pipeline.Window.cell_apply]; omega)
    have hi := idx t
    have hN := N_lt t
    blk_simp
    rw [after0_9]
    obtain ⟨r, e, rfl⟩ : ∃ (r : Fin 128) (e : Fin 2048), y = ix2 r e := ⟨y 0, y 1, ValueIdx.eq_ix2 y⟩
    refine (cat_out m c t r e).trans ?_
    unfold mixRow
    refine mix_congr ?_ ?_ ?_ <;> blk_simp [hi, seqOf] <;> (try simp only) <;> omega
  rw [key, cat_host]
  funext i
  by_cases h : (i 0).val < 8192
  · rw [if_pos h, if_neg (by omega)]
  · rw [if_neg h, if_pos (by omega)]

/-- The caches after the eight tokens. -/
theorem final10 : (dats m 0 c).arrAt 10 cfg0.N = fun i => next (kvArr m c) (ckArr m c) 0 (i 0) (i 1) (i 2) := by
  refine (dats m 0 c).arrAt_eq_of_covers 10 _ (by decide +kernel) fun t hf y => ?_
  have hi := idx t
  have hN := N_lt t
  blk_simp
  rw [after0_10]
  obtain ⟨n, j, e, rfl⟩ : ∃ (n : Fin 16) (j : Fin 128) (e : Fin 256), y = ix3 n j e := ⟨y 0, y 1, y 2, ValueIdx.eq_ix3 y⟩
  refine (nk_out m c t n j e).trans ?_
  refine next_congr ?_ ?_ ?_ <;> blk_simp [hi, seqOf] <;> (try simp only) <;> (try omega)
theorem final11 : (dats m 0 c).arrAt 11 cfg0.N = fun i => next (kvArr m c) (cvArr m c) 256 (i 0) (i 1) (i 2) := by
  refine (dats m 0 c).arrAt_eq_of_covers 11 _ (by decide +kernel) fun t hf y => ?_
  have hi := idx t
  have hN := N_lt t
  blk_simp
  rw [after0_11]
  obtain ⟨n, j, e, rfl⟩ : ∃ (n : Fin 16) (j : Fin 128) (e : Fin 256), y = ix3 n j e := ⟨y 0, y 1, y 2, ValueIdx.eq_ix3 y⟩
  refine (nv_out m c t n j e).trans ?_
  refine next_congr ?_ ?_ ?_ <;> blk_simp [hi, seqOf] <;> (try simp only) <;> (try omega)

end Cert.Kernel12Ideal.AbMix

end
-- ==== Proof.AbMix.Reference.lean ====
/- What the reference of the samples' attention and gMLP computes. -/
module

public import proofs.«01_k».proof.Proof.Gen.Reference12Ideal.Read
public import proofs.«01_k».proof.Proof.AbMix.Step
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Reference12Ideal.AbMix

open Cert.Reference12Ideal Cert.Reference12Ideal.Gen Cert.Reference12Ideal.Read Cert.AbMix
open Cert.RetSample (row)

variable (x0 : C.Idx → EReal) (q : Q.Idx → EReal) (kv : KV.Idx → EReal) (ck cv : Ca.Idx → EReal) (si : Si.Idx → EReal)
variable (u : Q.Idx → EReal) (z : Zs.Idx → EReal) (w : W.Idx → EReal) (b : B.Idx → EReal)

theorem ix4_congr {n0 n1 n2 n3 : ℕ} (y : Shape.Idx ⟨4, ![n0, n1, n2, n3]⟩ → EReal) {a a' : Fin n0} {b b' : Fin n1} {c c' : Fin n2} {d d' : Fin n3}
    (ha : a.val = a'.val) (hb : b.val = b'.val) (hc : c.val = c'.val) (hd : d.val = d'.val) : y (ix4 a b c d) = y (ix4 a' b' c' d') := by
  rw [Fin.ext ha, Fin.ext hb, Fin.ext hc, Fin.ext hd]

theorem ix5_congr {n0 n1 n2 n3 n4 : ℕ} (y : Shape.Idx ⟨5, ![n0, n1, n2, n3, n4]⟩ → EReal) {a a' : Fin n0} {b b' : Fin n1} {c c' : Fin n2} {d d' : Fin n3} {e e' : Fin n4}
    (ha : a.val = a'.val) (hb : b.val = b'.val) (hc : c.val = c'.val) (hd : d.val = d'.val) (he : e.val = e'.val) :
    y (ix5 a b c d e) = y (ix5 a' b' c' d' e') := by
  rw [Fin.ext ha, Fin.ext hb, Fin.ext hc, Fin.ext hd, Fin.ext he]

theorem k_apply (n : Fin 128) (k : Fin 136) (a : Fin 4) (d : Fin 64) :
    val_main_v7 (F := Ideal) kv ck (ix4 n k a d) = cell kv ck 0 n k ⟨a.val * 64 + d.val, by omega⟩ := by
  pointwise [val_main_v7, val_main_v4, val_main_v3]
  unfold cell
  split
  · exact congrArg₂ (fun r l => ck (ix4 n _ r l)) (Fin.ext (by dsimp only <;> omega)) (Fin.ext (by dsimp only <;> omega))
  · exact congrArg₂ (fun r l => kv (ix2 r l)) (Fin.ext (by dsimp only [row]; omega)) (Fin.ext (by dsimp only <;> simp <;> omega))

theorem v_apply (n : Fin 128) (k : Fin 136) (a : Fin 4) (d : Fin 64) :
    val_main_v8 (F := Ideal) kv cv (ix4 n k a d) = cell kv cv 256 n k ⟨a.val * 64 + d.val, by omega⟩ := by
  pointwise [val_main_v8, val_main_v6, val_main_v5]
  unfold cell
  split
  · exact congrArg₂ (fun r l => cv (ix4 n _ r l)) (Fin.ext (by dsimp only <;> omega)) (Fin.ext (by dsimp only <;> omega))
  · exact congrArg₂ (fun r l => kv (ix2 r l)) (Fin.ext (by dsimp only [row]; omega)) (Fin.ext (by dsimp only <;> simp <;> omega))

theorem q_apply (n : Fin 128) (i : Fin 8) (a g : Fin 4) (d : Fin 64) :
    val_main_v9 (F := Ideal) q (ix5 n i a g d) = q (ix2 (row n i) ⟨a.val * 256 + g.val * 64 + d.val, by omega⟩) := by
  pointwise [val_main_v9, val_main_v2, val_main_v1, val_main_v0]
  exact congrArg₂ (fun r l => q (ix2 r l)) (Fin.ext (by dsimp only [row]; omega)) (Fin.ext (by dsimp only <;> omega))

theorem ok_apply (i : Fin 8) (k : Fin 136) : val_main_v28 (F := Ideal) (ix2 i k) = BitVec.ofBool (decide (sees i k)) := by
  pointwise [val_main_v28, val_main_v27, val_main_v26, val_main_v25, val_main_v24, val_main_v23, val_main_c_1, val_main_v22, val_main_v21, val_main_v20,
   val_main_v19, val_main_v18, val_main_c_0, val_main_v17, val_main_v16, val_main_v15, val_main_v14, val_main_c, val_main_v13, val_main_v12]
  revert i k
  decide +kernel

theorem s_apply (n : Fin 128) (a g : Fin 4) (i : Fin 8) (k : Fin 136) :
    val_main_v29 (F := Ideal) q kv ck (ix5 n a g i k) = score q kv ck n a g i k := by
  pointwise [val_main_v29, val_main_call0_v2, val_main_call0_v1, val_main_call0_v0, id_eq, val_main_cst, val_main_v11, val_main_v10]
  simp only [ok_apply, q_apply, k_apply]
  unfold score
  rw [show Ideal.ofBits FTy.f32 4286578688#32 = ⊥ from by simp [Ideal.ofBits, Ideal.ieee]]
  by_cases h : sees i k
  · simp only [h, decide_true, if_true]
    exact (Finset.sum_congr rfl fun x _ => mul_comm (G := EReal) _ _ :
      (∑ x : Fin 64, cell kv ck 0 n k ⟨a.val * 64 + x.val, by omega⟩ * q (ix2 (row n i) ⟨a.val * 256 + g.val * 64 + x.val, by omega⟩)) = _)
  · simp only [h, decide_false, if_false]
    rfl

theorem sink_apply (n : Fin 128) (a g : Fin 4) (i : Fin 8) (e : Fin 1) :
    val_main_v35 (F := Ideal) si (ix5 n a g i e) = si (ix1 ⟨a.val * 4 + g.val, by omega⟩) := by
  pointwise [val_main_v35, val_main_v34, val_main_v31, val_main_v30]

theorem fold_bot {N : ℕ} (s : Fin N → EReal) : Finset.univ.fold max (Ideal.ofBits FTy.f32 4286578688#32) s = Finset.univ.sup s := by
  rw [show Ideal.ofBits FTy.f32 4286578688#32 = ⊥ from by simp [Ideal.ofBits, Ideal.ieee]]
  rfl

/-- The maximum of every row of scores. -/
theorem red_apply (f : FVec Ideal S128x4x4x8x136 .f32) (n : Fin 128) (a g : Fin 4) (i : Fin 8) :
    Host.reduce FloatOps.maximumf f (val_main_cst_2 (F := Ideal)) reducesTo_S128x4x4x8x136_S128x4x4x8_d4 h_S_ (ix4 n a g i)
      = Finset.univ.sup fun k => f (ix5 n a g i k) := by
  rw [Host.reduce_eq_fold_single _ _ _ _ (by decide +kernel)]
  refine (?_ : _ = Finset.univ.fold max (Ideal.ofBits FTy.f32 4286578688#32) fun k => f (ix5 n a g i k)).trans (fold_bot _)
  refine congrArg₂ (fun b z => Finset.univ.fold max b z) rfl (funext fun k => congrArg f (funext fun b => ?_))
  fin_cases b <;> rfl

theorem v32_apply (n : Fin 128) (a g : Fin 4) (i : Fin 8) :
    val_main_v32 (F := Ideal) q kv ck (ix4 n a g i) = Finset.univ.sup (score q kv ck n a g i) := by
  unfold val_main_v32
  rw [red_apply]
  simp only [s_apply]

/-- The largest of the scores and the sink. -/
abbrev top (n : Fin 128) (a g : Fin 4) (i : Fin 8) : EReal :=
  max (Finset.univ.sup (score q kv ck n a g i)) (si (ix1 ⟨a.val * 4 + g.val, by omega⟩))

theorem v36_apply (n : Fin 128) (a g : Fin 4) (i : Fin 8) (e : Fin 1) :
    val_main_v36 (F := Ideal) q kv ck si (ix5 n a g i e) = top q kv ck si n a g i := by
  rw [val_main_v36_apply, sink_apply]
  have h : val_main_v33 (F := Ideal) q kv ck (ix5 n a g i e) = val_main_v32 (F := Ideal) q kv ck (ix4 n a g i) := by
    unfold val_main_v33
    generalize val_main_v32 (F := Ideal) q kv ck = y
    pointwise []
  rw [h, v32_apply]
  rfl

theorem e_apply (n : Fin 128) (a g : Fin 4) (i : Fin 8) (k : Fin 136) :
    val_main_v39 (F := Ideal) q kv ck si (ix5 n a g i k) = Ideal.exp (score q kv ck n a g i k - top q kv ck si n a g i) := by
  have h : val_main_v37 (F := Ideal) q kv ck si (ix5 n a g i k) = val_main_v36 (F := Ideal) q kv ck si (ix5 n a g i 0) := by
    unfold val_main_v37
    generalize val_main_v36 (F := Ideal) q kv ck si = y
    pointwise []
  rw [val_main_v39_apply, val_main_v38_apply, s_apply, h, v36_apply]
  rfl

theorem num_apply (n : Fin 128) (a g : Fin 4) (i : Fin 8) (d : Fin 64) :
    val_main_v40 (F := Ideal) q kv ck cv si (ix5 n a g i d)
      = ∑ k, Ideal.exp (score q kv ck n a g i k - top q kv ck si n a g i) * cell kv cv 256 n k ⟨a.val * 64 + d.val, by omega⟩ := by
  have h (y : FVec Ideal S128x4x4x8x136 .f32) (v : FVec Ideal S128x136x4x64 .f32) :
      Host.dotGeneral dot_S128x4x4x8x136_S128x136x4x64_S128x4x4x8x64_4_1_23_3_01_02 none y v (ix5 n a g i d)
        = ∑ k : Fin 136, y (ix5 n a g i k) * v (ix4 n k a d) := by
    pointwise []
  unfold val_main_v40
  refine (h _ _).trans (Finset.sum_congr rfl fun k _ => ?_)
  rw [e_apply, v_apply]

theorem den_apply (n : Fin 128) (a g : Fin 4) (i : Fin 8) (d : Fin 64) :
    val_main_v48 (F := Ideal) q kv ck si (ix5 n a g i d)
      = ∑ k, Ideal.exp (score q kv ck n a g i k - top q kv ck si n a g i)
        + Ideal.exp (si (ix1 ⟨a.val * 4 + g.val, by omega⟩) - top q kv ck si n a g i) := by
  have h : val_main_v48 (F := Ideal) q kv ck si (ix5 n a g i d) = val_main_v47 (F := Ideal) q kv ck si (ix5 n a g i 0) := by
    unfold val_main_v48
    generalize val_main_v47 (F := Ideal) q kv ck si = y
    pointwise []
  have h42 : val_main_v42 (F := Ideal) q kv ck si (ix5 n a g i 0) = ∑ k, val_main_v39 (F := Ideal) q kv ck si (ix5 n a g i k) := by
    unfold val_main_v42 val_main_v41
    generalize val_main_v39 (F := Ideal) q kv ck si = y
    pointwise [val_main_cst_3]
    try simp [Ideal.ofBits, Ideal.ieee]
  rw [h, val_main_v47_apply, h42, val_main_v46_apply, val_main_v45_apply, v36_apply]
  have h44 : val_main_v44 (F := Ideal) si (ix5 n a g i 0) = si (ix1 ⟨a.val * 4 + g.val, by omega⟩) := by
    pointwise [val_main_v44, val_main_v43, val_main_v31, val_main_v30]
  rw [h44]
  simp only [e_apply]
  rfl

theorem a_apply (n : Fin 128) (a g : Fin 4) (i : Fin 8) (d : Fin 64) :
    val_main_v49 (F := Ideal) q kv ck cv si (ix5 n a g i d) = A q kv ck cv si n a g i d := by
  rw [val_main_v49_apply, num_apply, den_apply]
  rfl

theorem ge_bits : ∀ i j : Fin 8, IntOp.cmpi CmpIPredicate.sge (IntOp.addi (BitVec.ofNat 32 ↑i) 0#32) (BitVec.ofNat 32 ↑j)
    = BitVec.ofBool (decide (j.val ≤ i.val)) := by decide +kernel

theorem w_apply (g : Fin 4) (i j : Fin 8) :
    val_main_v59 (F := Ideal) w (ix3 g i j) = if j.val ≤ i.val then w (ix3 g ⟨i.val, by omega⟩ ⟨j.val, by omega⟩) else 0 := by
  pointwise [val_main_v59, val_main_v58, val_main_call1_v6, val_main_call1_cst, val_main_call1_v5, val_main_call1_v4, val_main_call1_v3, val_main_call1_v2, val_main_call1_v1, val_main_call1_c, val_main_call1_v0]
  rw [ge_bits i j]
  by_cases h : j.val ≤ i.val
  · simp only [h, decide_true, if_true]; rfl
  · simp only [h, decide_false, if_false]; rfl

theorem g_apply (n : Fin 128) (g : Fin 4) (i : Fin 8) (e : Fin 256) :
    val_main_v68 (F := Ideal) u z w b (ix4 n i g e) = G u z w b n g i e := by
  have hu : val_main_v56 (F := Ideal) u (ix4 n i g e) = u (ix2 (row n i) ⟨g.val * 256 + e.val, by omega⟩) := by
    pointwise [val_main_v56, val_main_v55, val_main_v54]
    exact congrArg₂ (fun r l => u (ix2 r l)) (Fin.ext (by dsimp only [row]; omega)) (Fin.ext (by dsimp only <;> omega))
  have hz (j : Fin 8) : val_main_v57 (F := Ideal) z (ix4 n j g e) = z (ix2 ⟨n.val * 8 + j.val, by omega⟩ ⟨g.val * 256 + e.val, by omega⟩) := by
    pointwise [val_main_v57]
  have hb : val_main_v66 (F := Ideal) b (ix4 n i g e) = b (ix2 g ⟨i.val, by omega⟩) := by
    pointwise [val_main_v66, val_main_v65, val_main_v64, val_main_v63, val_main_v62]
  have hs : val_main_v61 (F := Ideal) z w (ix4 n i g e)
      = ∑ j : Fin 8, val_main_v57 (F := Ideal) z (ix4 n j g e) * val_main_v59 (F := Ideal) w (ix3 g i j) := by
    unfold val_main_v61 val_main_v60
    generalize val_main_v59 (F := Ideal) w = y
    generalize val_main_v57 (F := Ideal) z = x
    pointwise []
  rw [val_main_v68_apply, val_main_v67_apply, hu, hs, hb]
  simp only [hz, w_apply]
  unfold G
  exact congrArg (_ * ·) (add_comm (G := EReal) _ _)

/-- The samples' rows. -/
theorem v72_apply (r : Fin 1024) (e : Fin 2048) :
    val_main_v72 (F := Ideal) q kv u z ck cv si w b (ix2 r e)
      = mix q kv ck cv si u z w b ⟨r.val / 8, by omega⟩ ⟨r.val % 8, by omega⟩ e := by
  have ha (c : Fin 1024) : val_main_v69 (F := Ideal) q kv ck cv si (ix2 r c)
      = A q kv ck cv si ⟨r.val / 8, by omega⟩ ⟨c.val / 256, by omega⟩ ⟨c.val % 256 / 64, by omega⟩ ⟨r.val % 8, by omega⟩ ⟨c.val % 64, by omega⟩ := by
    rw [← a_apply]
    unfold val_main_v69 val_main_v51 val_main_v50
    generalize val_main_v49 (F := Ideal) q kv ck cv si = y
    pointwise []
    exact ix5_congr y (by dsimp only <;> omega) (by dsimp only <;> omega) (by dsimp only; omega) (by dsimp only <;> omega) (by dsimp only <;> omega)
  have hg (c : Fin 1024) : val_main_v70 (F := Ideal) u z w b (ix2 r c)
      = G u z w b ⟨r.val / 8, by omega⟩ ⟨c.val / 256, by omega⟩ ⟨r.val % 8, by omega⟩ ⟨c.val % 256, by omega⟩ := by
    rw [← g_apply]
    unfold val_main_v70
    generalize val_main_v68 (F := Ideal) u z w b = y
    pointwise []
  have hc : mix q kv ck cv si u z w b ⟨r.val / 8, by omega⟩ ⟨r.val % 8, by omega⟩ e
      = if h : e.val < 1024 then val_main_v69 (F := Ideal) q kv ck cv si (ix2 r ⟨e.val, h⟩)
        else val_main_v70 (F := Ideal) u z w b (ix2 r ⟨e.val - 1024, by omega⟩) := by
    unfold mix
    split
    · rw [ha]
    · rw [hg]
  rw [hc]
  unfold val_main_v72 val_main_v71
  generalize val_main_v69 (F := Ideal) q kv ck cv si = x
  generalize val_main_v70 (F := Ideal) u z w b = y
  pointwise []

/-- The first result: the rows of the prompt as they were, and the samples'. -/
theorem val_main_v74_eq : val_main_v74 (F := Ideal) x0 q kv u z ck cv si w b
    = fun i => if (i 0).val < 8192 then x0 i else mixRow q kv ck cv si u z w b (i 0) (i 1) := by
  funext i
  obtain ⟨p, e, rfl⟩ : ∃ (p : Fin 9216) (e : Fin 2048), i = ix2 p e := ⟨i 0, i 1, by funext k; fin_cases k <;> rfl⟩
  have h (p : Fin 9216) (hp : 8192 ≤ p.val) : mixRow q kv ck cv si u z w b p e
      = val_main_v72 (F := Ideal) q kv u z ck cv si w b (ix2 ⟨p.val - 8192, by omega⟩ e) := by
    rw [v72_apply]
    unfold mixRow
    exact congrArg₂ (fun a c => mix q kv ck cv si u z w b a c e) rfl (Fin.ext (by dsimp only; omega))
  dsimp only
  change _ = if p.val < 8192 then x0 (ix2 p e) else mixRow q kv ck cv si u z w b p e
  unfold val_main_v74 val_main_v73
  by_cases hp : p.val < 8192
  · rw [if_pos hp]
    generalize val_main_v72 (F := Ideal) q kv u z ck cv si w b = y
    pointwise []
    rw [dif_pos hp]
  · rw [if_neg hp, h p (by omega)]
    generalize val_main_v72 (F := Ideal) q kv u z ck cv si w b = y
    pointwise []
    rw [dif_neg hp]

/-- The second and third results: the caches. -/
theorem val_main_v75_eq : val_main_v75 (F := Ideal) kv ck = fun i => next kv ck 0 (i 0) (i 1) (i 2) := by
  funext i
  obtain ⟨n, j, e, rfl⟩ : ∃ (n j : Fin 128) (e : Fin 256), i = ix3 n j e := ⟨i 0, i 1, i 2, by funext k; fin_cases k <;> rfl⟩
  have h : next kv ck 0 n j e = val_main_v7 (F := Ideal) kv ck (ix4 n ⟨j.val + 8, by omega⟩ ⟨e.val / 64, by omega⟩ ⟨e.val % 64, by omega⟩) := by
    rw [k_apply]; exact congrArg _ (Fin.ext (by dsimp only; omega))
  refine Eq.trans ?_ h.symm
  unfold val_main_v75 val_main_v52
  generalize val_main_v7 (F := Ideal) kv ck = y
  pointwise []
  exact ix4_congr y (by dsimp only <;> omega) (by dsimp only; omega) (by dsimp only <;> omega) (by dsimp only <;> omega)

theorem val_main_v76_eq : val_main_v76 (F := Ideal) kv cv = fun i => next kv cv 256 (i 0) (i 1) (i 2) := by
  funext i
  obtain ⟨n, j, e, rfl⟩ : ∃ (n j : Fin 128) (e : Fin 256), i = ix3 n j e := ⟨i 0, i 1, i 2, by funext k; fin_cases k <;> rfl⟩
  have h : next kv cv 256 n j e = val_main_v8 (F := Ideal) kv cv (ix4 n ⟨j.val + 8, by omega⟩ ⟨e.val / 64, by omega⟩ ⟨e.val % 64, by omega⟩) := by
    rw [v_apply]; exact congrArg _ (Fin.ext (by dsimp only; omega))
  refine Eq.trans ?_ h.symm
  unfold val_main_v76 val_main_v53
  generalize val_main_v8 (F := Ideal) kv cv = y
  pointwise []
  exact ix4_congr y (by dsimp only <;> omega) (by dsimp only; omega) (by dsimp only <;> omega) (by dsimp only <;> omega)

end Cert.Reference12Ideal.AbMix

end
-- ==== Proof.AbMix.Claim.lean ====
/- The samples' mixed rows: the rows the kernel writes and the caches it leaves are the plain reference's. -/
module

public import proofs.«01_k».proof.Proof.AbMix.Array
public import proofs.«01_k».proof.Proof.AbMix.Reference
public import proofs.«01_k».proof.Proof.Gen.Kernel12.Frame
public import proofs.«01_k».proof.Proof.Gen.Kernel12Ideal.Value
public import proofs.«01_k».proof.Proof.Gen.Reference12Ideal.Run
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AbMix

/-- The mask is named: `-1e30` stands for `-∞`. -/
theorem preserves : Cert.preserves_Kernel12_Kernel12Ideal := IdealRules.named_const.statement _ _ _ _ _ rfl

theorem algebraic : Cert.algebraic_Kernel12Ideal_Reference12Ideal := by
  pair_intro
  rotate_left 2
  · exact fun c => fun i => if (i 0).val < 8192 then Kernel12Ideal.AbMix.cArr m c i
      else mixRow (Kernel12Ideal.AbMix.qArr m c) (Kernel12Ideal.AbMix.kvArr m c) (Kernel12Ideal.AbMix.ckArr m c) (Kernel12Ideal.AbMix.cvArr m c) (Kernel12Ideal.AbMix.siArr m c)
        (Kernel12Ideal.AbMix.uArr m c) (Kernel12Ideal.AbMix.zArr m c) (Kernel12Ideal.AbMix.wArr m c) (Kernel12Ideal.AbMix.bArr m c) (i 0) (i 1)
  · exact fun c => fun i => next (Kernel12Ideal.AbMix.kvArr m c) (Kernel12Ideal.AbMix.ckArr m c) 0 (i 0) (i 1) (i 2)
  · exact fun c => fun i => next (Kernel12Ideal.AbMix.kvArr m c) (Kernel12Ideal.AbMix.cvArr m c) 256 (i 0) (i 1) (i 2)
  · exact (θ_run _ _ _).mono (fun r h c => ⟨(h c).1.trans (Kernel12Ideal.AbMix.final9 m c), (h c).2.1.trans (Kernel12Ideal.AbMix.final10 m c),
      (h c).2.2.1.trans (Kernel12Ideal.AbMix.final11 m c), (h c).2.2.2⟩) (Kernel12Ideal.Value.run_blocks m g)
  · refine (θ_run _ _ _).mono (fun r h c => ⟨(h c).1.trans ?_, (h c).2.1.trans ?_, (h c).2.2.1.trans ?_, (h c).2.2.2⟩) (Reference12Ideal.Value.run m' g')
    · refine (Reference12Ideal.Read.val_main_v74_eq m' c).trans ?_
      rw [(hagree c).1, (hagree c).2.1, (hagree c).2.2.1, (hagree c).2.2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]
      exact Reference12Ideal.AbMix.val_main_v74_eq ..
    · refine (Reference12Ideal.Read.val_main_v75_eq _ _).trans ?_
      rw [(hagree c).2.2.1, (hagree c).2.2.2.2.2.1]
      exact Reference12Ideal.AbMix.val_main_v75_eq ..
    · refine (Reference12Ideal.Read.val_main_v76_eq _ _).trans ?_
      rw [(hagree c).2.2.1, (hagree c).2.2.2.2.2.2.1]
      exact Reference12Ideal.AbMix.val_main_v76_eq ..

end Cert.AbMix

end
-- ==== Proof.lean ====
/- Every claim about the twelve programs, assembled from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Ffn.Claim
public import proofs.«01_k».proof.Proof.RetOut.Claim
public import proofs.«01_k».proof.Proof.AbOut.Claim
public import proofs.«01_k».proof.Proof.MemKv.Claim
public import proofs.«01_k».proof.Proof.Retention.Claim
public import proofs.«01_k».proof.Proof.RetIn.Claim
public import proofs.«01_k».proof.Proof.AbIn.UClaim
public import proofs.«01_k».proof.Proof.AbIn.ZvClaim
public import proofs.«01_k».proof.Proof.AbIn.KvClaim
public import proofs.«01_k».proof.Proof.AbIn.QClaim
public import proofs.«01_k».proof.Proof.RetSample.Claim
public import proofs.«01_k».proof.Proof.AbMix.Claim
public import Idealize.ShloMosaic.Adequacy
public import Idealize.ShloMosaic.Init

@[expose] public section

noncomputable section

namespace Cert.Proof

open Idealize.ShloMosaic Idealize.SL.Sem

/-- The reference of the retention runs to its end, keeps its arguments and, declaring no semaphore, leaves no counter raised. -/
theorem frame_reference : Cert.quiescent_ReferenceIdeal := fun m ρ _ => by
  refine (θ_run _ _ _).mono (fun r h => ⟨fun c => (h c).2.2, sem_eq_zero_of_no_sems rfl r.2⟩) (Cert.ReferenceIdeal.Value.run m ρ)

/-- The reference of the MLP runs to its end, keeps its arguments and, declaring no semaphore, leaves no counter raised. -/
theorem frame_reference2 : Cert.quiescent_Reference2Ideal := fun m ρ _ => by
  refine (θ_run _ _ _).mono (fun r h => ⟨fun c => (h c).2.2, sem_eq_zero_of_no_sems rfl r.2⟩) (Cert.Reference2Ideal.Value.run m ρ)

/-- The reference of the memory's keys and values runs to its end, keeps its arguments and, declaring no semaphore, leaves no counter raised. -/
theorem frame_reference3 : Cert.quiescent_Reference3Ideal := fun m ρ _ => by
  refine (θ_run _ _ _).mono (fun r h => ⟨fun c => (h c).2.2, sem_eq_zero_of_no_sems rfl r.2⟩) (Cert.Reference3Ideal.Value.run m ρ)

/-- The reference of the retention's output projection runs to its end, keeps its arguments and, declaring no semaphore, leaves no counter raised. -/
theorem frame_reference4 : Cert.quiescent_Reference4Ideal := fun m ρ _ => by
  refine (θ_run _ _ _).mono (fun r h => ⟨fun c => (h c).2.2, sem_eq_zero_of_no_sems rfl r.2⟩) (Cert.Reference4Ideal.Value.run m ρ)

/-- The reference of the other layer's output projection runs to its end, keeps its arguments and, declaring no semaphore, leaves no counter raised. -/
theorem frame_reference5 : Cert.quiescent_Reference5Ideal := fun m ρ _ => by
  refine (θ_run _ _ _).mono (fun r h => ⟨fun c => (h c).2.2, sem_eq_zero_of_no_sems rfl r.2⟩) (Cert.Reference5Ideal.Value.run m ρ)

/-- The reference of the retention's input projection runs to its end, keeps its arguments and, declaring no semaphore, leaves no counter raised. -/
theorem frame_reference6 : Cert.quiescent_Reference6Ideal := fun m ρ _ => by
  refine (θ_run _ _ _).mono (fun r h => ⟨fun c => (h c).2, sem_eq_zero_of_no_sems rfl r.2⟩) (Cert.Reference6Ideal.Value.run m ρ)

/-- The reference of the first layer's gate projection runs to its end, keeps its arguments and, declaring no semaphore, leaves no counter raised. -/
theorem frame_reference7 : Cert.quiescent_Reference7Ideal := fun m ρ _ => by
  refine (θ_run _ _ _).mono (fun r h => ⟨fun c => (h c).2, sem_eq_zero_of_no_sems rfl r.2⟩) (Cert.Reference7Ideal.Value.run m ρ)

/-- The reference of the first layer's other gMLP projection runs to its end, keeps its arguments and, declaring no semaphore, leaves no counter raised. -/
theorem frame_reference8 : Cert.quiescent_Reference8Ideal := fun m ρ _ => by
  refine (θ_run _ _ _).mono (fun r h => ⟨fun c => (h c).2.2, sem_eq_zero_of_no_sems rfl r.2⟩) (Cert.Reference8Ideal.Value.run m ρ)

/-- The reference of the first layer's keys and values runs to its end, keeps its arguments and, declaring no semaphore, leaves no counter raised. -/
theorem frame_reference9 : Cert.quiescent_Reference9Ideal := fun m ρ _ => by
  refine (θ_run _ _ _).mono (fun r h => ⟨fun c => (h c).2.2.2, sem_eq_zero_of_no_sems rfl r.2⟩) (Cert.Reference9Ideal.Value.run m ρ)

/-- The reference of the first layer's queries runs to its end, keeps its arguments and, declaring no semaphore, leaves no counter raised. -/
theorem frame_reference10 : Cert.quiescent_Reference10Ideal := fun m ρ _ => by
  refine (θ_run _ _ _).mono (fun r h => ⟨fun c => (h c).2, sem_eq_zero_of_no_sems rfl r.2⟩) (Cert.Reference10Ideal.Value.run m ρ)

/-- The reference of the samples' retention step runs to its end, keeps its arguments and, declaring no semaphore, leaves no counter raised. -/
theorem frame_reference11 : Cert.quiescent_Reference11Ideal := fun m ρ _ => by
  refine (θ_run _ _ _).mono (fun r h => ⟨fun c => (h c).2.2, sem_eq_zero_of_no_sems rfl r.2⟩) (Cert.Reference11Ideal.Value.run m ρ)

/-- The reference of the samples' attention and gMLP runs to its end, keeps its arguments and, declaring no semaphore, leaves no counter raised. -/
theorem frame_reference12 : Cert.quiescent_Reference12Ideal := fun m ρ _ => by
  refine (θ_run _ _ _).mono (fun r h => ⟨fun c => (h c).2.2.2, sem_eq_zero_of_no_sems rfl r.2⟩) (Cert.Reference12Ideal.Value.run m ρ)

/-- Every claim, in the order of `Cert.Claim`. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.On_prompt_rows.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  trivial, Cert.Retention.algebraic, trivial, Cert.Ffn.algebraic, trivial, Cert.MemKv.algebraic, trivial, Cert.RetOut.algebraic, trivial, Cert.AbOut.algebraic, trivial, Cert.RetIn.algebraic, trivial, Cert.AbInU.algebraic, trivial, Cert.AbInZv.algebraic, trivial, Cert.AbInKv.algebraic, trivial, Cert.AbInQ.algebraic, trivial, Cert.RetSample.algebraic, Cert.AbMix.preserves, Cert.AbMix.algebraic⟩

end Cert.Proof

end
